-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_beside_values [hPre_ones_beside_values : Cert.Pre_ones_beside_values.Facts] (m : (ℓ : Loc Cert.KernelIdeal.nD Cert.KernelIdeal.τ Cert.KernelIdeal.sig) → Buf (Elt Ideal) ℓ) : Prop :=
  ∀ c : Dev Cert.KernelIdeal.nD,
    (Cert.Pre_ones_beside_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_beside_values [hPre_ones_beside_values : Cert.Pre_ones_beside_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_beside_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeIdeal_routed [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_modulation [hPre_finite_modulation : Cert.Pre_finite_modulation.Facts] (m : (ℓ : Loc Cert.ProjIdeal.nD Cert.ProjIdeal.τ Cert.ProjIdeal.sig) → Buf (Elt Ideal) ℓ) : Prop :=
  ∀ c : Dev Cert.ProjIdeal.nD,
    (Cert.Pre_finite_modulation.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_modulation [hPre_finite_modulation : Cert.Pre_finite_modulation.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_modulation.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_rotation_tables [hPre_rotation_tables : Cert.Pre_rotation_tables.Facts] (m : (ℓ : Loc Cert.LatIdeal.nD Cert.LatIdeal.τ Cert.LatIdeal.sig) → Buf (Elt Ideal) ℓ) : Prop :=
  ∀ c : Dev Cert.LatIdeal.nD,
    (Cert.Pre_rotation_tables.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_rotation_tables [hPre_rotation_tables : Cert.Pre_rotation_tables.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_rotation_tables.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ones_beside_values [hKernelIdeal : Cert.KernelIdeal.Facts] [hPre_ones_beside_values : Cert.Pre_ones_beside_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_beside_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ones_beside_values [hReferenceIdeal : Cert.ReferenceIdeal.Facts] [hPre_ones_beside_values : Cert.Pre_ones_beside_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_beside_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_routed [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_finite_modulation [hProjIdeal : Cert.ProjIdeal.Facts] [hPre_finite_modulation : Cert.Pre_finite_modulation.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_modulation m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjRefIdeal_pre_finite_modulation [hProjRefIdeal : Cert.ProjRefIdeal.Facts] [hPre_finite_modulation : Cert.Pre_finite_modulation.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_modulation m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6))
      ∧ r.2.sem = fun _ => 0)

def quiescent_LatIdeal_pre_rotation_tables [hLatIdeal : Cert.LatIdeal.Facts] [hPre_rotation_tables : Cert.Pre_rotation_tables.Facts] : Prop :=
  ∀ (m : (ℓ : Loc Cert.LatIdeal.nD Cert.LatIdeal.τ Cert.LatIdeal.sig) → Buf (Elt Ideal) ℓ) (g : Dev Cert.LatIdeal.nD → PrngReg), Pre_LatIdeal_rotation_tables m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6))
      ∧ r.2.sem = fun _ => 0)

def quiescent_LatRefIdeal_pre_rotation_tables [hLatRefIdeal : Cert.LatRefIdeal.Facts] [hPre_rotation_tables : Cert.Pre_rotation_tables.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_rotation_tables m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6))
      ∧ r.2.sem = fun _ => 0)

def preserves_Kernel_KernelIdeal : Prop :=
  True

def algebraic_KernelIdeal_ReferenceIdeal_pre_ones_beside_values [hKernelIdeal : Cert.KernelIdeal.Facts] [hReferenceIdeal : Cert.ReferenceIdeal.Facts] [hPre_ones_beside_values : Cert.Pre_ones_beside_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_beside_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Moe_MoeIdeal : Prop :=
  True

def algebraic_MoeIdeal_MoeRefIdeal_pre_routed [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v32) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Proj_ProjIdeal : Prop :=
  IdealRules.named_const.Statement Cert.ProjIdeal.κ "scale_log2e" .f32 0x3E38AA3B#32 (((1 / 8) * (Real.log 2)⁻¹ : ℝ) : EReal)

def algebraic_ProjIdeal_ProjRefIdeal_pre_finite_modulation [hProjIdeal : Cert.ProjIdeal.Facts] [hProjRefIdeal : Cert.ProjRefIdeal.Facts] [hPre_finite_modulation : Cert.Pre_finite_modulation.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_modulation m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v8)) (v1 : (c : Dev Cert.ProjIdeal.nD) → Buf (Elt Ideal) ((c.tc : Thread Cert.ProjIdeal.nD Cert.ProjIdeal.τ).loc Cert.ProjIdeal.main_v10)) (v2 : (c : Dev Cert.ProjIdeal.nD) → Buf (Elt Ideal) ((c.tc : Thread Cert.ProjIdeal.nD Cert.ProjIdeal.τ).loc Cert.ProjIdeal.main_v34_0)) (v3 : (c : Dev Cert.ProjIdeal.nD) → Buf (Elt Ideal) ((c.tc : Thread Cert.ProjIdeal.nD Cert.ProjIdeal.τ).loc Cert.ProjIdeal.main_v34_1)) (v4 : (c : Dev Cert.ProjIdeal.nD) → Buf (Elt Ideal) ((c.tc : Thread Cert.ProjIdeal.nD Cert.ProjIdeal.τ).loc Cert.ProjIdeal.main_v34_2)) (v5 : (c : Dev Cert.ProjIdeal.nD) → Buf (Elt Ideal) ((c.tc : Thread Cert.ProjIdeal.nD Cert.ProjIdeal.τ).loc Cert.ProjIdeal.main_v34_3)) (v6 : (c : Dev Cert.ProjIdeal.nD) → Buf (Elt Ideal) ((c.tc : Thread Cert.ProjIdeal.nD Cert.ProjIdeal.τ).loc Cert.ProjIdeal.main_v34_4)) (v7 : (c : Dev Cert.ProjIdeal.nD) → Buf (Elt Ideal) ((c.tc : Thread Cert.ProjIdeal.nD Cert.ProjIdeal.τ).loc Cert.ProjIdeal.main_v34_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8) = v0 c
          ∧ r.2.mem ((c.tc : Thread Cert.ProjIdeal.nD Cert.ProjIdeal.τ).loc Cert.ProjIdeal.main_v10) = v1 c
          ∧ r.2.mem ((c.tc : Thread Cert.ProjIdeal.nD Cert.ProjIdeal.τ).loc Cert.ProjIdeal.main_v34_0) = v2 c
          ∧ r.2.mem ((c.tc : Thread Cert.ProjIdeal.nD Cert.ProjIdeal.τ).loc Cert.ProjIdeal.main_v34_1) = v3 c
          ∧ r.2.mem ((c.tc : Thread Cert.ProjIdeal.nD Cert.ProjIdeal.τ).loc Cert.ProjIdeal.main_v34_2) = v4 c
          ∧ r.2.mem ((c.tc : Thread Cert.ProjIdeal.nD Cert.ProjIdeal.τ).loc Cert.ProjIdeal.main_v34_3) = v5 c
          ∧ r.2.mem ((c.tc : Thread Cert.ProjIdeal.nD Cert.ProjIdeal.τ).loc Cert.ProjIdeal.main_v34_4) = v6 c
          ∧ r.2.mem ((c.tc : Thread Cert.ProjIdeal.nD Cert.ProjIdeal.τ).loc Cert.ProjIdeal.main_v34_5) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v7) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v66) = v2 c
          ∧ r.2.mem ((c.tc : Thread Cert.ProjRefIdeal.nD Cert.ProjRefIdeal.τ).loc Cert.ProjRefIdeal.main_v68) = v3 c
          ∧ r.2.mem ((c.tc : Thread Cert.ProjRefIdeal.nD Cert.ProjRefIdeal.τ).loc Cert.ProjRefIdeal.main_v73) = v4 c
          ∧ r.2.mem ((c.tc : Thread Cert.ProjRefIdeal.nD Cert.ProjRefIdeal.τ).loc Cert.ProjRefIdeal.main_v29) = v5 c
          ∧ r.2.mem ((c.tc : Thread Cert.ProjRefIdeal.nD Cert.ProjRefIdeal.τ).loc Cert.ProjRefIdeal.main_v28) = v6 c
          ∧ r.2.mem ((c.tc : Thread Cert.ProjRefIdeal.nD Cert.ProjRefIdeal.τ).loc Cert.ProjRefIdeal.main_v74) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v4)) (v1 : (c : Dev Cert.NormIdeal.nD) → Buf (Elt Ideal) ((c.tc : Thread Cert.NormIdeal.nD Cert.NormIdeal.τ).loc Cert.NormIdeal.main_v5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_v5) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v29) = v0 c
          ∧ r.2.mem ((c.tc : Thread Cert.NormRefIdeal.nD Cert.NormRefIdeal.τ).loc Cert.NormRefIdeal.main_v59) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Lat_LatIdeal : Prop :=
  IdealRules.named_const.Statement Cert.LatIdeal.κ "scale_log2e" .f32 0x3E38AA3B#32 (((1 / 8) * (Real.log 2)⁻¹ : ℝ) : EReal)

def algebraic_LatIdeal_LatRefIdeal_pre_rotation_tables [hLatIdeal : Cert.LatIdeal.Facts] [hLatRefIdeal : Cert.LatRefIdeal.Facts] [hPre_rotation_tables : Cert.Pre_rotation_tables.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_rotation_tables m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)) →
    ∃ (v0 : (c : Dev Cert.LatIdeal.nD) → Buf (Elt Ideal) ((c.tc : Thread Cert.LatIdeal.nD Cert.LatIdeal.τ).loc Cert.LatIdeal.main_v23_0)) (v1 : (c : Dev Cert.LatIdeal.nD) → Buf (Elt Ideal) ((c.tc : Thread Cert.LatIdeal.nD Cert.LatIdeal.τ).loc Cert.LatIdeal.main_v23_1)) (v2 : (c : Dev Cert.LatIdeal.nD) → Buf (Elt Ideal) ((c.tc : Thread Cert.LatIdeal.nD Cert.LatIdeal.τ).loc Cert.LatIdeal.main_v23_2)) (v3 : (c : Dev Cert.LatIdeal.nD) → Buf (Elt Ideal) ((c.tc : Thread Cert.LatIdeal.nD Cert.LatIdeal.τ).loc Cert.LatIdeal.main_v23_3)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v23_0) = v0 c
          ∧ r.2.mem ((c.tc : Thread Cert.LatIdeal.nD Cert.LatIdeal.τ).loc Cert.LatIdeal.main_v23_1) = v1 c
          ∧ r.2.mem ((c.tc : Thread Cert.LatIdeal.nD Cert.LatIdeal.τ).loc Cert.LatIdeal.main_v23_2) = v2 c
          ∧ r.2.mem ((c.tc : Thread Cert.LatIdeal.nD Cert.LatIdeal.τ).loc Cert.LatIdeal.main_v23_3) = v3 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v98) = v0 c
          ∧ r.2.mem ((c.tc : Thread Cert.LatRefIdeal.nD Cert.LatRefIdeal.τ).loc Cert.LatRefIdeal.main_v100) = v1 c
          ∧ r.2.mem ((c.tc : Thread Cert.LatRefIdeal.nD Cert.LatRefIdeal.τ).loc Cert.LatRefIdeal.main_v105) = v2 c
          ∧ r.2.mem ((c.tc : Thread Cert.LatRefIdeal.nD Cert.LatRefIdeal.τ).loc Cert.LatRefIdeal.main_v19) = v3 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hLat : Cert.Lat.Facts) (hLatIdeal : Cert.LatIdeal.Facts) (hLatRefIdeal : Cert.LatRefIdeal.Facts) (hPre_ones_beside_values : Cert.Pre_ones_beside_values.Facts) (hPre_tables_in_range : Cert.Pre_tables_in_range.Facts) (hPre_routed : Cert.Pre_routed.Facts) (hPre_finite_modulation : Cert.Pre_finite_modulation.Facts) (hPre_rotation_tables : Cert.Pre_rotation_tables.Facts),
    quiescent_Kernel (hKernel := hKernel)
    ∧ quiescent_KernelIdeal (hKernelIdeal := hKernelIdeal)
    ∧ quiescent_KernelIdeal_pre_ones_beside_values (hKernelIdeal := hKernelIdeal) (hPre_ones_beside_values := hPre_ones_beside_values)
    ∧ quiescent_ReferenceIdeal (hReferenceIdeal := hReferenceIdeal)
    ∧ quiescent_ReferenceIdeal_pre_ones_beside_values (hReferenceIdeal := hReferenceIdeal) (hPre_ones_beside_values := hPre_ones_beside_values)
    ∧ quiescent_Moe (hMoe := hMoe) (hPre_tables_in_range := hPre_tables_in_range)
    ∧ quiescent_MoeIdeal (hMoeIdeal := hMoeIdeal) (hPre_tables_in_range := hPre_tables_in_range)
    ∧ quiescent_MoeIdeal_pre_routed (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_Proj (hProj := hProj)
    ∧ quiescent_ProjIdeal (hProjIdeal := hProjIdeal)
    ∧ quiescent_ProjIdeal_pre_finite_modulation (hProjIdeal := hProjIdeal) (hPre_finite_modulation := hPre_finite_modulation)
    ∧ quiescent_ProjRefIdeal (hProjRefIdeal := hProjRefIdeal)
    ∧ quiescent_ProjRefIdeal_pre_finite_modulation (hProjRefIdeal := hProjRefIdeal) (hPre_finite_modulation := hPre_finite_modulation)
    ∧ quiescent_Norm (hNorm := hNorm)
    ∧ quiescent_NormIdeal (hNormIdeal := hNormIdeal)
    ∧ quiescent_NormRefIdeal (hNormRefIdeal := hNormRefIdeal)
    ∧ quiescent_Lat (hLat := hLat)
    ∧ quiescent_LatIdeal (hLatIdeal := hLatIdeal)
    ∧ quiescent_LatIdeal_pre_rotation_tables (hLatIdeal := hLatIdeal) (hPre_rotation_tables := hPre_rotation_tables)
    ∧ quiescent_LatRefIdeal (hLatRefIdeal := hLatRefIdeal)
    ∧ quiescent_LatRefIdeal_pre_rotation_tables (hLatRefIdeal := hLatRefIdeal) (hPre_rotation_tables := hPre_rotation_tables)
    ∧ preserves_Kernel_KernelIdeal
    ∧ algebraic_KernelIdeal_ReferenceIdeal_pre_ones_beside_values (hKernelIdeal := hKernelIdeal) (hReferenceIdeal := hReferenceIdeal) (hPre_ones_beside_values := hPre_ones_beside_values)
    ∧ preserves_Moe_MoeIdeal
    ∧ algebraic_MoeIdeal_MoeRefIdeal_pre_routed (hMoeIdeal := hMoeIdeal) (hMoeRefIdeal := hMoeRefIdeal) (hPre_routed := hPre_routed)
    ∧ preserves_Proj_ProjIdeal
    ∧ algebraic_ProjIdeal_ProjRefIdeal_pre_finite_modulation (hProjIdeal := hProjIdeal) (hProjRefIdeal := hProjRefIdeal) (hPre_finite_modulation := hPre_finite_modulation)
    ∧ preserves_Norm_NormIdeal
    ∧ algebraic_NormIdeal_NormRefIdeal (hNormIdeal := hNormIdeal) (hNormRefIdeal := hNormRefIdeal)
    ∧ preserves_Lat_LatIdeal
    ∧ algebraic_LatIdeal_LatRefIdeal_pre_rotation_tables (hLatIdeal := hLatIdeal) (hLatRefIdeal := hLatRefIdeal) (hPre_rotation_tables := hPre_rotation_tables)
-- ==== Pre_finite_modulation.lean ====
abbrev S32x256x1024 : Shape := ⟨3, ![32, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024x2304 : Shape := ⟨3, ![1, 1024, 2304]⟩
abbrev S1x64 : Shape := ⟨2, ![1, 64]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S32x256x1024 .f32) (main_arg1 : FVec F S8x1024 .f32) (main_arg2 : FVec F S1024 .f32) (main_arg3 : FVec F S1x1024x6144 .f32) (main_arg4 : FVec F S1x6144 .f32) (main_arg5 : FVec F S1x1024x2304 .f32) (main_arg6 : FVec F S1x64 .f32) (main_arg7 : FVec F S1x64 .f32) : IVec S_ 1 :=
  let main_v0 : FVec F S8x1024 .f32 := Host.absf main_arg1
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x6144 .f32 := Host.absf main_arg3
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  main_v13
-- ==== Pre_ones_beside_values.lean ====
abbrev S8x8x4096x64 : Shape := ⟨4, ![8, 8, 4096, 64]⟩
abbrev S8x2x64x4096 : Shape := ⟨4, ![8, 2, 64, 4096]⟩
abbrev S8x2x4096x128 : Shape := ⟨4, ![8, 2, 4096, 128]⟩
abbrev S1x512 : Shape := ⟨2, ![1, 512]⟩
abbrev S8x512x2x64 : Shape := ⟨4, ![8, 512, 2, 64]⟩
abbrev S8x2x4096x64 : Shape := ⟨4, ![8, 2, 4096, 64]⟩
abbrev S_ : Shape := ⟨0, ![]⟩

class Facts : Prop where
  slices_S8x2x4096x128_S8x2x4096x64_0_0_0_64 : S8x2x4096x128.Slices ![0, 0, 0, 64] S8x2x4096x64
  bitsLt_bf16_f32 : FTy.bits .bf16 < FTy.bits .f32
  bcast_S_S8x2x4096x64 : S_.BroadcastsInDim S8x2x4096x64 (![] : Fin 0 → Fin S8x2x4096x64.rank)

variable [Facts]

def fn {F : FTy → Type} [FloatOps F] (main_arg0 : FVec F S8x8x4096x64 .bf16) (main_arg1 : FVec F S8x2x64x4096 .bf16) (main_arg2 : FVec F S8x2x4096x128 .bf16) (main_arg3 : FVec F S1x512 .f32) (main_arg4 : FVec F S8x512x2x64 .f32) (main_arg5 : FVec F S8x512x2x64 .f32) : IVec S8x2x4096x64 1 :=
  let main_v0 : FVec F S8x2x4096x64 .bf16 := (extractStridedSlice S8x2x4096x64 ![0, 0, 0, 64] · slices_S8x2x4096x128_S8x2x4096x64_0_0_0_64) main_arg2
  let main_v1 : FVec F S8x2x4096x64 .f32 := (extf .f32 · bitsLt_bf16_f32) main_v0
  let main_cst : FVec F S_ .f32 := constant S_ .f32 0x3F800000#32
  let main_v2 : FVec F S8x2x4096x64 .f32 := broadcastInDim S8x2x4096x64 ![] bcast_S_S8x2x4096x64 main_cst
  let main_v3 : IVec S8x2x4096x64 1 := cmpf .oeq main_v1 main_v2
  main_v3
-- ==== Pre_rotation_tables.lean ====
abbrev S8x4096x1024 : Shape := ⟨3, ![8, 4096, 1024]⟩
abbrev S8x6x1024 : Shape := ⟨3, ![8, 6, 1024]⟩
abbrev S1x1024x2304 : Shape := ⟨3, ![1, 1024, 2304]⟩
abbrev S1x64 : Shape := ⟨2, ![1, 64]⟩
abbrev S4096x128 : Shape := ⟨2, ![4096, 128]⟩
abbrev S4096x2x2x2x16 : Shape := ⟨5, ![4096, 2, 2, 2, 16]⟩
abbrev S4096x1x2x1x16 : Shape := ⟨5, ![4096, 1, 2, 1, 16]⟩
abbrev S4096x1x2x2x16 : Shape := ⟨5, ![4096, 1, 2, 2, 16]⟩

class Facts : Prop where
  shapeCasts_S4096x128_S4096x2x2x2x16 : S4096x128.ShapeCasts S4096x2x2x2x16
  slices_S4096x2x2x2x16_S4096x1x2x1x16_0_0_0_1_0 : S4096x2x2x2x16.Slices ![0, 0, 0, 1, 0] S4096x1x2x1x16
  bcast_S4096x1x2x1x16_S4096x2x2x2x16_0_1_2_3_4 : S4096x1x2x1x16.BroadcastsInDim S4096x2x2x2x16 (![0, 1, 2, 3, 4] : Fin 5 → Fin S4096x2x2x2x16.rank)
  concatenates_S4096x1x2x1x16_S4096x1x2x1x16_S4096x1x2x2x16_d3 : Shape.Concatenates [S4096x1x2x1x16, S4096x1x2x1x16] S4096x1x2x2x16 3
  bcast_S4096x1x2x2x16_S4096x2x2x2x16_0_1_2_3_4 : S4096x1x2x2x16.BroadcastsInDim S4096x2x2x2x16 (![0, 1, 2, 3, 4] : Fin 5 → Fin S4096x2x2x2x16.rank)

variable [Facts]

def fn {F : FTy → Type} [FloatOps F] (main_arg0 : FVec F S8x4096x1024 .f32) (main_arg1 : FVec F S8x6x1024 .f32) (main_arg2 : FVec F S1x1024x2304 .f32) (main_arg3 : FVec F S1x64 .f32) (main_arg4 : FVec F S1x64 .f32) (main_arg5 : FVec F S4096x128 .f32) (main_arg6 : FVec F S4096x128 .f32) : IVec S4096x2x2x2x16 1 :=
  let main_v0 : FVec F S4096x2x2x2x16 .f32 := shapeCast S4096x2x2x2x16 main_arg5 shapeCasts_S4096x128_S4096x2x2x2x16
  let main_v1 : FVec F S4096x2x2x2x16 .f32 := shapeCast S4096x2x2x2x16 main_arg6 shapeCasts_S4096x128_S4096x2x2x2x16
  let main_v2 : FVec F S4096x1x2x1x16 .f32 := (extractStridedSlice S4096x1x2x1x16 ![0, 0, 0, 1, 0] · slices_S4096x2x2x2x16_S4096x1x2x1x16_0_0_0_1_0) main_v1
  let main_v3 : FVec F S4096x1x2x1x16 .f32 := (extractStridedSlice S4096x1x2x1x16 ![0, 0, 0, 1, 0] · slices_S4096x2x2x2x16_S4096x1x2x1x16_0_0_0_1_0) main_v0
  let main_v4 : FVec F S4096x2x2x2x16 .f32 := broadcastInDim S4096x2x2x2x16 ![0, 1, 2, 3, 4] bcast_S4096x1x2x1x16_S4096x2x2x2x16_0_1_2_3_4 main_v3
  let main_v5 : IVec S4096x2x2x2x16 1 := cmpf .oeq main_v0 main_v4
  let main_v6 : FVec F S4096x1x2x1x16 .f32 := Host.negf main_v2
  let main_v7 : FVec F S4096x1x2x2x16 .f32 := (fun a b => concatenate S4096x1x2x2x16 3 [⟨S4096x1x2x1x16, a⟩, ⟨S4096x1x2x1x16, b⟩] concatenates_S4096x1x2x1x16_S4096x1x2x1x16_S4096x1x2x2x16_d3) main_v6 main_v2
  let main_v8 : FVec F S4096x2x2x2x16 .f32 := broadcastInDim S4096x2x2x2x16 ![0, 1, 2, 3, 4] bcast_S4096x1x2x2x16_S4096x2x2x2x16_0_1_2_3_4 main_v7
  let main_v9 : IVec S4096x2x2x2x16 1 := cmpf .oeq main_v1 main_v8
  let main_v10 : IVec S4096x2x2x2x16 1 := andi main_v5 main_v9
  main_v10
-- ==== Pre_routed.lean ====
abbrev S34816x1152 : Shape := ⟨2, ![34816, 1152]⟩
abbrev S68 : Shape := ⟨1, ![68]⟩
abbrev S32x1024x256 : Shape := ⟨3, ![32, 1024, 256]⟩
abbrev S32x256x1024 : Shape := ⟨3, ![32, 256, 1024]⟩
abbrev S34816x32 : Shape := ⟨2, ![34816, 32]⟩
abbrev S_ : Shape := ⟨0, ![]⟩

class Facts : Prop where
  slices_S34816x1152_S34816x32_0_1024 : S34816x1152.Slices ![0, 1024] S34816x32
  bcast_S_S68 : S_.BroadcastsInDim S68 (![] : Fin 0 → Fin S68.rank)
  reducesTo_S68_S_d0 : S68.ReducesTo [0] S_
  h_S_ : 0 < S_.numel
  bcast_S_S34816x32 : S_.BroadcastsInDim S34816x32 (![] : Fin 0 → Fin S34816x32.rank)
  reducesTo_S34816x32_S_d0_1 : S34816x32.ReducesTo [0, 1] S_

variable [Facts]

def fn_part1 {F : FTy → Type} [FloatOps F] (main_v12 : IVec S_ 1) (main_v14 : IVec S34816x32 1) (main_v16 : IVec S34816x32 1) : IVec S_ 1 :=
  let main_v17 : IVec S34816x32 1 := andi main_v14 main_v16
  let main_c_5 : IVec S_ 1 := constantI S_ 1 1#1
  let main_v18 : IVec S_ 1 := (fun x v => Host.reduce IntOp.andi x v reducesTo_S34816x32_S_d0_1 h_S_) main_v17 main_c_5
  let main_v19 : IVec S_ 1 := andi main_v12 main_v18
  main_v19

def fn {F : FTy → Type} [FloatOps F] (main_arg0 : FVec F S34816x1152 .f32) (main_arg1 : IVec S68 32) (main_arg2 : IVec S68 32) (main_arg3 : FVec F S32x1024x256 .f32) (main_arg4 : FVec F S32x1024x256 .f32) (main_arg5 : FVec F S32x256x1024 .f32) : IVec S_ 1 :=
  let main_v0 : FVec F S34816x32 .f32 := (extractStridedSlice S34816x32 ![0, 1024] · slices_S34816x1152_S34816x32_0_1024) main_arg0
  let main_c : IVec S_ 32 := constantI S_ 32 0#32
  let main_v1 : IVec S68 32 := broadcastInDim S68 ![] bcast_S_S68 main_c
  let main_v2 : IVec S68 1 := cmpi .sge main_arg1 main_v1
  let main_c_0 : IVec S_ 32 := constantI S_ 32 4#32
  let main_v3 : IVec S68 32 := broadcastInDim S68 ![] bcast_S_S68 main_c_0
  let main_v4 : IVec S68 1 := cmpi .slt main_arg1 main_v3
  let main_v5 : IVec S68 1 := andi main_v2 main_v4
  let main_c_1 : IVec S_ 32 := constantI S_ 32 0#32
  let main_v6 : IVec S68 32 := broadcastInDim S68 ![] bcast_S_S68 main_c_1
  let main_v7 : IVec S68 1 := cmpi .sge main_arg2 main_v6
  let main_v8 : IVec S68 1 := andi main_v5 main_v7
  let main_c_2 : IVec S_ 32 := constantI S_ 32 1#32
  let main_v9 : IVec S68 32 := broadcastInDim S68 ![] bcast_S_S68 main_c_2
  let main_v10 : IVec S68 1 := cmpi .sle main_arg2 main_v9
  let main_v11 : IVec S68 1 := andi main_v8 main_v10
  let main_c_3 : IVec S_ 1 := constantI S_ 1 1#1
  let main_v12 : IVec S_ 1 := (fun x v => Host.reduce IntOp.andi x v reducesTo_S68_S_d0 h_S_) main_v11 main_c_3
  let main_cst : FVec F S_ .f32 := constant S_ .f32 0x00000000#32
  let main_v13 : FVec F S34816x32 .f32 := broadcastInDim S34816x32 ![] bcast_S_S34816x32 main_cst
  let main_v14 : IVec S34816x32 1 := cmpf .oge main_v0 main_v13
  let main_cst_4 : FVec F S_ .f32 := constant S_ .f32 0x3F800000#32
  let main_v15 : FVec F S34816x32 .f32 := broadcastInDim S34816x32 ![] bcast_S_S34816x32 main_cst_4
  let main_v16 : IVec S34816x32 1 := cmpf .ole main_v0 main_v15
  fn_part1 (F := F) main_v12 main_v14 main_v16
-- ==== Pre_tables_in_range.lean ====
abbrev S34816x1152 : Shape := ⟨2, ![34816, 1152]⟩
abbrev S68 : Shape := ⟨1, ![68]⟩
abbrev S32x1024x256 : Shape := ⟨3, ![32, 1024, 256]⟩
abbrev S32x256x1024 : Shape := ⟨3, ![32, 256, 1024]⟩
abbrev S_ : Shape := ⟨0, ![]⟩

class Facts : Prop where
  bcast_S_S68 : S_.BroadcastsInDim S68 (![] : Fin 0 → Fin S68.rank)

variable [Facts]

def fn {F : FTy → Type} [FloatOps F] (main_arg0 : FVec F S34816x1152 .f32) (main_arg1 : IVec S68 32) (main_arg2 : IVec S68 32) (main_arg3 : FVec F S32x1024x256 .f32) (main_arg4 : FVec F S32x1024x256 .f32) (main_arg5 : FVec F S32x256x1024 .f32) : IVec S68 1 :=
  let main_c : IVec S_ 32 := constantI S_ 32 0#32
  let main_v0 : IVec S68 32 := broadcastInDim S68 ![] bcast_S_S68 main_c
  let main_v1 : IVec S68 1 := cmpi .sge main_arg1 main_v0
  let main_c_0 : IVec S_ 32 := constantI S_ 32 4#32
  let main_v2 : IVec S68 32 := broadcastInDim S68 ![] bcast_S_S68 main_c_0
  let main_v3 : IVec S68 1 := cmpi .slt main_arg1 main_v2
  let main_v4 : IVec S68 1 := andi main_v1 main_v3
  let main_c_1 : IVec S_ 32 := constantI S_ 32 0#32
  let main_v5 : IVec S68 32 := broadcastInDim S68 ![] bcast_S_S68 main_c_1
  let main_v6 : IVec S68 1 := cmpi .sge main_arg2 main_v5
  let main_v7 : IVec S68 1 := andi main_v4 main_v6
  let main_c_2 : IVec S_ 32 := constantI S_ 32 1#32
  let main_v8 : IVec S68 32 := broadcastInDim S68 ![] bcast_S_S68 main_c_2
  let main_v9 : IVec S68 1 := cmpi .sle main_arg2 main_v8
  let main_v10 : IVec S68 1 := andi main_v7 main_v9
  main_v10
-- ==== Kernel.lean ====
abbrev S8x8x4096x64 : Shape := ⟨4, ![8, 8, 4096, 64]⟩
abbrev S8x2x64x4096 : Shape := ⟨4, ![8, 2, 64, 4096]⟩
abbrev S8x2x4096x128 : Shape := ⟨4, ![8, 2, 4096, 128]⟩
abbrev S1x512 : Shape := ⟨2, ![1, 512]⟩
abbrev S8x512x2x64 : Shape := ⟨4, ![8, 512, 2, 64]⟩
abbrev S8x2x64x512 : Shape := ⟨4, ![8, 2, 64, 512]⟩
abbrev S8x2x512x64 : Shape := ⟨4, ![8, 2, 512, 64]⟩
abbrev S_ : Shape := ⟨0, ![]⟩
abbrev S8x2x512x128 : Shape := ⟨4, ![8, 2, 512, 128]⟩
abbrev S8x4096x512 : Shape := ⟨3, ![8, 4096, 512]⟩
abbrev S1x4x512x64 : Shape := ⟨4, ![1, 4, 512, 64]⟩
abbrev S1x1x64x4096 : Shape := ⟨4, ![1, 1, 64, 4096]⟩
abbrev S1x1x4096x128 : Shape := ⟨4, ![1, 1, 4096, 128]⟩
abbrev S1x256 : Shape := ⟨2, ![1, 256]⟩
abbrev S1x1x64x512 : Shape := ⟨4, ![1, 1, 64, 512]⟩
abbrev S1x1x512x128 : Shape := ⟨4, ![1, 1, 512, 128]⟩
abbrev S1x512x256 : Shape := ⟨3, ![1, 512, 256]⟩
abbrev S1x1x64x2048 : Shape := ⟨4, ![1, 1, 64, 2048]⟩
abbrev S64x2048 : Shape := ⟨2, ![64, 2048]⟩
abbrev S1x1x2048x128 : Shape := ⟨4, ![1, 1, 2048, 128]⟩
abbrev S2048x128 : Shape := ⟨2, ![2048, 128]⟩
abbrev S64x512 : Shape := ⟨2, ![64, 512]⟩
abbrev S512x128 : Shape := ⟨2, ![512, 128]⟩
abbrev S1x4x128x64 : Shape := ⟨4, ![1, 4, 128, 64]⟩
abbrev S4x128x64 : Shape := ⟨3, ![4, 128, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S128x64 : Shape := ⟨2, ![128, 64]⟩
abbrev S1x64 : Shape := ⟨2, ![1, 64]⟩
abbrev S1x128x64 : Shape := ⟨3, ![1, 128, 64]⟩

abbrev nBuf : Space → Nat
  | .hbm => 14
  | .vmem => 14
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x64x4096, .bf16⟩
  | .hbm, ⟨2, _⟩ => ⟨S8x2x4096x128, .bf16⟩
  | .hbm, ⟨3, _⟩ => ⟨S1x512, .f32⟩
  | .hbm, ⟨4, _⟩ => ⟨S8x512x2x64, .f32⟩
  | .hbm, ⟨5, _⟩ => ⟨S8x512x2x64, .f32⟩
  | .hbm, ⟨6, _⟩ => ⟨S8x2x64x512, .f32⟩
  | .hbm, ⟨7, _⟩ => ⟨S8x2x64x512, .bf16⟩
  | .hbm, ⟨8, _⟩ => ⟨S8x2x512x64, .f32⟩
  | .hbm, ⟨9, _⟩ => ⟨S_, .f32⟩
  | .hbm, ⟨10, _⟩ => ⟨S8x2x512x64, .f32⟩
  | .hbm, ⟨11, _⟩ => ⟨S8x2x512x128, .f32⟩
  | .hbm, ⟨12, _⟩ => ⟨S8x2x512x128, .bf16⟩
  | .hbm, ⟨13, _⟩ => ⟨S8x4096x512, .bf16⟩
  | .local _ .vmem, ⟨0, _⟩ => ⟨S1x4x512x64, .bf16⟩
  | .local _ .vmem, ⟨1, _⟩ => ⟨S1x4x512x64, .bf16⟩
  | .local _ .vmem, ⟨2, _⟩ => ⟨S1x1x64x4096, .bf16⟩
  | .local _ .vmem, ⟨3, _⟩ => ⟨S1x1x64x4096, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x256, .f32⟩
  | .local _ .vmem, ⟨7, _⟩ => ⟨S1x256, .f32⟩
  | .local _ .vmem, ⟨8, _⟩ => ⟨S1x1x64x512, .bf16⟩
  | .local _ .vmem, ⟨9, _⟩ => ⟨S1x1x64x512, .bf16⟩
  | .local _ .vmem, ⟨10, _⟩ => ⟨S1x1x512x128, .bf16⟩
  | .local _ .vmem, ⟨11, _⟩ => ⟨S1x1x512x128, .bf16⟩
  | .local _ .vmem, ⟨12, _⟩ => ⟨S1x512x256, .bf16⟩
  | .local _ .vmem, ⟨13, _⟩ => ⟨S1x512x256, .bf16⟩
  | _, _ => ⟨S8x8x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x8x4096x64 : Shape := ⟨4, ![8, 8, 4096, 64]⟩
abbrev S8x2x64x4096 : Shape := ⟨4, ![8, 2, 64, 4096]⟩
abbrev S8x2x4096x128 : Shape := ⟨4, ![8, 2, 4096, 128]⟩
abbrev S1x512 : Shape := ⟨2, ![1, 512]⟩
abbrev S8x512x2x64 : Shape := ⟨4, ![8, 512, 2, 64]⟩
abbrev S8x4096x2x64 : Shape := ⟨4, ![8, 4096, 2, 64]⟩
abbrev S8x2x4096x64 : Shape := ⟨4, ![8, 2, 4096, 64]⟩
abbrev S8x4608x2x64 : Shape := ⟨4, ![8, 4608, 2, 64]⟩
abbrev S8x2x4x4096x64 : Shape := ⟨5, ![8, 2, 4, 4096, 64]⟩
abbrev S8x2x4x4096x4608 : Shape := ⟨5, ![8, 2, 4, 4096, 4608]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x2x4x64 : Shape := ⟨5, ![8, 4096, 2, 4, 64]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S8x64 : Shape := ⟨2, ![8, 64]⟩
abbrev S1x1x8x64 : Shape := ⟨4, ![1, 1, 8, 64]⟩
abbrev S8x4096x512 : Shape := ⟨3, ![8, 4096, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x64x4096, .bf16⟩
  | .hbm, ⟨2, _⟩ => ⟨S8x2x4096x128, .bf16⟩
  | .hbm, ⟨3, _⟩ => ⟨S1x512, .f32⟩
  | .hbm, ⟨4, _⟩ => ⟨S8x512x2x64, .f32⟩
  | .hbm, ⟨5, _⟩ => ⟨S8x512x2x64, .f32⟩
  | .hbm, ⟨6, _⟩ => ⟨S8x2x64x4096, .f32⟩
  | .hbm, ⟨7, _⟩ => ⟨S8x4096x2x64, .f32⟩
  | .hbm, ⟨8, _⟩ => ⟨S8x2x4096x64, .bf16⟩
  | .hbm, ⟨9, _⟩ => ⟨S8x2x4096x64, .f32⟩
  | .hbm, ⟨10, _⟩ => ⟨S8x4096x2x64, .f32⟩
  | .hbm, ⟨11, _⟩ => ⟨S8x4608x2x64, .f32⟩
  | .hbm, ⟨12, _⟩ => ⟨S8x4608x2x64, .f32⟩
  | .hbm, ⟨13, _⟩ => ⟨S8x8x4096x64, .f32⟩
  | .hbm, ⟨14, _⟩ => ⟨S8x2x4x4096x64, .f32⟩
  | .hbm, ⟨15, _⟩ => ⟨S8x2x4x4096x4608, .f32⟩
  | .hbm, ⟨16, _⟩ => ⟨S_, .f32⟩
  | .hbm, ⟨17, _⟩ => ⟨S_, .f32⟩
  | .hbm, ⟨18, _⟩ => ⟨S8x2x4x4096x4608, .f32⟩
  | .hbm, ⟨19, _⟩ => ⟨S8x2x4x4096x4608, .f32⟩
  | .hbm, ⟨20, _⟩ => ⟨S_, .f32⟩
  | .hbm, ⟨21, _⟩ => ⟨S8x2x4x4096, .f32⟩
  | .hbm, ⟨22, _⟩ => ⟨S_, .f32⟩
  | .hbm, ⟨23, _⟩ => ⟨S8x2x4x4096, .f32⟩
  | .hbm, ⟨24, _⟩ => ⟨S8x2x4x4096, .f32⟩
  | .hbm, ⟨25, _⟩ => ⟨S8x2x4x4096x1, .f32⟩
  | .hbm, ⟨26, _⟩ => ⟨S8x2x4x4096x4608, .f32⟩
  | .hbm, ⟨27, _⟩ => ⟨S8x2x4x4096x4608, .f32⟩
  | .hbm, ⟨28, _⟩ => ⟨S8x2x4x4096x4608, .f32⟩
  | .hbm, ⟨29, _⟩ => ⟨S_, .f32⟩
  | .hbm, ⟨30, _⟩ => ⟨S8x2x4x4096, .f32⟩
  | .hbm, ⟨31, _⟩ => ⟨S8x2x4x4096x1, .f32⟩
  | .hbm, ⟨32, _⟩ => ⟨S8x2x4x4096x4608, .f32⟩
  | .hbm, ⟨33, _⟩ => ⟨S8x2x4x4096x4608, .f32⟩
  | .hbm, ⟨34, _⟩ => ⟨S8x2x64x4x4096, .f32⟩
  | .hbm, ⟨35, _⟩ => ⟨S8x4096x2x4x64, .f32⟩
  | .hbm, ⟨36, _⟩ => ⟨S8x4096x8x64, .f32⟩
  | .hbm, ⟨37, _⟩ => ⟨S8x4096x8x64, .f32⟩
  | .hbm, ⟨38, _⟩ => ⟨S_, .f32⟩
  | .hbm, ⟨39, _⟩ => ⟨S8x4096x8, .f32⟩
  | .hbm, ⟨40, _⟩ => ⟨S8x4096x8x1, .f32⟩
  | .hbm, ⟨41, _⟩ => ⟨S_, .f32⟩
  | .hbm, ⟨42, _⟩ => ⟨S8x4096x8x1, .f32⟩
  | .hbm, ⟨43, _⟩ => ⟨S8x4096x8x1, .f32⟩
  | .hbm, ⟨44, _⟩ => ⟨S_, .f32⟩
  | .hbm, ⟨45, _⟩ => ⟨S8x4096x8x1, .f32⟩
  | .hbm, ⟨46, _⟩ => ⟨S8x4096x8x1, .f32⟩
  | .hbm, ⟨47, _⟩ => ⟨S8x4096x8x1, .f32⟩
  | .hbm, ⟨48, _⟩ => ⟨S8x4096x8x64, .f32⟩
  | .hbm, ⟨49, _⟩ => ⟨S8x4096x8x64, .f32⟩
  | .hbm, ⟨50, _⟩ => ⟨S8x64, .f32⟩
  | .hbm, ⟨51, _⟩ => ⟨S1x1x8x64, .f32⟩
  | .hbm, ⟨52, _⟩ => ⟨S8x4096x8x64, .f32⟩
  | .hbm, ⟨53, _⟩ => ⟨S8x4096x8x64, .f32⟩
  | .hbm, ⟨54, _⟩ => ⟨S8x4096x512, .f32⟩
  | .hbm, ⟨55, _⟩ => ⟨S8x4096x512, .bf16⟩
  | _, _ => ⟨S8x8x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Moe.lean ====
abbrev S34816x1152 : Shape := ⟨2, ![34816, 1152]⟩
abbrev S68 : Shape := ⟨1, ![68]⟩
abbrev S32x1024x256 : Shape := ⟨3, ![32, 1024, 256]⟩
abbrev S32x256x1024 : Shape := ⟨3, ![32, 256, 1024]⟩
abbrev S34816x1024 : Shape := ⟨2, ![34816, 1024]⟩
abbrev S512x1152 : Shape := ⟨2, ![512, 1152]⟩
abbrev S8x1024x256 : Shape := ⟨3, ![8, 1024, 256]⟩
abbrev S1 : Shape := ⟨1, ![1]⟩
abbrev S8x256x1024 : Shape := ⟨3, ![8, 256, 1024]⟩
abbrev S512x1024 : Shape := ⟨2, ![512, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 5
  | .vmem => 10
  | .smem => 2
  | _ => 0

abbrev bufTy : (tb : Table) → Fin (tcTables nBuf tb) → BufTy
  | .hbm, ⟨0, _⟩ => ⟨S34816x1152, .f32⟩
  | .hbm, ⟨1, _⟩ => ⟨S32x1024x256, .f32⟩
  | .hbm, ⟨2, _⟩ => ⟨S32x1024x256, .f32⟩
  | .hbm, ⟨3, _⟩ => ⟨S32x256x1024, .f32⟩
  | .hbm, ⟨4, _⟩ => ⟨S34816x1024, .f32⟩
  | .local _ .vmem, ⟨0, _⟩ => ⟨S512x1152, .f32⟩
  | .local _ .vmem, ⟨1, _⟩ => ⟨S512x1152, .f32⟩
  | .local _ .vmem, ⟨2, _⟩ => ⟨S8x1024x256, .f32⟩
  | .local _ .vmem, ⟨3, _⟩ => ⟨S8x1024x256, .f32⟩
  | .local _ .vmem, ⟨4, _⟩ => ⟨S8x256x1024, .f32⟩
  | .local _ .vmem, ⟨5, _⟩ => ⟨S512x1024, .f32⟩
  | .local _ .vmem, ⟨6, _⟩ => ⟨S512x1024, .f32⟩
  | .local _ .vmem, ⟨7, _⟩ => ⟨S8x1024x256, .bf16⟩
  | .local _ .vmem, ⟨8, _⟩ => ⟨S8x1024x256, .bf16⟩
  | .local _ .vmem, ⟨9, _⟩ => ⟨S8x256x1024, .bf16⟩
  | .local _ .smem, ⟨0, _⟩ => ⟨S68, .i32⟩
  | .local _ .smem, ⟨1, _⟩ => ⟨S68, .i32⟩
  | _, _ => ⟨S34816x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v21 : Index := Scalar.indexCast arg0
  ![v21.toNat]
def k0_off5 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S34816x1152 : Shape := ⟨2, ![34816, 1152]⟩
abbrev S68 : Shape := ⟨1, ![68]⟩
abbrev S32x1024x256 : Shape := ⟨3, ![32, 1024, 256]⟩
abbrev S32x256x1024 : Shape := ⟨3, ![32, 256, 1024]⟩
abbrev S34816x1024 : Shape := ⟨2, ![34816, 1024]⟩
abbrev S68x1 : Shape := ⟨2, ![68, 1]⟩
abbrev S68x512 : Shape := ⟨2, ![68, 512]⟩
abbrev S34816 : Shape := ⟨1, ![34816]⟩
abbrev S32 : Shape := ⟨1, ![32]⟩
abbrev S1x32 : Shape := ⟨2, ![1, 32]⟩
abbrev S_ : Shape := ⟨0, ![]⟩
abbrev S34816x1 : Shape := ⟨2, ![34816, 1]⟩
abbrev S34816x32 : Shape := ⟨2, ![34816, 32]⟩
abbrev S32x256x34816 : Shape := ⟨3, ![32, 256, 34816]⟩
abbrev S32x34816x256 : Shape := ⟨3, ![32, 34816, 256]⟩
abbrev S32x34816x1024 : Shape := ⟨3, ![32, 34816, 1024]⟩
abbrev S32x34816 : Shape := ⟨2, ![32, 34816]⟩
abbrev S32x34816x1 : Shape := ⟨3, ![32, 34816, 1]⟩

abbrev nBuf : Space → Nat
  | .hbm => 69
  | .vmem => 0
  | .smem => 0
  | _ => 0

abbrev bufTy : (tb : Table) → Fin (tcTables nBuf tb) → BufTy
  | .hbm, ⟨0, _⟩ => ⟨S34816x1152, .f32⟩
  | .hbm, ⟨1, _⟩ => ⟨S68, .i32⟩
  | .hbm, ⟨2, _⟩ => ⟨S68, .i32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S34816x1024, .f32⟩
  | .hbm, ⟨7, _⟩ => ⟨S68x1, .i32⟩
  | .hbm, ⟨8, _⟩ => ⟨S68x512, .i32⟩
  | .hbm, ⟨9, _⟩ => ⟨S34816, .i32⟩
  | .hbm, ⟨10, _⟩ => ⟨S68x1, .i32⟩
  | .hbm, ⟨11, _⟩ => ⟨S68x512, .i32⟩
  | .hbm, ⟨12, _⟩ => ⟨S34816, .i32⟩
  | .hbm, ⟨13, _⟩ => ⟨S32, .i32⟩
  | .hbm, ⟨14, _⟩ => ⟨S1x32, .i32⟩
  | .hbm, ⟨15, _⟩ => ⟨S_, .i32⟩
  | .hbm, ⟨16, _⟩ => ⟨S_, .i32⟩
  | .hbm, ⟨17, _⟩ => ⟨S1x32, .i32⟩
  | .hbm, ⟨18, _⟩ => ⟨S1x32, .i32⟩
  | .hbm, ⟨19, _⟩ => ⟨S1x32, .i32⟩
  | .hbm, ⟨20, _⟩ => ⟨S_, .i32⟩
  | .hbm, ⟨21, _⟩ => ⟨S1x32, .i32⟩
  | .hbm, ⟨22, _⟩ => ⟨S1x32, .i1⟩
  | .hbm, ⟨23, _⟩ => ⟨S1x32, .i32⟩
  | .hbm, ⟨24, _⟩ => ⟨S1x32, .i32⟩
  | .hbm, ⟨25, _⟩ => ⟨S_, .i32⟩
  | .hbm, ⟨26, _⟩ => ⟨S1x32, .i32⟩
  | .hbm, ⟨27, _⟩ => ⟨S1x32, .i1⟩
  | .hbm, ⟨28, _⟩ => ⟨S1x32, .i1⟩
  | .hbm, ⟨29, _⟩ => ⟨S_, .i32⟩
  | .hbm, ⟨30, _⟩ => ⟨S1x32, .i32⟩
  | .hbm, ⟨31, _⟩ => ⟨S1x32, .i32⟩
  | .hbm, ⟨32, _⟩ => ⟨S1x32, .i32⟩
  | .hbm, ⟨33, _⟩ => ⟨S34816x1, .i32⟩
  | .hbm, ⟨34, _⟩ => ⟨S34816x32, .i32⟩
  | .hbm, ⟨35, _⟩ => ⟨S34816x32, .i32⟩
  | .hbm, ⟨36, _⟩ => ⟨S34816x32, .i1⟩
  | .hbm, ⟨37, _⟩ => ⟨S34816x1, .i32⟩
  | .hbm, ⟨38, _⟩ => ⟨S_, .i32⟩
  | .hbm, ⟨39, _⟩ => ⟨S34816x1, .i32⟩
  | .hbm, ⟨40, _⟩ => ⟨S34816x1, .i1⟩
  | .hbm, ⟨41, _⟩ => ⟨S34816x32, .i1⟩
  | .hbm, ⟨42, _⟩ => ⟨S34816x32, .i1⟩
  | .hbm, ⟨43, _⟩ => ⟨S34816x32, .f32⟩
  | .hbm, ⟨44, _⟩ => ⟨S_, .f32⟩
  | .hbm, ⟨45, _⟩ => ⟨S_, .f32⟩
  | .hbm, ⟨46, _⟩ => ⟨S34816x32, .f32⟩
  | .hbm, ⟨47, _⟩ => ⟨S34816x32, .f32⟩
  | .hbm, ⟨48, _⟩ => ⟨S32x256x34816, .f32⟩
  | .hbm, ⟨49, _⟩ => ⟨S32x34816x256, .f32⟩
  | .hbm, ⟨50, _⟩ => ⟨S32x256x34816, .f32⟩
  | .hbm, ⟨51, _⟩ => ⟨S32x34816x256, .f32⟩
  | .hbm, ⟨52, _⟩ => ⟨S32x34816x256, .f32⟩
  | .hbm, ⟨53, _⟩ => ⟨S32x34816x256, .f32⟩
  | .hbm, ⟨54, _⟩ => ⟨S_, .f32⟩
  | .hbm, ⟨55, _⟩ => ⟨S32x34816x256, .f32⟩
  | .hbm, ⟨56, _⟩ => ⟨S32x34816x256, .f32⟩
  | .hbm, ⟨57, _⟩ => ⟨S_, .f32⟩
  | .hbm, ⟨58, _⟩ => ⟨S32x34816x256, .f32⟩
  | .hbm, ⟨59, _⟩ => ⟨S32x34816x256, .f32⟩
  | .hbm, ⟨60, _⟩ => ⟨S32x34816x256, .f32⟩
  | .hbm, ⟨61, _⟩ => ⟨S32x34816x256, .f32⟩
  | .hbm, ⟨62, _⟩ => ⟨S32x34816x1024, .f32⟩
  | .hbm, ⟨63, _⟩ => ⟨S32x34816, .f32⟩
  | .hbm, ⟨64, _⟩ => ⟨S32x34816x1, .f32⟩
  | .hbm, ⟨65, _⟩ => ⟨S32x34816x1024, .f32⟩
  | .hbm, ⟨66, _⟩ => ⟨S32x34816x1024, .f32⟩
  | .hbm, ⟨67, _⟩ => ⟨S_, .f32⟩
  | .hbm, ⟨68, _⟩ => ⟨S34816x1024, .f32⟩
  | _, _ => ⟨S34816x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_1 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proj.lean ====
abbrev S32x256x1024 : Shape := ⟨3, ![32, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024x2304 : Shape := ⟨3, ![1, 1024, 2304]⟩
abbrev S1x64 : Shape := ⟨2, ![1, 64]⟩
abbrev S1x1024 : Shape := ⟨2, ![1, 1024]⟩
abbrev S9x1024 : Shape := ⟨2, ![9, 1024]⟩
abbrev S_ : Shape := ⟨0, ![]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩
abbrev S8x6144 : Shape := ⟨2, ![8, 6144]⟩
abbrev S8x6x1024 : Shape := ⟨3, ![8, 6, 1024]⟩
abbrev S1x6x1024 : Shape := ⟨3, ![1, 6, 1024]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S1024x2304 : Shape := ⟨2, ![1024, 2304]⟩
abbrev S10x64 : Shape := ⟨2, ![10, 64]⟩
abbrev S640x1 : Shape := ⟨2, ![640, 1]⟩
abbrev S640x640 : Shape := ⟨2, ![640, 640]⟩
abbrev S32x8x256x64 : Shape := ⟨4, ![32, 8, 256, 64]⟩
abbrev S32x2x64x256 : Shape := ⟨4, ![32, 2, 64, 256]⟩
abbrev S32x2x256x128 : Shape := ⟨4, ![32, 2, 256, 128]⟩
abbrev S32x256x1536 : Shape := ⟨3, ![32, 256, 1536]⟩
abbrev S32x256x128 : Shape := ⟨3, ![32, 256, 128]⟩
abbrev S1x256x1024 : Shape := ⟨3, ![1, 256, 1024]⟩
abbrev S1x8x256x64 : Shape := ⟨4, ![1, 8, 256, 64]⟩
abbrev S1x2x64x256 : Shape := ⟨4, ![1, 2, 64, 256]⟩
abbrev S1x2x256x128 : Shape := ⟨4, ![1, 2, 256, 128]⟩
abbrev S1x256x1536 : Shape := ⟨3, ![1, 256, 1536]⟩
abbrev S1x256x128 : Shape := ⟨3, ![1, 256, 128]⟩
abbrev S6x1024 : Shape := ⟨2, ![6, 1024]⟩
abbrev S256x1024 : Shape := ⟨2, ![256, 1024]⟩
abbrev S256x2304 : Shape := ⟨2, ![256, 2304]⟩
abbrev S256x640 : Shape := ⟨2, ![256, 640]⟩
abbrev S256x128 : Shape := ⟨2, ![256, 128]⟩
abbrev S256x512 : Shape := ⟨2, ![256, 512]⟩
abbrev S256x64 : Shape := ⟨2, ![256, 64]⟩
abbrev S1x1x256x64 : Shape := ⟨4, ![1, 1, 256, 64]⟩
abbrev S128x256 : Shape := ⟨2, ![128, 256]⟩
abbrev S64x256 : Shape := ⟨2, ![64, 256]⟩
abbrev S1x1x64x256 : Shape := ⟨4, ![1, 1, 64, 256]⟩
abbrev S1x1x256x128 : Shape := ⟨4, ![1, 1, 256, 128]⟩
abbrev S256x1536 : Shape := ⟨2, ![256, 1536]⟩

abbrev nBuf : Space → Nat
  | .hbm => 51
  | .vmem => 25
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024x2304, .f32⟩
  | .hbm, ⟨6, _⟩ => ⟨S1x64, .f32⟩
  | .hbm, ⟨7, _⟩ => ⟨S1x64, .f32⟩
  | .hbm, ⟨8, _⟩ => ⟨S1x1024, .f32⟩
  | .hbm, ⟨9, _⟩ => ⟨S9x1024, .f32⟩
  | .hbm, ⟨10, _⟩ => ⟨S_, .i32⟩
  | .hbm, ⟨11, _⟩ => ⟨S_, .f32⟩
  | .hbm, ⟨12, _⟩ => ⟨S16x1024, .f32⟩
  | .hbm, ⟨13, _⟩ => ⟨S1024x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S8x6144, .f32⟩
  | .hbm, ⟨18, _⟩ => ⟨S8x6x1024, .f32⟩
  | .hbm, ⟨19, _⟩ => ⟨S1x6144, .f32⟩
  | .hbm, ⟨20, _⟩ => ⟨S1x6x1024, .f32⟩
  | .hbm, ⟨21, _⟩ => ⟨S64, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S64, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S640, .f32⟩
  | .hbm, ⟨30, _⟩ => ⟨S1x640, .f32⟩
  | .hbm, ⟨31, _⟩ => ⟨S1024x2304, .f32⟩
  | .hbm, ⟨32, _⟩ => ⟨S1024x2304, .bf16⟩
  | .hbm, ⟨33, _⟩ => ⟨S10x64, .i32⟩
  | .hbm, ⟨34, _⟩ => ⟨S640, .i32⟩
  | .hbm, ⟨35, _⟩ => ⟨S640x1, .i32⟩
  | .hbm, ⟨36, _⟩ => ⟨S1x640, .i32⟩
  | .hbm, ⟨37, _⟩ => ⟨S640x640, .i32⟩
  | .hbm, ⟨38, _⟩ => ⟨S640x640, .i32⟩
  | .hbm, ⟨39, _⟩ => ⟨S640x640, .i1⟩
  | .hbm, ⟨40, _⟩ => ⟨S640x640, .f32⟩
  | .hbm, ⟨41, _⟩ => ⟨S_, .f32⟩
  | .hbm, ⟨42, _⟩ => ⟨S640x640, .f32⟩
  | .hbm, ⟨43, _⟩ => ⟨S640x640, .f32⟩
  | .hbm, ⟨44, _⟩ => ⟨S640x640, .bf16⟩
  | .hbm, ⟨45, _⟩ => ⟨S32x8x256x64, .bf16⟩
  | .hbm, ⟨46, _⟩ => ⟨S32x2x64x256, .bf16⟩
  | .hbm, ⟨47, _⟩ => ⟨S32x2x256x128, .bf16⟩
  | .hbm, ⟨48, _⟩ => ⟨S32x256x1536, .f32⟩
  | .hbm, ⟨49, _⟩ => ⟨S32x256x128, .f32⟩
  | .hbm, ⟨50, _⟩ => ⟨S32x256x128, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | .local _ .vmem, ⟨7, _⟩ => ⟨S1x256x1024, .f32⟩
  | .local _ .vmem, ⟨8, _⟩ => ⟨S1x256x1024, .f32⟩
  | .local _ .vmem, ⟨9, _⟩ => ⟨S1x6x1024, .f32⟩
  | .local _ .vmem, ⟨10, _⟩ => ⟨S1024x2304, .bf16⟩
  | .local _ .vmem, ⟨11, _⟩ => ⟨S1x640, .f32⟩
  | .local _ .vmem, ⟨12, _⟩ => ⟨S640x640, .bf16⟩
  | .local _ .vmem, ⟨13, _⟩ => ⟨S1x8x256x64, .bf16⟩
  | .local _ .vmem, ⟨14, _⟩ => ⟨S1x8x256x64, .bf16⟩
  | .local _ .vmem, ⟨15, _⟩ => ⟨S1x2x64x256, .bf16⟩
  | .local _ .vmem, ⟨16, _⟩ => ⟨S1x2x64x256, .bf16⟩
  | .local _ .vmem, ⟨17, _⟩ => ⟨S1x2x256x128, .bf16⟩
  | .local _ .vmem, ⟨18, _⟩ => ⟨S1x2x256x128, .bf16⟩
  | .local _ .vmem, ⟨19, _⟩ => ⟨S1x256x1536, .f32⟩
  | .local _ .vmem, ⟨20, _⟩ => ⟨S1x256x1536, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v34_5 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x2304 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S640x640 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x8x256x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2x64x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2x256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ProjIdeal.lean ====
variable {F : FTy → Type} [FloatOps F] [Named F]
def κ : String → Option EReal := fun
  | "scale_log2e" => some (((1 / 8) * (Real.log 2)⁻¹ : ℝ) : EReal)
  | _ => none
-- ==== ProjRefIdeal.lean ====
abbrev S32x256x1024 : Shape := ⟨3, ![32, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024x2304 : Shape := ⟨3, ![1, 1024, 2304]⟩
abbrev S1x64 : Shape := ⟨2, ![1, 64]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S8x6x1024 : Shape := ⟨3, ![8, 6, 1024]⟩
abbrev S1x1024 : Shape := ⟨2, ![1, 1024]⟩
abbrev S1x6x1024 : Shape := ⟨3, ![1, 6, 1024]⟩
abbrev S1x1x1024 : Shape := ⟨3, ![1, 1, 1024]⟩
abbrev S1024x2304 : Shape := ⟨2, ![1024, 2304]⟩
abbrev S32x256x2304 : Shape := ⟨3, ![32, 256, 2304]⟩
abbrev S32x256x512 : Shape := ⟨3, ![32, 256, 512]⟩
abbrev S32x256x128 : Shape := ⟨3, ![32, 256, 128]⟩
abbrev S32x256x1536 : Shape := ⟨3, ![32, 256, 1536]⟩
abbrev S32x256x8x64 : Shape := ⟨4, ![32, 256, 8, 64]⟩
abbrev S64 : Shape := ⟨1, ![64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x8x256x64 : Shape := ⟨4, ![32, 8, 256, 64]⟩
abbrev S32x2x64x256 : Shape := ⟨4, ![32, 2, 64, 256]⟩
abbrev S32x2x256x64 : Shape := ⟨4, ![32, 2, 256, 64]⟩
abbrev S32x2x256x128 : Shape := ⟨4, ![32, 2, 256, 128]⟩

abbrev nBuf : Space → Nat
  | .hbm => 109
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024x2304, .f32⟩
  | .hbm, ⟨6, _⟩ => ⟨S1x64, .f32⟩
  | .hbm, ⟨7, _⟩ => ⟨S1x64, .f32⟩
  | .hbm, ⟨8, _⟩ => ⟨S1024x6144, .f32⟩
  | .hbm, ⟨9, _⟩ => ⟨S6144, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S8x6x1024, .f32⟩
  | .hbm, ⟨24, _⟩ => ⟨S1x1024, .f32⟩
  | .hbm, ⟨25, _⟩ => ⟨S1024x6144, .f32⟩
  | .hbm, ⟨26, _⟩ => ⟨S6144, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S1x6x1024, .f32⟩
  | .hbm, ⟨40, _⟩ => ⟨S1x1x1024, .f32⟩
  | .hbm, ⟨41, _⟩ => ⟨S1x1x1024, .f32⟩
  | .hbm, ⟨42, _⟩ => ⟨S_, .f32⟩
  | .hbm, ⟨43, _⟩ => ⟨S1x1x1024, .f32⟩
  | .hbm, ⟨44, _⟩ => ⟨S1x1x1024, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S1024x2304, .f32⟩
  | .hbm, ⟨50, _⟩ => ⟨S32x256x2304, .f32⟩
  | .hbm, ⟨51, _⟩ => ⟨S32x256x512, .f32⟩
  | .hbm, ⟨52, _⟩ => ⟨S32x256x128, .f32⟩
  | .hbm, ⟨53, _⟩ => ⟨S32x256x128, .f32⟩
  | .hbm, ⟨54, _⟩ => ⟨S32x256x1536, .f32⟩
  | .hbm, ⟨55, _⟩ => ⟨S32x256x8x64, .f32⟩
  | .hbm, ⟨56, _⟩ => ⟨S64, .f32⟩
  | .hbm, ⟨57, _⟩ => ⟨S32x256x8x64, .f32⟩
  | .hbm, ⟨58, _⟩ => ⟨S_, .f32⟩
  | .hbm, ⟨59, _⟩ => ⟨S32x256x8, .f32⟩
  | .hbm, ⟨60, _⟩ => ⟨S32x256x8x1, .f32⟩
  | .hbm, ⟨61, _⟩ => ⟨S_, .f32⟩
  | .hbm, ⟨62, _⟩ => ⟨S32x256x8x1, .f32⟩
  | .hbm, ⟨63, _⟩ => ⟨S32x256x8x1, .f32⟩
  | .hbm, ⟨64, _⟩ => ⟨S_, .f32⟩
  | .hbm, ⟨65, _⟩ => ⟨S32x256x8x1, .f32⟩
  | .hbm, ⟨66, _⟩ => ⟨S32x256x8x1, .f32⟩
  | .hbm, ⟨67, _⟩ => ⟨S32x256x8x1, .f32⟩
  | .hbm, ⟨68, _⟩ => ⟨S32x256x8x64, .f32⟩
  | .hbm, ⟨69, _⟩ => ⟨S32x256x8x64, .f32⟩
  | .hbm, ⟨70, _⟩ => ⟨S1x1x1x64, .f32⟩
  | .hbm, ⟨71, _⟩ => ⟨S32x256x8x64, .f32⟩
  | .hbm, ⟨72, _⟩ => ⟨S32x256x8x64, .f32⟩
  | .hbm, ⟨73, _⟩ => ⟨S32x256x2x64, .f32⟩
  | .hbm, ⟨74, _⟩ => ⟨S64, .f32⟩
  | .hbm, ⟨75, _⟩ => ⟨S32x256x2x64, .f32⟩
  | .hbm, ⟨76, _⟩ => ⟨S_, .f32⟩
  | .hbm, ⟨77, _⟩ => ⟨S32x256x2, .f32⟩
  | .hbm, ⟨78, _⟩ => ⟨S32x256x2x1, .f32⟩
  | .hbm, ⟨79, _⟩ => ⟨S_, .f32⟩
  | .hbm, ⟨80, _⟩ => ⟨S32x256x2x1, .f32⟩
  | .hbm, ⟨81, _⟩ => ⟨S32x256x2x1, .f32⟩
  | .hbm, ⟨82, _⟩ => ⟨S_, .f32⟩
  | .hbm, ⟨83, _⟩ => ⟨S32x256x2x1, .f32⟩
  | .hbm, ⟨84, _⟩ => ⟨S32x256x2x1, .f32⟩
  | .hbm, ⟨85, _⟩ => ⟨S32x256x2x1, .f32⟩
  | .hbm, ⟨86, _⟩ => ⟨S32x256x2x64, .f32⟩
  | .hbm, ⟨87, _⟩ => ⟨S32x256x2x64, .f32⟩
  | .hbm, ⟨88, _⟩ => ⟨S1x1x1x64, .f32⟩
  | .hbm, ⟨89, _⟩ => ⟨S32x256x2x64, .f32⟩
  | .hbm, ⟨90, _⟩ => ⟨S32x256x2x64, .f32⟩
  | .hbm, ⟨91, _⟩ => ⟨S_, .f32⟩
  | .hbm, ⟨92, _⟩ => ⟨S32x256x8x64, .f32⟩
  | .hbm, ⟨93, _⟩ => ⟨S32x256x8x64, .f32⟩
  | .hbm, ⟨94, _⟩ => ⟨S_, .f32⟩
  | .hbm, ⟨95, _⟩ => ⟨S_, .f32⟩
  | .hbm, ⟨96, _⟩ => ⟨S32x256x8x64, .f32⟩
  | .hbm, ⟨97, _⟩ => ⟨S32x256x8x64, .f32⟩
  | .hbm, ⟨98, _⟩ => ⟨S32x8x256x64, .f32⟩
  | .hbm, ⟨99, _⟩ => ⟨S32x8x256x64, .bf16⟩
  | .hbm, ⟨100, _⟩ => ⟨S32x2x64x256, .f32⟩
  | .hbm, ⟨101, _⟩ => ⟨S32x2x64x256, .bf16⟩
  | .hbm, ⟨102, _⟩ => ⟨S32x256x2x64, .f32⟩
  | .hbm, ⟨103, _⟩ => ⟨S32x2x256x64, .f32⟩
  | .hbm, ⟨104, _⟩ => ⟨S_, .f32⟩
  | .hbm, ⟨105, _⟩ => ⟨S32x2x256x64, .f32⟩
  | .hbm, ⟨106, _⟩ => ⟨S32x2x256x128, .f32⟩
  | .hbm, ⟨107, _⟩ => ⟨S32x2x256x128, .bf16⟩
  | .hbm, ⟨108, _⟩ => ⟨S32x256x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_0 : Ref sig .tc := ⟨.hbm, 58, rfl⟩
abbrev main_v33 : Ref sig .tc := ⟨.hbm, 59, rfl⟩
abbrev main_v34 : Ref sig .tc := ⟨.hbm, 60, rfl⟩
abbrev main_cst_1 : Ref sig .tc := ⟨.hbm, 61, rfl⟩
abbrev main_v35 : Ref sig .tc := ⟨.hbm, 62, rfl⟩
abbrev main_v36 : Ref sig .tc := ⟨.hbm, 63, rfl⟩
abbrev main_cst_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_3 : Ref sig .tc := ⟨.hbm, 76, rfl⟩
abbrev main_v48 : Ref sig .tc := ⟨.hbm, 77, rfl⟩
abbrev main_v49 : Ref sig .tc := ⟨.hbm, 78, rfl⟩
abbrev main_cst_4 : Ref sig .tc := ⟨.hbm, 79, rfl⟩
abbrev main_v50 : Ref sig .tc := ⟨.hbm, 80, rfl⟩
abbrev main_v51 : Ref sig .tc := ⟨.hbm, 81, rfl⟩
abbrev main_cst_5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_cst_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_8 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Norm.lean ====
abbrev S32x256x1024 : Shape := ⟨3, ![32, 256, 1024]⟩
abbrev S1x6x1024 : Shape := ⟨3, ![1, 6, 1024]⟩
abbrev S8x4096x1024 : Shape := ⟨3, ![8, 4096, 1024]⟩
abbrev S8x6x1024 : Shape := ⟨3, ![8, 6, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 14
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S1x6x1024, .f32⟩
  | .hbm, ⟨3, _⟩ => ⟨S8x4096x1024, .f32⟩
  | .hbm, ⟨4, _⟩ => ⟨S8x4096x1024, .f32⟩
  | .hbm, ⟨5, _⟩ => ⟨S8x6x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32x256x1024, .f32⟩
  | .hbm, ⟨13, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S1x1024, .f32⟩
  | .local _ .vmem, ⟨17, _⟩ => ⟨S1x1024x1024, .f32⟩
  | .local _ .vmem, ⟨18, _⟩ => ⟨S1x1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x6x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== NormRefIdeal.lean ====
abbrev S32x256x1024 : Shape := ⟨3, ![32, 256, 1024]⟩
abbrev S1x6x1024 : Shape := ⟨3, ![1, 6, 1024]⟩
abbrev S8x4096x1024 : Shape := ⟨3, ![8, 4096, 1024]⟩
abbrev S8x6x1024 : Shape := ⟨3, ![8, 6, 1024]⟩
abbrev S1x1024 : Shape := ⟨2, ![1, 1024]⟩
abbrev S_ : Shape := ⟨0, ![]⟩
abbrev S1x1x1024 : Shape := ⟨3, ![1, 1, 1024]⟩
abbrev S32x256 : Shape := ⟨2, ![32, 256]⟩
abbrev S32x256x1 : Shape := ⟨3, ![32, 256, 1]⟩
abbrev S1024 : Shape := ⟨1, ![1024]⟩
abbrev S8x1x1024 : Shape := ⟨3, ![8, 1, 1024]⟩
abbrev S8x4096 : Shape := ⟨2, ![8, 4096]⟩
abbrev S8x4096x1 : Shape := ⟨3, ![8, 4096, 1]⟩

abbrev nBuf : Space → Nat
  | .hbm => 80
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S1x6x1024, .f32⟩
  | .hbm, ⟨3, _⟩ => ⟨S8x4096x1024, .f32⟩
  | .hbm, ⟨4, _⟩ => ⟨S8x4096x1024, .f32⟩
  | .hbm, ⟨5, _⟩ => ⟨S8x6x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S32x256x1024, .f32⟩
  | .hbm, ⟨10, _⟩ => ⟨S32x256x1024, .f32⟩
  | .hbm, ⟨11, _⟩ => ⟨S1x1x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1024, .f32⟩
  | .hbm, ⟨73, _⟩ => ⟨S1x1x1024, .f32⟩
  | .hbm, ⟨74, _⟩ => ⟨S8x4096x1024, .f32⟩
  | .hbm, ⟨75, _⟩ => ⟨S8x4096x1024, .f32⟩
  | .hbm, ⟨76, _⟩ => ⟨S1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Lat.lean ====
abbrev S8x4096x1024 : Shape := ⟨3, ![8, 4096, 1024]⟩
abbrev S8x6x1024 : Shape := ⟨3, ![8, 6, 1024]⟩
abbrev S1x1024x2304 : Shape := ⟨3, ![1, 1024, 2304]⟩
abbrev S1x64 : Shape := ⟨2, ![1, 64]⟩
abbrev S4096x128 : Shape := ⟨2, ![4096, 128]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S1024x2304 : Shape := ⟨2, ![1024, 2304]⟩
abbrev S10x64 : Shape := ⟨2, ![10, 64]⟩
abbrev S640x1 : Shape := ⟨2, ![640, 1]⟩
abbrev S640x640 : Shape := ⟨2, ![640, 640]⟩
abbrev S_ : Shape := ⟨0, ![]⟩
abbrev S8x8x4096x64 : Shape := ⟨4, ![8, 8, 4096, 64]⟩
abbrev S8x2x64x4096 : Shape := ⟨4, ![8, 2, 64, 4096]⟩
abbrev S8x2x4096x128 : Shape := ⟨4, ![8, 2, 4096, 128]⟩
abbrev S8x4096x1536 : Shape := ⟨3, ![8, 4096, 1536]⟩
abbrev S1x1024x1024 : Shape := ⟨3, ![1, 1024, 1024]⟩
abbrev S1x6x1024 : Shape := ⟨3, ![1, 6, 1024]⟩
abbrev S1024x128 : Shape := ⟨2, ![1024, 128]⟩
abbrev S1x8x1024x64 : Shape := ⟨4, ![1, 8, 1024, 64]⟩
abbrev S1x2x64x1024 : Shape := ⟨4, ![1, 2, 64, 1024]⟩
abbrev S1x2x1024x128 : Shape := ⟨4, ![1, 2, 1024, 128]⟩
abbrev S1x1024x1536 : Shape := ⟨3, ![1, 1024, 1536]⟩
abbrev S6x1024 : Shape := ⟨2, ![6, 1024]⟩
abbrev S1x512x1024 : Shape := ⟨3, ![1, 512, 1024]⟩
abbrev S512x1024 : Shape := ⟨2, ![512, 1024]⟩
abbrev S1x1024 : Shape := ⟨2, ![1, 1024]⟩
abbrev S512x2304 : Shape := ⟨2, ![512, 2304]⟩
abbrev S512x640 : Shape := ⟨2, ![512, 640]⟩
abbrev S512x128 : Shape := ⟨2, ![512, 128]⟩
abbrev S512x512 : Shape := ⟨2, ![512, 512]⟩
abbrev S512x64 : Shape := ⟨2, ![512, 64]⟩
abbrev S1x1x512x64 : Shape := ⟨4, ![1, 1, 512, 64]⟩
abbrev S128x512 : Shape := ⟨2, ![128, 512]⟩
abbrev S64x512 : Shape := ⟨2, ![64, 512]⟩
abbrev S1x1x64x512 : Shape := ⟨4, ![1, 1, 64, 512]⟩
abbrev S1x1x512x128 : Shape := ⟨4, ![1, 1, 512, 128]⟩
abbrev S512x1536 : Shape := ⟨2, ![512, 1536]⟩
abbrev S1x512x1536 : Shape := ⟨3, ![1, 512, 1536]⟩

abbrev nBuf : Space → Nat
  | .hbm => 35
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S4096x128, .f32⟩
  | .hbm, ⟨6, _⟩ => ⟨S4096x128, .f32⟩
  | .hbm, ⟨7, _⟩ => ⟨S64, .f32⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S64, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S640, .f32⟩
  | .hbm, ⟨16, _⟩ => ⟨S1x640, .f32⟩
  | .hbm, ⟨17, _⟩ => ⟨S1024x2304, .f32⟩
  | .hbm, ⟨18, _⟩ => ⟨S1024x2304, .bf16⟩
  | .hbm, ⟨19, _⟩ => ⟨S10x64, .i32⟩
  | .hbm, ⟨20, _⟩ => ⟨S640, .i32⟩
  | .hbm, ⟨21, _⟩ => ⟨S640x1, .i32⟩
  | .hbm, ⟨22, _⟩ => ⟨S1x640, .i32⟩
  | .hbm, ⟨23, _⟩ => ⟨S640x640, .i32⟩
  | .hbm, ⟨24, _⟩ => ⟨S640x640, .i32⟩
  | .hbm, ⟨25, _⟩ => ⟨S640x640, .i1⟩
  | .hbm, ⟨26, _⟩ => ⟨S640x640, .f32⟩
  | .hbm, ⟨27, _⟩ => ⟨S_, .f32⟩
  | .hbm, ⟨28, _⟩ => ⟨S640x640, .f32⟩
  | .hbm, ⟨29, _⟩ => ⟨S640x640, .f32⟩
  | .hbm, ⟨30, _⟩ => ⟨S640x640, .bf16⟩
  | .hbm, ⟨31, _⟩ => ⟨S8x8x4096x64, .bf16⟩
  | .hbm, ⟨32, _⟩ => ⟨S8x2x64x4096, .bf16⟩
  | .hbm, ⟨33, _⟩ => ⟨S8x2x4096x128, .bf16⟩
  | .hbm, ⟨34, _⟩ => ⟨S8x4096x1536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2304, .bf16⟩
  | .local _ .vmem, ⟨5, _⟩ => ⟨S1x640, .f32⟩
  | .local _ .vmem, ⟨6, _⟩ => ⟨S640x640, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x8x1024x64, .bf16⟩
  | .local _ .vmem, ⟨12, _⟩ => ⟨S1x8x1024x64, .bf16⟩
  | .local _ .vmem, ⟨13, _⟩ => ⟨S1x2x64x1024, .bf16⟩
  | .local _ .vmem, ⟨14, _⟩ => ⟨S1x2x64x1024, .bf16⟩
  | .local _ .vmem, ⟨15, _⟩ => ⟨S1x2x1024x128, .bf16⟩
  | .local _ .vmem, ⟨16, _⟩ => ⟨S1x2x1024x128, .bf16⟩
  | .local _ .vmem, ⟨17, _⟩ => ⟨S1x1024x1536, .f32⟩
  | .local _ .vmem, ⟨18, _⟩ => ⟨S1x1024x1536, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== LatIdeal.lean ====
variable {F : FTy → Type} [FloatOps F] [Named F]
def κ : String → Option EReal := fun
  | "scale_log2e" => some (((1 / 8) * (Real.log 2)⁻¹ : ℝ) : EReal)
  | _ => none
-- ==== LatRefIdeal.lean ====
abbrev S8x4096x1024 : Shape := ⟨3, ![8, 4096, 1024]⟩
abbrev S8x6x1024 : Shape := ⟨3, ![8, 6, 1024]⟩
abbrev S1x1024x2304 : Shape := ⟨3, ![1, 1024, 2304]⟩
abbrev S1x64 : Shape := ⟨2, ![1, 64]⟩
abbrev S4096x128 : Shape := ⟨2, ![4096, 128]⟩
abbrev S4096x2x2x2x16 : Shape := ⟨5, ![4096, 2, 2, 2, 16]⟩
abbrev S4096x1x2x1x16 : Shape := ⟨5, ![4096, 1, 2, 1, 16]⟩
abbrev S4096x2x16 : Shape := ⟨3, ![4096, 2, 16]⟩
abbrev S8x1x1024 : Shape := ⟨3, ![8, 1, 1024]⟩
abbrev S_ : Shape := ⟨0, ![]⟩
abbrev S1024x2304 : Shape := ⟨2, ![1024, 2304]⟩
abbrev S8x4096x2304 : Shape := ⟨3, ![8, 4096, 2304]⟩
abbrev S8x4096x512 : Shape := ⟨3, ![8, 4096, 512]⟩
abbrev S8x4096x128 : Shape := ⟨3, ![8, 4096, 128]⟩
abbrev S8x4096x1536 : Shape := ⟨3, ![8, 4096, 1536]⟩
abbrev S8x4096x8x64 : Shape := ⟨4, ![8, 4096, 8, 64]⟩
abbrev S64 : Shape := ⟨1, ![64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x4096x1x2x16 : Shape := ⟨5, ![1, 4096, 1, 2, 16]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x8x4096x64 : Shape := ⟨4, ![8, 8, 4096, 64]⟩
abbrev S8x2x64x4096 : Shape := ⟨4, ![8, 2, 64, 4096]⟩
abbrev S8x2x4096x64 : Shape := ⟨4, ![8, 2, 4096, 64]⟩
abbrev S8x2x4096x128 : Shape := ⟨4, ![8, 2, 4096, 128]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S4096x128, .f32⟩
  | .hbm, ⟨6, _⟩ => ⟨S4096x128, .f32⟩
  | .hbm, ⟨7, _⟩ => ⟨S4096x2x2x2x16, .f32⟩
  | .hbm, ⟨8, _⟩ => ⟨S4096x1x2x1x16, .f32⟩
  | .hbm, ⟨9, _⟩ => ⟨S4096x2x16, .f32⟩
  | .hbm, ⟨10, _⟩ => ⟨S4096x2x2x2x16, .f32⟩
  | .hbm, ⟨11, _⟩ => ⟨S4096x1x2x1x16, .f32⟩
  | .hbm, ⟨12, _⟩ => ⟨S4096x2x16, .f32⟩
  | .hbm, ⟨13, _⟩ => ⟨S8x1x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S1024x2304, .f32⟩
  | .hbm, ⟨23, _⟩ => ⟨S8x4096x2304, .f32⟩
  | .hbm, ⟨24, _⟩ => ⟨S8x4096x512, .f32⟩
  | .hbm, ⟨25, _⟩ => ⟨S8x4096x128, .f32⟩
  | .hbm, ⟨26, _⟩ => ⟨S8x4096x128, .f32⟩
  | .hbm, ⟨27, _⟩ => ⟨S8x4096x1536, .f32⟩
  | .hbm, ⟨28, _⟩ => ⟨S8x4096x8x64, .f32⟩
  | .hbm, ⟨29, _⟩ => ⟨S64, .f32⟩
  | .hbm, ⟨30, _⟩ => ⟨S8x4096x8x64, .f32⟩
  | .hbm, ⟨31, _⟩ => ⟨S_, .f32⟩
  | .hbm, ⟨32, _⟩ => ⟨S8x4096x8, .f32⟩
  | .hbm, ⟨33, _⟩ => ⟨S8x4096x8x1, .f32⟩
  | .hbm, ⟨34, _⟩ => ⟨S_, .f32⟩
  | .hbm, ⟨35, _⟩ => ⟨S8x4096x8x1, .f32⟩
  | .hbm, ⟨36, _⟩ => ⟨S8x4096x8x1, .f32⟩
  | .hbm, ⟨37, _⟩ => ⟨S_, .f32⟩
  | .hbm, ⟨38, _⟩ => ⟨S8x4096x8x1, .f32⟩
  | .hbm, ⟨39, _⟩ => ⟨S8x4096x8x1, .f32⟩
  | .hbm, ⟨40, _⟩ => ⟨S8x4096x8x1, .f32⟩
  | .hbm, ⟨41, _⟩ => ⟨S8x4096x8x64, .f32⟩
  | .hbm, ⟨42, _⟩ => ⟨S8x4096x8x64, .f32⟩
  | .hbm, ⟨43, _⟩ => ⟨S1x1x1x64, .f32⟩
  | .hbm, ⟨44, _⟩ => ⟨S8x4096x8x64, .f32⟩
  | .hbm, ⟨45, _⟩ => ⟨S8x4096x8x64, .f32⟩
  | .hbm, ⟨46, _⟩ => ⟨S1x4096x1x2x16, .f32⟩
  | .hbm, ⟨47, _⟩ => ⟨S1x4096x1x2x16, .f32⟩
  | .hbm, ⟨48, _⟩ => ⟨S8x4096x8x2x2x16, .f32⟩
  | .hbm, ⟨49, _⟩ => ⟨S8x4096x8x2x1x16, .f32⟩
  | .hbm, ⟨50, _⟩ => ⟨S8x4096x8x2x16, .f32⟩
  | .hbm, ⟨51, _⟩ => ⟨S8x4096x8x2x1x16, .f32⟩
  | .hbm, ⟨52, _⟩ => ⟨S8x4096x8x2x16, .f32⟩
  | .hbm, ⟨53, _⟩ => ⟨S8x4096x8x2x16, .f32⟩
  | .hbm, ⟨54, _⟩ => ⟨S8x4096x8x2x16, .f32⟩
  | .hbm, ⟨55, _⟩ => ⟨S8x4096x8x2x16, .f32⟩
  | .hbm, ⟨56, _⟩ => ⟨S8x4096x8x2x16, .f32⟩
  | .hbm, ⟨57, _⟩ => ⟨S8x4096x8x2x16, .f32⟩
  | .hbm, ⟨58, _⟩ => ⟨S8x4096x8x2x16, .f32⟩
  | .hbm, ⟨59, _⟩ => ⟨S8x4096x8x2x16, .f32⟩
  | .hbm, ⟨60, _⟩ => ⟨S8x4096x8x2x16, .f32⟩
  | .hbm, ⟨61, _⟩ => ⟨S8x4096x8x2x16, .f32⟩
  | .hbm, ⟨62, _⟩ => ⟨S8x4096x8x2x16, .f32⟩
  | .hbm, ⟨63, _⟩ => ⟨S8x4096x8x2x1x16, .f32⟩
  | .hbm, ⟨64, _⟩ => ⟨S8x4096x8x2x1x16, .f32⟩
  | .hbm, ⟨65, _⟩ => ⟨S8x4096x8x2x2x16, .f32⟩
  | .hbm, ⟨66, _⟩ => ⟨S8x4096x8x64, .f32⟩
  | .hbm, ⟨67, _⟩ => ⟨S8x4096x2x64, .f32⟩
  | .hbm, ⟨68, _⟩ => ⟨S64, .f32⟩
  | .hbm, ⟨69, _⟩ => ⟨S8x4096x2x64, .f32⟩
  | .hbm, ⟨70, _⟩ => ⟨S_, .f32⟩
  | .hbm, ⟨71, _⟩ => ⟨S8x4096x2, .f32⟩
  | .hbm, ⟨72, _⟩ => ⟨S8x4096x2x1, .f32⟩
  | .hbm, ⟨73, _⟩ => ⟨S_, .f32⟩
  | .hbm, ⟨74, _⟩ => ⟨S8x4096x2x1, .f32⟩
  | .hbm, ⟨75, _⟩ => ⟨S8x4096x2x1, .f32⟩
  | .hbm, ⟨76, _⟩ => ⟨S_, .f32⟩
  | .hbm, ⟨77, _⟩ => ⟨S8x4096x2x1, .f32⟩
  | .hbm, ⟨78, _⟩ => ⟨S8x4096x2x1, .f32⟩
  | .hbm, ⟨79, _⟩ => ⟨S8x4096x2x1, .f32⟩
  | .hbm, ⟨80, _⟩ => ⟨S8x4096x2x64, .f32⟩
  | .hbm, ⟨81, _⟩ => ⟨S8x4096x2x64, .f32⟩
  | .hbm, ⟨82, _⟩ => ⟨S1x1x1x64, .f32⟩
  | .hbm, ⟨83, _⟩ => ⟨S8x4096x2x64, .f32⟩
  | .hbm, ⟨84, _⟩ => ⟨S8x4096x2x64, .f32⟩
  | .hbm, ⟨85, _⟩ => ⟨S1x4096x1x2x16, .f32⟩
  | .hbm, ⟨86, _⟩ => ⟨S1x4096x1x2x16, .f32⟩
  | .hbm, ⟨87, _⟩ => ⟨S8x4096x2x2x2x16, .f32⟩
  | .hbm, ⟨88, _⟩ => ⟨S8x4096x2x2x1x16, .f32⟩
  | .hbm, ⟨89, _⟩ => ⟨S8x4096x2x2x16, .f32⟩
  | .hbm, ⟨90, _⟩ => ⟨S8x4096x2x2x1x16, .f32⟩
  | .hbm, ⟨91, _⟩ => ⟨S8x4096x2x2x16, .f32⟩
  | .hbm, ⟨92, _⟩ => ⟨S8x4096x2x2x16, .f32⟩
  | .hbm, ⟨93, _⟩ => ⟨S8x4096x2x2x16, .f32⟩
  | .hbm, ⟨94, _⟩ => ⟨S8x4096x2x2x16, .f32⟩
  | .hbm, ⟨95, _⟩ => ⟨S8x4096x2x2x16, .f32⟩
  | .hbm, ⟨96, _⟩ => ⟨S8x4096x2x2x16, .f32⟩
  | .hbm, ⟨97, _⟩ => ⟨S8x4096x2x2x16, .f32⟩
  | .hbm, ⟨98, _⟩ => ⟨S8x4096x2x2x16, .f32⟩
  | .hbm, ⟨99, _⟩ => ⟨S8x4096x2x2x16, .f32⟩
  | .hbm, ⟨100, _⟩ => ⟨S8x4096x2x2x16, .f32⟩
  | .hbm, ⟨101, _⟩ => ⟨S8x4096x2x2x16, .f32⟩
  | .hbm, ⟨102, _⟩ => ⟨S8x4096x2x2x1x16, .f32⟩
  | .hbm, ⟨103, _⟩ => ⟨S8x4096x2x2x1x16, .f32⟩
  | .hbm, ⟨104, _⟩ => ⟨S8x4096x2x2x2x16, .f32⟩
  | .hbm, ⟨105, _⟩ => ⟨S8x4096x2x64, .f32⟩
  | .hbm, ⟨106, _⟩ => ⟨S_, .f32⟩
  | .hbm, ⟨107, _⟩ => ⟨S8x4096x8x64, .f32⟩
  | .hbm, ⟨108, _⟩ => ⟨S8x4096x8x64, .f32⟩
  | .hbm, ⟨109, _⟩ => ⟨S_, .f32⟩
  | .hbm, ⟨110, _⟩ => ⟨S_, .f32⟩
  | .hbm, ⟨111, _⟩ => ⟨S8x4096x8x64, .f32⟩
  | .hbm, ⟨112, _⟩ => ⟨S8x4096x8x64, .f32⟩
  | .hbm, ⟨113, _⟩ => ⟨S8x8x4096x64, .f32⟩
  | .hbm, ⟨114, _⟩ => ⟨S8x8x4096x64, .bf16⟩
  | .hbm, ⟨115, _⟩ => ⟨S8x2x64x4096, .f32⟩
  | .hbm, ⟨116, _⟩ => ⟨S8x2x64x4096, .bf16⟩
  | .hbm, ⟨117, _⟩ => ⟨S8x4096x2x64, .f32⟩
  | .hbm, ⟨118, _⟩ => ⟨S8x2x4096x64, .f32⟩
  | .hbm, ⟨119, _⟩ => ⟨S_, .f32⟩
  | .hbm, ⟨120, _⟩ => ⟨S8x2x4096x64, .f32⟩
  | .hbm, ⟨121, _⟩ => ⟨S8x2x4096x128, .f32⟩
  | .hbm, ⟨122, _⟩ => ⟨S8x2x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_3 : Ref sig .tc := ⟨.hbm, 70, rfl⟩
abbrev main_v59 : Ref sig .tc := ⟨.hbm, 71, rfl⟩
abbrev main_v60 : Ref sig .tc := ⟨.hbm, 72, rfl⟩
abbrev main_cst_4 : Ref sig .tc := ⟨.hbm, 73, rfl⟩
abbrev main_v61 : Ref sig .tc := ⟨.hbm, 74, rfl⟩
abbrev main_v62 : Ref sig .tc := ⟨.hbm, 75, rfl⟩
abbrev main_cst_5 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_6 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_8 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩

abbrev nD : Nat := 1
abbrev τ : Topo := Topo.v7x

variable {F : FTy → Type} [FloatOps F]
-- ==== Proof.SoftmaxMath.lean ====
/- The mathematics of one row of attention over the extended reals: a softmax taken chunk by chunk with a running
   maximum, base two, against the plain softmax, and the root-mean-square normalisation after it. Nothing here
   mentions a program. -/
module

public import Idealize.ShloMosaic.Lib.Pointwise

@[expose] public section

noncomputable section

namespace Cert.SoftmaxMath

open Idealize.ShloMosaic

/-- The greatest of a finite family of scores, −∞ for the empty one. -/
def top {ι : Type} [Fintype ι] (s : ι → EReal) : EReal := Finset.univ.fold max ⊥ s

theorem le_top {ι : Type} [Fintype ι] (s : ι → EReal) (i : ι) : s i ≤ top s :=
  (Finset.le_fold_max (s i)).2 (Or.inr ⟨i, Finset.mem_univ i, le_rfl⟩)

theorem top_le {ι : Type} [Fintype ι] (s : ι → EReal) (b : EReal) (h : ∀ i, s i ≤ b) : top s ≤ b :=
  (Finset.fold_max_le b).2 ⟨bot_le, fun i _ => h i⟩

/-- A weight `2 ^ (s - m)` of a score that is at most `m` is a non-negative real, whatever the infinities. -/
theorem weight_real {s m : EReal} (h : s ≤ m) : ∃ r : ℝ, 0 ≤ r ∧ Ideal.exp2 (s - m) = (r : EReal) := by
  induction s using EReal.rec with
  | bot => exact ⟨0, le_rfl, by simp⟩
  | top =>
    have hm : m = ⊤ := top_le_iff.1 h
    subst hm
    exact ⟨0, le_rfl, by simp⟩
  | coe a =>
    induction m using EReal.rec with
    | bot => exact absurd h (by simp)
    | top => exact ⟨0, le_rfl, by simp⟩
    | coe b =>
      exact ⟨Real.rpow 2 (a - b), Real.rpow_nonneg (by norm_num) _, by
        rw [← EReal.coe_sub]; exact Ideal.exp2_coe _⟩

theorem weight_nonneg {s m : EReal} (h : s ≤ m) : 0 ≤ Ideal.exp2 (s - m) := by
  obtain ⟨r, hr, e⟩ := weight_real h
  rw [e]; exact_mod_cast hr

theorem weight_ne_top {s m : EReal} (h : s ≤ m) : Ideal.exp2 (s - m) ≠ ⊤ := by
  obtain ⟨r, hr, e⟩ := weight_real h
  rw [e]; exact EReal.coe_ne_top r

/-- Raising the reference point of a weight from `m` to `m'` multiplies it by `2 ^ (m - m')`. -/
theorem weight_shift {s m m' : EReal} (h : s ≤ m) (h' : m ≤ m') :
    Ideal.exp2 (m - m') * Ideal.exp2 (s - m) = Ideal.exp2 (s - m') := by
  induction s using EReal.rec with
  | bot => simp
  | top =>
    have hm : m = ⊤ := top_le_iff.1 h
    subst hm
    have hm' : m' = ⊤ := top_le_iff.1 h'
    subst hm'
    simp
  | coe a =>
    induction m using EReal.rec with
    | bot => exact absurd h (by simp)
    | top =>
      have hm' : m' = ⊤ := top_le_iff.1 h'
      subst hm'
      simp
    | coe b =>
      induction m' using EReal.rec with
      | bot => exact absurd h' (by simp)
      | top => simp
      | coe d =>
        rw [← EReal.coe_sub, ← EReal.coe_sub, ← EReal.coe_sub, Ideal.exp2_coe, Ideal.exp2_coe, Ideal.exp2_coe,
          ← EReal.coe_mul]
        congr 1
        show (2 : ℝ) ^ (b - d) * (2 : ℝ) ^ (a - b) = (2 : ℝ) ^ (a - d)
        rw [← Real.rpow_add (by norm_num)]
        congr 1; ring

/-- A non-negative factor other than +∞ goes into a finite sum of extended reals. -/
theorem mul_sum {ι : Type} (t : Finset ι) (f : ι → EReal) {c : EReal} (h : 0 ≤ c) (h' : c ≠ ⊤) :
    c * ∑ i ∈ t, f i = ∑ i ∈ t, c * f i := by
  classical
  induction t using Finset.induction_on with
  | empty => simp
  | insert a t ha ih =>
    rw [Finset.sum_insert ha, Finset.sum_insert ha, ← ih, EReal.left_distrib_of_nonneg_of_ne_top h h']

/-- The weighted sum of the values `v` with weights `2 ^ (s - m)`. -/
def wsum {ι : Type} [Fintype ι] (s v : ι → EReal) (m : EReal) : EReal := ∑ i, Ideal.exp2 (s i - m) * v i

/-- A weighted sum taken against `m`, moved to the reference point `m'`. -/
theorem wsum_shift {ι : Type} [Fintype ι] (s v : ι → EReal) {m m' : EReal} (h : ∀ i, s i ≤ m) (h' : m ≤ m') :
    Ideal.exp2 (m - m') * wsum s v m = wsum s v m' := by
  unfold wsum
  rw [mul_sum _ _ (weight_nonneg h') (weight_ne_top h')]
  refine Finset.sum_congr rfl fun i _ => ?_
  rw [← mul_assoc, weight_shift (h i) h']

section Online

variable {ι₀ ι₁ ι₂ : Type} [Fintype ι₀] [Fintype ι₁] [Fintype ι₂]
variable (s₀ v₀ : ι₀ → EReal) (s₁ v₁ : ι₁ → EReal) (s₂ v₂ : ι₂ → EReal)

/-- The running maximum after the first two chunks. -/
def top₁ : EReal := max (top s₀) (top s₁)
/-- The running maximum after all three chunks. -/
def top₂ : EReal := max (top₁ s₀ s₁) (top s₂)

/-- The accumulator after three chunks, rescaled whenever the running maximum rises. -/
def online : EReal :=
  Ideal.exp2 (top₁ s₀ s₁ - top₂ s₀ s₁ s₂)
      * (Ideal.exp2 (top s₀ - top₁ s₀ s₁) * wsum s₀ v₀ (top s₀) + wsum s₁ v₁ (top₁ s₀ s₁))
    + wsum s₂ v₂ (top₂ s₀ s₁ s₂)

/-- The rescaled accumulator is the weighted sum over all three chunks against the greatest score of all. -/
theorem online_eq : online s₀ v₀ s₁ v₁ s₂ v₂ =
    wsum s₀ v₀ (top₂ s₀ s₁ s₂) + wsum s₁ v₁ (top₂ s₀ s₁ s₂) + wsum s₂ v₂ (top₂ s₀ s₁ s₂) := by
  have h01 : top s₀ ≤ top₁ s₀ s₁ := le_max_left _ _
  have h12 : top₁ s₀ s₁ ≤ top₂ s₀ s₁ s₂ := le_max_left _ _
  unfold online
  rw [wsum_shift s₀ v₀ (fun i => le_top s₀ i) h01,
    EReal.left_distrib_of_nonneg_of_ne_top (weight_nonneg h12) (weight_ne_top h12),
    wsum_shift s₀ v₀ (fun i => (le_top s₀ i).trans h01) h12,
    wsum_shift s₁ v₁ (m := top₁ s₀ s₁) (fun i => (le_top s₁ i).trans (le_max_right _ _)) h12]

end Online

/-! ## The three chunks as one row of 4608 keys -/

/-- Key `j` of the first chunk, of the second and of the third among the 4608. -/
def k₀ (j : Fin 2048) : Fin 4608 := ⟨j, by omega⟩
def k₁ (j : Fin 2048) : Fin 4608 := ⟨2048 + j, by omega⟩
def k₂ (j : Fin 512) : Fin 4608 := ⟨4096 + j, by omega⟩

/-- A sum over the 4608 keys is the sum of the sums over the chunks. -/
theorem sum_chunks (f : Fin 4608 → EReal) :
    ∑ j, f j = ∑ j, f (k₀ j) + ∑ j, f (k₁ j) + ∑ j, f (k₂ j) := by
  have e : ∀ (g : Fin (2048 + 2048 + 512) → EReal), ∑ j, g j = ∑ j : Fin 2048, g ⟨j, by omega⟩
      + ∑ j : Fin 2048, g ⟨2048 + j, by omega⟩ + ∑ j : Fin 512, g ⟨4096 + j, by omega⟩ := fun g => by
    rw [Fin.sum_univ_add, Fin.sum_univ_add]; rfl
  exact e f

/-- The greatest of the 4608 scores is the running maximum over the chunks. -/
theorem top_chunks (s : Fin 4608 → EReal) :
    top s = top₂ (fun j => s (k₀ j)) (fun j => s (k₁ j)) (fun j => s (k₂ j)) := by
  apply le_antisymm
  · refine top_le _ _ fun i => ?_
    by_cases h0 : (i : ℕ) < 2048
    · exact (le_top (fun j => s (k₀ j)) ⟨i, h0⟩).trans ((le_max_left _ _).trans (le_max_left _ _))
    · by_cases h1 : (i : ℕ) < 4096
      · have hk : k₁ ⟨i - 2048, by omega⟩ = i := Fin.ext (by simp only [k₁]; omega)
        have := le_top (fun j => s (k₁ j)) ⟨i - 2048, by omega⟩
        rw [hk] at this
        exact this.trans ((le_max_right _ _).trans (le_max_left _ _))
      · have hk : k₂ ⟨i - 4096, by omega⟩ = i := Fin.ext (by simp only [k₂]; omega)
        have := le_top (fun j => s (k₂ j)) ⟨i - 4096, by omega⟩
        rw [hk] at this
        exact this.trans (le_max_right _ _)
  · exact max_le (max_le (top_le _ _ fun j => le_top s _) (top_le _ _ fun j => le_top s _)) (top_le _ _ fun j => le_top s _)

/-- The weighted sum over a whole row of keys, as the chunked accumulator computes it. -/
theorem wsum_chunks (s v : Fin 4608 → EReal) :
    online (fun j => s (k₀ j)) (fun j => v (k₀ j)) (fun j => s (k₁ j)) (fun j => v (k₁ j)) (fun j => s (k₂ j)) (fun j => v (k₂ j))
      = wsum s v (top s) := by
  rw [online_eq, ← top_chunks]
  exact (sum_chunks fun j => Ideal.exp2 (s j - top s) * v j).symm

/-! ## The plain softmax in base e -/

/-- The natural logarithm of two. -/
abbrev ln2 : EReal := ((Real.log 2 : ℝ) : EReal)

theorem ln2_pos : (0 : ℝ) < Real.log 2 := Real.log_pos (by norm_num)

theorem mul_ln2_mono : Monotone fun x : EReal => x * ln2 := fun x y h =>
  mul_le_mul_of_nonneg_right h (EReal.coe_nonneg.2 ln2_pos.le)

/-- The greatest of the scores times `ln 2` is the greatest score times `ln 2`. -/
theorem top_ln2 {ι : Type} [Fintype ι] (s : ι → EReal) : top (fun i => s i * ln2) = top s * ln2 := by
  unfold top
  have h := Finset.fold_hom (op := max) (op' := max) (m := fun x : EReal => x * ln2) (f := s) (b := ⊥) (s := Finset.univ)
    (fun x y => mul_ln2_mono.map_max)
  rw [← h]
  congr 1
  show (⊥ : EReal) = ⊥ * ln2
  rw [EReal.bot_mul_coe_of_pos ln2_pos]

/-- `e ^ (s ln 2 - m ln 2)` is `2 ^ (s - m)`, infinities included. -/
theorem exp_ln2 (s m : EReal) : Ideal.exp (s * ln2 - m * ln2) = Ideal.exp2 (s - m) := by
  have hb := EReal.bot_mul_coe_of_pos ln2_pos
  have ht := EReal.top_mul_coe_of_pos ln2_pos
  induction s using EReal.rec with
  | bot => rw [hb]; simp
  | top =>
    rw [ht]
    induction m using EReal.rec with
    | bot => rw [hb]; simp
    | top => rw [ht]; simp
    | coe b => rw [← EReal.coe_mul, EReal.top_sub_coe, EReal.top_sub_coe]; rfl
  | coe a =>
    rw [← EReal.coe_mul]
    induction m using EReal.rec with
    | bot => rw [hb, EReal.coe_sub_bot, EReal.coe_sub_bot]; rfl
    | top => rw [ht]; simp
    | coe b =>
      rw [← EReal.coe_mul, ← EReal.coe_sub, ← EReal.coe_sub, Ideal.exp2_coe, Ideal.exp_coe]
      congr 1
      show Real.exp _ = (2 : ℝ) ^ (a - b)
      rw [Real.rpow_def_of_pos (by norm_num)]
      congr 1; ring

/-- What the plain reference computes for one query: softmax of the scores times `ln 2`, then the weighted mean of the
    values in column `d`. -/
def refMean (s : Fin 4608 → EReal) (v : Fin 4608 → EReal) : EReal :=
  ∑ j, v j * Ideal.div (Ideal.exp (s j * ln2 - top fun i => s i * ln2)) (∑ i, Ideal.exp (s i * ln2 - top fun i => s i * ln2))

/-- What the chunked computation gives for one query and one column of the values: the accumulator over the
    accumulated weights. -/
def kerMean (s : Fin 4608 → EReal) (v : Fin 4608 → EReal) : EReal :=
  Ideal.div (wsum s v (top s)) (wsum s (fun _ => 1) (top s))

/-- A vector of 64 divided by the root of its mean square. -/
def rmsNorm (n ε : EReal) (o : Fin 64 → EReal) (d : Fin 64) : EReal :=
  o d * Ideal.rsqrt (Ideal.div (∑ e, o e * o e) n + ε)

theorem refMean_eq (s v : Fin 4608 → EReal) : refMean s v =
    ∑ j, v j * Ideal.div (Ideal.exp2 (s j - top s)) (wsum s (fun _ => 1) (top s)) := by
  unfold refMean wsum
  simp only [top_ln2, exp_ln2, mul_one]

/-- Where the weights do not all vanish the two means agree. -/
theorem mean_eq_of_ne (s v : Fin 4608 → EReal) (h : wsum s (fun _ => 1) (top s) ≠ 0) : kerMean s v = refMean s v := by
  rw [refMean_eq]
  unfold kerMean
  have hr : ∃ r : ℝ, 0 ≤ r ∧ wsum s (fun _ => 1) (top s) = (r : EReal) := by
    choose f hf he using fun j => weight_real (le_top s j)
    refine ⟨∑ j, f j, Finset.sum_nonneg fun j _ => hf j, ?_⟩
    unfold wsum
    simp only [he, mul_one]
    exact (map_sum (⟨⟨fun x : ℝ => (x : EReal), EReal.coe_zero⟩, EReal.coe_add⟩ : ℝ →+ EReal) f Finset.univ).symm
  obtain ⟨r, hr0, hr⟩ := hr
  rw [hr] at h ⊢
  have h' : r ≠ 0 := fun e => h (by rw [e]; rfl)
  have hd : ∀ x : EReal, Ideal.div x (r : EReal) = ((r⁻¹ : ℝ) : EReal) * x := fun x => by
    unfold Ideal.div
    rw [if_neg h, ← EReal.coe_inv, mul_comm]
  rw [hd]
  unfold wsum
  rw [mul_sum _ _ (by exact_mod_cast inv_nonneg.2 hr0) (EReal.coe_ne_top _)]
  refine Finset.sum_congr rfl fun j _ => ?_
  rw [hd]
  ac_rfl

/-- Where all the weights vanish, every weight does. -/
theorem weight_zero (s : Fin 4608 → EReal) (h : wsum s (fun _ => 1) (top s) = 0) (j : Fin 4608) :
    Ideal.exp2 (s j - top s) = 0 := by
  unfold wsum at h
  simp only [mul_one] at h
  exact (Finset.sum_eq_zero_iff_of_nonneg fun i _ => weight_nonneg (le_top s i)).1 h j (Finset.mem_univ j)

/-- A number that is 0 or infinite. -/
def Wild (x : EReal) : Prop := x = 0 ∨ x = ⊤ ∨ x = ⊥

theorem Wild.mul_bot (x : EReal) : Wild (x * ⊥) := by
  rcases lt_trichotomy x 0 with h | h | h
  · exact Or.inr (Or.inl (EReal.mul_bot_of_neg h))
  · exact Or.inl (by rw [h, zero_mul])
  · exact Or.inr (Or.inr (EReal.mul_bot_of_pos h))

theorem Wild.sum {ι : Type} (t : Finset ι) (f : ι → EReal) (h : ∀ i, Wild (f i)) : Wild (∑ i ∈ t, f i) := by
  classical
  induction t using Finset.induction_on with
  | empty => exact Or.inl (by simp)
  | insert a t ha ih =>
    rw [Finset.sum_insert ha]
    rcases h a with e | e | e <;> rcases ih with e' | e' | e' <;> rw [e, e'] <;> simp [Wild]

theorem Wild.mul_self {x : EReal} (h : Wild x) (hx : x ≠ 0) : x * x = ⊤ := by
  rcases h with e | e | e
  · exact absurd e hx
  · rw [e]; simp
  · rw [e]; simp

/-- The normalisation of a vector of zeros and infinities is zero. -/
theorem rmsNorm_wild (n ε : ℝ) (hn : 0 < n) (o : Fin 64 → EReal) (h : ∀ d, Wild (o d)) (d : Fin 64) :
    rmsNorm (n : EReal) (ε : EReal) o d = 0 := by
  unfold rmsNorm
  by_cases h0 : ∃ e, o e ≠ 0
  · obtain ⟨e, he⟩ := h0
    have hs : ∑ e, o e * o e = ⊤ := by
      refine top_le_iff.1 ?_
      rw [← (h e).mul_self he]
      exact Finset.single_le_sum (f := fun e => o e * o e) (fun i _ => by
        rcases h i with e | e | e <;> rw [e] <;> simp) (Finset.mem_univ e)
    have hd : Ideal.div ⊤ (n : EReal) = ⊤ := by
      unfold Ideal.div
      rw [if_neg (by exact_mod_cast hn.ne'), ← EReal.coe_inv]
      exact EReal.top_mul_coe_of_pos (inv_pos.2 hn)
    rw [hs, hd, EReal.top_add_coe]
    show o d * (0 : EReal) = 0
    rw [mul_zero]
  · push Not at h0
    rw [h0 d, zero_mul]

/-- ONE ROW: the chunked softmax's mean, normalised, is the plain softmax's mean, normalised, whatever the scores and
    values. Where all the weights vanish the means differ and both normalise to zero. -/
theorem row_eq (n ε : ℝ) (hn : 0 < n) (s : Fin 4608 → EReal) (v : Fin 4608 → Fin 64 → EReal) (d : Fin 64) :
    rmsNorm (n : EReal) (ε : EReal) (fun e => kerMean s fun j => v j e) d
      = rmsNorm (n : EReal) (ε : EReal) (fun e => refMean s fun j => v j e) d := by
  by_cases h : wsum s (fun _ => 1) (top s) = 0
  · rw [rmsNorm_wild n ε hn _ fun e => ?_, rmsNorm_wild n ε hn _ fun e => ?_]
    · rw [refMean_eq, h]
      refine Wild.sum _ _ fun j => ?_
      rw [weight_zero s h j]
      have : Ideal.div 0 0 = ⊥ := by simp [Ideal.div]
      rw [this]
      exact Wild.mul_bot _
    · unfold kerMean
      have hz : wsum s (fun j => v j e) (top s) = 0 := by
        unfold wsum
        exact Finset.sum_eq_zero fun j _ => by rw [weight_zero s h j, zero_mul]
      rw [h, hz]
      exact Or.inr (Or.inr (by simp [Ideal.div]))
  · simp only [mean_eq_of_ne s _ h]

end Cert.SoftmaxMath

end
-- ==== Proof.Row.lean ====
/- One query's attention over the 4096 prompt keys and the 512 context keys, as a function of rows of numbers:
   what both programs are shown to compute, in the kernel's form and in the reference's. -/
module

public import proofs.«01_k».proof.Proof.SoftmaxMath

@[expose] public section

noncomputable section

namespace Cert.SoftmaxMath

open Idealize.ShloMosaic

/-- The mean-square divisor 64 and the normalisation's ε, as the constants' patterns denote them. -/
abbrev c64 : EReal := Ideal.ofBits .f32 0x42800000#32
abbrev cε : EReal := Ideal.ofBits .f32 0x358637BD#32

theorem c64_eq : c64 = ((64 : ℝ) : EReal) := by
  simp [Ideal.ofBits, Ideal.ieee, -EReal.coe_mul]; norm_num

theorem cε_real : ∃ r : ℝ, cε = (r : EReal) := by
  simp only [cε, Ideal.ofBits, Ideal.ieee]
  norm_num
  exact ⟨_, (EReal.coe_mul _ _).symm⟩

/-- The scores of a query `q` against the prompt's keys `kp`, then the context's keys `kc`. -/
def rowS (q : Fin 64 → EReal) (kp : Fin 64 → Fin 4096 → EReal) (kc : Fin 64 → Fin 512 → EReal) (j : Fin 4608) : EReal :=
  if h : (j : ℕ) < 4096 then ∑ c, q c * kp c ⟨j, h⟩ else ∑ c, q c * kc c ⟨j - 4096, by omega⟩

/-- One column of values: the prompt's `vp`, then the context's `vc`. -/
def rowV (vp : Fin 4096 → EReal) (vc : Fin 512 → EReal) (j : Fin 4608) : EReal :=
  if h : (j : ℕ) < 4096 then vp ⟨j, h⟩ else vc ⟨j - 4096, by omega⟩

/-- The chunked attention of one query: the weighted sum of each of the first 64 columns of the values over the weighted
    sum of column 64, normalised. -/
def attn (q : Fin 64 → EReal) (kp : Fin 64 → Fin 4096 → EReal) (kc : Fin 64 → Fin 512 → EReal)
    (vp : Fin 4096 → Fin 128 → EReal) (vc : Fin 512 → Fin 128 → EReal) (d : Fin 64) : EReal :=
  rmsNorm c64 cε (fun e => Ideal.div
    (wsum (rowS q kp kc) (rowV (fun j => vp j ⟨e, by omega⟩) (fun j => vc j ⟨e, by omega⟩)) (top (rowS q kp kc)))
    (wsum (rowS q kp kc) (rowV (fun j => vp j 64) (fun j => vc j 64)) (top (rowS q kp kc)))) d

/-- The plain attention of one query, normalised. -/
def plain (q : Fin 64 → EReal) (kp : Fin 64 → Fin 4096 → EReal) (kc : Fin 64 → Fin 512 → EReal)
    (vp : Fin 4096 → Fin 64 → EReal) (vc : Fin 512 → Fin 64 → EReal) (d : Fin 64) : EReal :=
  rmsNorm c64 cε (fun e => refMean (rowS q kp kc) (rowV (fun j => vp j e) (fun j => vc j e))) d

/-- Where column 64 of the values holds ones, the chunked attention is the plain one. -/
theorem attn_eq_plain (q : Fin 64 → EReal) (kp : Fin 64 → Fin 4096 → EReal) (kc : Fin 64 → Fin 512 → EReal)
    (vp : Fin 4096 → Fin 128 → EReal) (vc : Fin 512 → Fin 128 → EReal) (hp : ∀ j, vp j 64 = 1) (hc : ∀ j, vc j 64 = 1) (d : Fin 64) :
    attn q kp kc vp vc d = plain q kp kc (fun j e => vp j ⟨e, by omega⟩) (fun j e => vc j ⟨e, by omega⟩) d := by
  obtain ⟨ε, hε⟩ := cε_real
  have h1 : rowV (fun j => vp j 64) (fun j => vc j 64) = fun _ => 1 := funext fun j => by
    unfold rowV; simp only [hp, hc]; split <;> rfl
  unfold attn plain
  rw [h1, hε, c64_eq]
  exact row_eq 64 ε (by norm_num) (rowS q kp kc) (fun j e => rowV (fun j => vp j ⟨e, by omega⟩) (fun j => vc j ⟨e, by omega⟩) j) d

/-- The chunked accumulator over the three chunks of a row is the weighted sum over the row. -/
theorem online_row (q : Fin 64 → EReal) (kp : Fin 64 → Fin 4096 → EReal) (kc : Fin 64 → Fin 512 → EReal) (vp : Fin 4096 → EReal) (vc : Fin 512 → EReal) :
    online (fun j : Fin 2048 => ∑ c, q c * kp c ⟨j, by omega⟩) (fun j => vp ⟨j, by omega⟩)
      (fun j : Fin 2048 => ∑ c, q c * kp c ⟨2048 + j, by omega⟩) (fun j => vp ⟨2048 + j, by omega⟩)
      (fun j : Fin 512 => ∑ c, q c * kc c j) (fun j => vc j)
      = wsum (rowS q kp kc) (rowV vp vc) (top (rowS q kp kc)) := by
  rw [← wsum_chunks]
  have a0 : ∀ j : Fin 2048, ((k₀ j : Fin 4608) : ℕ) < 4096 := fun j => by simp only [k₀]; omega
  have a1 : ∀ j : Fin 2048, ((k₁ j : Fin 4608) : ℕ) < 4096 := fun j => by simp only [k₁]; omega
  have a2 : ∀ j : Fin 512, ¬ ((k₂ j : Fin 4608) : ℕ) < 4096 := fun j => by simp only [k₂]; omega
  have a3 : ∀ (j : Fin 512) h, (⟨(k₂ j : Fin 4608) - 4096, h⟩ : Fin 512) = j := fun j h => Fin.ext (by simp only [k₂]; omega)
  congr 1
  · funext j; unfold rowS; rw [dif_pos (a0 j)]; rfl
  · funext j; unfold rowV; rw [dif_pos (a0 j)]; rfl
  · funext j; unfold rowS; rw [dif_pos (a1 j)]; rfl
  · funext j; unfold rowV; rw [dif_pos (a1 j)]; rfl
  · funext j; unfold rowS; rw [dif_neg (a2 j), a3]
  · funext j; unfold rowV; rw [dif_neg (a2 j), a3]

end Cert.SoftmaxMath

end
-- ==== Proof.Subtile.lean ====
/- One subtile of the attention block: 128 query rows of the four heads of a group, stacked to 512 rows. -/
module

public import proofs.«01_k».proof.Proof.Gen.KernelIdeal.Value
public import proofs.«01_k».proof.Proof.Row

@[expose] public section

set_option maxRecDepth 16384

noncomputable section

namespace Cert.KernelIdeal.Value

open Cert.KernelIdeal Cert.KernelIdeal.Gen Idealize.ShloMosaic Idealize.ShloMosaic.TcCoe Idealize.SL.Sem
open Cert.SoftmaxMath

/-- What a subtile stores before the gain: rows of the normalised attention, from the subtile's queries `q`, the two
    halves of the prompt's keys and values and the context's keys and values. -/
def subtile (k0 : Vec Ideal S1x1x64x2048 .bf16) (v0 : Vec Ideal S1x1x2048x128 .bf16) (k1 : Vec Ideal S1x1x64x2048 .bf16) (v1 : Vec Ideal S1x1x2048x128 .bf16)
    (kc : Vec Ideal S1x1x64x512 .bf16) (vc : Vec Ideal S1x1x512x128 .bf16) (q : Vec Ideal S1x4x128x64 .bf16) : FVec Ideal S512x64 .f32 :=
  k0_pay13 (k0_pay5 v1) (k0_pay6 kc) (k0_pay7 vc) (k0_pay8 q) (k0_pay10 k0 q) (k0_pay11 k0 v0 q) (k0_pay12 k1 q)

/-- The pattern of −∞ is the least extended real. -/
theorem neg_inf : Ideal.ofBits .f32 0xFF800000#32 = ⊥ := by simp [Ideal.ofBits, Ideal.ieee]

/-- Scores of the query row `r` of a subtile against the keys `k`, columns of a block. -/
def scoreOf {n : ℕ} (q : Vec Ideal S1x4x128x64 .bf16) (k : (⟨4, ![1, 1, 64, n]⟩ : Shape).Idx → EReal) (r : Fin 512) (j : Fin n) : EReal :=
  ∑ c : Fin 64, q (ix4 0 ⟨r / 128, by omega⟩ ⟨r % 128, by omega⟩ c) * k (ix4 0 0 c j)

set_option maxHeartbeats 4000000 in
/-- Row `r`, column `d` of a subtile: the chunked softmax's accumulator over its column 64, normalised. -/
theorem subtile_apply (k0 : Vec Ideal S1x1x64x2048 .bf16) (v0 : Vec Ideal S1x1x2048x128 .bf16) (k1 : Vec Ideal S1x1x64x2048 .bf16) (v1 : Vec Ideal S1x1x2048x128 .bf16)
    (kc : Vec Ideal S1x1x64x512 .bf16) (vc : Vec Ideal S1x1x512x128 .bf16) (q : Vec Ideal S1x4x128x64 .bf16) (r : Fin 512) (d : Fin 64) :
    subtile k0 v0 k1 v1 kc vc q (ix2 r d) =
      rmsNorm c64 cε (fun e => Ideal.div
        (online (scoreOf q k0 r) (fun x => v0 (ix4 0 0 x ⟨e, by omega⟩)) (scoreOf q k1 r) (fun x => v1 (ix4 0 0 x ⟨e, by omega⟩)) (scoreOf q kc r) (fun x => vc (ix4 0 0 x ⟨e, by omega⟩)))
        (online (scoreOf q k0 r) (fun x => v0 (ix4 0 0 x 64)) (scoreOf q k1 r) (fun x => v1 (ix4 0 0 x 64)) (scoreOf q kc r) (fun x => vc (ix4 0 0 x 64)))) d := by
  pointwise [subtile, k0_pay13, k0_pay5, k0_pay6, k0_pay7, k0_pay8, k0_pay10, k0_pay9, k0_pay11, k0_pay12, k0_pay2, k0_pay3, k0_pay4]
  simp only [neg_inf]
  rfl

end Cert.KernelIdeal.Value

end
-- ==== Proof.Block.lean ====
/- What the attention body leaves in its output block, as one function of the input blocks: its sixteen stores are four
   subtiles of queries by four heads, every one a rectangle of that function. -/
module

public import proofs.«01_k».proof.Proof.Subtile

@[expose] public section

set_option maxRecDepth 16384

noncomputable section

namespace Cert.KernelIdeal.Value

open Cert.KernelIdeal Cert.KernelIdeal.Gen Idealize.ShloMosaic Idealize.ShloMosaic.TcCoe Idealize.SL.Sem
open Cert.SoftmaxMath

/-! ## The four subtiles are one function -/

section Same

variable (k0 : Vec Ideal S1x1x64x2048 .bf16) (v0 : Vec Ideal S1x1x2048x128 .bf16) (k1 : Vec Ideal S1x1x64x2048 .bf16) (v1 : Vec Ideal S1x1x2048x128 .bf16)
    (kc : Vec Ideal S1x1x64x512 .bf16) (vc : Vec Ideal S1x1x512x128 .bf16) (q : Vec Ideal S1x4x128x64 .bf16)

theorem same1 : k0_pay23 (k0_pay3 v0) (k0_pay4 k1) (k0_pay5 v1) (k0_pay6 kc) (k0_pay7 vc) (k0_pay19 q) (k0_pay21 (k0_pay2 k0) q) (k0_pay22 (k0_pay2 k0) q)
    = subtile k0 v0 k1 v1 kc vc q := rfl

theorem same2 : k0_pay32 (k0_pay3 v0) (k0_pay4 k1) (k0_pay5 v1) (k0_pay6 kc) (k0_pay7 vc) (k0_pay29 q) (k0_pay30 (k0_pay2 k0) q) (k0_pay31 (k0_pay2 k0) q)
    = subtile k0 v0 k1 v1 kc vc q := rfl

theorem same3 : k0_pay41 (k0_pay39 (k0_pay2 k0) (k0_pay3 v0) (k0_pay4 k1) (k0_pay5 v1) (k0_pay6 kc) (k0_pay7 vc) (k0_pay38 q))
      (k0_pay40 (k0_pay2 k0) (k0_pay3 v0) (k0_pay4 k1) (k0_pay5 v1) (k0_pay6 kc) (k0_pay7 vc) (k0_pay38 q))
    = subtile k0 v0 k1 v1 kc vc q := rfl

end Same

/-! ## A store's payload: rows of a subtile times the gain -/

/-- `w` is the rows of head `g` of the normalised subtile `n`, times the gain `u`. -/
def Stores (g : Fin 4) (n : FVec Ideal S512x64 .f32) (u : Vec Ideal S1x64 .f32) (w : FVec Ideal S1x128x64 .bf16) : Prop :=
  ∀ (l : Fin 128) (d : Fin 64), w (ix3 0 l d) = n (ix2 ⟨128 * g + l, by omega⟩ d) * u (ix2 0 d)

theorem row0 (l : Fin 128) (h : 128 * ((0 : Fin 4) : ℕ) + l < 512) : (⟨128 * ((0 : Fin 4) : ℕ) + l, h⟩ : Fin 512) = ⟨l, by omega⟩ := Fin.ext (by simp)

section Stores

variable (v7 : FVec Ideal S2048x128 .bf16) (v9 : FVec Ideal S64x512 .bf16) (v11 : FVec Ideal S512x128 .bf16) (v14 : FVec Ideal S512x64 .bf16) (v17 : FVec Ideal S512x1 .f32)
    (v22 : FVec Ideal S512x128 .f32) (v23 : FVec Ideal S512x2048 .f32) (v3 : FVec Ideal S2048x128 .bf16) (v5 : FVec Ideal S64x2048 .bf16) (v106 : FVec Ideal S512x2048 .bf16)
    (v186 : FVec Ideal S512 .f32) (n : FVec Ideal S512x64 .f32) (u : Vec Ideal S1x64 .f32)

theorem st00 : Stores 0 (k0_pay13 v7 v9 v11 v14 v17 v22 v23) u (k0_pay15 (k0_pay14 v7 v9 v11 v14 v17 v22 v23 u)) := fun l d => by
  rw [row0]; pointwise [k0_pay15, k0_pay14]
theorem st01 : Stores 1 n u (k0_pay16 n u) := fun l d => by pointwise [k0_pay16]
theorem st02 : Stores 2 n u (k0_pay17 n u) := fun l d => by pointwise [k0_pay17]
theorem st03 : Stores 3 n u (k0_pay18 n u) := fun l d => by pointwise [k0_pay18]

theorem st10 : Stores 0 (k0_pay23 v3 v5 v7 v9 v11 v14 v17 v106) u (k0_pay25 (k0_pay24 v3 v5 v7 v9 v11 v14 v17 v106 u)) := fun l d => by
  rw [row0]; pointwise [k0_pay25, k0_pay24]
theorem st11 : Stores 1 n u (k0_pay26 n u) := fun l d => by pointwise [k0_pay26]
theorem st12 : Stores 2 n u (k0_pay27 n u) := fun l d => by pointwise [k0_pay27]
theorem st13 : Stores 3 n u (k0_pay28 n u) := fun l d => by pointwise [k0_pay28]

theorem st20 : Stores 0 (k0_pay32 v3 v5 v7 v9 v11 v14 v23 v186) u (k0_pay34 (k0_pay33 v3 v5 v7 v9 v11 v14 v23 v186) u) := fun l d => by
  rw [row0]; pointwise [k0_pay34, k0_pay33]
theorem st21 : Stores 1 n u (k0_pay35 n u) := fun l d => by pointwise [k0_pay35]
theorem st22 : Stores 2 n u (k0_pay36 n u) := fun l d => by pointwise [k0_pay36]
theorem st23 : Stores 3 n u (k0_pay37 n u) := fun l d => by pointwise [k0_pay37]

theorem st30 : Stores 0 (k0_pay41 n v17) u (k0_pay42 n v17 u) := fun l d => by rw [row0]; pointwise [k0_pay42, k0_pay41]
theorem st31 : Stores 1 (k0_pay41 n v17) u (k0_pay43 n v17 u) := fun l d => by pointwise [k0_pay43, k0_pay41]
theorem st32 : Stores 2 (k0_pay41 n v17) u (k0_pay44 n v17 u) := fun l d => by pointwise [k0_pay44, k0_pay41]
theorem st33 : Stores 3 (k0_pay41 n v17) u (k0_pay1 (k0_pay45 n v17 u)) := fun l d => by pointwise [k0_pay1, k0_pay45, k0_pay41]

end Stores

/-! ## The block's function -/

section Block

variable (x0 : Vec Ideal S1x4x512x64 .bf16) (x1 : Vec Ideal S1x1x64x4096 .bf16) (x2 : Vec Ideal S1x1x4096x128 .bf16) (x3 : Vec Ideal S1x256 .f32)
    (x4 : Vec Ideal S1x1x64x512 .bf16) (x5 : Vec Ideal S1x1x512x128 .bf16)

/-- Row `r`, head `g` of the group, column `d`: the attention of query `r` of head `g`, times the gain. -/
def blockAt (r : Fin 512) (g : Fin 4) (d : Fin 64) : EReal :=
  attn (fun c => x0 (ix4 0 g r c)) (fun c j => x1 (ix4 0 0 c j)) (fun c j => x4 (ix4 0 0 c j))
    (fun j e => x2 (ix4 0 0 j e)) (fun j e => x5 (ix4 0 0 j e)) d * x3 (ix2 0 ⟨64 * g + d, by omega⟩)

/-- The output block: its columns are the group's heads side by side, 64 each. -/
def blockOut : S1x512x256.Idx → EReal := fun z =>
  blockAt x0 x1 x2 x3 x4 x5 (z 1) ⟨(z 2 : ℕ) / 64, by have : (z 2 : ℕ) < 256 := (z 2).isLt; omega⟩ ⟨(z 2 : ℕ) % 64, by omega⟩

theorem blockOut_at (i g : Fin 4) (l : Fin 128) (d : Fin 64) :
    blockOut x0 x1 x2 x3 x4 x5 (ix3 0 ⟨128 * i + l, by omega⟩ ⟨64 * g + d, by omega⟩) = blockAt x0 x1 x2 x3 x4 x5 ⟨128 * i + l, by omega⟩ g d := by
  unfold blockOut
  congr 1
  · exact Fin.ext (by show (64 * (g : ℕ) + d) / 64 = g; omega)
  · exact Fin.ext (by show (64 * (g : ℕ) + d) % 64 = d; omega)

/-- The loads of the keys and values that every subtile reads, as parts of the blocks. -/
structure Loads (k0 : Vec Ideal S1x1x64x2048 .bf16) (v0 : Vec Ideal S1x1x2048x128 .bf16) (k1 : Vec Ideal S1x1x64x2048 .bf16) (v1 : Vec Ideal S1x1x2048x128 .bf16)
    (kc : Vec Ideal S1x1x64x512 .bf16) (vc : Vec Ideal S1x1x512x128 .bf16) : Prop where
  k0 : ∀ c j, k0 (ix4 0 0 c j) = x1 (ix4 0 0 c ⟨j, by omega⟩)
  v0 : ∀ j e, v0 (ix4 0 0 j e) = x2 (ix4 0 0 ⟨j, by omega⟩ e)
  k1 : ∀ c j, k1 (ix4 0 0 c j) = x1 (ix4 0 0 c ⟨2048 + j, by omega⟩)
  v1 : ∀ j e, v1 (ix4 0 0 j e) = x2 (ix4 0 0 ⟨2048 + j, by omega⟩ e)
  kc : ∀ c j, kc (ix4 0 0 c j) = x4 (ix4 0 0 c j)
  vc : ∀ j e, vc (ix4 0 0 j e) = x5 (ix4 0 0 j e)

variable {x1 x2 x4 x5} in
/-- Row `l` of head `g` of a subtile over those loads is that query's attention. -/
theorem subtile_row {k0 v0 k1 v1 kc vc} (H : Loads x1 x2 x4 x5 k0 v0 k1 v1 kc vc) (q : Vec Ideal S1x4x128x64 .bf16) (g : Fin 4) (l : Fin 128) (d : Fin 64) :
    subtile k0 v0 k1 v1 kc vc q (ix2 ⟨128 * g + l, by omega⟩ d)
      = attn (fun c => q (ix4 0 g l c)) (fun c j => x1 (ix4 0 0 c j)) (fun c j => x4 (ix4 0 0 c j))
          (fun j e => x2 (ix4 0 0 j e)) (fun j e => x5 (ix4 0 0 j e)) d := by
  rw [subtile_apply]
  have hlt : 128 * (g : ℕ) + l < 512 := by omega
  have hg : (⟨(128 * (g : ℕ) + l) / 128, by omega⟩ : Fin 4) = g := Fin.ext (by show (128 * (g : ℕ) + l) / 128 = g; omega)
  have hl : (⟨(128 * (g : ℕ) + l) % 128, by omega⟩ : Fin 128) = l := Fin.ext (by show (128 * (g : ℕ) + l) % 128 = l; omega)
  have e0 : scoreOf q k0 ⟨128 * g + l, by omega⟩ = fun j : Fin 2048 => ∑ c, q (ix4 0 g l c) * x1 (ix4 0 0 c ⟨j, by omega⟩) := funext fun j => by
    unfold scoreOf; simp only [hg, hl, H.k0]
  have e1 : scoreOf q k1 ⟨128 * g + l, by omega⟩ = fun j : Fin 2048 => ∑ c, q (ix4 0 g l c) * x1 (ix4 0 0 c ⟨2048 + j, by omega⟩) := funext fun j => by
    unfold scoreOf; simp only [hg, hl, H.k1]
  have e2 : scoreOf q kc ⟨128 * g + l, by omega⟩ = fun j => ∑ c, q (ix4 0 g l c) * x4 (ix4 0 0 c j) := funext fun j => by
    unfold scoreOf; simp only [hg, hl, H.kc]
  rw [e0, e1, e2]
  simp only [H.v0, H.v1, H.vc]
  have hcol (e : Fin 128) := online_row (fun c => q (ix4 0 g l c)) (fun c j => x1 (ix4 0 0 c j)) (fun c j => x4 (ix4 0 0 c j))
    (fun j => x2 (ix4 0 0 j e)) (fun j => x5 (ix4 0 0 j e))
  unfold attn
  simp only [← hcol]

/-- A store of subtile `i`, head `g`, is its rectangle of the block's function. -/
theorem piece {k0 v0 k1 v1 kc vc} (H : Loads x1 x2 x4 x5 k0 v0 k1 v1 kc vc) (i g : Fin 4) (q : Vec Ideal S1x4x128x64 .bf16)
    (hq : ∀ g l c, q (ix4 0 g l c) = x0 (ix4 0 g ⟨128 * i + l, by omega⟩ c)) (u : Vec Ideal S1x64 .f32)
    (hu : ∀ d, u (ix2 0 d) = x3 (ix2 0 ⟨64 * g + d, by omega⟩)) (w : FVec Ideal S1x128x64 .bf16)
    (hw : Stores g (subtile k0 v0 k1 v1 kc vc q) u w) (l : Fin 128) (d : Fin 64) :
    w (ix3 0 l d) = blockOut x0 x1 x2 x3 x4 x5 (ix3 0 ⟨128 * i + l, by omega⟩ ⟨64 * g + d, by omega⟩) := by
  rw [hw, subtile_row H, hu, blockOut_at]
  unfold blockAt
  simp only [hq]

/-- A rectangle of the output block whose corner is at row `128 i`, column `64 g` carries `(l, d)` to its place. -/
theorem emb_at (i g : Fin 4) (a b : ℕ) (ha : a = 128 * i) (hb : b = 64 * g) (h : ∀ t, (![0, a, b] : Fin 3 → ℕ) t + S1x128x64.size t ≤ S1x512x256.size t) (l : Fin 128) (d : Fin 64) :
    (Rect.unit (s := S1x512x256) ![0, a, b] S1x128x64.size h).emb (ix3 0 l d) = ix3 0 ⟨128 * i + l, by omega⟩ ⟨64 * g + d, by omega⟩ := by
  subst ha hb
  funext t
  match t with
  | ⟨0, _⟩ => rfl
  | ⟨1, _⟩ => exact Fin.ext (by show 128 * (i : ℕ) + 1 * (l : ℕ) = 128 * i + l; omega)
  | ⟨2, _⟩ => exact Fin.ext (by show 64 * (g : ℕ) + 1 * (d : ℕ) = 64 * g + d; omega)

/-- The body's loads of keys and values are those parts of the blocks. -/
theorem loads : Loads x1 x2 x4 x5 (View.ld x1 r0_0) (View.ld x2 r0_1) (View.ld x1 r0_2) (View.ld x2 r0_3) (View.ld x4 r0_4) (View.ld x5 r0_5) where
  k0 c j := by pointwise
  v0 j e := by pointwise
  k1 c j := by pointwise
  v1 j e := by pointwise
  kc c j := by pointwise
  vc j e := by pointwise

set_option maxHeartbeats 2000000 in
/-- THE BLOCK: what the body leaves in the output window's buffer is the block's function of the input blocks. -/
theorem out_eq : out0_6 x0 x1 x2 x3 x4 x5 = blockOut x0 x1 x2 x3 x4 x5 := by
  funext z
  unfold out0_6
  refine View.canon_apply_of_pieces (Val := Elt Ideal) (blockOut x0 x1 x2 x3 x4 x5) _ ?_ z (cover0_6 _ _ _ _ _ _ _ _ _ _ _ _ _ _ _ _ z)
  intro p hp
  simp only [List.mem_cons, List.not_mem_nil, or_false] at hp
  have H := loads x1 x2 x4 x5
  rcases hp with rfl | rfl | rfl | rfl | rfl | rfl | rfl | rfl | rfl | rfl | rfl | rfl | rfl | rfl | rfl | rfl
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_29.emb (ix3 0 l d) = _ := emb_at 3 3 384 192 rfl rfl _ l d
    refine (piece x0 x1 x2 x3 x4 x5 H 3 3 (View.ld x0 r0_25) (fun g l c => ?_) (View.ld x3 r0_13) (fun d => ?_) _ ?_ l d).trans (congrArg (blockOut x0 x1 x2 x3 x4 x5) e.symm)
    · pointwise
    · pointwise
    · exact st33 (k0_pay67 x0 x1 x2 x3 x4 x5) (k0_pay66 x0 x1 x2 x3 x4 x5) (View.ld x3 r0_13)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_28.emb (ix3 0 l d) = _ := emb_at 3 2 384 128 rfl rfl _ l d
    refine (piece x0 x1 x2 x3 x4 x5 H 3 2 (View.ld x0 r0_25) (fun g l c => ?_) (View.ld x3 r0_11) (fun d => ?_) _ ?_ l d).trans (congrArg (blockOut x0 x1 x2 x3 x4 x5) e.symm)
    · pointwise
    · pointwise
    · exact st32 (k0_pay67 x0 x1 x2 x3 x4 x5) (k0_pay66 x0 x1 x2 x3 x4 x5) (View.ld x3 r0_11)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_27.emb (ix3 0 l d) = _ := emb_at 3 1 384 64 rfl rfl _ l d
    refine (piece x0 x1 x2 x3 x4 x5 H 3 1 (View.ld x0 r0_25) (fun g l c => ?_) (View.ld x3 r0_9) (fun d => ?_) _ ?_ l d).trans (congrArg (blockOut x0 x1 x2 x3 x4 x5) e.symm)
    · pointwise
    · pointwise
    · exact st31 (k0_pay67 x0 x1 x2 x3 x4 x5) (k0_pay66 x0 x1 x2 x3 x4 x5) (View.ld x3 r0_9)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_26.emb (ix3 0 l d) = _ := emb_at 3 0 384 0 rfl rfl _ l d
    refine (piece x0 x1 x2 x3 x4 x5 H 3 0 (View.ld x0 r0_25) (fun g l c => ?_) (View.ld x3 r0_7) (fun d => ?_) _ ?_ l d).trans (congrArg (blockOut x0 x1 x2 x3 x4 x5) e.symm)
    · pointwise
    · pointwise
    · exact st30 (k0_pay67 x0 x1 x2 x3 x4 x5) (k0_pay66 x0 x1 x2 x3 x4 x5) (View.ld x3 r0_7)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_24.emb (ix3 0 l d) = _ := emb_at 2 3 256 192 rfl rfl _ l d
    refine (piece x0 x1 x2 x3 x4 x5 H 2 3 (View.ld x0 r0_20) (fun g l c => ?_) (View.ld x3 r0_13) (fun d => ?_) _ ?_ l d).trans (congrArg (blockOut x0 x1 x2 x3 x4 x5) e.symm)
    · pointwise
    · pointwise
    · exact st23 (k0_pay64 x0 x1 x2 x3 x4 x5) (View.ld x3 r0_13)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_23.emb (ix3 0 l d) = _ := emb_at 2 2 256 128 rfl rfl _ l d
    refine (piece x0 x1 x2 x3 x4 x5 H 2 2 (View.ld x0 r0_20) (fun g l c => ?_) (View.ld x3 r0_11) (fun d => ?_) _ ?_ l d).trans (congrArg (blockOut x0 x1 x2 x3 x4 x5) e.symm)
    · pointwise
    · pointwise
    · exact st22 (k0_pay64 x0 x1 x2 x3 x4 x5) (View.ld x3 r0_11)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_22.emb (ix3 0 l d) = _ := emb_at 2 1 256 64 rfl rfl _ l d
    refine (piece x0 x1 x2 x3 x4 x5 H 2 1 (View.ld x0 r0_20) (fun g l c => ?_) (View.ld x3 r0_9) (fun d => ?_) _ ?_ l d).trans (congrArg (blockOut x0 x1 x2 x3 x4 x5) e.symm)
    · pointwise
    · pointwise
    · exact st21 (k0_pay64 x0 x1 x2 x3 x4 x5) (View.ld x3 r0_9)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_21.emb (ix3 0 l d) = _ := emb_at 2 0 256 0 rfl rfl _ l d
    refine (piece x0 x1 x2 x3 x4 x5 H 2 0 (View.ld x0 r0_20) (fun g l c => ?_) (View.ld x3 r0_7) (fun d => ?_) _ ?_ l d).trans (congrArg (blockOut x0 x1 x2 x3 x4 x5) e.symm)
    · pointwise
    · pointwise
    · exact st20 (k0_pay49 x0 x1 x2 x3 x4 x5) (k0_pay50 x0 x1 x2 x3 x4 x5) (k0_pay51 x0 x1 x2 x3 x4 x5) (k0_pay61 x0 x1 x2 x3 x4 x5) (k0_pay62 x0 x1 x2 x3 x4 x5) (k0_pay47 x0 x1 x2 x3 x4 x5) (k0_pay48 x0 x1 x2 x3 x4 x5) (k0_pay63 x0 x1 x2 x3 x4 x5) (View.ld x3 r0_7)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_19.emb (ix3 0 l d) = _ := emb_at 1 3 128 192 rfl rfl _ l d
    refine (piece x0 x1 x2 x3 x4 x5 H 1 3 (View.ld x0 r0_15) (fun g l c => ?_) (View.ld x3 r0_13) (fun d => ?_) _ ?_ l d).trans (congrArg (blockOut x0 x1 x2 x3 x4 x5) e.symm)
    · pointwise
    · pointwise
    · exact st13 (k0_pay60 x0 x1 x2 x3 x4 x5) (View.ld x3 r0_13)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_18.emb (ix3 0 l d) = _ := emb_at 1 2 128 128 rfl rfl _ l d
    refine (piece x0 x1 x2 x3 x4 x5 H 1 2 (View.ld x0 r0_15) (fun g l c => ?_) (View.ld x3 r0_11) (fun d => ?_) _ ?_ l d).trans (congrArg (blockOut x0 x1 x2 x3 x4 x5) e.symm)
    · pointwise
    · pointwise
    · exact st12 (k0_pay60 x0 x1 x2 x3 x4 x5) (View.ld x3 r0_11)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_17.emb (ix3 0 l d) = _ := emb_at 1 1 128 64 rfl rfl _ l d
    refine (piece x0 x1 x2 x3 x4 x5 H 1 1 (View.ld x0 r0_15) (fun g l c => ?_) (View.ld x3 r0_9) (fun d => ?_) _ ?_ l d).trans (congrArg (blockOut x0 x1 x2 x3 x4 x5) e.symm)
    · pointwise
    · pointwise
    · exact st11 (k0_pay60 x0 x1 x2 x3 x4 x5) (View.ld x3 r0_9)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_16.emb (ix3 0 l d) = _ := emb_at 1 0 128 0 rfl rfl _ l d
    refine (piece x0 x1 x2 x3 x4 x5 H 1 0 (View.ld x0 r0_15) (fun g l c => ?_) (View.ld x3 r0_7) (fun d => ?_) _ ?_ l d).trans (congrArg (blockOut x0 x1 x2 x3 x4 x5) e.symm)
    · pointwise
    · pointwise
    · exact st10 (k0_pay49 x0 x1 x2 x3 x4 x5) (k0_pay50 x0 x1 x2 x3 x4 x5) (k0_pay51 x0 x1 x2 x3 x4 x5) (k0_pay57 x0 x1 x2 x3 x4 x5) (k0_pay58 x0 x1 x2 x3 x4 x5) (k0_pay47 x0 x1 x2 x3 x4 x5) (k0_pay48 x0 x1 x2 x3 x4 x5) (k0_pay59 x0 x1 x2 x3 x4 x5) (View.ld x3 r0_7)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_14.emb (ix3 0 l d) = _ := emb_at 0 3 0 192 rfl rfl _ l d
    refine (piece x0 x1 x2 x3 x4 x5 H 0 3 (View.ld x0 r0_6) (fun g l c => ?_) (View.ld x3 r0_13) (fun d => ?_) _ ?_ l d).trans (congrArg (blockOut x0 x1 x2 x3 x4 x5) e.symm)
    · pointwise
    · pointwise
    · exact st03 (k0_pay56 x0 x1 x2 x3 x4 x5) (View.ld x3 r0_13)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_12.emb (ix3 0 l d) = _ := emb_at 0 2 0 128 rfl rfl _ l d
    refine (piece x0 x1 x2 x3 x4 x5 H 0 2 (View.ld x0 r0_6) (fun g l c => ?_) (View.ld x3 r0_11) (fun d => ?_) _ ?_ l d).trans (congrArg (blockOut x0 x1 x2 x3 x4 x5) e.symm)
    · pointwise
    · pointwise
    · exact st02 (k0_pay56 x0 x1 x2 x3 x4 x5) (View.ld x3 r0_11)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_10.emb (ix3 0 l d) = _ := emb_at 0 1 0 64 rfl rfl _ l d
    refine (piece x0 x1 x2 x3 x4 x5 H 0 1 (View.ld x0 r0_6) (fun g l c => ?_) (View.ld x3 r0_9) (fun d => ?_) _ ?_ l d).trans (congrArg (blockOut x0 x1 x2 x3 x4 x5) e.symm)
    · pointwise
    · pointwise
    · exact st01 (k0_pay56 x0 x1 x2 x3 x4 x5) (View.ld x3 r0_9)
  · intro x; obtain ⟨a, l, d, rfl⟩ : ∃ (a : Fin 1) (l : Fin 128) (d : Fin 64), x = ix3 a l d := ⟨x 0, x 1, x 2, eq_ix3 x⟩
    obtain rfl : a = 0 := Subsingleton.elim _ _
    have e : r0_8.emb (ix3 0 l d) = _ := emb_at 0 0 0 0 rfl rfl _ l d
    refine (piece x0 x1 x2 x3 x4 x5 H 0 0 (View.ld x0 r0_6) (fun g l c => ?_) (View.ld x3 r0_7) (fun d => ?_) _ ?_ l d).trans (congrArg (blockOut x0 x1 x2 x3 x4 x5) e.symm)
    · pointwise
    · pointwise
    · exact st00 (k0_pay49 x0 x1 x2 x3 x4 x5) (k0_pay50 x0 x1 x2 x3 x4 x5) (k0_pay51 x0 x1 x2 x3 x4 x5) (k0_pay52 x0 x1 x2 x3 x4 x5) (k0_pay53 x0 x1 x2 x3 x4 x5) (k0_pay54 x0 x1 x2 x3 x4 x5) (k0_pay55 x0 x1 x2 x3 x4 x5) (View.ld x3 r0_7)

end Block

end Cert.KernelIdeal.Value

end
-- ==== Proof.Array.lean ====
/- The attention call's result array: every column of every row is the chunked attention of its head and query, times the gain. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.SoftmaxMath

/-- The chunked attention of batch `b`, head `h`, query `l`, value column `d`, times the gain of that head's column; `h / 4` is
    the key-value head that `h` reads. -/
def headOut (q : S8x8x4096x64.Idx → EReal) (kt : S8x2x64x4096.Idx → EReal) (vx : S8x2x4096x128.Idx → EReal) (gain : S1x512.Idx → EReal)
    (ckt : S8x2x64x512.Idx → EReal) (cvx : S8x2x512x128.Idx → EReal) (b : Fin 8) (l : Fin 4096) (h : Fin 8) (d : Fin 64) : EReal :=
  attn (fun c => q (ix4 b h l c)) (fun c j => kt (ix4 b (⟨(h : ℕ) / 4, by omega⟩ : Fin 2) c j)) (fun c j => ckt (ix4 b (⟨(h : ℕ) / 4, by omega⟩ : Fin 2) c j))
    (fun j e => vx (ix4 b (⟨(h : ℕ) / 4, by omega⟩ : Fin 2) j e)) (fun j e => cvx (ix4 b (⟨(h : ℕ) / 4, by omega⟩ : Fin 2) j e)) d
    * gain (ix2 0 (⟨64 * h + d, by omega⟩ : Fin 512))

/-- The whole result: the heads side by side, 64 columns each. -/
def attnArray (q : S8x8x4096x64.Idx → EReal) (kt : S8x2x64x4096.Idx → EReal) (vx : S8x2x4096x128.Idx → EReal) (gain : S1x512.Idx → EReal)
    (ckt : S8x2x64x512.Idx → EReal) (cvx : S8x2x512x128.Idx → EReal) : S8x4096x512.Idx → EReal := fun z =>
  headOut q kt vx gain ckt cvx (z 0) (z 1) ⟨(z 2 : ℕ) / 64, by have : (z 2 : ℕ) < 512 := (z 2).isLt; omega⟩ ⟨(z 2 : ℕ) % 64, by omega⟩

variable (m : (ℓ : Loc nD τ sig) → Buf (Elt Ideal) ℓ)

theorem attn_congr {q q' : Fin 64 → EReal} {kp kp' : Fin 64 → Fin 4096 → EReal} {kc kc' : Fin 64 → Fin 512 → EReal}
    {vp vp' : Fin 4096 → Fin 128 → EReal} {vc vc' : Fin 512 → Fin 128 → EReal} {d d' : Fin 64} (hq : ∀ c, q c = q' c) (hk : ∀ c j, kp c j = kp' c j)
    (hc : ∀ c j, kc c j = kc' c j) (hv : ∀ j e, vp j e = vp' j e) (hw : ∀ j e, vc j e = vc' j e) (hd : d = d') :
    attn q kp kc vp vc d = attn q' kp' kc' vp' vc' d' := by
  obtain rfl : q = q' := funext hq
  obtain rfl : kp = kp' := funext fun c => funext (hk c)
  obtain rfl : kc = kc' := funext fun c => funext (hc c)
  obtain rfl : vp = vp' := funext fun j => funext (hv j)
  obtain rfl : vc = vc' := funext fun j => funext (hw j)
  rw [hd]

/-- Where each window stands at each grid point. -/
theorem idxs : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![0, (grid0.coords t 1).val]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 2).val, (grid0.coords t 1).val] :=
  (by decide +kernel : ∀ t : Fin grid0.N, _)

theorem coords_lt : ∀ t : Fin cfg0.N, (grid0.coords t 0).val < 8 ∧ (grid0.coords t 1).val < 2 ∧ (grid0.coords t 2).val < 8 :=
  (by decide +kernel : ∀ t : Fin grid0.N, _)

/-- The block's value at one grid point is the array's value at that block's place. -/
theorem point (c : Dev nD) (t : Fin cfg0.N) (y : S1x512x256.Idx) :
    blockOut (iblk m c 0 t) (iblk m c 1 t) (iblk m c 2 t) (iblk m c 3 t) (iblk m c 4 t) (iblk m c 5 t) y
      = attnArray (V m c main_arg0) (V m c main_arg1) (V m c main_arg2) (V m c main_arg3) (V m c main_v1) (V m c main_v5)
          ((win0_6.blk t).view.emb y) := by
  obtain ⟨i0, i1, i2, i3, i4, i5, i6⟩ := idxs t
  obtain ⟨l0, l1, l2⟩ := coords_lt t
  have y1 : (y 1 : ℕ) < 512 := (y 1).isLt
  have y2 : (y 2 : ℕ) < 256 := (y 2).isLt
  have y0 : (y 0 : ℕ) < 1 := (y 0).isLt
  have e0 : ((win0_6.blk t).view.emb y 0 : ℕ) = (grid0.coords t 0).val := by blk_simp [i6]
  have e1 : ((win0_6.blk t).view.emb y 1 : ℕ) = (grid0.coords t 2).val * 512 + y 1 := by blk_simp [i6]
  have e2 : ((win0_6.blk t).view.emb y 2 : ℕ) = (grid0.coords t 1).val * 256 + y 2 := by blk_simp [i6]
  unfold blockOut blockAt attnArray headOut
  generalize (win0_6.blk t).view.emb y = z at e0 e1 e2 ⊢
  refine congrArg₂ (· * ·) (attn_congr (fun a => ?_) (fun a j => ?_) (fun a j => ?_) (fun j a => ?_) (fun j a => ?_) ?_) ?_
  · blk_ext [iblk, i0]
  · blk_ext [iblk, i1]
  · blk_ext [iblk, i4]
  · blk_ext [iblk, i2]
  · blk_ext [iblk, i5]
  · exact Fin.ext (by show (y 2 : ℕ) % 64 = (z 2 : ℕ) % 64; omega)
  · blk_ext [iblk, i3]

/-- After the run the result array is `attnArray` of the arrays that the call reads. -/
theorem array_eq (c : Dev nD) : (dats m 0 c).arrAt 6 cfg0.N
    = attnArray (V m c main_arg0) (V m c main_arg1) (V m c main_arg2) (V m c main_arg3) (V m c main_v1) (V m c main_v5) := by
  refine (dats m 0 c).arrAt_eq_of_covers 6 _ (by decide +kernel) fun t hf y => ?_
  blk_simp
  rw [after0_6, out_eq]
  exact point m c t y

/-! ## The context's keys and values as the call receives them -/

theorem ckt_at (c : Dev nD) (b : Fin 8) (k : Fin 2) (a : Fin 64) (j : Fin 512) :
    V m c main_v1 (ix4 b k a j) = m ((c : Thread nD τ).loc main_arg4) (ix4 b j k a) := by
  unfold V
  after_results
  pointwise

theorem cvx_at (c : Dev nD) (b : Fin 8) (k : Fin 2) (j : Fin 512) (e : Fin 128) :
    (V m c main_v5 (ix4 b k j e) : EReal) = if h : (e : ℕ) < 64 then (m ((c : Thread nD τ).loc main_arg5) (ix4 b j k (⟨e, h⟩ : Fin 64)) : EReal) else (1 : EReal) := by
  unfold V
  after_results
  pointwise

end Cert.KernelIdeal.Value

end
-- ==== Proof.RefValue.lean ====
/- What the plain reference computes at one index: the softmax mean of the values over the prompt's and the context's keys,
   normalised, times the gain. -/
module

public import proofs.«01_k».proof.Proof.Row
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.SoftmaxMath

/-! ## The reference's stages, each a function of the stage before -/

/-- The keys of a batch: the prompt's, then the context's. -/
def keys (kt : FVec Ideal S8x2x64x4096 .bf16) (ck : FVec Ideal S8x512x2x64 .f32) : FVec Ideal S8x4608x2x64 .f32 :=
  concatenate S8x4608x2x64 1 [⟨S8x4096x2x64, (transpose S8x4096x2x64 [0, 3, 1, 2] (extf .f32 kt bitsLt_bf16_f32) transposes_S8x2x64x4096_S8x4096x2x64_0_3_1_2)⟩, ⟨S8x512x2x64, ck⟩] concatenates_S8x4096x2x64_S8x512x2x64_S8x4608x2x64_d1

/-- The values of a batch: the prompt's, then the context's. -/
def vals (vx : FVec Ideal S8x2x4096x128 .bf16) (cv : FVec Ideal S8x512x2x64 .f32) : FVec Ideal S8x4608x2x64 .f32 :=
  concatenate S8x4608x2x64 1 [⟨S8x4096x2x64, (transpose S8x4096x2x64 [0, 2, 1, 3] (extf .f32 (extractStridedSlice S8x2x4096x64 ![0, 0, 0, 0] vx slices_S8x2x4096x128_S8x2x4096x64_0_0_0_0) bitsLt_bf16_f32) transposes_S8x2x4096x64_S8x4096x2x64_0_2_1_3)⟩, ⟨S8x512x2x64, cv⟩] concatenates_S8x4096x2x64_S8x512x2x64_S8x4608x2x64_d1

/-- The scores, in natural units. -/
def scores (q : FVec Ideal S8x8x4096x64 .bf16) (k : FVec Ideal S8x4608x2x64 .f32) : FVec Ideal S8x2x4x4096x4608 .f32 :=
  mulf (Host.dotGeneral dot_S8x2x4x4096x64_S8x4608x2x64_S8x2x4x4096x4608_4_3_23_1_01_02 none (shapeCast _ (extf .f32 q bitsLt_bf16_f32) shapeCasts_S8x8x4096x64_S8x2x4x4096x64) k) (broadcastInDim S8x2x4x4096x4608 ![] bcast_S_S8x2x4x4096x4608 (Host.log (constant S_ .f32 0x40000000#32)))

/-- Each row's largest score. -/
def rowMax (s : FVec Ideal S8x2x4x4096x4608 .f32) : FVec Ideal S8x2x4x4096 .f32 :=
  Host.reduce FloatOps.maximumf s (constant S_ .f32 0xFF800000#32) reducesTo_S8x2x4x4096x4608_S8x2x4x4096_d4 h_S_

/-- The scores less a number of their row's, exponentiated. -/
def expdOf (s : FVec Ideal S8x2x4x4096x4608 .f32) (w : FVec Ideal S8x2x4x4096 .f32) : FVec Ideal S8x2x4x4096x4608 .f32 :=
  Host.exp (subf s (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) w))))

/-- The scores less their row's largest, exponentiated. -/
def expd (s : FVec Ideal S8x2x4x4096x4608 .f32) : FVec Ideal S8x2x4x4096x4608 .f32 := expdOf s (rowMax s)

/-- The softmax: each row over its sum. -/
def prob (e : FVec Ideal S8x2x4x4096x4608 .f32) : FVec Ideal S8x2x4x4096x4608 .f32 :=
  Host.divf e (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (Host.reduceAdd e (constant S_ .f32 0x00000000#32) reducesTo_S8x2x4x4096x4608_S8x2x4x4096_d4 h_S_)))

/-- The mean of the values under the softmax. -/
def mean (v : FVec Ideal S8x4608x2x64 .f32) (p : FVec Ideal S8x2x4x4096x4608 .f32) : FVec Ideal S8x4096x8x64 .f32 :=
  shapeCast _ (transpose S8x4096x2x4x64 [0, 4, 1, 3, 2] (Host.dotGeneral dot_S8x4608x2x64_S8x2x4x4096x4608_S8x2x64x4x4096_1_4_3_23_02_01 none v p) transposes_S8x2x64x4x4096_S8x4096x2x4x64_0_4_1_3_2) shapeCasts_S8x4096x2x4x64_S8x4096x8x64

/-- The mean, normalised by its root mean square and scaled by the gain. -/
def scaled (o : FVec Ideal S8x4096x8x64 .f32) (gain : FVec Ideal S1x512 .f32) : FVec Ideal S8x4096x512 .bf16 :=
  truncf .bf16 (shapeCast _ (mulf (mulf o (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x8x64_S8x4096x8x64_0_1_2_3 (broadcastInDim S1x1x8x64 ![2, 3] bcast_S8x64_S1x1x8x64_2_3 (shapeCast _ gain shapeCasts_S1x512_S8x64)))) shapeCasts_S8x4096x8x64_S8x4096x512) bitsLt_bf16_f32

/-- The run's result is the composition of the stages. -/
theorem res_eq (m : (ℓ : Loc nD τ sig) → Buf (Elt Ideal) ℓ) (c : Dev nD) :
    res_out0 m c = scaled (mean (vals (m ((c.tc : Thread nD τ).loc main_arg2)) (m ((c.tc : Thread nD τ).loc main_arg5)))
      (prob (expd (scores (m ((c.tc : Thread nD τ).loc main_arg0)) (keys (m ((c.tc : Thread nD τ).loc main_arg1)) (m ((c.tc : Thread nD τ).loc main_arg4)))))))
      (m ((c.tc : Thread nD τ).loc main_arg3)) := rfl

theorem keys_at (kt : FVec Ideal S8x2x64x4096 .bf16) (ck : FVec Ideal S8x512x2x64 .f32) (b : Fin 8) (j : Fin 4608) (k : Fin 2) (a : Fin 64) :
    keys kt ck (ix4 b j k a) = if h : (j : ℕ) < 4096 then kt (ix4 b k a (⟨j, h⟩ : Fin 4096)) else ck (ix4 b (⟨j - 4096, by omega⟩ : Fin 512) k a) := by
  pointwise [keys]

theorem vals_at (vx : FVec Ideal S8x2x4096x128 .bf16) (cv : FVec Ideal S8x512x2x64 .f32) (b : Fin 8) (j : Fin 4608) (k : Fin 2) (a : Fin 64) :
    vals vx cv (ix4 b j k a) = if h : (j : ℕ) < 4096 then vx (ix4 b k (⟨j, h⟩ : Fin 4096) (⟨a, by omega⟩ : Fin 128)) else cv (ix4 b (⟨j - 4096, by omega⟩ : Fin 512) k a) := by
  pointwise [vals]

theorem log_two : Ideal.log (Ideal.ofBits .f32 0x40000000#32) = ln2 := by
  have : Ideal.ofBits .f32 0x40000000#32 = ((2 : ℝ) : EReal) := by
    simp [Ideal.ofBits, Ideal.ieee, -EReal.coe_mul]; norm_num
  rw [this]
  show (if (2 : ℝ) ≤ 0 then ⊥ else ((Real.log 2 : ℝ) : EReal)) = _
  rw [if_neg (by norm_num)]

theorem word_bot : Ideal.ofBits .f32 0xFF800000#32 = ⊥ := by
  simp [Ideal.ofBits, Ideal.ieee]

theorem scores_at (q : FVec Ideal S8x8x4096x64 .bf16) (k : FVec Ideal S8x4608x2x64 .f32) (b : Fin 8) (u : Fin 2) (g : Fin 4) (l : Fin 4096) (j : Fin 4608) :
    scores q k (ix5 b u g l j) = (∑ a : Fin 64, q (ix4 b (⟨u * 4 + g, by omega⟩ : Fin 8) l a) * k (ix4 b j u a)) * ln2 := by
  pointwise [scores]
  rw [log_two]

/-- A fold of `max` from the least element is the row's largest. -/
theorem fold_top {n : ℕ} (s : Fin n → EReal) (b : EReal) (h : b = ⊥) : Finset.fold max b s Finset.univ = top s := by rw [h]; rfl

theorem rowMax_at (s : FVec Ideal S8x2x4x4096x4608 .f32) (b : Fin 8) (u : Fin 2) (g : Fin 4) (l : Fin 4096) :
    rowMax s (ix4 b u g l) = top fun i : Fin 4608 => s (ix5 b u g l i) := by
  pointwise [rowMax]
  exact fold_top _ _ word_bot

theorem expdOf_at (s : FVec Ideal S8x2x4x4096x4608 .f32) (w : FVec Ideal S8x2x4x4096 .f32) (b : Fin 8) (u : Fin 2) (g : Fin 4) (l : Fin 4096) (j : Fin 4608) :
    expdOf s w (ix5 b u g l j) = Ideal.exp (s (ix5 b u g l j) - w (ix4 b u g l)) := by
  pointwise [expdOf]
  rw [word_bot, max_eq_right bot_le]

theorem expd_at (s : FVec Ideal S8x2x4x4096x4608 .f32) (b : Fin 8) (u : Fin 2) (g : Fin 4) (l : Fin 4096) (j : Fin 4608) :
    expd s (ix5 b u g l j) = Ideal.exp (s (ix5 b u g l j) - top fun i : Fin 4608 => s (ix5 b u g l i)) :=
  (expdOf_at s (rowMax s) b u g l j).trans (by rw [rowMax_at])

theorem prob_at (e : FVec Ideal S8x2x4x4096x4608 .f32) (b : Fin 8) (u : Fin 2) (g : Fin 4) (l : Fin 4096) (j : Fin 4608) :
    prob e (ix5 b u g l j) = Ideal.div (e (ix5 b u g l j)) (∑ i : Fin 4608, e (ix5 b u g l i)) := by
  pointwise [prob]

theorem mean_at (v : FVec Ideal S8x4608x2x64 .f32) (p : FVec Ideal S8x2x4x4096x4608 .f32) (b : Fin 8) (l : Fin 4096) (h : Fin 8) (d : Fin 64) :
    mean v p (ix4 b l h d) = ∑ j : Fin 4608, v (ix4 b j (⟨h / 4, by omega⟩ : Fin 2) d) * p (ix5 b (⟨h / 4, by omega⟩ : Fin 2) (⟨h % 4, by omega⟩ : Fin 4) l j) := by
  pointwise [mean]

theorem scaled_at (o : FVec Ideal S8x4096x8x64 .f32) (gain : FVec Ideal S1x512 .f32) (b : Fin 8) (l : Fin 4096) (h : Fin 8) (d : Fin 64) :
    scaled o gain (ix3 b l (⟨h * 64 + d, by omega⟩ : Fin 512)) = rmsNorm c64 cε (fun e => o (ix4 b l h e)) d * gain (ix2 0 (⟨h * 64 + d, by omega⟩ : Fin 512)) := by
  pointwise [scaled, rmsNorm]

/-- The reference's value at head `h`, column `d`: the plain attention of that head's query over the keys and values of
    key-value head `h / 4`, normalised, times the gain. -/
theorem ref_at (q : FVec Ideal S8x8x4096x64 .bf16) (kt : FVec Ideal S8x2x64x4096 .bf16) (vx : FVec Ideal S8x2x4096x128 .bf16) (gain : FVec Ideal S1x512 .f32)
    (ck cv : FVec Ideal S8x512x2x64 .f32) (b : Fin 8) (l : Fin 4096) (h : Fin 8) (d : Fin 64) :
    scaled (mean (vals vx cv) (prob (expd (scores q (keys kt ck))))) gain (ix3 b l (⟨h * 64 + d, by omega⟩ : Fin 512))
      = plain (fun a => q (ix4 b h l a)) (fun a j => kt (ix4 b (⟨h / 4, by omega⟩ : Fin 2) a j)) (fun a j => ck (ix4 b j (⟨h / 4, by omega⟩ : Fin 2) a))
          (fun j e => vx (ix4 b (⟨h / 4, by omega⟩ : Fin 2) j (⟨e, by omega⟩ : Fin 128))) (fun j e => cv (ix4 b j (⟨h / 4, by omega⟩ : Fin 2) e)) d
        * gain (ix2 0 (⟨h * 64 + d, by omega⟩ : Fin 512)) := by
  have hS : ∀ j : Fin 4608, scores q (keys kt ck) (ix5 b (⟨h / 4, by omega⟩ : Fin 2) (⟨h % 4, by omega⟩ : Fin 4) l j)
      = rowS (fun a => q (ix4 b h l a)) (fun a j => kt (ix4 b (⟨h / 4, by omega⟩ : Fin 2) a j)) (fun a j => ck (ix4 b j (⟨h / 4, by omega⟩ : Fin 2) a)) j * ln2 := fun j => by
    have e : (⟨(h : ℕ) / 4 * 4 + (h : ℕ) % 4, by omega⟩ : Fin 8) = h := Fin.ext (by show (h : ℕ) / 4 * 4 + (h : ℕ) % 4 = h; omega)
    rw [scores_at]
    congr 1
    simp only [e, keys_at]
    unfold rowS
    split <;> rfl
  have hV : ∀ (j : Fin 4608) (e : Fin 64), vals vx cv (ix4 b j (⟨h / 4, by omega⟩ : Fin 2) e)
      = rowV (fun j => vx (ix4 b (⟨h / 4, by omega⟩ : Fin 2) j (⟨e, by omega⟩ : Fin 128))) (fun j => cv (ix4 b j (⟨h / 4, by omega⟩ : Fin 2) e)) j := fun j e => by
    rw [vals_at]; rfl
  rw [scaled_at]
  unfold plain
  congr 1
  refine congrArg (fun o => rmsNorm c64 cε o d) (funext fun e => ?_)
  rw [mean_at]
  unfold refMean
  simp only [prob_at, expd_at, hS, hV]

end Cert.ReferenceIdeal.Value

end
-- ==== Proof.Attention.lean ====
/- The attention call's frames, and the equation of its result with the plain reference's. -/
module

public import proofs.«01_k».proof.Defs
public import proofs.«01_k».proof.Proof.Array
public import proofs.«01_k».proof.Proof.RefValue
public import proofs.«01_k».proof.Proof.Gen.Kernel.Frame
public import proofs.«01_k».proof.Proof.Gen.Pre_ones_beside_values

@[expose] public section

set_option maxRecDepth 16384

noncomputable section

namespace Cert.AttentionClaims

open Idealize.ShloMosaic Idealize.ShloMosaic.TcCoe Idealize.SL.Sem
open Cert.SoftmaxMath

/-- The kernel as printed, its idealization and the reference terminate, leave their arguments as they were, and leave every semaphore at zero. -/
theorem frame_P : Cert.quiescent_Kernel := fun m ρ _ => Cert.Kernel.Gen.frame m ρ
theorem frame_PI : Cert.quiescent_KernelIdeal := fun m ρ _ => Cert.KernelIdeal.Gen.frame m ρ
theorem frame_PI_pre : Cert.quiescent_KernelIdeal_pre_ones_beside_values := fun m ρ _ => Cert.KernelIdeal.Gen.frame m ρ
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_RI_pre : Cert.quiescent_ReferenceIdeal_pre_ones_beside_values := fun m ρ _ => frame_RI m ρ trivial

/-- The precondition at an index: columns 64 and up of the values hold ones. -/
theorem ones_at (q kt vx gain ck cv) (h : Cert.Pre_ones_beside_values.fn (F := Ideal) q kt vx gain ck cv = fun _ => 1#1) (b : Fin 8) (k : Fin 2) (j : Fin 4096) :
    vx (ix4 b k j (64 : Fin 128)) = (1 : EReal) := by
  have h' := congrFun h (ix4 b k j (0 : Fin 64))
  pointwise [Cert.Pre_ones_beside_values.fn] at h'
  by_contra hne
  rw [decide_eq_false hne] at h'
  exact absurd h' (by decide)

theorem plain_congr {q q' : Fin 64 → EReal} {kp kp' : Fin 64 → Fin 4096 → EReal} {kc kc' : Fin 64 → Fin 512 → EReal}
    {vp vp' : Fin 4096 → Fin 64 → EReal} {vc vc' : Fin 512 → Fin 64 → EReal} {d : Fin 64} (hq : ∀ c, q c = q' c) (hk : ∀ c j, kp c j = kp' c j)
    (hc : ∀ c j, kc c j = kc' c j) (hv : ∀ j e, vp j e = vp' j e) (hw : ∀ j e, vc j e = vc' j e) : plain q kp kc vp vc d = plain q' kp' kc' vp' vc' d := by
  obtain rfl : q = q' := funext hq
  obtain rfl : kp = kp' := funext fun c => funext (hk c)
  obtain rfl : kc = kc' := funext fun c => funext (hc c)
  obtain rfl : vp = vp' := funext fun j => funext (hv j)
  obtain rfl : vc = vc' := funext fun j => funext (hw j)
  rfl

/-- Where the precondition holds, what the call leaves is what the reference computes. -/
theorem result_eq (m : (ℓ : Loc Cert.KernelIdeal.nD Cert.KernelIdeal.τ Cert.KernelIdeal.sig) → Buf (Elt Ideal) ℓ) (hpre : Cert.Pre_KernelIdeal_ones_beside_values m) (c : Dev Cert.KernelIdeal.nD) :
    (Cert.KernelIdeal.Gen.dats m 0 c).arrAt 6 Cert.KernelIdeal.cfg0.N
      = Cert.ReferenceIdeal.Value.scaled (Cert.ReferenceIdeal.Value.mean (Cert.ReferenceIdeal.Value.vals (m ((c : Thread Cert.KernelIdeal.nD Cert.KernelIdeal.τ).loc Cert.KernelIdeal.main_arg2)) (m ((c : Thread Cert.KernelIdeal.nD Cert.KernelIdeal.τ).loc Cert.KernelIdeal.main_arg5)))
          (Cert.ReferenceIdeal.Value.prob (Cert.ReferenceIdeal.Value.expd (Cert.ReferenceIdeal.Value.scores (m ((c : Thread Cert.KernelIdeal.nD Cert.KernelIdeal.τ).loc Cert.KernelIdeal.main_arg0))
            (Cert.ReferenceIdeal.Value.keys (m ((c : Thread Cert.KernelIdeal.nD Cert.KernelIdeal.τ).loc Cert.KernelIdeal.main_arg1)) (m ((c : Thread Cert.KernelIdeal.nD Cert.KernelIdeal.τ).loc Cert.KernelIdeal.main_arg4)))))))
          (m ((c : Thread Cert.KernelIdeal.nD Cert.KernelIdeal.τ).loc Cert.KernelIdeal.main_arg3)) := by
  have hp := ones_at _ _ _ _ _ _ (hpre c)
  rw [Cert.KernelIdeal.Value.array_eq]
  funext z
  obtain ⟨b, l, x, rfl⟩ : ∃ (b : Fin 8) (l : Fin 4096) (x : Fin 512), z = ix3 b l x := ⟨z 0, z 1, z 2, eq_ix3 z⟩
  obtain ⟨h, d, rfl⟩ : ∃ (h : Fin 8) (d : Fin 64), x = (⟨h * 64 + d, by omega⟩ : Fin 512) := ⟨⟨x / 64, by omega⟩, ⟨x % 64, by omega⟩, Fin.ext (by show (x : ℕ) = x / 64 * 64 + x % 64; omega)⟩
  rw [Cert.ReferenceIdeal.Value.ref_at]
  have e1 : (⟨((h : ℕ) * 64 + d) / 64, by omega⟩ : Fin 8) = h := Fin.ext (by show ((h : ℕ) * 64 + d) / 64 = h; omega)
  have e2 : (⟨((h : ℕ) * 64 + d) % 64, by omega⟩ : Fin 64) = d := Fin.ext (by show ((h : ℕ) * 64 + d) % 64 = d; omega)
  have e3 : (⟨64 * (h : ℕ) + d, by omega⟩ : Fin 512) = ⟨h * 64 + d, by omega⟩ := Fin.ext (by show 64 * (h : ℕ) + d = h * 64 + d; omega)
  unfold Cert.KernelIdeal.Value.attnArray
  show Cert.KernelIdeal.Value.headOut _ _ _ _ _ _ b l (⟨((h : ℕ) * 64 + d) / 64, by omega⟩ : Fin 8) (⟨((h : ℕ) * 64 + d) % 64, by omega⟩ : Fin 64) = _
  rw [e1, e2]
  unfold Cert.KernelIdeal.Value.headOut
  rw [e3, attn_eq_plain]
  · have h0 := Cert.KernelIdeal.Gen.V_main_arg0 m c
    have h1 := Cert.KernelIdeal.Gen.V_main_arg1 m c
    have h2 := Cert.KernelIdeal.Gen.V_main_arg2 m c
    have h3 := Cert.KernelIdeal.Gen.V_main_arg3 m c
    refine congrArg₂ (· * ·) ?_ (congrFun h3 _)
    refine plain_congr (fun a => congrFun h0 _) (fun a j => congrFun h1 _) (fun a j => Cert.KernelIdeal.Value.ckt_at m c _ _ _ _) (fun j e => congrFun h2 _) (fun j e => ?_)
    exact (Cert.KernelIdeal.Value.cvx_at m c _ _ _ _).trans (dif_pos e.isLt)
  · intro j
    rw [Cert.KernelIdeal.Gen.V_main_arg2]
    exact hp _ _ _
  · intro j
    rw [Cert.KernelIdeal.Value.cvx_at]
    exact dif_neg (by decide)

/-- The idealized kernel and the idealized reference leave the same result. -/
theorem algebraic : Cert.algebraic_KernelIdeal_ReferenceIdeal_pre_ones_beside_values :=
  fun m ρ m' ρ' hpre hag => ⟨fun c => (Cert.KernelIdeal.Gen.dats m 0 c).arrAt 6 Cert.KernelIdeal.cfg0.N,
    (θ_run _ _ _).mono (fun _ h c => h c) (Cert.KernelIdeal.Value.run_blocks (F := Ideal) m ρ),
    (θ_run _ _ _).mono (fun _ h c => ⟨(h c).1.trans (by
      show Cert.ReferenceIdeal.Value.res_out0 m' c = (Cert.KernelIdeal.Gen.dats m 0 c).arrAt 6 Cert.KernelIdeal.cfg0.N
      rw [result_eq m hpre c, Cert.ReferenceIdeal.Value.res_eq, (hag c).1, (hag c).2.1, (hag c).2.2.1, (hag c).2.2.2.1, (hag c).2.2.2.2.1, (hag c).2.2.2.2.2]), (h c).2⟩)
      (Cert.ReferenceIdeal.Value.run (F := Ideal) m' ρ')⟩

end Cert.AttentionClaims

end
-- ==== Proof.MoeRun.lean ====
/- The frame of the grouped experts' call, for any tables in range: the pipeline at the tables the launch
   memory holds, what one grid point does to the output block and the three weight scratches, the scratches'
   contents carried from point to point, and the launch. -/
module

public import proofs.«01_k».proof.Proof.Gen.MoeIdeal.Flash.Runs
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.AnyTables

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tables -/

/-- The tables of a routing: every tile's group is one of the four, every tile's flag is 0 or 1. -/
def InRange (T0 T1 : S68.Idx → BitVec 32) : Prop :=
  ∀ x, (T0 x).toNat < 4 ∧ (T1 x = 0#32 ∨ T1 x = 1#32)

/-- The two tables, as the pipeline is handed them. -/
def words (T0 T1 : S68.Idx → BitVec 32) : pre0.Contents (Elt Ideal) :=
  fun | ⟨0, _⟩ => T0 | ⟨1, _⟩ => T1 | ⟨_ + 2, h⟩ => absurd h (by simp)

/-- A group below four names a block of eight experts' input weights inside the thirty-two. -/
theorem wide_inside (v : BitVec 32) (hv : v.toNat < 4) (a : Fin 3) :
    ((![v.toNat, (0#32 : BitVec 32).toNat, (0#32 : BitVec 32).toNat] : Fin 3 → ℕ) a + 1) * S8x1024x256.size a ≤ S32x1024x256.size a := by
  fin_cases a
  · show (v.toNat + 1) * 8 ≤ 32; omega
  · show (0 + 1) * 1024 ≤ 1024; omega
  · show (0 + 1) * 256 ≤ 256; omega

/-- The same of the output weights. -/
theorem tall_inside (v : BitVec 32) (hv : v.toNat < 4) (a : Fin 3) :
    ((![v.toNat, (0#32 : BitVec 32).toNat, (0#32 : BitVec 32).toNat] : Fin 3 → ℕ) a + 1) * S8x256x1024.size a ≤ S32x256x1024.size a := by
  fin_cases a
  · show (v.toNat + 1) * 8 ≤ 32; omega
  · show (0 + 1) * 256 ≤ 256; omega
  · show (0 + 1) * 1024 ≤ 1024; omega

/-- Tables in range satisfy the pipeline's side condition. -/
theorem words_ok {T0 T1 : S68.Idx → BitVec 32} (hT : InRange T0 T1) : ok0 (F := Ideal) (words T0 T1) := by
  unfold ok0
  exact ⟨fun i => ⟨wide_inside _ (hT _).1, .inl rfl⟩, fun i => ⟨wide_inside _ (hT _).1, .inl rfl⟩,
    fun i => ⟨tall_inside _ (hT _).1, .inl rfl⟩⟩

/-- A flag that asks for the computation does not ask for zeros. -/
theorem not_zero_of_live (w : BitVec 32) (hw : w = 0#32 ∨ w = 1#32) (h : k0_cond2 w = 1#1) : ¬k0_cond3 w = 1#1 := by
  rcases hw with rfl | rfl
  · exact absurd h (by decide)
  · decide

/-- A flag that does not ask for the computation asks for zeros. -/
theorem zero_of_not_live (w : BitVec 32) (hw : w = 0#32 ∨ w = 1#32) (h : ¬k0_cond2 w = 1#1) : k0_cond3 w = 1#1 := by
  rcases hw with rfl | rfl
  · decide
  · exact absurd (by decide) h

variable {T0 T1 : S68.Idx → BitVec 32} (hT : InRange T0 T1)

/-- The tables as contents the pipeline admits, and the pipeline at them. -/
def adm : (pcfg0 (F := Ideal)).Adm := ⟨words T0 T1, words_ok hT⟩
abbrev cfgT : Pipeline.Cfg sig Λ₀ := cfg0 (F := Ideal) (adm hT)
abbrev pinned : Fin 1 → Pipeline.Cfg sig Λ₀ := Pipeline.pin (pcfgs (F := Ideal)) fun _ => adm hT

/-- The coordinates of a grid point. -/
abbrev pt (t : Fin (cfgT hT).N) : grid0.Coords := (cfgT hT).grid.coords t

/-! ## The words the body reads, and what it decides by them -/

/-- The group of the tile at point `i`. -/
abbrev groupAt (T0 : S68.Idx → BitVec 32) (i : grid0.Coords) : BitVec 32 :=
  View.readAt (Elt Ideal) (tbM0_0).view (Rect.unit (s := S68) (k0_off1 i) S1.size (k0_off1_inb i)).toLoadRect T0 (Shape.Idx.first (numel1_S1.symm ▸ Nat.one_pos))
/-- The group of the tile before it (of the first tile, at the first point). -/
abbrev groupBefore (T0 : S68.Idx → BitVec 32) (i : grid0.Coords) : BitVec 32 :=
  View.readAt (Elt Ideal) (tbM0_0).view (Rect.unit (s := S68) (k0_off2 i) S1.size (k0_off2_inb i)).toLoadRect T0 (Shape.Idx.first (numel1_S1.symm ▸ Nat.one_pos))
/-- The flag of the tile at point `i`. -/
abbrev flagAt (T1 : S68.Idx → BitVec 32) (i : grid0.Coords) : BitVec 32 :=
  View.readAt (Elt Ideal) (tbM0_1).view (Rect.unit (s := S68) (k0_off3 i) S1.size (k0_off3_inb i)).toLoadRect T1 (Shape.Idx.first (numel1_S1.symm ▸ Nat.one_pos))

/-- The body refreshes the weight scratches: at the first point, and where the group changes. -/
abbrev Refresh (T0 : S68.Idx → BitVec 32) (i : grid0.Coords) : Prop :=
  (Scalar.cmpi .ne (Scalar.extui (Scalar.ori (Scalar.cmpi .eq (BitVec.ofNat 32 (i 0).val) 0#32) (Scalar.cmpi .ne (groupAt T0 i) (groupBefore T0 i)))) 0#32) = 1#1
/-- The body computes the tile's experts. -/
abbrev Live (T1 : S68.Idx → BitVec 32) (i : grid0.Coords) : Prop := k0_cond2 (flagAt T1 i) = 1#1

include hT in
/-- A flag is 0 or 1. -/
theorem flag_cases (i : grid0.Coords) : flagAt T1 i = 0#32 ∨ flagAt T1 i = 1#32 := (hT _).2

include hT in
/-- A tile is computed or zeroed, never both. -/
theorem not_zeroed {i : grid0.Coords} (h : Live T1 i) :
    ¬(k0_cond3 (View.readAt (Elt Ideal) (tbM0_1).view (Rect.unit (s := S68) (k0_off5 i) S1.size (k0_off5_inb i)).toLoadRect T1 (Shape.Idx.first (numel1_S1.symm ▸ Nat.one_pos))) = 1#1) :=
  not_zero_of_live _ (flag_cases hT i) h
include hT in
/-- A tile that is not computed is zeroed. -/
theorem zeroed {i : grid0.Coords} (h : ¬Live T1 i) :
    k0_cond3 (View.readAt (Elt Ideal) (tbM0_1).view (Rect.unit (s := S68) (k0_off5 i) S1.size (k0_off5_inb i)).toLoadRect T1 (Shape.Idx.first (numel1_S1.symm ▸ Nat.one_pos))) = 1#1 :=
  zero_of_not_live _ (flag_cases hT i) h

/-- The first point refreshes the scratches. -/
theorem refresh_first (i : grid0.Coords) (h : (i 0).val = 0) : Refresh T0 i := by
  have aux : ∀ b : BitVec 1, Scalar.cmpi .ne (Scalar.extui (Scalar.ori (Scalar.cmpi .eq (BitVec.ofNat 32 0) 0#32) b)) 0#32 = 1#1 := by decide
  unfold Refresh
  rw [h]
  exact aux _

/-- The output block is stored at every point. -/
theorem stored (i : grid0.Coords) : (cfgT hT).idle (4 : Fin 5) i = false := by
  have aux : ∀ w : BitVec 32, (w = 0#32 ∨ w = 1#32) → (!(k0_cond2 w == 1#1) && !(k0_cond3 w == 1#1)) = false := by
    rintro _ (rfl | rfl) <;> decide
  show (!(k0_cond2 ((words T0 T1).atD 1 (k0_off3 i)) == 1#1) && !(k0_cond3 ((words T0 T1).atD 1 (k0_off5 i)) == 1#1)) = false
  refine aux ((words T0 T1).atD 1 (k0_off3 i)) ?_
  unfold Pipeline.Prefetch.Contents.atD
  split
  · exact (hT _).2
  · exact Or.inl rfl

/-- The output block moves at every point, so each is written back. -/
theorem written_back (t : Fin (cfgT hT).N) : ((cfgT hT).win (4 : Fin 5)).flush t = true := by
  have aux : ∀ t : Fin grid0.N, (t.val + 1 = grid0.N || decide (∃ h : t.val + 1 < grid0.N, ∃ a, cc0_transform_4 (grid0.coords ⟨t.val + 1, h⟩) a ≠ cc0_transform_4 (grid0.coords t) a)) = true := by
    decide +kernel
  rw [Pipeline.Window.flush_eq_flushF]
  exact aux t

/-! ## One grid point -/

variable (m : (ℓ : Loc nD τ sig) → Buf (Elt Ideal) ℓ) (ρ : Dev nD → PrngReg)

/-- The staging buffers at a point, and that each is a whole buffer. -/
abbrev st0 (t : Fin (cfgT hT).N) : Memref sig .tc .vmem S512x1152 .f32 := spec0_0.stage ((cfgT hT).slots t (0 : Fin 5))
abbrev st1 (t : Fin (cfgT hT).N) : Memref sig .tc .vmem S8x1024x256 .f32 := spec0_1.stage ((cfgT hT).slots t (1 : Fin 5))
abbrev st2 (t : Fin (cfgT hT).N) : Memref sig .tc .vmem S8x1024x256 .f32 := spec0_2.stage ((cfgT hT).slots t (2 : Fin 5))
abbrev st3 (t : Fin (cfgT hT).N) : Memref sig .tc .vmem S8x256x1024 .f32 := spec0_3.stage ((cfgT hT).slots t (3 : Fin 5))
abbrev st4 (t : Fin (cfgT hT).N) : Memref sig .tc .vmem S512x1024 .f32 := spec0_4.stage ((cfgT hT).slots t (4 : Fin 5))
theorem wh0 (t : Fin (cfgT hT).N) : (st0 hT t).IsWhole := hstage0_0 (((cfgT hT).slots t (0 : Fin 5)).cast nbuf0_0)
theorem wh1 (t : Fin (cfgT hT).N) : (st1 hT t).IsWhole := hstage0_1 (((cfgT hT).slots t (1 : Fin 5)).cast nbuf0_1)
theorem wh2 (t : Fin (cfgT hT).N) : (st2 hT t).IsWhole := hstage0_2 (((cfgT hT).slots t (2 : Fin 5)).cast nbuf0_2)
theorem wh3 (t : Fin (cfgT hT).N) : (st3 hT t).IsWhole := hstage0_3 (((cfgT hT).slots t (3 : Fin 5)).cast nbuf0_3)
theorem wh4 (t : Fin (cfgT hT).N) : (st4 hT t).IsWhole := hstage0_4 (((cfgT hT).slots t (4 : Fin 5)).cast nbuf0_4)

/-- The block of window `w` at point `t`, in the launch memory. -/
def blockOf (c : Dev nD) (w : Fin (cfgT hT).W) (t : Fin (cfgT hT).N) : (((cfgT hT).win w).xblock (pt hT t)).Idx → Elt Ideal ((cfgT hT).win w).elt :=
  (((cfgT hT).win w).blk t).view.read (Elt Ideal) (m (((cfgT hT).win w).arr.view.loc (c : Thread nD τ)))

/-- The contents of the three weight scratches. -/
abbrev Scratch (c : Dev nD) : Type :=
  Buf (Elt Ideal) ((c : Thread nD τ).loc cc0_scratch0) × Buf (Elt Ideal) ((c : Thread nD τ).loc cc0_scratch1) × Buf (Elt Ideal) ((c : Thread nD τ).loc cc0_scratch2)

/-- What the body does at a point, by what it decides there: refresh and compute, -/
abbrev freshLive (c : Dev nD) (t : Fin (cfgT hT).N) (r : Refresh T0 (pt hT t)) (v : Live T1 (pt hT t)) :=
  kernelRun0_A c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) r v (not_zeroed hT v)
/-- keep and compute, -/
abbrev keptLive (c : Dev nD) (t : Fin (cfgT hT).N) (a : Scratch c) (r : ¬Refresh T0 (pt hT t)) (v : Live T1 (pt hT t)) :=
  kernelRun0_B c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) a.1 a.2.1 a.2.2 r v (not_zeroed hT v)
/-- refresh and zero, -/
abbrev freshDead (c : Dev nD) (t : Fin (cfgT hT).N) (r : Refresh T0 (pt hT t)) (v : ¬Live T1 (pt hT t)) :=
  kernelRun0_C c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) r v (zeroed hT v)
/-- keep and zero. -/
abbrev keptDead (c : Dev nD) (t : Fin (cfgT hT).N) (a : Scratch c) (r : ¬Refresh T0 (pt hT t)) (v : ¬Live T1 (pt hT t)) :=
  kernelRun0_D c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) a.1 a.2.1 a.2.2 r v (zeroed hT v)

/-- One point: the pieces it stores into the output block, and what it leaves in the scratches that held `a`. -/
def step (c : Dev nD) (t : Fin (cfgT hT).N) (a : Scratch c) : List (View.Piece (Elt Ideal) S512x1024 .f32) × Scratch c :=
  if r : Refresh T0 (pt hT t) then
    if v : Live T1 (pt hT t) then
      ((freshLive hT m c t r v).1, (freshLive hT m c t r v).2.1, (freshLive hT m c t r v).2.2.1, (freshLive hT m c t r v).2.2.2.1)
    else
      ((freshDead hT m c t r v).1, (freshDead hT m c t r v).2.1, (freshDead hT m c t r v).2.2.1, (freshDead hT m c t r v).2.2.2.1)
  else
    if v : Live T1 (pt hT t) then
      ((keptLive hT m c t a r v).1, (keptLive hT m c t a r v).2.1, (keptLive hT m c t a r v).2.2.1, (keptLive hT m c t a r v).2.2.2.1)
    else
      ((keptDead hT m c t a r v).1, (keptDead hT m c t a r v).2.1, (keptDead hT m c t a r v).2.2.1, (keptDead hT m c t a r v).2.2.2.1)

/-- The pieces a point stores fill the output block. -/
theorem step_cover (c : Dev nD) (t : Fin (cfgT hT).N) (a : Scratch c) (y : S512x1024.Idx) :
    ∃ pc ∈ (step hT m c t a).1, y ∈ pc.1.set := by
  unfold step
  by_cases r : Refresh T0 (pt hT t) <;> by_cases v : Live T1 (pt hT t)
  · rw [dif_pos r, dif_pos v]; exact cover0_A_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) r v (not_zeroed hT v) y
  · rw [dif_pos r, dif_neg v]; exact cover0_C_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) r v (zeroed hT v) y
  · rw [dif_neg r, dif_pos v]; exact cover0_B_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) a.1 a.2.1 a.2.2 r v (not_zeroed hT v) y
  · rw [dif_neg r, dif_neg v]; exact cover0_D_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) a.1 a.2.1 a.2.2 r v (zeroed hT v) y

/-- The body at point `t`, as the pipeline calls it. -/
abbrev bodyAt (t : Fin (cfgT hT).N) : Prog (TpuEff nD τ sig (Elt Ideal) Λ₀ .tc) PUnit :=
  cc0__moe_kernel (pt hT t) tbM0_0 (Memref.isWhole_whole _) tbM0_1 (Memref.isWhole_whole _) (st0 hT t) (wh0 hT t) (st1 hT t) (wh1 hT t) (st2 hT t) (wh2 hT t) (st3 hT t) (wh3 hT t) (st4 hT t) (wh4 hT t) scM0_0 (Memref.isWhole_whole _) scM0_1 (Memref.isWhole_whole _) scM0_2 (Memref.isWhole_whole _)

set_option maxHeartbeats 400000 in
/-- The body at point `t`, from scratches that hold `a` — any contents where it refreshes them — does as `step` says. -/
theorem body_step (c : Dev nD) (t : Fin (cfgT hT).N) (a b : Scratch c) (hab : ¬Refresh T0 (pt hT t) → b = a) (K : PUnit → sProp 𝕄) :
    iprop(((st0 hT t).view.loc (c : Thread nD τ) ↦[(st0 hT t).view.set]{fullShare} (st0 hT t).view.rep (blockOf hT m c (0 : Fin 5) t))
        ∗ ((st1 hT t).view.loc (c : Thread nD τ) ↦[(st1 hT t).view.set]{fullShare} (st1 hT t).view.rep (blockOf hT m c (1 : Fin 5) t))
        ∗ ((st2 hT t).view.loc (c : Thread nD τ) ↦[(st2 hT t).view.set]{fullShare} (st2 hT t).view.rep (blockOf hT m c (2 : Fin 5) t))
        ∗ ((st3 hT t).view.loc (c : Thread nD τ) ↦[(st3 hT t).view.set]{fullShare} (st3 hT t).view.rep (blockOf hT m c (3 : Fin 5) t))
        ∗ (tbM0_0.view.loc (c : Thread nD τ) ↦{fullShare.right} T0)
        ∗ (tbM0_1.view.loc (c : Thread nD τ) ↦{fullShare.right} T1)
        ∗ (∃ d, owns (c : Thread nD τ) (st4 hT t) fullShare d)
        ∗ (scM0_0.view.loc (c : Thread nD τ) ↦{fullShare} b.1)
        ∗ (scM0_1.view.loc (c : Thread nD τ) ↦{fullShare} b.2.1)
        ∗ (scM0_2.view.loc (c : Thread nD τ) ↦{fullShare} b.2.2)
        ∗ (iprop(((st0 hT t).view.loc (c : Thread nD τ) ↦[(st0 hT t).view.set]{fullShare} (st0 hT t).view.rep (blockOf hT m c (0 : Fin 5) t))
            ∗ ((st1 hT t).view.loc (c : Thread nD τ) ↦[(st1 hT t).view.set]{fullShare} (st1 hT t).view.rep (blockOf hT m c (1 : Fin 5) t))
            ∗ ((st2 hT t).view.loc (c : Thread nD τ) ↦[(st2 hT t).view.set]{fullShare} (st2 hT t).view.rep (blockOf hT m c (2 : Fin 5) t))
            ∗ ((st3 hT t).view.loc (c : Thread nD τ) ↦[(st3 hT t).view.set]{fullShare} (st3 hT t).view.rep (blockOf hT m c (3 : Fin 5) t))
            ∗ (tbM0_0.view.loc (c : Thread nD τ) ↦{fullShare.right} T0)
            ∗ (tbM0_1.view.loc (c : Thread nD τ) ↦{fullShare.right} T1)
            ∗ (∃ f, (st4 hT t).view.loc (c : Thread nD τ) ↦[(st4 hT t).view.set]{fullShare} (st4 hT t).view.writes (Elt Ideal) f (step hT m c t a).1)
            ∗ (scM0_0.view.loc (c : Thread nD τ) ↦{fullShare} (step hT m c t a).2.1)
            ∗ (scM0_1.view.loc (c : Thread nD τ) ↦{fullShare} (step hT m c t a).2.2.1)
            ∗ (scM0_2.view.loc (c : Thread nD τ) ↦{fullShare} (step hT m c t a).2.2.2)) -∗ K ⟨⟩))
      ⊢ wp frame (wpE (defs₀ (F := Ideal)) Variants.none c none) Set.univ (bodyAt hT t) K := by
  unfold step
  by_cases r : Refresh T0 (pt hT t) <;> by_cases v : Live T1 (pt hT t)
  · rw [dif_pos r, dif_pos v]; dsimp only; exact (freshLive hT m c t r v).2.2.2.2 b.1 b.2.1 b.2.2 K
  · rw [dif_pos r, dif_neg v]; dsimp only; exact (freshDead hT m c t r v).2.2.2.2 b.1 b.2.1 b.2.2 K
  · rw [dif_neg r, dif_pos v, hab r]; dsimp only; exact (keptLive hT m c t a r v).2.2.2.2 K
  · rw [dif_neg r, dif_neg v, hab r]; dsimp only; exact (keptDead hT m c t a r v).2.2.2.2 K

/-! ## From point to point -/

/-- What the scratches hold before point `n`: what the points below it left. -/
def held (c : Dev nD) : ℕ → Scratch c
  | 0 => default
  | n + 1 => if h : n < (cfgT hT).N then (step hT m c ⟨n, h⟩ (held c n)).2 else default

theorem held_succ (c : Dev nD) (t : Fin (cfgT hT).N) : held hT m c (t.val + 1) = (step hT m c t (held hT m c t.val)).2 := by
  show (if h : t.val < (cfgT hT).N then (step hT m c ⟨t.val, h⟩ (held hT m c t.val)).2 else default) = _
  rw [dif_pos t.isLt]

/-- What point `t` leaves in the output block: its pieces, read back. -/
def result (c : Dev nD) (t : Fin (cfgT hT).N) : S512x1024.Idx → Elt Ideal .f32 :=
  VO0_4.read (Elt Ideal) (VO0_4.writes (Elt Ideal) VO0_4.junk (step hT m c t (held hT m c t.val)).1)

/-- Between points: the scratches hold what the points so far left (before the first, anything); the body's half of the tables. -/
def Inv (c : Dev nD) (n : ℕ) : sProp 𝕄 :=
  iprop((∃ b : Scratch c, ⌜n ≠ 0 → b = held hT m c n⌝
      ∗ (scM0_0.view.loc (c : Thread nD τ) ↦{fullShare} b.1) ∗ (scM0_1.view.loc (c : Thread nD τ) ↦{fullShare} b.2.1)
      ∗ (scM0_2.view.loc (c : Thread nD τ) ↦{fullShare} b.2.2))
    ∗ (tbM0_0.view.loc (c : Thread nD τ) ↦{fullShare.right} T0) ∗ (tbM0_1.view.loc (c : Thread nD τ) ↦{fullShare.right} T1))

/-- The pipeline's proof data: the inputs keep their blocks, the output block is `result`, `Inv` holds between points. -/
def dats (_ : Fin 1) (c : Dev nD) : Dat τ (Elt Ideal) Unit ℕ (UR sig nD τ) ℕ (cfgT hT) c where
  A w := (s₀ m ρ).mem (((cfgT hT).win w).arr.view.loc (c : Thread nD τ))
  after w t := match w with
    | ⟨0, _⟩ => blockOf hT m c (0 : Fin 5) t
    | ⟨1, _⟩ => blockOf hT m c (1 : Fin 5) t
    | ⟨2, _⟩ => blockOf hT m c (2 : Fin 5) t
    | ⟨3, _⟩ => blockOf hT m c (3 : Fin 5) t
    | ⟨4, _⟩ => result hT m c t
  Φ t := Inv hT m c t.val
  q _ := fullShare
  owed _ := 0

theorem after_0 (c : Dev nD) (t : Fin (cfgT hT).N) : (dats hT m ρ 0 c).after (0 : Fin 5) t = blockOf hT m c (0 : Fin 5) t := rfl
theorem after_1 (c : Dev nD) (t : Fin (cfgT hT).N) : (dats hT m ρ 0 c).after (1 : Fin 5) t = blockOf hT m c (1 : Fin 5) t := rfl
theorem after_2 (c : Dev nD) (t : Fin (cfgT hT).N) : (dats hT m ρ 0 c).after (2 : Fin 5) t = blockOf hT m c (2 : Fin 5) t := rfl
theorem after_3 (c : Dev nD) (t : Fin (cfgT hT).N) : (dats hT m ρ 0 c).after (3 : Fin 5) t = blockOf hT m c (3 : Fin 5) t := rfl
theorem after_4 (c : Dev nD) (t : Fin (cfgT hT).N) : (dats hT m ρ 0 c).after (4 : Fin 5) t = result hT m c t := rfl

/-- An input's staging buffer holds its block when the body runs. -/
theorem before_0 (c : Dev nD) (t : Fin (cfgT hT).N) (d) : (dats hT m ρ 0 c).before (0 : Fin 5) t d = blockOf hT m c (0 : Fin 5) t :=
  ((dats hT m ρ 0 c).before_in_eq_fetched (0 : Fin 5) rfl (fun _ => rfl) (fun _ _ _ => rfl) (fun t => by rw [after_0]; unfold Dat.blockOf blockOf; rfl) t d).trans
    (by unfold Dat.fetched Dat.blockOf blockOf; rfl)
theorem before_1 (c : Dev nD) (t : Fin (cfgT hT).N) (d) : (dats hT m ρ 0 c).before (1 : Fin 5) t d = blockOf hT m c (1 : Fin 5) t :=
  ((dats hT m ρ 0 c).before_in_eq_fetched (1 : Fin 5) rfl (fun _ => rfl) (fun _ _ _ => rfl) (fun t => by rw [after_1]; unfold Dat.blockOf blockOf; rfl) t d).trans
    (by unfold Dat.fetched Dat.blockOf blockOf; rfl)
theorem before_2 (c : Dev nD) (t : Fin (cfgT hT).N) (d) : (dats hT m ρ 0 c).before (2 : Fin 5) t d = blockOf hT m c (2 : Fin 5) t :=
  ((dats hT m ρ 0 c).before_in_eq_fetched (2 : Fin 5) rfl (fun _ => rfl) (fun _ _ _ => rfl) (fun t => by rw [after_2]; unfold Dat.blockOf blockOf; rfl) t d).trans
    (by unfold Dat.fetched Dat.blockOf blockOf; rfl)
theorem before_3 (c : Dev nD) (t : Fin (cfgT hT).N) (d) : (dats hT m ρ 0 c).before (3 : Fin 5) t d = blockOf hT m c (3 : Fin 5) t :=
  ((dats hT m ρ 0 c).before_in_eq_fetched (3 : Fin 5) rfl (fun _ => rfl) (fun _ _ _ => rfl) (fun t => by rw [after_3]; unfold Dat.blockOf blockOf; rfl) t d).trans
    (by unfold Dat.fetched Dat.blockOf blockOf; rfl)

theorem pt_val (t : Fin (cfgT hT).N) : ((pt hT t) 0).val = t.val := by
  have aux : ∀ t : Fin grid0.N, ((grid0.coords t) 0).val = t.val := by decide +kernel
  exact aux t

/-- Where the scratches are kept, a point has gone before. -/
theorem kept_ne_zero (t : Fin (cfgT hT).N) (r : ¬Refresh T0 (pt hT t)) : t.val ≠ 0 :=
  fun h => r (refresh_first _ ((pt_val hT t).trans h))

set_option maxHeartbeats 4000000 in
/-- The body's obligation at a point. -/
theorem point_sound (c : Dev nD) (t : Fin (cfgT hT).N) :
    iprop((dats hT m ρ 0 c).Φ t.castSucc ∗ (dats hT m ρ 0 c).owesAt () t.castSucc
        ∗ (∃ d, owns (c : Thread nD τ) (st0 hT t) fullShare ((dats hT m ρ 0 c).before (0 : Fin 5) t d))
        ∗ (∃ d, owns (c : Thread nD τ) (st1 hT t) fullShare ((dats hT m ρ 0 c).before (1 : Fin 5) t d))
        ∗ (∃ d, owns (c : Thread nD τ) (st2 hT t) fullShare ((dats hT m ρ 0 c).before (2 : Fin 5) t d))
        ∗ (∃ d, owns (c : Thread nD τ) (st3 hT t) fullShare ((dats hT m ρ 0 c).before (3 : Fin 5) t d))
        ∗ (∃ d, owns (c : Thread nD τ) (st4 hT t) fullShare ((dats hT m ρ 0 c).before (4 : Fin 5) t d)))
      ⊢ wp frame (wpE (defs₀ (F := Ideal)) Variants.none c none) Set.univ (bodyAt hT t) fun _ =>
          iprop((dats hT m ρ 0 c).Φ t.succ ∗ (dats hT m ρ 0 c).owesAt () t.succ
            ∗ bigSep Finset.univ fun w : Fin (cfgT hT).W =>
                match (cfgT hT).idle w ((cfgT hT).grid.coords t) with
                | true =>
                  match ((cfgT hT).win w).flush t with
                  | false => iprop(∃ d, owns (c : Thread nD τ) (((cfgT hT).win w).stage ((cfgT hT).slots t w)) fullShare ((dats hT m ρ 0 c).before w t d))
                  | true => owns (c : Thread nD τ) (((cfgT hT).win w).stage ((cfgT hT).slots t w)) fullShare ((dats hT m ρ 0 c).after w t)
                | false => owns (c : Thread nD τ) (((cfgT hT).win w).stage ((cfgT hT).slots t w)) fullShare ((dats hT m ρ 0 c).after w t)) := by
  rw [bigSep_W0]
  rewrite [stored hT (pt hT t)]
  simp only [before_0, before_1, before_2, before_3, after_0, after_1, after_2, after_3, after_4]
  rewrite [show (dats hT m ρ 0 c).Φ t.succ = Inv hT m c (t.val + 1) from rfl, show (dats hT m ρ 0 c).Φ t.castSucc = Inv hT m c t.val from rfl,
    show (dats hT m ρ 0 c).owesAt () t.succ = (dats hT m ρ 0 c).owesAt () t.castSucc from rfl]
  unfold Inv
  iintro ⟨⟨⟨%b, %hb, HS0, HS1, HS2⟩, HT0, HT1⟩, Ho, ⟨%d0, H0⟩, ⟨%d1, H1⟩, ⟨%d2, H2⟩, ⟨%d3, H3⟩, ⟨%d4, H4⟩⟩
  iapply (body_step hT m c t (held hT m c t.val) b (fun r => hb (kept_ne_zero hT t r)) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · isplitl [HS0 HS1 HS2]
    · iexists (step hT m c t (held hT m c t.val)).2
      isplitr; · ipureintro; intro _; exact (held_succ hT m c t).symm
      isplitl [HS0]; · iexact HS0
      isplitl [HS1]; · iexact HS1
      iexact HS2
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (step_cover hT m c t _)

/-- The obligation, as the library states it. -/
theorem obligation (c : Dev nD) : BodyObligation (dats hT m ρ 0 c) (defs₀ (F := Ideal)) Variants.none () Set.univ := fun t => by
  rw [bigSep_W0]
  exact point_sound hT m ρ c t

/-! ## The launch -/

abbrev EP : Emb (UR sig nD τ) 𝕄 := emb₁

def u₀ : UR sig nD τ :=
  initOf (Pipeline.cells (pinned hT) ((launch0 (F := Ideal)).cellOf_inj fun _ => adm hT))
    (Pipeline.launchToks (pinned hT) ((launch0 (F := Ideal)).cellOf_inj fun _ => adm hT))

theorem share_full (c : Dev nD) (w : Fin (cfgT hT).W) : (dats hT m ρ 0 c).share w = fullShare := by unfold Dat.share; split <;> rfl

theorem tables_split (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_first (c : Dev nD) :
    iprop(BI.emp ∗ Pipeline.prefHeld pre0 c (fun _ => fullShare.right) (adm hT).1 ∗ Pipeline.scopedRest spec0 c) ⊢ (dats hT m ρ 0 c).Φ 0 := by
  rw [tables_split, scopedRest0_eq, show (dats hT m ρ 0 c).Φ 0 = Inv hT m c 0 from rfl]
  unfold Inv
  iintro ⟨-, ⟨HT0, HT1⟩, ⟨%a0, HS0⟩, ⟨%a1, HS1⟩, ⟨%a2, HS2⟩⟩
  isplitl [HS0 HS1 HS2]
  · iexists (a0, a1, a2)
    isplitr; · ipureintro; intro h; exact absurd rfl h
    isplitl [HS0]; · iexact HS0
    isplitl [HS1]; · iexact HS1
    iexact HS2
  isplitl [HT0]; · iexact HT0
  iexact HT1

theorem inv_last (c : Dev nD) : (dats hT m ρ 0 c).Φ (Fin.last (cfgT hT).N) ⊢ iprop(BI.emp ∗ Pipeline.scopedRest spec0 c) := by
  rw [scopedRest0_eq, show (dats hT m ρ 0 c).Φ (Fin.last (cfgT hT).N) = Inv hT m c (cfgT hT).N from rfl]
  unfold Inv
  iintro ⟨⟨%b, -, HS0, HS1, HS2⟩, -, -⟩
  isplitr; · iempintro
  isplitl [HS0]
  · iexists b.1; iexact HS0
  isplitl [HS1]
  · iexists b.2.1; iexact HS1
  iexists b.2.2; iexact HS2

/-- The launch memory holds the two tables. -/
def Holds (T0 T1 : S68.Idx → BitVec 32) (m : (ℓ : Loc nD τ sig) → Buf (Elt Ideal) ℓ) : Prop :=
  (∀ c : Dev nD, m ((c : Thread nD τ).loc main_arg1) = T0) ∧ (∀ c : Dev nD, m ((c : Thread nD τ).loc main_arg2) = T1)

theorem held_tables (hm : Holds T0 T1 m) (c : Dev nD) (j : Fin 2) : m ((c : Thread nD τ).loc (pre0.ref j)) = (adm hT).1 j := by
  fin_cases j
  · exact hm.1 c
  · exact hm.2 c

/-- At the end every array holds what the pipeline's data compute, and every table what it held. -/
def Ends : PUnit × MemSt nD τ sig (Elt Ideal) → Prop := fun r =>
  ∀ c : Dev nD, (∀ w : Fin (cfgT hT).W, r.2.mem (((cfgT hT).win w).arr.view.loc (c : Thread nD τ)) = (dats hT m ρ 0 c).arrAt w (cfgT hT).N)
    ∧ ∀ j, r.2.mem ((c : Thread nD τ).loc (pre0.ref j)) = (adm hT).1 j

set_option backward.isDefEq.respectTransparency.types false in
set_option maxHeartbeats 4000000 in
/-- From a memory that holds tables in range, every execution ends, with the arrays as computed and the counters at zero. -/
theorem run_ends (hm : Holds T0 T1 m) :
    θ_run (defs (F := Ideal)) (onTc (τ := τ) (main (F := Ideal))) (s₀ m ρ) (fun r => Ends hT m ρ r ∧ r.2.sem = fun _ => 0) :=
  Pipeline.θ_run_region_noSem_pf_quiescent pcfgs (fun _ => adm hT) (dats hT m ρ) () ((launch0 (F := Ideal)).cellOf_inj fun _ => adm hT) (0 : Fin 1)
    (launch0 (F := Ideal)).win.to₀ (launch0 (F := Ideal)).pre EP defs₀ Variants.none m ρ main
    (hbody := fun c => (obligation hT m ρ c).loose) (hne := (launch0 (F := Ideal)).block_pos)
    (harr := (launch0 (F := Ideal)).arr_whole) (hstage := (launch0 (F := Ideal)).stage_whole) (howed := fun _ _ => rfl)
    (u₀ := u₀ hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hT) (dats hT m ρ) 0 (launch0 (F := Ideal)).win.arr_inj c (launch0 (F := Ideal)).arr_whole
      (share_full hT m ρ c) _ _ fun _ => rfl)
    (hpf := held_tables hT m hm)
    (X := fun _ => iprop(emp)) (Y := fun _ => iprop(emp)) (Z := fun _ => iprop(emp))
    (hX := fun c => by rw [unscopedRestP0_eq]; iintro -; isplitr <;> iempintro)
    (hin := inv_first hT m ρ)
    (hout := inv_last hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the call computes and leaves alone: the result array holds what its blocks' points left, every argument keeps its
    contents, every counter ends at zero. -/
theorem run_main (hm : Holds T0 T1 m) :
    θ_run (defs (F := Ideal)) (onTc (τ := τ) (main (F := Ideal))) ⟨m, fun _ => 0, ρ⟩ (fun r => (∀ c : Dev nD,
      r.2.mem ((c.tc : Thread nD τ).loc main_v0) = (dats hT m ρ 0 c).arrAt (4 : Fin 5) (cfgT hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats hT m ρ 0 c).arrAt_in (0 : Fin 5) rfl _),
    ((h.1 c).2 0).trans (hm.1 c).symm, ((h.1 c).2 1).trans (hm.2 c).symm,
    ((h.1 c).1 (1 : Fin 5)).trans ((dats hT m ρ 0 c).arrAt_in (1 : Fin 5) rfl _), ((h.1 c).1 (2 : Fin 5)).trans ((dats hT m ρ 0 c).arrAt_in (2 : Fin 5) rfl _),
    ((h.1 c).1 (3 : Fin 5)).trans ((dats hT m ρ 0 c).arrAt_in (3 : Fin 5) rfl _)⟩, h.2⟩) (run_ends hT m ρ hm)

end Cert.MoeIdeal.AnyTables

end
-- ==== Proof.MoeRunBits.lean ====
/- The frame of the grouped experts' call, for any tables in range: the pipeline at the tables the launch
   memory holds, what one grid point does to the output block and the three weight scratches, the scratches'
   contents carried from point to point, and the launch. -/
module

public import proofs.«01_k».proof.Proof.Gen.Moe.Flash.Runs
public import proofs.«01_k».proof.Proof.Gen.Moe.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Moe.AnyTables

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The tables -/

/-- The tables of a routing: every tile's group is one of the four, every tile's flag is 0 or 1. -/
def InRange (T0 T1 : S68.Idx → BitVec 32) : Prop :=
  ∀ x, (T0 x).toNat < 4 ∧ (T1 x = 0#32 ∨ T1 x = 1#32)

/-- The two tables, as the pipeline is handed them. -/
def words (T0 T1 : S68.Idx → BitVec 32) : pre0.Contents (Elt Bits) :=
  fun | ⟨0, _⟩ => T0 | ⟨1, _⟩ => T1 | ⟨_ + 2, h⟩ => absurd h (by simp)

/-- A group below four names a block of eight experts' input weights inside the thirty-two. -/
theorem wide_inside (v : BitVec 32) (hv : v.toNat < 4) (a : Fin 3) :
    ((![v.toNat, (0#32 : BitVec 32).toNat, (0#32 : BitVec 32).toNat] : Fin 3 → ℕ) a + 1) * S8x1024x256.size a ≤ S32x1024x256.size a := by
  fin_cases a
  · show (v.toNat + 1) * 8 ≤ 32; omega
  · show (0 + 1) * 1024 ≤ 1024; omega
  · show (0 + 1) * 256 ≤ 256; omega

/-- The same of the output weights. -/
theorem tall_inside (v : BitVec 32) (hv : v.toNat < 4) (a : Fin 3) :
    ((![v.toNat, (0#32 : BitVec 32).toNat, (0#32 : BitVec 32).toNat] : Fin 3 → ℕ) a + 1) * S8x256x1024.size a ≤ S32x256x1024.size a := by
  fin_cases a
  · show (v.toNat + 1) * 8 ≤ 32; omega
  · show (0 + 1) * 256 ≤ 256; omega
  · show (0 + 1) * 1024 ≤ 1024; omega

/-- Tables in range satisfy the pipeline's side condition. -/
theorem words_ok {T0 T1 : S68.Idx → BitVec 32} (hT : InRange T0 T1) : ok0 (F := Bits) (words T0 T1) := by
  unfold ok0
  exact ⟨fun i => ⟨wide_inside _ (hT _).1, .inl rfl⟩, fun i => ⟨wide_inside _ (hT _).1, .inl rfl⟩,
    fun i => ⟨tall_inside _ (hT _).1, .inl rfl⟩⟩

/-- A flag that asks for the computation does not ask for zeros. -/
theorem not_zero_of_live (w : BitVec 32) (hw : w = 0#32 ∨ w = 1#32) (h : k0_cond2 w = 1#1) : ¬k0_cond3 w = 1#1 := by
  rcases hw with rfl | rfl
  · exact absurd h (by decide)
  · decide

/-- A flag that does not ask for the computation asks for zeros. -/
theorem zero_of_not_live (w : BitVec 32) (hw : w = 0#32 ∨ w = 1#32) (h : ¬k0_cond2 w = 1#1) : k0_cond3 w = 1#1 := by
  rcases hw with rfl | rfl
  · decide
  · exact absurd (by decide) h

variable {T0 T1 : S68.Idx → BitVec 32} (hT : InRange T0 T1)

/-- The tables as contents the pipeline admits, and the pipeline at them. -/
def adm : (pcfg0 (F := Bits)).Adm := ⟨words T0 T1, words_ok hT⟩
abbrev cfgT : Pipeline.Cfg sig Λ₀ := cfg0 (F := Bits) (adm hT)
abbrev pinned : Fin 1 → Pipeline.Cfg sig Λ₀ := Pipeline.pin (pcfgs (F := Bits)) fun _ => adm hT

/-- The coordinates of a grid point. -/
abbrev pt (t : Fin (cfgT hT).N) : grid0.Coords := (cfgT hT).grid.coords t

/-! ## The words the body reads, and what it decides by them -/

/-- The group of the tile at point `i`. -/
abbrev groupAt (T0 : S68.Idx → BitVec 32) (i : grid0.Coords) : BitVec 32 :=
  View.readAt (Elt Bits) (tbM0_0).view (Rect.unit (s := S68) (k0_off1 i) S1.size (k0_off1_inb i)).toLoadRect T0 (Shape.Idx.first (numel1_S1.symm ▸ Nat.one_pos))
/-- The group of the tile before it (of the first tile, at the first point). -/
abbrev groupBefore (T0 : S68.Idx → BitVec 32) (i : grid0.Coords) : BitVec 32 :=
  View.readAt (Elt Bits) (tbM0_0).view (Rect.unit (s := S68) (k0_off2 i) S1.size (k0_off2_inb i)).toLoadRect T0 (Shape.Idx.first (numel1_S1.symm ▸ Nat.one_pos))
/-- The flag of the tile at point `i`. -/
abbrev flagAt (T1 : S68.Idx → BitVec 32) (i : grid0.Coords) : BitVec 32 :=
  View.readAt (Elt Bits) (tbM0_1).view (Rect.unit (s := S68) (k0_off3 i) S1.size (k0_off3_inb i)).toLoadRect T1 (Shape.Idx.first (numel1_S1.symm ▸ Nat.one_pos))

/-- The body refreshes the weight scratches: at the first point, and where the group changes. -/
abbrev Refresh (T0 : S68.Idx → BitVec 32) (i : grid0.Coords) : Prop :=
  (Scalar.cmpi .ne (Scalar.extui (Scalar.ori (Scalar.cmpi .eq (BitVec.ofNat 32 (i 0).val) 0#32) (Scalar.cmpi .ne (groupAt T0 i) (groupBefore T0 i)))) 0#32) = 1#1
/-- The body computes the tile's experts. -/
abbrev Live (T1 : S68.Idx → BitVec 32) (i : grid0.Coords) : Prop := k0_cond2 (flagAt T1 i) = 1#1

include hT in
/-- A flag is 0 or 1. -/
theorem flag_cases (i : grid0.Coords) : flagAt T1 i = 0#32 ∨ flagAt T1 i = 1#32 := (hT _).2

include hT in
/-- A tile is computed or zeroed, never both. -/
theorem not_zeroed {i : grid0.Coords} (h : Live T1 i) :
    ¬(k0_cond3 (View.readAt (Elt Bits) (tbM0_1).view (Rect.unit (s := S68) (k0_off5 i) S1.size (k0_off5_inb i)).toLoadRect T1 (Shape.Idx.first (numel1_S1.symm ▸ Nat.one_pos))) = 1#1) :=
  not_zero_of_live _ (flag_cases hT i) h
include hT in
/-- A tile that is not computed is zeroed. -/
theorem zeroed {i : grid0.Coords} (h : ¬Live T1 i) :
    k0_cond3 (View.readAt (Elt Bits) (tbM0_1).view (Rect.unit (s := S68) (k0_off5 i) S1.size (k0_off5_inb i)).toLoadRect T1 (Shape.Idx.first (numel1_S1.symm ▸ Nat.one_pos))) = 1#1 :=
  zero_of_not_live _ (flag_cases hT i) h

/-- The first point refreshes the scratches. -/
theorem refresh_first (i : grid0.Coords) (h : (i 0).val = 0) : Refresh T0 i := by
  have aux : ∀ b : BitVec 1, Scalar.cmpi .ne (Scalar.extui (Scalar.ori (Scalar.cmpi .eq (BitVec.ofNat 32 0) 0#32) b)) 0#32 = 1#1 := by decide
  unfold Refresh
  rw [h]
  exact aux _

/-- The output block is stored at every point. -/
theorem stored (i : grid0.Coords) : (cfgT hT).idle (4 : Fin 5) i = false := by
  have aux : ∀ w : BitVec 32, (w = 0#32 ∨ w = 1#32) → (!(k0_cond2 w == 1#1) && !(k0_cond3 w == 1#1)) = false := by
    rintro _ (rfl | rfl) <;> decide
  show (!(k0_cond2 ((words T0 T1).atD 1 (k0_off3 i)) == 1#1) && !(k0_cond3 ((words T0 T1).atD 1 (k0_off5 i)) == 1#1)) = false
  refine aux ((words T0 T1).atD 1 (k0_off3 i)) ?_
  unfold Pipeline.Prefetch.Contents.atD
  split
  · exact (hT _).2
  · exact Or.inl rfl

/-- The output block moves at every point, so each is written back. -/
theorem written_back (t : Fin (cfgT hT).N) : ((cfgT hT).win (4 : Fin 5)).flush t = true := by
  have aux : ∀ t : Fin grid0.N, (t.val + 1 = grid0.N || decide (∃ h : t.val + 1 < grid0.N, ∃ a, cc0_transform_4 (grid0.coords ⟨t.val + 1, h⟩) a ≠ cc0_transform_4 (grid0.coords t) a)) = true := by
    decide +kernel
  rw [Pipeline.Window.flush_eq_flushF]
  exact aux t

/-! ## One grid point -/

variable (m : (ℓ : Loc nD τ sig) → Buf (Elt Bits) ℓ) (ρ : Dev nD → PrngReg)

/-- The staging buffers at a point, and that each is a whole buffer. -/
abbrev st0 (t : Fin (cfgT hT).N) : Memref sig .tc .vmem S512x1152 .f32 := spec0_0.stage ((cfgT hT).slots t (0 : Fin 5))
abbrev st1 (t : Fin (cfgT hT).N) : Memref sig .tc .vmem S8x1024x256 .f32 := spec0_1.stage ((cfgT hT).slots t (1 : Fin 5))
abbrev st2 (t : Fin (cfgT hT).N) : Memref sig .tc .vmem S8x1024x256 .f32 := spec0_2.stage ((cfgT hT).slots t (2 : Fin 5))
abbrev st3 (t : Fin (cfgT hT).N) : Memref sig .tc .vmem S8x256x1024 .f32 := spec0_3.stage ((cfgT hT).slots t (3 : Fin 5))
abbrev st4 (t : Fin (cfgT hT).N) : Memref sig .tc .vmem S512x1024 .f32 := spec0_4.stage ((cfgT hT).slots t (4 : Fin 5))
theorem wh0 (t : Fin (cfgT hT).N) : (st0 hT t).IsWhole := hstage0_0 (((cfgT hT).slots t (0 : Fin 5)).cast nbuf0_0)
theorem wh1 (t : Fin (cfgT hT).N) : (st1 hT t).IsWhole := hstage0_1 (((cfgT hT).slots t (1 : Fin 5)).cast nbuf0_1)
theorem wh2 (t : Fin (cfgT hT).N) : (st2 hT t).IsWhole := hstage0_2 (((cfgT hT).slots t (2 : Fin 5)).cast nbuf0_2)
theorem wh3 (t : Fin (cfgT hT).N) : (st3 hT t).IsWhole := hstage0_3 (((cfgT hT).slots t (3 : Fin 5)).cast nbuf0_3)
theorem wh4 (t : Fin (cfgT hT).N) : (st4 hT t).IsWhole := hstage0_4 (((cfgT hT).slots t (4 : Fin 5)).cast nbuf0_4)

/-- The block of window `w` at point `t`, in the launch memory. -/
def blockOf (c : Dev nD) (w : Fin (cfgT hT).W) (t : Fin (cfgT hT).N) : (((cfgT hT).win w).xblock (pt hT t)).Idx → Elt Bits ((cfgT hT).win w).elt :=
  (((cfgT hT).win w).blk t).view.read (Elt Bits) (m (((cfgT hT).win w).arr.view.loc (c : Thread nD τ)))

/-- The contents of the three weight scratches. -/
abbrev Scratch (c : Dev nD) : Type :=
  Buf (Elt Bits) ((c : Thread nD τ).loc cc0_scratch0) × Buf (Elt Bits) ((c : Thread nD τ).loc cc0_scratch1) × Buf (Elt Bits) ((c : Thread nD τ).loc cc0_scratch2)

/-- What the body does at a point, by what it decides there: refresh and compute, -/
abbrev freshLive (c : Dev nD) (t : Fin (cfgT hT).N) (r : Refresh T0 (pt hT t)) (v : Live T1 (pt hT t)) :=
  kernelRun0_A c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) r v (not_zeroed hT v)
/-- keep and compute, -/
abbrev keptLive (c : Dev nD) (t : Fin (cfgT hT).N) (a : Scratch c) (r : ¬Refresh T0 (pt hT t)) (v : Live T1 (pt hT t)) :=
  kernelRun0_B c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) a.1 a.2.1 a.2.2 r v (not_zeroed hT v)
/-- refresh and zero, -/
abbrev freshDead (c : Dev nD) (t : Fin (cfgT hT).N) (r : Refresh T0 (pt hT t)) (v : ¬Live T1 (pt hT t)) :=
  kernelRun0_C c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) r v (zeroed hT v)
/-- keep and zero. -/
abbrev keptDead (c : Dev nD) (t : Fin (cfgT hT).N) (a : Scratch c) (r : ¬Refresh T0 (pt hT t)) (v : ¬Live T1 (pt hT t)) :=
  kernelRun0_D c (pt hT t) (st0 hT t) (wh0 hT t) (st1 hT t) (wh1 hT t) (st2 hT t) (wh2 hT t) (st3 hT t) (wh3 hT t) (st4 hT t) (wh4 hT t) T0 T1
    (blockOf hT m c (0 : Fin 5) t) (blockOf hT m c (1 : Fin 5) t) (blockOf hT m c (2 : Fin 5) t) (blockOf hT m c (3 : Fin 5) t) a.1 a.2.1 a.2.2 r v (zeroed hT v)

/-- One point: the pieces it stores into the output block, and what it leaves in the scratches that held `a`. -/
def step (c : Dev nD) (t : Fin (cfgT hT).N) (a : Scratch c) : List (View.Piece (Elt Bits) S512x1024 .f32) × Scratch c :=
  if r : Refresh T0 (pt hT t) then
    if v : Live T1 (pt hT t) then
      ((freshLive hT m c t r v).1, (freshLive hT m c t r v).2.1, (freshLive hT m c t r v).2.2.1, (freshLive hT m c t r v).2.2.2.1)
    else
      ((freshDead hT m c t r v).1, (freshDead hT m c t r v).2.1, (freshDead hT m c t r v).2.2.1, (freshDead hT m c t r v).2.2.2.1)
  else
    if v : Live T1 (pt hT t) then
      ((keptLive hT m c t a r v).1, (keptLive hT m c t a r v).2.1, (keptLive hT m c t a r v).2.2.1, (keptLive hT m c t a r v).2.2.2.1)
    else
      ((keptDead hT m c t a r v).1, (keptDead hT m c t a r v).2.1, (keptDead hT m c t a r v).2.2.1, (keptDead hT m c t a r v).2.2.2.1)

/-- The pieces a point stores fill the output block. -/
theorem step_cover (c : Dev nD) (t : Fin (cfgT hT).N) (a : Scratch c) (y : S512x1024.Idx) :
    ∃ pc ∈ (step hT m c t a).1, y ∈ pc.1.set := by
  unfold step
  by_cases r : Refresh T0 (pt hT t) <;> by_cases v : Live T1 (pt hT t)
  · rw [dif_pos r, dif_pos v]; exact cover0_A_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) r v (not_zeroed hT v) y
  · rw [dif_pos r, dif_neg v]; exact cover0_C_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) r v (zeroed hT v) y
  · rw [dif_neg r, dif_pos v]; exact cover0_B_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) a.1 a.2.1 a.2.2 r v (not_zeroed hT v) y
  · rw [dif_neg r, dif_neg v]; exact cover0_D_4 c (pt hT t) (st0 hT t) (wh0 hT t) (st1 hT t) (wh1 hT t) (st2 hT t) (wh2 hT t) (st3 hT t) (wh3 hT t) (st4 hT t) (wh4 hT t) T0 T1
      (blockOf hT m c (0 : Fin 5) t) (blockOf hT m c (1 : Fin 5) t) (blockOf hT m c (2 : Fin 5) t) (blockOf hT m c (3 : Fin 5) t) a.1 a.2.1 a.2.2 r v (zeroed hT v) y

/-- The body at point `t`, as the pipeline calls it. -/
abbrev bodyAt (t : Fin (cfgT hT).N) : Prog (TpuEff nD τ sig (Elt Bits) Λ₀ .tc) PUnit :=
  cc0__moe_kernel (pt hT t) tbM0_0 (Memref.isWhole_whole _) tbM0_1 (Memref.isWhole_whole _) (st0 hT t) (wh0 hT t) (st1 hT t) (wh1 hT t) (st2 hT t) (wh2 hT t) (st3 hT t) (wh3 hT t) (st4 hT t) (wh4 hT t) scM0_0 (Memref.isWhole_whole _) scM0_1 (Memref.isWhole_whole _) scM0_2 (Memref.isWhole_whole _)

set_option maxHeartbeats 400000 in
/-- The body at point `t`, from scratches that hold `a` — any contents where it refreshes them — does as `step` says. -/
theorem body_step (c : Dev nD) (t : Fin (cfgT hT).N) (a b : Scratch c) (hab : ¬Refresh T0 (pt hT t) → b = a) (K : PUnit → sProp 𝕄) :
    iprop(((st0 hT t).view.loc (c : Thread nD τ) ↦[(st0 hT t).view.set]{fullShare} (st0 hT t).view.rep (blockOf hT m c (0 : Fin 5) t))
        ∗ ((st1 hT t).view.loc (c : Thread nD τ) ↦[(st1 hT t).view.set]{fullShare} (st1 hT t).view.rep (blockOf hT m c (1 : Fin 5) t))
        ∗ ((st2 hT t).view.loc (c : Thread nD τ) ↦[(st2 hT t).view.set]{fullShare} (st2 hT t).view.rep (blockOf hT m c (2 : Fin 5) t))
        ∗ ((st3 hT t).view.loc (c : Thread nD τ) ↦[(st3 hT t).view.set]{fullShare} (st3 hT t).view.rep (blockOf hT m c (3 : Fin 5) t))
        ∗ (tbM0_0.view.loc (c : Thread nD τ) ↦{fullShare.right} T0)
        ∗ (tbM0_1.view.loc (c : Thread nD τ) ↦{fullShare.right} T1)
        ∗ (∃ d, owns (c : Thread nD τ) (st4 hT t) fullShare d)
        ∗ (scM0_0.view.loc (c : Thread nD τ) ↦{fullShare} b.1)
        ∗ (scM0_1.view.loc (c : Thread nD τ) ↦{fullShare} b.2.1)
        ∗ (scM0_2.view.loc (c : Thread nD τ) ↦{fullShare} b.2.2)
        ∗ (iprop(((st0 hT t).view.loc (c : Thread nD τ) ↦[(st0 hT t).view.set]{fullShare} (st0 hT t).view.rep (blockOf hT m c (0 : Fin 5) t))
            ∗ ((st1 hT t).view.loc (c : Thread nD τ) ↦[(st1 hT t).view.set]{fullShare} (st1 hT t).view.rep (blockOf hT m c (1 : Fin 5) t))
            ∗ ((st2 hT t).view.loc (c : Thread nD τ) ↦[(st2 hT t).view.set]{fullShare} (st2 hT t).view.rep (blockOf hT m c (2 : Fin 5) t))
            ∗ ((st3 hT t).view.loc (c : Thread nD τ) ↦[(st3 hT t).view.set]{fullShare} (st3 hT t).view.rep (blockOf hT m c (3 : Fin 5) t))
            ∗ (tbM0_0.view.loc (c : Thread nD τ) ↦{fullShare.right} T0)
            ∗ (tbM0_1.view.loc (c : Thread nD τ) ↦{fullShare.right} T1)
            ∗ (∃ f, (st4 hT t).view.loc (c : Thread nD τ) ↦[(st4 hT t).view.set]{fullShare} (st4 hT t).view.writes (Elt Bits) f (step hT m c t a).1)
            ∗ (scM0_0.view.loc (c : Thread nD τ) ↦{fullShare} (step hT m c t a).2.1)
            ∗ (scM0_1.view.loc (c : Thread nD τ) ↦{fullShare} (step hT m c t a).2.2.1)
            ∗ (scM0_2.view.loc (c : Thread nD τ) ↦{fullShare} (step hT m c t a).2.2.2)) -∗ K ⟨⟩))
      ⊢ wp frame (wpE (defs₀ (F := Bits)) Variants.none c none) Set.univ (bodyAt hT t) K := by
  unfold step
  by_cases r : Refresh T0 (pt hT t) <;> by_cases v : Live T1 (pt hT t)
  · rw [dif_pos r, dif_pos v]; dsimp only; exact (freshLive hT m c t r v).2.2.2.2 b.1 b.2.1 b.2.2 K
  · rw [dif_pos r, dif_neg v]; dsimp only; exact (freshDead hT m c t r v).2.2.2.2 b.1 b.2.1 b.2.2 K
  · rw [dif_neg r, dif_pos v, hab r]; dsimp only; exact (keptLive hT m c t a r v).2.2.2.2 K
  · rw [dif_neg r, dif_neg v, hab r]; dsimp only; exact (keptDead hT m c t a r v).2.2.2.2 K

/-! ## From point to point -/

/-- What the scratches hold before point `n`: what the points below it left. -/
def held (c : Dev nD) : ℕ → Scratch c
  | 0 => default
  | n + 1 => if h : n < (cfgT hT).N then (step hT m c ⟨n, h⟩ (held c n)).2 else default

theorem held_succ (c : Dev nD) (t : Fin (cfgT hT).N) : held hT m c (t.val + 1) = (step hT m c t (held hT m c t.val)).2 := by
  show (if h : t.val < (cfgT hT).N then (step hT m c ⟨t.val, h⟩ (held hT m c t.val)).2 else default) = _
  rw [dif_pos t.isLt]

/-- What point `t` leaves in the output block: its pieces, read back. -/
def result (c : Dev nD) (t : Fin (cfgT hT).N) : S512x1024.Idx → Elt Bits .f32 :=
  VO0_4.read (Elt Bits) (VO0_4.writes (Elt Bits) VO0_4.junk (step hT m c t (held hT m c t.val)).1)

/-- Between points: the scratches hold what the points so far left (before the first, anything); the body's half of the tables. -/
def Inv (c : Dev nD) (n : ℕ) : sProp 𝕄 :=
  iprop((∃ b : Scratch c, ⌜n ≠ 0 → b = held hT m c n⌝
      ∗ (scM0_0.view.loc (c : Thread nD τ) ↦{fullShare} b.1) ∗ (scM0_1.view.loc (c : Thread nD τ) ↦{fullShare} b.2.1)
      ∗ (scM0_2.view.loc (c : Thread nD τ) ↦{fullShare} b.2.2))
    ∗ (tbM0_0.view.loc (c : Thread nD τ) ↦{fullShare.right} T0) ∗ (tbM0_1.view.loc (c : Thread nD τ) ↦{fullShare.right} T1))

/-- The pipeline's proof data: the inputs keep their blocks, the output block is `result`, `Inv` holds between points. -/
def dats (_ : Fin 1) (c : Dev nD) : Dat τ (Elt Bits) Unit ℕ (UR sig nD τ) ℕ (cfgT hT) c where
  A w := (s₀ m ρ).mem (((cfgT hT).win w).arr.view.loc (c : Thread nD τ))
  after w t := match w with
    | ⟨0, _⟩ => blockOf hT m c (0 : Fin 5) t
    | ⟨1, _⟩ => blockOf hT m c (1 : Fin 5) t
    | ⟨2, _⟩ => blockOf hT m c (2 : Fin 5) t
    | ⟨3, _⟩ => blockOf hT m c (3 : Fin 5) t
    | ⟨4, _⟩ => result hT m c t
  Φ t := Inv hT m c t.val
  q _ := fullShare
  owed _ := 0

theorem after_0 (c : Dev nD) (t : Fin (cfgT hT).N) : (dats hT m ρ 0 c).after (0 : Fin 5) t = blockOf hT m c (0 : Fin 5) t := rfl
theorem after_1 (c : Dev nD) (t : Fin (cfgT hT).N) : (dats hT m ρ 0 c).after (1 : Fin 5) t = blockOf hT m c (1 : Fin 5) t := rfl
theorem after_2 (c : Dev nD) (t : Fin (cfgT hT).N) : (dats hT m ρ 0 c).after (2 : Fin 5) t = blockOf hT m c (2 : Fin 5) t := rfl
theorem after_3 (c : Dev nD) (t : Fin (cfgT hT).N) : (dats hT m ρ 0 c).after (3 : Fin 5) t = blockOf hT m c (3 : Fin 5) t := rfl
theorem after_4 (c : Dev nD) (t : Fin (cfgT hT).N) : (dats hT m ρ 0 c).after (4 : Fin 5) t = result hT m c t := rfl

/-- An input's staging buffer holds its block when the body runs. -/
theorem before_0 (c : Dev nD) (t : Fin (cfgT hT).N) (d) : (dats hT m ρ 0 c).before (0 : Fin 5) t d = blockOf hT m c (0 : Fin 5) t :=
  ((dats hT m ρ 0 c).before_in_eq_fetched (0 : Fin 5) rfl (fun _ => rfl) (fun _ _ _ => rfl) (fun t => by rw [after_0]; unfold Dat.blockOf blockOf; rfl) t d).trans
    (by unfold Dat.fetched Dat.blockOf blockOf; rfl)
theorem before_1 (c : Dev nD) (t : Fin (cfgT hT).N) (d) : (dats hT m ρ 0 c).before (1 : Fin 5) t d = blockOf hT m c (1 : Fin 5) t :=
  ((dats hT m ρ 0 c).before_in_eq_fetched (1 : Fin 5) rfl (fun _ => rfl) (fun _ _ _ => rfl) (fun t => by rw [after_1]; unfold Dat.blockOf blockOf; rfl) t d).trans
    (by unfold Dat.fetched Dat.blockOf blockOf; rfl)
theorem before_2 (c : Dev nD) (t : Fin (cfgT hT).N) (d) : (dats hT m ρ 0 c).before (2 : Fin 5) t d = blockOf hT m c (2 : Fin 5) t :=
  ((dats hT m ρ 0 c).before_in_eq_fetched (2 : Fin 5) rfl (fun _ => rfl) (fun _ _ _ => rfl) (fun t => by rw [after_2]; unfold Dat.blockOf blockOf; rfl) t d).trans
    (by unfold Dat.fetched Dat.blockOf blockOf; rfl)
theorem before_3 (c : Dev nD) (t : Fin (cfgT hT).N) (d) : (dats hT m ρ 0 c).before (3 : Fin 5) t d = blockOf hT m c (3 : Fin 5) t :=
  ((dats hT m ρ 0 c).before_in_eq_fetched (3 : Fin 5) rfl (fun _ => rfl) (fun _ _ _ => rfl) (fun t => by rw [after_3]; unfold Dat.blockOf blockOf; rfl) t d).trans
    (by unfold Dat.fetched Dat.blockOf blockOf; rfl)

theorem pt_val (t : Fin (cfgT hT).N) : ((pt hT t) 0).val = t.val := by
  have aux : ∀ t : Fin grid0.N, ((grid0.coords t) 0).val = t.val := by decide +kernel
  exact aux t

/-- Where the scratches are kept, a point has gone before. -/
theorem kept_ne_zero (t : Fin (cfgT hT).N) (r : ¬Refresh T0 (pt hT t)) : t.val ≠ 0 :=
  fun h => r (refresh_first _ ((pt_val hT t).trans h))

set_option maxHeartbeats 4000000 in
/-- The body's obligation at a point. -/
theorem point_sound (c : Dev nD) (t : Fin (cfgT hT).N) :
    iprop((dats hT m ρ 0 c).Φ t.castSucc ∗ (dats hT m ρ 0 c).owesAt () t.castSucc
        ∗ (∃ d, owns (c : Thread nD τ) (st0 hT t) fullShare ((dats hT m ρ 0 c).before (0 : Fin 5) t d))
        ∗ (∃ d, owns (c : Thread nD τ) (st1 hT t) fullShare ((dats hT m ρ 0 c).before (1 : Fin 5) t d))
        ∗ (∃ d, owns (c : Thread nD τ) (st2 hT t) fullShare ((dats hT m ρ 0 c).before (2 : Fin 5) t d))
        ∗ (∃ d, owns (c : Thread nD τ) (st3 hT t) fullShare ((dats hT m ρ 0 c).before (3 : Fin 5) t d))
        ∗ (∃ d, owns (c : Thread nD τ) (st4 hT t) fullShare ((dats hT m ρ 0 c).before (4 : Fin 5) t d)))
      ⊢ wp frame (wpE (defs₀ (F := Bits)) Variants.none c none) Set.univ (bodyAt hT t) fun _ =>
          iprop((dats hT m ρ 0 c).Φ t.succ ∗ (dats hT m ρ 0 c).owesAt () t.succ
            ∗ bigSep Finset.univ fun w : Fin (cfgT hT).W =>
                match (cfgT hT).idle w ((cfgT hT).grid.coords t) with
                | true =>
                  match ((cfgT hT).win w).flush t with
                  | false => iprop(∃ d, owns (c : Thread nD τ) (((cfgT hT).win w).stage ((cfgT hT).slots t w)) fullShare ((dats hT m ρ 0 c).before w t d))
                  | true => owns (c : Thread nD τ) (((cfgT hT).win w).stage ((cfgT hT).slots t w)) fullShare ((dats hT m ρ 0 c).after w t)
                | false => owns (c : Thread nD τ) (((cfgT hT).win w).stage ((cfgT hT).slots t w)) fullShare ((dats hT m ρ 0 c).after w t)) := by
  rw [bigSep_W0]
  rewrite [stored hT (pt hT t)]
  simp only [before_0, before_1, before_2, before_3, after_0, after_1, after_2, after_3, after_4]
  rewrite [show (dats hT m ρ 0 c).Φ t.succ = Inv hT m c (t.val + 1) from rfl, show (dats hT m ρ 0 c).Φ t.castSucc = Inv hT m c t.val from rfl,
    show (dats hT m ρ 0 c).owesAt () t.succ = (dats hT m ρ 0 c).owesAt () t.castSucc from rfl]
  unfold Inv
  iintro ⟨⟨⟨%b, %hb, HS0, HS1, HS2⟩, HT0, HT1⟩, Ho, ⟨%d0, H0⟩, ⟨%d1, H1⟩, ⟨%d2, H2⟩, ⟨%d3, H3⟩, ⟨%d4, H4⟩⟩
  iapply (body_step hT m c t (held hT m c t.val) b (fun r => hb (kept_ne_zero hT t r)) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · isplitl [HS0 HS1 HS2]
    · iexists (step hT m c t (held hT m c t.val)).2
      isplitr; · ipureintro; intro _; exact (held_succ hT m c t).symm
      isplitl [HS0]; · iexact HS0
      isplitl [HS1]; · iexact HS1
      iexact HS2
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (step_cover hT m c t _)

/-- The obligation, as the library states it. -/
theorem obligation (c : Dev nD) : BodyObligation (dats hT m ρ 0 c) (defs₀ (F := Bits)) Variants.none () Set.univ := fun t => by
  rw [bigSep_W0]
  exact point_sound hT m ρ c t

/-! ## The launch -/

abbrev EP : Emb (UR sig nD τ) 𝕄 := emb₁

def u₀ : UR sig nD τ :=
  initOf (Pipeline.cells (pinned hT) ((launch0 (F := Bits)).cellOf_inj fun _ => adm hT))
    (Pipeline.launchToks (pinned hT) ((launch0 (F := Bits)).cellOf_inj fun _ => adm hT))

theorem share_full (c : Dev nD) (w : Fin (cfgT hT).W) : (dats hT m ρ 0 c).share w = fullShare := by unfold Dat.share; split <;> rfl

theorem tables_split (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_first (c : Dev nD) :
    iprop(BI.emp ∗ Pipeline.prefHeld pre0 c (fun _ => fullShare.right) (adm hT).1 ∗ Pipeline.scopedRest spec0 c) ⊢ (dats hT m ρ 0 c).Φ 0 := by
  rw [tables_split, scopedRest0_eq, show (dats hT m ρ 0 c).Φ 0 = Inv hT m c 0 from rfl]
  unfold Inv
  iintro ⟨-, ⟨HT0, HT1⟩, ⟨%a0, HS0⟩, ⟨%a1, HS1⟩, ⟨%a2, HS2⟩⟩
  isplitl [HS0 HS1 HS2]
  · iexists (a0, a1, a2)
    isplitr; · ipureintro; intro h; exact absurd rfl h
    isplitl [HS0]; · iexact HS0
    isplitl [HS1]; · iexact HS1
    iexact HS2
  isplitl [HT0]; · iexact HT0
  iexact HT1

theorem inv_last (c : Dev nD) : (dats hT m ρ 0 c).Φ (Fin.last (cfgT hT).N) ⊢ iprop(BI.emp ∗ Pipeline.scopedRest spec0 c) := by
  rw [scopedRest0_eq, show (dats hT m ρ 0 c).Φ (Fin.last (cfgT hT).N) = Inv hT m c (cfgT hT).N from rfl]
  unfold Inv
  iintro ⟨⟨%b, -, HS0, HS1, HS2⟩, -, -⟩
  isplitr; · iempintro
  isplitl [HS0]
  · iexists b.1; iexact HS0
  isplitl [HS1]
  · iexists b.2.1; iexact HS1
  iexists b.2.2; iexact HS2

/-- The launch memory holds the two tables. -/
def Holds (T0 T1 : S68.Idx → BitVec 32) (m : (ℓ : Loc nD τ sig) → Buf (Elt Bits) ℓ) : Prop :=
  (∀ c : Dev nD, m ((c : Thread nD τ).loc main_arg1) = T0) ∧ (∀ c : Dev nD, m ((c : Thread nD τ).loc main_arg2) = T1)

theorem held_tables (hm : Holds T0 T1 m) (c : Dev nD) (j : Fin 2) : m ((c : Thread nD τ).loc (pre0.ref j)) = (adm hT).1 j := by
  fin_cases j
  · exact hm.1 c
  · exact hm.2 c

/-- At the end every array holds what the pipeline's data compute, and every table what it held. -/
def Ends : PUnit × MemSt nD τ sig (Elt Bits) → Prop := fun r =>
  ∀ c : Dev nD, (∀ w : Fin (cfgT hT).W, r.2.mem (((cfgT hT).win w).arr.view.loc (c : Thread nD τ)) = (dats hT m ρ 0 c).arrAt w (cfgT hT).N)
    ∧ ∀ j, r.2.mem ((c : Thread nD τ).loc (pre0.ref j)) = (adm hT).1 j

set_option backward.isDefEq.respectTransparency.types false in
set_option maxHeartbeats 4000000 in
/-- From a memory that holds tables in range, every execution ends, with the arrays as computed and the counters at zero. -/
theorem run_ends (hm : Holds T0 T1 m) :
    θ_run (defs (F := Bits)) (onTc (τ := τ) (main (F := Bits))) (s₀ m ρ) (fun r => Ends hT m ρ r ∧ r.2.sem = fun _ => 0) :=
  Pipeline.θ_run_region_noSem_pf_quiescent pcfgs (fun _ => adm hT) (dats hT m ρ) () ((launch0 (F := Bits)).cellOf_inj fun _ => adm hT) (0 : Fin 1)
    (launch0 (F := Bits)).win.to₀ (launch0 (F := Bits)).pre EP defs₀ Variants.none m ρ main
    (hbody := fun c => (obligation hT m ρ c).loose) (hne := (launch0 (F := Bits)).block_pos)
    (harr := (launch0 (F := Bits)).arr_whole) (hstage := (launch0 (F := Bits)).stage_whole) (howed := fun _ _ => rfl)
    (u₀ := u₀ hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hT) (dats hT m ρ) 0 (launch0 (F := Bits)).win.arr_inj c (launch0 (F := Bits)).arr_whole
      (share_full hT m ρ c) _ _ fun _ => rfl)
    (hpf := held_tables hT m hm)
    (X := fun _ => iprop(emp)) (Y := fun _ => iprop(emp)) (Z := fun _ => iprop(emp))
    (hX := fun c => by rw [unscopedRestP0_eq]; iintro -; isplitr <;> iempintro)
    (hin := inv_first hT m ρ)
    (hout := inv_last hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the call computes and leaves alone: the result array holds what its blocks' points left, every argument keeps its
    contents, every counter ends at zero. -/
theorem run_main (hm : Holds T0 T1 m) :
    θ_run (defs (F := Bits)) (onTc (τ := τ) (main (F := Bits))) ⟨m, fun _ => 0, ρ⟩ (fun r => (∀ c : Dev nD,
      r.2.mem ((c.tc : Thread nD τ).loc main_v0) = (dats hT m ρ 0 c).arrAt (4 : Fin 5) (cfgT hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats hT m ρ 0 c).arrAt_in (0 : Fin 5) rfl _),
    ((h.1 c).2 0).trans (hm.1 c).symm, ((h.1 c).2 1).trans (hm.2 c).symm,
    ((h.1 c).1 (1 : Fin 5)).trans ((dats hT m ρ 0 c).arrAt_in (1 : Fin 5) rfl _), ((h.1 c).1 (2 : Fin 5)).trans ((dats hT m ρ 0 c).arrAt_in (2 : Fin 5) rfl _),
    ((h.1 c).1 (3 : Fin 5)).trans ((dats hT m ρ 0 c).arrAt_in (3 : Fin 5) rfl _)⟩, h.2⟩) (run_ends hT m ρ hm)

end Cert.Moe.AnyTables

end
-- ==== Proof.Tile.lean ====
/- One tile of the grouped experts: what the body computes for 512 rows, from the tile's rows and routing record and its
   group's eight experts' weights. -/
module

public import proofs.«01_k».proof.Proof.Gen.MoeIdeal.Skeleton
public import Idealize.ShloMosaic.PureOps.Ideal
public import Idealize.ShloMosaic.Lib.Pointwise

@[expose] public section

set_option maxRecDepth 16384

noncomputable section

namespace Cert.MoeIdeal.Tile

open Cert.MoeIdeal Cert.MoeIdeal.Gen Idealize.ShloMosaic Idealize.ShloMosaic.TcCoe Idealize.SL.Sem

/-- The rows times a slab of input weights. -/
def project (x : Vec Ideal S512x1024 .f32) (w : Vec Ideal S1x1024x256 .bf16) : FVec Ideal S512x256 .f32 :=
  matmul dot_S512x1024_S1024x256_S512x256_1_0_0_1_n_n none (truncf .bf16 x bitsLt_bf16_f32 : FVec Ideal S512x1024 .bf16)
    (shapeCast S1024x256 w shapeCasts_S1x1024x256_S1024x256 : FVec Ideal S1024x256 .bf16) (constant S512x256 .f32 0x00000000#32)

/-- The gate's activation, `x / (1 + e⁻ˣ)`. -/
def activate (x : FVec Ideal S512x256 .f32) : FVec Ideal S512x256 .f32 :=
  divf x (addf (broadcast S512x256 (Scalar.ofBits .f32 0x3F800000#32)) (exp (subf (broadcast S512x256 (Scalar.ofBits .f32 0x00000000#32)) x)))

/-- Every row's weight of the group's expert `e`: the record's lane of that expert. -/
def share (g : BitVec 32) (rec : Vec Ideal S512x128 .f32) (e : BitVec 32) : FVec Ideal S512x1 .f32 :=
  shapeCast S512x1 (multiReduction .add [1] S512
    (select (cmpi .eq (iota .tc S512x128 32 [1] iota_S512x128_d1_w32) (broadcast S512x128 (Scalar.addi (Scalar.muli g 8#32) e))) rec
      (broadcast S512x128 (Scalar.ofBits .f32 0x00000000#32)))
    0x00000000#32 reduces_S512x128_S512 (.inl rfl) rfl) shapeCasts_S512_S512x1

/-- One expert's part of the tile. -/
def expert (g : BitVec 32) (x : Vec Ideal S512x1024 .f32) (rec : Vec Ideal S512x128 .f32) (e : BitVec 32)
    (wg wu : Vec Ideal S1x1024x256 .bf16) (wd : Vec Ideal S1x256x1024 .bf16) : FVec Ideal S512x1024 .f32 :=
  matmul dot_S512x256_S256x1024_S512x1024_1_0_0_1_n_n none
    (truncf .bf16 (mulf (mulf (activate (project x wg)) (project x wu)) (broadcastTo S512x256 (share g rec e) broadcasts_S512x1_S512x256)) bitsLt_bf16_f32)
    (shapeCast S256x1024 wd shapeCasts_S1x256x1024_S256x1024 : FVec Ideal S256x1024 .bf16) (constant S512x1024 .f32 0x00000000#32)

/-- The tile: the eight experts' parts, added in order. -/
def tile (g : BitVec 32) (x : Vec Ideal S512x1024 .f32) (rec : Vec Ideal S512x128 .f32)
    (wg wu : Fin 8 → Vec Ideal S1x1024x256 .bf16) (wd : Fin 8 → Vec Ideal S1x256x1024 .bf16) : FVec Ideal S512x1024 .f32 :=
  addf (addf (addf (addf (addf (addf (addf (expert g x rec 0#32 (wg 0) (wu 0) (wd 0)) (expert g x rec 1#32 (wg 1) (wu 1) (wd 1)))
    (expert g x rec 2#32 (wg 2) (wu 2) (wd 2))) (expert g x rec 3#32 (wg 3) (wu 3) (wd 3))) (expert g x rec 4#32 (wg 4) (wu 4) (wd 4)))
    (expert g x rec 5#32 (wg 5) (wu 5) (wd 5))) (expert g x rec 6#32 (wg 6) (wu 6) (wd 6))) (expert g x rec 7#32 (wg 7) (wu 7) (wd 7))

/-- The tile as the body's payloads spell it. -/
theorem payload_eq (g : BitVec 32) (x : Vec Ideal S512x1024 .f32) (rec : Vec Ideal S512x128 .f32)
    (g0 g1 g2 g3 g4 g5 g6 g7 u0 u1 u2 u3 u4 u5 u6 u7 : Vec Ideal S1x1024x256 .bf16) (d0 d1 d2 d3 d4 d5 d6 d7 : Vec Ideal S1x256x1024 .bf16) :
    k0_pay2 (F := Ideal)
      (k0_pay44 (k0_pay30 x)
        (k0_pay41 (k0_pay30 x)
          (k0_pay39 (Scalar.muli g 8#32) (k0_pay30 x) rec (iota Kind.tc S512x128 32 [1] iota_S512x128_d1_w32)
            (k0_pay37 (k0_pay30 x)
              (k0_pay33 (k0_pay30 x) rec (k0_pay31 g x rec g0 u0 d0) (k0_pay32 (F := Ideal) g) (FloatOps.ofBits FTy.f32 0#32) g1 u1 d1)
              (k0_pay34 (Scalar.muli g 8#32) rec (iota Kind.tc S512x128 32 [1] iota_S512x128_d1_w32))
              (k0_pay35 (k0_pay30 x) g2) (k0_pay36 (k0_pay30 x) g2) u2 d2)
            (k0_pay38 (Scalar.muli g 8#32) (k0_pay30 x) rec (iota Kind.tc S512x128 32 [1] iota_S512x128_d1_w32) g3 u3)
            d3 g4 u4 d4)
          (k0_pay40 (Scalar.muli g 8#32) rec (iota Kind.tc S512x128 32 [1] iota_S512x128_d1_w32))
          g5 u5 d5)
        (k0_pay42 (Scalar.muli g 8#32) rec (iota Kind.tc S512x128 32 [1] iota_S512x128_d1_w32))
        (k0_pay43 (k0_pay30 x) g6) u6 d6)
      (k0_pay45 (Scalar.muli g 8#32) (k0_pay30 x) rec (iota Kind.tc S512x128 32 [1] iota_S512x128_d1_w32) g7 u7)
      (k0_pay46 d7)
    = tile g x rec ![g0, g1, g2, g3, g4, g5, g6, g7] ![u0, u1, u2, u3, u4, u5, u6, u7] ![d0, d1, d2, d3, d4, d5, d6, d7] := by
  unfold tile expert
  rfl

/-- The activation of a number. -/
def swish (z : EReal) : EReal := Ideal.div z (1 + Ideal.exp (0 - z))

theorem word_one : Ideal.ofBits .f32 0x3F800000#32 = 1 := by
  simp [Ideal.ofBits, Ideal.ieee, -EReal.coe_mul]; norm_num
theorem word_zero : Ideal.ofBits .f32 0x00000000#32 = 0 := by
  simp [Ideal.ofBits, Ideal.ieee]

theorem project_at (x : Vec Ideal S512x1024 .f32) (w : Vec Ideal S1x1024x256 .bf16) (r : Fin 512) (f : Fin 256) :
    project x w (ix2 r f) = ∑ k : Fin 1024, x (ix2 r k) * w (ix3 0 k f) := by
  pointwise [project]

theorem activate_at (x : FVec Ideal S512x256 .f32) (r : Fin 512) (f : Fin 256) : activate x (ix2 r f) = swish (x (ix2 r f)) := by
  pointwise [activate, swish]

/-- A choice by an equality of words. -/
theorem select_eq (v w : BitVec 32) (a b : EReal) : Scalar.select (IntOp.cmpi CmpIPredicate.eq v w) a b = if v = w then a else b := by
  unfold Scalar.select
  by_cases h : v = w
  · exact (if_pos (IntOp.cmpi_eq.2 h)).trans (if_pos h).symm
  · exact (if_neg fun h' => h (IntOp.cmpi_eq.1 h')).trans (if_neg h).symm

theorem share_at (g : BitVec 32) (rec : Vec Ideal S512x128 .f32) (e : BitVec 32) (r : Fin 512) :
    share g rec e (ix2 r 0) = ∑ l : Fin 128, if BitVec.ofNat 32 l.val = g * 8#32 + e then rec (ix2 r l) else 0 := by
  pointwise [share]
  refine Finset.sum_congr rfl fun l _ => ?_
  exact select_eq _ _ _ _

theorem expert_at (g : BitVec 32) (x : Vec Ideal S512x1024 .f32) (rec : Vec Ideal S512x128 .f32) (e : BitVec 32)
    (wg wu : Vec Ideal S1x1024x256 .bf16) (wd : Vec Ideal S1x256x1024 .bf16) (r : Fin 512) (d : Fin 1024) :
    expert g x rec e wg wu wd (ix2 r d) = ∑ f : Fin 256,
      (activate (project x wg) (ix2 r f) * project x wu (ix2 r f) * share g rec e (ix2 r 0)) * wd (ix3 0 f d) := by
  pointwise [expert]

/-- A tile's value at one element, from the row's inputs, its weight of each of the group's eight experts, and the experts' weights. -/
def tileSum (x : Fin 1024 → EReal) (share : Fin 8 → EReal) (wg wu : Fin 8 → Fin 1024 → Fin 256 → EReal) (wd : Fin 8 → Fin 256 → EReal) : EReal :=
  ∑ e : Fin 8, ∑ f : Fin 256, (swish (∑ k : Fin 1024, x k * wg e k f) * (∑ k : Fin 1024, x k * wu e k f) * share e) * wd e f

theorem expert_sum (g : BitVec 32) (x : Vec Ideal S512x1024 .f32) (rec : Vec Ideal S512x128 .f32) (e : BitVec 32)
    (wg wu : Vec Ideal S1x1024x256 .bf16) (wd : Vec Ideal S1x256x1024 .bf16) (r : Fin 512) (d : Fin 1024) :
    expert g x rec e wg wu wd (ix2 r d) = ∑ f : Fin 256,
      (swish (∑ k : Fin 1024, x (ix2 r k) * wg (ix3 0 k f)) * (∑ k : Fin 1024, x (ix2 r k) * wu (ix3 0 k f)) * share g rec e (ix2 r 0)) * wd (ix3 0 f d) := by
  rw [expert_at]
  refine Finset.sum_congr rfl fun f _ => ?_
  rw [activate_at, project_at, project_at]

/-- The one lane of the record that an expert of a group below four names. -/
theorem share_lane (g : BitVec 32) (hg : g.toNat < 4) (rec : Vec Ideal S512x128 .f32) (e : Fin 8) (r : Fin 512) :
    share g rec (BitVec.ofNat 32 e.val) (ix2 r 0) = rec (ix2 r ⟨8 * g.toNat + e.val, by omega⟩) := by
  rw [share_at]
  have key : ∀ l : Fin 128, (BitVec.ofNat 32 l.val = g * 8#32 + BitVec.ofNat 32 e.val) ↔ l = ⟨8 * g.toNat + e.val, by omega⟩ := by
    intro l
    have he := e.isLt
    have hl := l.isLt
    rw [← BitVec.toNat_inj, Fin.ext_iff]
    simp only [BitVec.toNat_ofNat, BitVec.toNat_add, BitVec.toNat_mul]
    omega
  rw [Finset.sum_congr rfl fun l _ => if_congr (key l) rfl rfl, Finset.sum_ite_eq' Finset.univ _ _, if_pos (Finset.mem_univ _)]

/-- What a tile of a group below four holds at one element. -/
theorem tile_at (g : BitVec 32) (hg : g.toNat < 4) (x : Vec Ideal S512x1024 .f32) (rec : Vec Ideal S512x128 .f32)
    (wg wu : Fin 8 → Vec Ideal S1x1024x256 .bf16) (wd : Fin 8 → Vec Ideal S1x256x1024 .bf16) (r : Fin 512) (d : Fin 1024) :
    tile g x rec wg wu wd (ix2 r d) = tileSum (fun k => x (ix2 r k)) (fun e => rec (ix2 r ⟨8 * g.toNat + e.val, by omega⟩))
      (fun e k f => wg e (ix3 0 k f)) (fun e k f => wu e (ix3 0 k f)) (fun e f => wd e (ix3 0 f d)) := by
  have part : ∀ e : Fin 8, expert g x rec (BitVec.ofNat 32 e.val) (wg e) (wu e) (wd e) (ix2 r d) = ∑ f : Fin 256,
      (swish (∑ k : Fin 1024, x (ix2 r k) * wg e (ix3 0 k f)) * (∑ k : Fin 1024, x (ix2 r k) * wu e (ix3 0 k f)) * rec (ix2 r ⟨8 * g.toNat + e.val, by omega⟩)) * wd e (ix3 0 f d) := by
    intro e
    rw [expert_sum]
    refine Finset.sum_congr rfl fun f _ => ?_
    rw [share_lane g hg]
  unfold tileSum
  rw [Fin.sum_univ_eight, ← part 0, ← part 1, ← part 2, ← part 3, ← part 4, ← part 5, ← part 6, ← part 7]
  rfl

end Cert.MoeIdeal.Tile

end
-- ==== Proof.MoeSteps.lean ====
/- What one grid point leaves behind: the weight scratches after a refresh hold the group's weights, a tile that is not
   refreshed keeps them, and the output block is the tile of the weights the scratches hold, or zeros. -/
module

public import proofs.«01_k».proof.Proof.MoeRun
public import proofs.«01_k».proof.Proof.Tile
public import Idealize.ShloMosaic.Lib.Pipeline.Value
public import Idealize.ShloMosaic.Lib.Pipeline.ValueKit

@[expose] public section

set_option maxRecDepth 16384

noncomputable section

namespace Cert.MoeIdeal.AnyTables

open Cert.MoeIdeal Cert.MoeIdeal.Gen Cert.MoeIdeal.Tile
open Idealize.ShloMosaic Idealize.ShloMosaic.TcCoe Idealize.ShloMosaic.Tactic Idealize.SL.Sem

/-! ## The refresh -/

/-- A slab through the refresh's casts is itself: a rounding is the identity, and the reshapes undo each other. -/
theorem wide_cast (Y : Vec Ideal S1x1024x256 .f32) :
    (shapeCast S1x1024x256 (truncf .bf16 (shapeCast S1024x256 Y shapeCasts_S1x1024x256_S1024x256 : FVec Ideal S1024x256 .f32) bitsLt_bf16_f32 : FVec Ideal S1024x256 .bf16)
      shapeCasts_S1024x256_S1x1024x256 : FVec Ideal S1x1024x256 .bf16) = Y := by
  funext y
  obtain ⟨z, k, f, rfl⟩ : ∃ (z : Fin 1) (k : Fin 1024) (f : Fin 256), y = ix3 z k f := ⟨y 0, y 1, y 2, eq_ix3 y⟩
  obtain rfl : z = 0 := Subsingleton.elim _ _
  pointwise []
theorem tall_cast (Y : Vec Ideal S1x256x1024 .f32) :
    (shapeCast S1x256x1024 (truncf .bf16 (shapeCast S256x1024 Y shapeCasts_S1x256x1024_S256x1024 : FVec Ideal S256x1024 .f32) bitsLt_bf16_f32 : FVec Ideal S256x1024 .bf16)
      shapeCasts_S256x1024_S1x256x1024 : FVec Ideal S1x256x1024 .bf16) = Y := by
  funext y
  obtain ⟨z, f, k, rfl⟩ : ∃ (z : Fin 1) (f : Fin 256) (k : Fin 1024), y = ix3 z f k := ⟨y 0, y 1, y 2, eq_ix3 y⟩
  obtain rfl : z = 0 := Subsingleton.elim _ _
  pointwise []

/-- A stored slab that is the slab loaded from a block agrees with the block. -/
theorem wide_piece (M : Memref sig .tc .vmem S8x1024x256 .f32) (X : S8x1024x256.Idx → Elt Ideal .f32) (e : ℕ)
    (inb : ∀ a, (![e, 0, 0] : Fin 3 → ℕ) a + S1x1024x256.size a ≤ S8x1024x256.size a) (P : S1x1024x256.Idx → EReal)
    (hP : P = View.readAt (Elt Ideal) M.view (Rect.unit (s := S8x1024x256) ![e, 0, 0] S1x1024x256.size inb).toLoadRect (M.view.rep X)) (x : S1x1024x256.Idx) :
    P x = X ((Rect.unit (s := S8x1024x256) ![e, 0, 0] S1x1024x256.size inb).emb x) := by
  rw [hP, View.readAt_rep]; rfl
theorem tall_piece (M : Memref sig .tc .vmem S8x256x1024 .f32) (X : S8x256x1024.Idx → Elt Ideal .f32) (e : ℕ)
    (inb : ∀ a, (![e, 0, 0] : Fin 3 → ℕ) a + S1x256x1024.size a ≤ S8x256x1024.size a) (P : S1x256x1024.Idx → EReal)
    (hP : P = View.readAt (Elt Ideal) M.view (Rect.unit (s := S8x256x1024) ![e, 0, 0] S1x256x1024.size inb).toLoadRect (M.view.rep X)) (x : S1x256x1024.Idx) :
    P x = X ((Rect.unit (s := S8x256x1024) ![e, 0, 0] S1x256x1024.size inb).emb x) := by
  rw [hP, View.readAt_rep]; rfl

/-- Expert `e`'s slab is the indices that begin with `e`. -/
theorem wide_mem (e : ℕ) (inb : ∀ a, (![e, 0, 0] : Fin 3 → ℕ) a + S1x1024x256.size a ≤ S8x1024x256.size a) (y : S8x1024x256.Idx) (h : (y 0).val = e) :
    y ∈ (Rect.unit (s := S8x1024x256) ![e, 0, 0] S1x1024x256.size inb).set := by
  refine Rect.mem_set_unit.mpr fun a => ?_
  fin_cases a
  · exact ⟨h.ge, h.trans_lt (Nat.lt_succ_self e)⟩
  · exact ⟨Nat.zero_le _, (y 1).isLt.trans_le (Nat.le_add_left _ _)⟩
  · exact ⟨Nat.zero_le _, (y 2).isLt.trans_le (Nat.le_add_left _ _)⟩
theorem tall_mem (e : ℕ) (inb : ∀ a, (![e, 0, 0] : Fin 3 → ℕ) a + S1x256x1024.size a ≤ S8x256x1024.size a) (y : S8x256x1024.Idx) (h : (y 0).val = e) :
    y ∈ (Rect.unit (s := S8x256x1024) ![e, 0, 0] S1x256x1024.size inb).set := by
  refine Rect.mem_set_unit.mpr fun a => ?_
  fin_cases a
  · exact ⟨h.ge, h.trans_lt (Nat.lt_succ_self e)⟩
  · exact ⟨Nat.zero_le _, (y 1).isLt.trans_le (Nat.le_add_left _ _)⟩
  · exact ⟨Nat.zero_le _, (y 2).isLt.trans_le (Nat.le_add_left _ _)⟩

/-- The eight stores that refresh the gate weights, the last first, -/
def gatePieces (M : Memref sig .tc .vmem S8x1024x256 .f32) (X : S8x1024x256.Idx → Elt Ideal .f32) : List (View.Piece (Elt Ideal) S8x1024x256 .bf16) :=
  [⟨Rect.unit (s := S8x1024x256) ![7, 0, 0] S1x1024x256.size inb_S8x1024x256_S1x1024x256_7_0_0, k0_pay28 (F := Ideal) (View.readAt (Elt Ideal) M.view (Rect.unit (s := S8x1024x256) ![7, 0, 0] S1x1024x256.size inb_S8x1024x256_S1x1024x256_7_0_0).toLoadRect (M.view.rep X))⟩,
   ⟨Rect.unit (s := S8x1024x256) ![6, 0, 0] S1x1024x256.size inb_S8x1024x256_S1x1024x256_6_0_0, k0_pay25 (F := Ideal) (k0_pay24 (View.readAt (Elt Ideal) M.view (Rect.unit (s := S8x1024x256) ![6, 0, 0] S1x1024x256.size inb_S8x1024x256_S1x1024x256_6_0_0).toLoadRect (M.view.rep X)))⟩,
   ⟨Rect.unit (s := S8x1024x256) ![5, 0, 0] S1x1024x256.size inb_S8x1024x256_S1x1024x256_5_0_0, k0_pay21 (F := Ideal) (View.readAt (Elt Ideal) M.view (Rect.unit (s := S8x1024x256) ![5, 0, 0] S1x1024x256.size inb_S8x1024x256_S1x1024x256_5_0_0).toLoadRect (M.view.rep X))⟩,
   ⟨Rect.unit (s := S8x1024x256) ![4, 0, 0] S1x1024x256.size inb_S8x1024x256_S1x1024x256_4_0_0, k0_pay17 (F := Ideal) (View.readAt (Elt Ideal) M.view (Rect.unit (s := S8x1024x256) ![4, 0, 0] S1x1024x256.size inb_S8x1024x256_S1x1024x256_4_0_0).toLoadRect (M.view.rep X))⟩,
   ⟨Rect.unit (s := S8x1024x256) ![3, 0, 0] S1x1024x256.size inb_S8x1024x256_S1x1024x256_3_0_0, k0_pay14 (F := Ideal) (View.readAt (Elt Ideal) M.view (Rect.unit (s := S8x1024x256) ![3, 0, 0] S1x1024x256.size inb_S8x1024x256_S1x1024x256_3_0_0).toLoadRect (M.view.rep X))⟩,
   ⟨Rect.unit (s := S8x1024x256) ![2, 0, 0] S1x1024x256.size inb_S8x1024x256_S1x1024x256_2_0_0, k0_pay11 (F := Ideal) (View.readAt (Elt Ideal) M.view (Rect.unit (s := S8x1024x256) ![2, 0, 0] S1x1024x256.size inb_S8x1024x256_S1x1024x256_2_0_0).toLoadRect (M.view.rep X))⟩,
   ⟨Rect.unit (s := S8x1024x256) ![1, 0, 0] S1x1024x256.size inb_S8x1024x256_S1x1024x256_1_0_0, k0_pay7 (F := Ideal) (View.readAt (Elt Ideal) M.view (Rect.unit (s := S8x1024x256) ![1, 0, 0] S1x1024x256.size inb_S8x1024x256_S1x1024x256_1_0_0).toLoadRect (M.view.rep X))⟩,
   ⟨Rect.unit (s := S8x1024x256) ![0, 0, 0] S1x1024x256.size inb_S8x1024x256_S1x1024x256_0_0_0, k0_pay4 (F := Ideal) (View.readAt (Elt Ideal) M.view (Rect.unit (s := S8x1024x256) ![0, 0, 0] S1x1024x256.size inb_S8x1024x256_S1x1024x256_0_0_0).toLoadRect (M.view.rep X))⟩]
/-- the up weights, -/
def upPieces (M : Memref sig .tc .vmem S8x1024x256 .f32) (X : S8x1024x256.Idx → Elt Ideal .f32) : List (View.Piece (Elt Ideal) S8x1024x256 .bf16) :=
  [⟨Rect.unit (s := S8x1024x256) ![7, 0, 0] S1x1024x256.size inb_S8x1024x256_S1x1024x256_7_0_0, k0_pay29 (F := Ideal) (View.readAt (Elt Ideal) M.view (Rect.unit (s := S8x1024x256) ![7, 0, 0] S1x1024x256.size inb_S8x1024x256_S1x1024x256_7_0_0).toLoadRect (M.view.rep X))⟩,
   ⟨Rect.unit (s := S8x1024x256) ![6, 0, 0] S1x1024x256.size inb_S8x1024x256_S1x1024x256_6_0_0, k0_pay26 (F := Ideal) (View.readAt (Elt Ideal) M.view (Rect.unit (s := S8x1024x256) ![6, 0, 0] S1x1024x256.size inb_S8x1024x256_S1x1024x256_6_0_0).toLoadRect (M.view.rep X))⟩,
   ⟨Rect.unit (s := S8x1024x256) ![5, 0, 0] S1x1024x256.size inb_S8x1024x256_S1x1024x256_5_0_0, k0_pay22 (F := Ideal) (View.readAt (Elt Ideal) M.view (Rect.unit (s := S8x1024x256) ![5, 0, 0] S1x1024x256.size inb_S8x1024x256_S1x1024x256_5_0_0).toLoadRect (M.view.rep X))⟩,
   ⟨Rect.unit (s := S8x1024x256) ![4, 0, 0] S1x1024x256.size inb_S8x1024x256_S1x1024x256_4_0_0, k0_pay19 (F := Ideal) (k0_pay18 (View.readAt (Elt Ideal) M.view (Rect.unit (s := S8x1024x256) ![4, 0, 0] S1x1024x256.size inb_S8x1024x256_S1x1024x256_4_0_0).toLoadRect (M.view.rep X)))⟩,
   ⟨Rect.unit (s := S8x1024x256) ![3, 0, 0] S1x1024x256.size inb_S8x1024x256_S1x1024x256_3_0_0, k0_pay15 (F := Ideal) (View.readAt (Elt Ideal) M.view (Rect.unit (s := S8x1024x256) ![3, 0, 0] S1x1024x256.size inb_S8x1024x256_S1x1024x256_3_0_0).toLoadRect (M.view.rep X))⟩,
   ⟨Rect.unit (s := S8x1024x256) ![2, 0, 0] S1x1024x256.size inb_S8x1024x256_S1x1024x256_2_0_0, k0_pay12 (F := Ideal) (View.readAt (Elt Ideal) M.view (Rect.unit (s := S8x1024x256) ![2, 0, 0] S1x1024x256.size inb_S8x1024x256_S1x1024x256_2_0_0).toLoadRect (M.view.rep X))⟩,
   ⟨Rect.unit (s := S8x1024x256) ![1, 0, 0] S1x1024x256.size inb_S8x1024x256_S1x1024x256_1_0_0, k0_pay9 (F := Ideal) (k0_pay8 (View.readAt (Elt Ideal) M.view (Rect.unit (s := S8x1024x256) ![1, 0, 0] S1x1024x256.size inb_S8x1024x256_S1x1024x256_1_0_0).toLoadRect (M.view.rep X)))⟩,
   ⟨Rect.unit (s := S8x1024x256) ![0, 0, 0] S1x1024x256.size inb_S8x1024x256_S1x1024x256_0_0_0, k0_pay5 (F := Ideal) (View.readAt (Elt Ideal) M.view (Rect.unit (s := S8x1024x256) ![0, 0, 0] S1x1024x256.size inb_S8x1024x256_S1x1024x256_0_0_0).toLoadRect (M.view.rep X))⟩]
/-- and the down weights. -/
def downPieces (M : Memref sig .tc .vmem S8x256x1024 .f32) (X : S8x256x1024.Idx → Elt Ideal .f32) : List (View.Piece (Elt Ideal) S8x256x1024 .bf16) :=
  [⟨Rect.unit (s := S8x256x1024) ![7, 0, 0] S1x256x1024.size inb_S8x256x1024_S1x256x1024_7_0_0, k0_pay1 (F := Ideal) (View.readAt (Elt Ideal) M.view (Rect.unit (s := S8x256x1024) ![7, 0, 0] S1x256x1024.size inb_S8x256x1024_S1x256x1024_7_0_0).toLoadRect (M.view.rep X))⟩,
   ⟨Rect.unit (s := S8x256x1024) ![6, 0, 0] S1x256x1024.size inb_S8x256x1024_S1x256x1024_6_0_0, k0_pay27 (F := Ideal) (View.readAt (Elt Ideal) M.view (Rect.unit (s := S8x256x1024) ![6, 0, 0] S1x256x1024.size inb_S8x256x1024_S1x256x1024_6_0_0).toLoadRect (M.view.rep X))⟩,
   ⟨Rect.unit (s := S8x256x1024) ![5, 0, 0] S1x256x1024.size inb_S8x256x1024_S1x256x1024_5_0_0, k0_pay23 (F := Ideal) (View.readAt (Elt Ideal) M.view (Rect.unit (s := S8x256x1024) ![5, 0, 0] S1x256x1024.size inb_S8x256x1024_S1x256x1024_5_0_0).toLoadRect (M.view.rep X))⟩,
   ⟨Rect.unit (s := S8x256x1024) ![4, 0, 0] S1x256x1024.size inb_S8x256x1024_S1x256x1024_4_0_0, k0_pay20 (F := Ideal) (View.readAt (Elt Ideal) M.view (Rect.unit (s := S8x256x1024) ![4, 0, 0] S1x256x1024.size inb_S8x256x1024_S1x256x1024_4_0_0).toLoadRect (M.view.rep X))⟩,
   ⟨Rect.unit (s := S8x256x1024) ![3, 0, 0] S1x256x1024.size inb_S8x256x1024_S1x256x1024_3_0_0, k0_pay16 (F := Ideal) (View.readAt (Elt Ideal) M.view (Rect.unit (s := S8x256x1024) ![3, 0, 0] S1x256x1024.size inb_S8x256x1024_S1x256x1024_3_0_0).toLoadRect (M.view.rep X))⟩,
   ⟨Rect.unit (s := S8x256x1024) ![2, 0, 0] S1x256x1024.size inb_S8x256x1024_S1x256x1024_2_0_0, k0_pay13 (F := Ideal) (View.readAt (Elt Ideal) M.view (Rect.unit (s := S8x256x1024) ![2, 0, 0] S1x256x1024.size inb_S8x256x1024_S1x256x1024_2_0_0).toLoadRect (M.view.rep X))⟩,
   ⟨Rect.unit (s := S8x256x1024) ![1, 0, 0] S1x256x1024.size inb_S8x256x1024_S1x256x1024_1_0_0, k0_pay10 (F := Ideal) (View.readAt (Elt Ideal) M.view (Rect.unit (s := S8x256x1024) ![1, 0, 0] S1x256x1024.size inb_S8x256x1024_S1x256x1024_1_0_0).toLoadRect (M.view.rep X))⟩,
   ⟨Rect.unit (s := S8x256x1024) ![0, 0, 0] S1x256x1024.size inb_S8x256x1024_S1x256x1024_0_0_0, k0_pay6 (F := Ideal) (View.readAt (Elt Ideal) M.view (Rect.unit (s := S8x256x1024) ![0, 0, 0] S1x256x1024.size inb_S8x256x1024_S1x256x1024_0_0_0).toLoadRect (M.view.rep X))⟩]

/-- Every stored slab is the slab loaded. -/
theorem pay_gate_0 (Y : Vec Ideal S1x1024x256 .f32) : k0_pay4 (F := Ideal) Y = Y := wide_cast Y
theorem pay_gate_1 (Y : Vec Ideal S1x1024x256 .f32) : k0_pay7 (F := Ideal) Y = Y := wide_cast Y
theorem pay_gate_2 (Y : Vec Ideal S1x1024x256 .f32) : k0_pay11 (F := Ideal) Y = Y := wide_cast Y
theorem pay_gate_3 (Y : Vec Ideal S1x1024x256 .f32) : k0_pay14 (F := Ideal) Y = Y := wide_cast Y
theorem pay_gate_4 (Y : Vec Ideal S1x1024x256 .f32) : k0_pay17 (F := Ideal) Y = Y := wide_cast Y
theorem pay_gate_5 (Y : Vec Ideal S1x1024x256 .f32) : k0_pay21 (F := Ideal) Y = Y := wide_cast Y
theorem pay_gate_6 (Y : Vec Ideal S1x1024x256 .f32) : k0_pay25 (F := Ideal) (k0_pay24 Y) = Y := wide_cast Y
theorem pay_gate_7 (Y : Vec Ideal S1x1024x256 .f32) : k0_pay28 (F := Ideal) Y = Y := wide_cast Y
theorem pay_up_0 (Y : Vec Ideal S1x1024x256 .f32) : k0_pay5 (F := Ideal) Y = Y := wide_cast Y
theorem pay_up_1 (Y : Vec Ideal S1x1024x256 .f32) : k0_pay9 (F := Ideal) (k0_pay8 Y) = Y := wide_cast Y
theorem pay_up_2 (Y : Vec Ideal S1x1024x256 .f32) : k0_pay12 (F := Ideal) Y = Y := wide_cast Y
theorem pay_up_3 (Y : Vec Ideal S1x1024x256 .f32) : k0_pay15 (F := Ideal) Y = Y := wide_cast Y
theorem pay_up_4 (Y : Vec Ideal S1x1024x256 .f32) : k0_pay19 (F := Ideal) (k0_pay18 Y) = Y := wide_cast Y
theorem pay_up_5 (Y : Vec Ideal S1x1024x256 .f32) : k0_pay22 (F := Ideal) Y = Y := wide_cast Y
theorem pay_up_6 (Y : Vec Ideal S1x1024x256 .f32) : k0_pay26 (F := Ideal) Y = Y := wide_cast Y
theorem pay_up_7 (Y : Vec Ideal S1x1024x256 .f32) : k0_pay29 (F := Ideal) Y = Y := wide_cast Y
theorem pay_down_0 (Y : Vec Ideal S1x256x1024 .f32) : k0_pay6 (F := Ideal) Y = Y := tall_cast Y
theorem pay_down_1 (Y : Vec Ideal S1x256x1024 .f32) : k0_pay10 (F := Ideal) Y = Y := tall_cast Y
theorem pay_down_2 (Y : Vec Ideal S1x256x1024 .f32) : k0_pay13 (F := Ideal) Y = Y := tall_cast Y
theorem pay_down_3 (Y : Vec Ideal S1x256x1024 .f32) : k0_pay16 (F := Ideal) Y = Y := tall_cast Y
theorem pay_down_4 (Y : Vec Ideal S1x256x1024 .f32) : k0_pay20 (F := Ideal) Y = Y := tall_cast Y
theorem pay_down_5 (Y : Vec Ideal S1x256x1024 .f32) : k0_pay23 (F := Ideal) Y = Y := tall_cast Y
theorem pay_down_6 (Y : Vec Ideal S1x256x1024 .f32) : k0_pay27 (F := Ideal) Y = Y := tall_cast Y
theorem pay_down_7 (Y : Vec Ideal S1x256x1024 .f32) : k0_pay1 (F := Ideal) Y = Y := tall_cast Y

/-- They leave the block. -/
theorem canon_gate (M : Memref sig .tc .vmem S8x1024x256 .f32) (X : S8x1024x256.Idx → Elt Ideal .f32) : View.canon (gatePieces M X) = X := by
  funext y
  refine View.canon_apply_of_pieces (S := S8x1024x256) (Val := Elt Ideal) (e := .bf16) X _ (fun q hq => ?_) y ?_
  · simp only [gatePieces, List.mem_cons, List.not_mem_nil, or_false] at hq
    rcases hq with rfl | rfl | rfl | rfl | rfl | rfl | rfl | rfl
    · intro x; exact wide_piece M X 7 _ _ (pay_gate_7 _) x
    · intro x; exact wide_piece M X 6 _ _ (pay_gate_6 _) x
    · intro x; exact wide_piece M X 5 _ _ (pay_gate_5 _) x
    · intro x; exact wide_piece M X 4 _ _ (pay_gate_4 _) x
    · intro x; exact wide_piece M X 3 _ _ (pay_gate_3 _) x
    · intro x; exact wide_piece M X 2 _ _ (pay_gate_2 _) x
    · intro x; exact wide_piece M X 1 _ _ (pay_gate_1 _) x
    · intro x; exact wide_piece M X 0 _ _ (pay_gate_0 _) x
  have hy : (y 0).val < 8 := (y 0).isLt
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact ⟨_, .tail _ (.tail _ (.tail _ (.tail _ (.tail _ (.tail _ (.tail _ (.head _))))))), wide_mem 0 inb_S8x1024x256_S1x1024x256_0_0_0 y h⟩
  · exact ⟨_, .tail _ (.tail _ (.tail _ (.tail _ (.tail _ (.tail _ (.head _)))))), wide_mem 1 inb_S8x1024x256_S1x1024x256_1_0_0 y h⟩
  · exact ⟨_, .tail _ (.tail _ (.tail _ (.tail _ (.tail _ (.head _))))), wide_mem 2 inb_S8x1024x256_S1x1024x256_2_0_0 y h⟩
  · exact ⟨_, .tail _ (.tail _ (.tail _ (.tail _ (.head _)))), wide_mem 3 inb_S8x1024x256_S1x1024x256_3_0_0 y h⟩
  · exact ⟨_, .tail _ (.tail _ (.tail _ (.head _))), wide_mem 4 inb_S8x1024x256_S1x1024x256_4_0_0 y h⟩
  · exact ⟨_, .tail _ (.tail _ (.head _)), wide_mem 5 inb_S8x1024x256_S1x1024x256_5_0_0 y h⟩
  · exact ⟨_, .tail _ (.head _), wide_mem 6 inb_S8x1024x256_S1x1024x256_6_0_0 y h⟩
  · exact ⟨_, .head _, wide_mem 7 inb_S8x1024x256_S1x1024x256_7_0_0 y h⟩
theorem canon_up (M : Memref sig .tc .vmem S8x1024x256 .f32) (X : S8x1024x256.Idx → Elt Ideal .f32) : View.canon (upPieces M X) = X := by
  funext y
  refine View.canon_apply_of_pieces (S := S8x1024x256) (Val := Elt Ideal) (e := .bf16) X _ (fun q hq => ?_) y ?_
  · simp only [upPieces, List.mem_cons, List.not_mem_nil, or_false] at hq
    rcases hq with rfl | rfl | rfl | rfl | rfl | rfl | rfl | rfl
    · intro x; exact wide_piece M X 7 _ _ (pay_up_7 _) x
    · intro x; exact wide_piece M X 6 _ _ (pay_up_6 _) x
    · intro x; exact wide_piece M X 5 _ _ (pay_up_5 _) x
    · intro x; exact wide_piece M X 4 _ _ (pay_up_4 _) x
    · intro x; exact wide_piece M X 3 _ _ (pay_up_3 _) x
    · intro x; exact wide_piece M X 2 _ _ (pay_up_2 _) x
    · intro x; exact wide_piece M X 1 _ _ (pay_up_1 _) x
    · intro x; exact wide_piece M X 0 _ _ (pay_up_0 _) x
  have hy : (y 0).val < 8 := (y 0).isLt
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact ⟨_, .tail _ (.tail _ (.tail _ (.tail _ (.tail _ (.tail _ (.tail _ (.head _))))))), wide_mem 0 inb_S8x1024x256_S1x1024x256_0_0_0 y h⟩
  · exact ⟨_, .tail _ (.tail _ (.tail _ (.tail _ (.tail _ (.tail _ (.head _)))))), wide_mem 1 inb_S8x1024x256_S1x1024x256_1_0_0 y h⟩
  · exact ⟨_, .tail _ (.tail _ (.tail _ (.tail _ (.tail _ (.head _))))), wide_mem 2 inb_S8x1024x256_S1x1024x256_2_0_0 y h⟩
  · exact ⟨_, .tail _ (.tail _ (.tail _ (.tail _ (.head _)))), wide_mem 3 inb_S8x1024x256_S1x1024x256_3_0_0 y h⟩
  · exact ⟨_, .tail _ (.tail _ (.tail _ (.head _))), wide_mem 4 inb_S8x1024x256_S1x1024x256_4_0_0 y h⟩
  · exact ⟨_, .tail _ (.tail _ (.head _)), wide_mem 5 inb_S8x1024x256_S1x1024x256_5_0_0 y h⟩
  · exact ⟨_, .tail _ (.head _), wide_mem 6 inb_S8x1024x256_S1x1024x256_6_0_0 y h⟩
  · exact ⟨_, .head _, wide_mem 7 inb_S8x1024x256_S1x1024x256_7_0_0 y h⟩
theorem canon_down (M : Memref sig .tc .vmem S8x256x1024 .f32) (X : S8x256x1024.Idx → Elt Ideal .f32) : View.canon (downPieces M X) = X := by
  funext y
  refine View.canon_apply_of_pieces (S := S8x256x1024) (Val := Elt Ideal) (e := .bf16) X _ (fun q hq => ?_) y ?_
  · simp only [downPieces, List.mem_cons, List.not_mem_nil, or_false] at hq
    rcases hq with rfl | rfl | rfl | rfl | rfl | rfl | rfl | rfl
    · intro x; exact tall_piece M X 7 _ _ (pay_down_7 _) x
    · intro x; exact tall_piece M X 6 _ _ (pay_down_6 _) x
    · intro x; exact tall_piece M X 5 _ _ (pay_down_5 _) x
    · intro x; exact tall_piece M X 4 _ _ (pay_down_4 _) x
    · intro x; exact tall_piece M X 3 _ _ (pay_down_3 _) x
    · intro x; exact tall_piece M X 2 _ _ (pay_down_2 _) x
    · intro x; exact tall_piece M X 1 _ _ (pay_down_1 _) x
    · intro x; exact tall_piece M X 0 _ _ (pay_down_0 _) x
  have hy : (y 0).val < 8 := (y 0).isLt
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact ⟨_, .tail _ (.tail _ (.tail _ (.tail _ (.tail _ (.tail _ (.tail _ (.head _))))))), tall_mem 0 inb_S8x256x1024_S1x256x1024_0_0_0 y h⟩
  · exact ⟨_, .tail _ (.tail _ (.tail _ (.tail _ (.tail _ (.tail _ (.head _)))))), tall_mem 1 inb_S8x256x1024_S1x256x1024_1_0_0 y h⟩
  · exact ⟨_, .tail _ (.tail _ (.tail _ (.tail _ (.tail _ (.head _))))), tall_mem 2 inb_S8x256x1024_S1x256x1024_2_0_0 y h⟩
  · exact ⟨_, .tail _ (.tail _ (.tail _ (.tail _ (.head _)))), tall_mem 3 inb_S8x256x1024_S1x256x1024_3_0_0 y h⟩
  · exact ⟨_, .tail _ (.tail _ (.tail _ (.head _))), tall_mem 4 inb_S8x256x1024_S1x256x1024_4_0_0 y h⟩
  · exact ⟨_, .tail _ (.tail _ (.head _)), tall_mem 5 inb_S8x256x1024_S1x256x1024_5_0_0 y h⟩
  · exact ⟨_, .tail _ (.head _), tall_mem 6 inb_S8x256x1024_S1x256x1024_6_0_0 y h⟩
  · exact ⟨_, .head _, tall_mem 7 inb_S8x256x1024_S1x256x1024_7_0_0 y h⟩

/-! ## One point -/

variable {T0 T1 : S68.Idx → BitVec 32} (hT : InRange T0 T1)
variable (m : (ℓ : Loc nD τ sig) → Buf (Elt Ideal) ℓ)

/-- What the three scratches read. -/
def gates {c : Dev nD} (a : Scratch c) : S8x1024x256.Idx → EReal := scM0_0.view.read (Elt Ideal) a.1
def ups {c : Dev nD} (a : Scratch c) : S8x1024x256.Idx → EReal := scM0_1.view.read (Elt Ideal) a.2.1
def downs {c : Dev nD} (a : Scratch c) : S8x256x1024.Idx → EReal := scM0_2.view.read (Elt Ideal) a.2.2

/-- Expert `e`'s slab of the group's weights. -/
def wideSlab (A : S8x1024x256.Idx → EReal) (e : Fin 8) : Vec Ideal S1x1024x256 .bf16 := fun y => A (ix3 e (y 1) (y 2))
def tallSlab (A : S8x256x1024.Idx → EReal) (e : Fin 8) : Vec Ideal S1x256x1024 .bf16 := fun y => A (ix3 e (y 1) (y 2))

/-- A tile's rows, and its routing record, in the block of both. -/
def rowsOf (X : S512x1152.Idx → EReal) : Vec Ideal S512x1024 .f32 := fun y => X (ix2 (y 0) ⟨(y 1).val, (y 1).isLt.trans (by decide)⟩)
def recordOf (X : S512x1152.Idx → EReal) : Vec Ideal S512x128 .f32 :=
  fun y => X (ix2 (y 0) ⟨1024 + (y 1).val, Nat.add_lt_add_left (y 1).isLt 1024⟩)

/-- A refresh leaves the point's blocks of weights. -/
theorem gates_fresh (c : Dev nD) (t : Fin (cfgT hT).N) (a : Scratch c) (r : Refresh T0 (pt hT t)) :
    gates (step hT m c t a).2 = blockOf hT m c (1 : Fin 5) t := by
  unfold step gates
  by_cases v : Live T1 (pt hT t)
  · rw [dif_pos r, dif_pos v]
    delta freshLive; unfold kernelRun0_A; dsimp only; sl_unfold_words
    exact (View.read_writes_junk_eq_canon _ _).trans (canon_gate (st1 hT t) _)
  · rw [dif_pos r, dif_neg v]
    delta freshDead; unfold kernelRun0_C; dsimp only; sl_unfold_words
    exact (View.read_writes_junk_eq_canon _ _).trans (canon_gate (st1 hT t) _)
theorem ups_fresh (c : Dev nD) (t : Fin (cfgT hT).N) (a : Scratch c) (r : Refresh T0 (pt hT t)) :
    ups (step hT m c t a).2 = blockOf hT m c (2 : Fin 5) t := by
  unfold step ups
  by_cases v : Live T1 (pt hT t)
  · rw [dif_pos r, dif_pos v]
    delta freshLive; unfold kernelRun0_A; dsimp only; sl_unfold_words
    exact (View.read_writes_junk_eq_canon _ _).trans (canon_up (st2 hT t) _)
  · rw [dif_pos r, dif_neg v]
    delta freshDead; unfold kernelRun0_C; dsimp only; sl_unfold_words
    exact (View.read_writes_junk_eq_canon _ _).trans (canon_up (st2 hT t) _)
theorem downs_fresh (c : Dev nD) (t : Fin (cfgT hT).N) (a : Scratch c) (r : Refresh T0 (pt hT t)) :
    downs (step hT m c t a).2 = blockOf hT m c (3 : Fin 5) t := by
  unfold step downs
  by_cases v : Live T1 (pt hT t)
  · rw [dif_pos r, dif_pos v]
    delta freshLive; unfold kernelRun0_A; dsimp only; sl_unfold_words
    exact (View.read_writes_junk_eq_canon _ _).trans (canon_down (st3 hT t) _)
  · rw [dif_pos r, dif_neg v]
    delta freshDead; unfold kernelRun0_C; dsimp only; sl_unfold_words
    exact (View.read_writes_junk_eq_canon _ _).trans (canon_down (st3 hT t) _)

/-- Where nothing is refreshed the scratches keep what they held. -/
theorem scratch_kept (c : Dev nD) (t : Fin (cfgT hT).N) (a : Scratch c) (r : ¬Refresh T0 (pt hT t)) : (step hT m c t a).2 = a := by
  unfold step
  by_cases v : Live T1 (pt hT t)
  · rw [dif_neg r, dif_pos v]; rfl
  · rw [dif_neg r, dif_neg v]; rfl

/-- A tile that is not live is zeroed. -/
theorem out_dead (c : Dev nD) (t : Fin (cfgT hT).N) (a : Scratch c) (v : ¬Live T1 (pt hT t)) :
    View.canon (step hT m c t a).1 = fun _ => (0 : EReal) := by
  have hz : (k0_pay3 (F := Ideal)) = fun _ => (0 : EReal) := by
    funext y; unfold k0_pay3; exact word_zero
  unfold step
  by_cases r : Refresh T0 (pt hT t)
  · rw [dif_pos r, dif_neg v]
    delta freshDead; unfold kernelRun0_C; dsimp only; sl_unfold_words
    exact (View.canon_cons_unit_lit (S := S512x1024) _ _ _ (fun a => by fin_cases a <;> rfl)).trans hz
  · rw [dif_neg r, dif_neg v]
    delta keptDead; unfold kernelRun0_D; dsimp only; sl_unfold_words
    exact (View.canon_cons_unit_lit (S := S512x1024) _ _ _ (fun a => by fin_cases a <;> rfl)).trans hz

/-- A slab loaded from weights is their slab. -/
theorem wide_load (X : S8x1024x256.Idx → EReal) (e : ℕ) (he : e < 8) (inb : ∀ a, (![e, 0, 0] : Fin 3 → ℕ) a + S1x1024x256.size a ≤ S8x1024x256.size a)
    (y : S1x1024x256.Idx) : X ((Rect.unit (s := S8x1024x256) ![e, 0, 0] S1x1024x256.size inb).toLoadRect.idx y) = wideSlab X ⟨e, he⟩ y := by
  have h0 : (y 0).val < 1 := (y 0).isLt
  refine View.ld_unit_apply_of (Val := Elt Ideal) (e := .f32) X ![e, 0, 0] S1x1024x256.size inb y (ix3 ⟨e, he⟩ (y 1) (y 2)) fun a => ?_
  fin_cases a
  · show e = e + (y 0).val; omega
  · exact (Nat.zero_add _).symm
  · exact (Nat.zero_add _).symm
theorem tall_load (X : S8x256x1024.Idx → EReal) (e : ℕ) (he : e < 8) (inb : ∀ a, (![e, 0, 0] : Fin 3 → ℕ) a + S1x256x1024.size a ≤ S8x256x1024.size a)
    (y : S1x256x1024.Idx) : X ((Rect.unit (s := S8x256x1024) ![e, 0, 0] S1x256x1024.size inb).toLoadRect.idx y) = tallSlab X ⟨e, he⟩ y := by
  have h0 : (y 0).val < 1 := (y 0).isLt
  refine View.ld_unit_apply_of (Val := Elt Ideal) (e := .f32) X ![e, 0, 0] S1x256x1024.size inb y (ix3 ⟨e, he⟩ (y 1) (y 2)) fun a => ?_
  fin_cases a
  · show e = e + (y 0).val; omega
  · exact (Nat.zero_add _).symm
  · exact (Nat.zero_add _).symm

/-- The rows and the record, loaded from the tile's block. -/
theorem rows_load (M : Memref sig .tc .vmem S512x1152 .f32) (X : S512x1152.Idx → Elt Ideal .f32) :
    View.readAt (Elt Ideal) M.view (Rect.unit (s := S512x1152) ![0, 0] S512x1024.size inb_S512x1152_S512x1024_0_0).toLoadRect (M.view.rep X) = rowsOf X := by
  refine (View.readAt_rep _ _ _).trans (funext fun y => ?_)
  refine View.ld_unit_apply_of (Val := Elt Ideal) (e := .f32) X ![0, 0] S512x1024.size inb_S512x1152_S512x1024_0_0 y _ fun a => ?_
  fin_cases a
  · exact (Nat.zero_add _).symm
  · exact (Nat.zero_add _).symm
theorem record_load (M : Memref sig .tc .vmem S512x1152 .f32) (X : S512x1152.Idx → Elt Ideal .f32) :
    View.readAt (Elt Ideal) M.view (Rect.unit (s := S512x1152) ![0, 1024] S512x128.size inb_S512x1152_S512x128_0_1024).toLoadRect (M.view.rep X) = recordOf X := by
  refine (View.readAt_rep _ _ _).trans (funext fun y => ?_)
  refine View.ld_unit_apply_of (Val := Elt Ideal) (e := .f32) X ![0, 1024] S512x128.size inb_S512x1152_S512x128_0_1024 y _ fun a => ?_
  fin_cases a
  · exact (Nat.zero_add _).symm
  · rfl

/-- Slabs loaded after the refresh's stores. -/
theorem gate_loaded (V : Memref sig .tc .vmem S8x1024x256 .bf16) (M : Memref sig .tc .vmem S8x1024x256 .f32) (X : S8x1024x256.Idx → Elt Ideal .f32) (e : ℕ) (he : e < 8)
    (inb : ∀ a, (![e, 0, 0] : Fin 3 → ℕ) a + S1x1024x256.size a ≤ S8x1024x256.size a) :
    V.view.readCov (gatePieces M X) (Rect.unit (s := S8x1024x256) ![e, 0, 0] S1x1024x256.size inb).toLoadRect = wideSlab X ⟨e, he⟩ := by
  rw [View.readCov_eq_canon', canon_gate]
  exact funext fun y => wide_load X e he inb y
theorem up_loaded (V : Memref sig .tc .vmem S8x1024x256 .bf16) (M : Memref sig .tc .vmem S8x1024x256 .f32) (X : S8x1024x256.Idx → Elt Ideal .f32) (e : ℕ) (he : e < 8)
    (inb : ∀ a, (![e, 0, 0] : Fin 3 → ℕ) a + S1x1024x256.size a ≤ S8x1024x256.size a) :
    V.view.readCov (upPieces M X) (Rect.unit (s := S8x1024x256) ![e, 0, 0] S1x1024x256.size inb).toLoadRect = wideSlab X ⟨e, he⟩ := by
  rw [View.readCov_eq_canon', canon_up]
  exact funext fun y => wide_load X e he inb y
theorem down_loaded (V : Memref sig .tc .vmem S8x256x1024 .bf16) (M : Memref sig .tc .vmem S8x256x1024 .f32) (X : S8x256x1024.Idx → Elt Ideal .f32) (e : ℕ) (he : e < 8)
    (inb : ∀ a, (![e, 0, 0] : Fin 3 → ℕ) a + S1x256x1024.size a ≤ S8x256x1024.size a) :
    V.view.readCov (downPieces M X) (Rect.unit (s := S8x256x1024) ![e, 0, 0] S1x256x1024.size inb).toLoadRect = tallSlab X ⟨e, he⟩ := by
  rw [View.readCov_eq_canon', canon_down]
  exact funext fun y => tall_load X e he inb y

/-- Tiles of equal parts are equal. -/
theorem tile_congr {g : BitVec 32} {x x' : Vec Ideal S512x1024 .f32} {rec rec' : Vec Ideal S512x128 .f32}
    {wg wg' wu wu' : Fin 8 → Vec Ideal S1x1024x256 .bf16} {wd wd' : Fin 8 → Vec Ideal S1x256x1024 .bf16}
    (hx : x = x') (hr : rec = rec') (hg : ∀ e, wg e = wg' e) (hu : ∀ e, wu e = wu' e) (hd : ∀ e, wd e = wd' e) :
    tile g x rec wg wu wd = tile g x' rec' wg' wu' wd' := by
  rw [hx, hr, funext hg, funext hu, funext hd]

/-- The payloads, of parts that are a tile's, are the tile. -/
theorem payload_tile (g : BitVec 32) (x : Vec Ideal S512x1024 .f32) (rec : Vec Ideal S512x128 .f32)
    (g0 g1 g2 g3 g4 g5 g6 g7 u0 u1 u2 u3 u4 u5 u6 u7 : Vec Ideal S1x1024x256 .bf16) (d0 d1 d2 d3 d4 d5 d6 d7 : Vec Ideal S1x256x1024 .bf16)
    (x' : Vec Ideal S512x1024 .f32) (rec' : Vec Ideal S512x128 .f32) (wg wu : Fin 8 → Vec Ideal S1x1024x256 .bf16) (wd : Fin 8 → Vec Ideal S1x256x1024 .bf16)
    (x_eq : x = x') (rec_eq : rec = rec')
    (g0_eq : g0 = wg 0) (g1_eq : g1 = wg 1) (g2_eq : g2 = wg 2) (g3_eq : g3 = wg 3) (g4_eq : g4 = wg 4) (g5_eq : g5 = wg 5) (g6_eq : g6 = wg 6) (g7_eq : g7 = wg 7)
    (u0_eq : u0 = wu 0) (u1_eq : u1 = wu 1) (u2_eq : u2 = wu 2) (u3_eq : u3 = wu 3) (u4_eq : u4 = wu 4) (u5_eq : u5 = wu 5) (u6_eq : u6 = wu 6) (u7_eq : u7 = wu 7)
    (d0_eq : d0 = wd 0) (d1_eq : d1 = wd 1) (d2_eq : d2 = wd 2) (d3_eq : d3 = wd 3) (d4_eq : d4 = wd 4) (d5_eq : d5 = wd 5) (d6_eq : d6 = wd 6) (d7_eq : d7 = wd 7) :
    k0_pay2 (F := Ideal)
      (k0_pay44 (k0_pay30 x)
        (k0_pay41 (k0_pay30 x)
          (k0_pay39 (Scalar.muli g 8#32) (k0_pay30 x) rec (iota Kind.tc S512x128 32 [1] iota_S512x128_d1_w32)
            (k0_pay37 (k0_pay30 x)
              (k0_pay33 (k0_pay30 x) rec (k0_pay31 g x rec g0 u0 d0) (k0_pay32 (F := Ideal) g) (FloatOps.ofBits FTy.f32 0#32) g1 u1 d1)
              (k0_pay34 (Scalar.muli g 8#32) rec (iota Kind.tc S512x128 32 [1] iota_S512x128_d1_w32))
              (k0_pay35 (k0_pay30 x) g2) (k0_pay36 (k0_pay30 x) g2) u2 d2)
            (k0_pay38 (Scalar.muli g 8#32) (k0_pay30 x) rec (iota Kind.tc S512x128 32 [1] iota_S512x128_d1_w32) g3 u3)
            d3 g4 u4 d4)
          (k0_pay40 (Scalar.muli g 8#32) rec (iota Kind.tc S512x128 32 [1] iota_S512x128_d1_w32))
          g5 u5 d5)
        (k0_pay42 (Scalar.muli g 8#32) rec (iota Kind.tc S512x128 32 [1] iota_S512x128_d1_w32))
        (k0_pay43 (k0_pay30 x) g6) u6 d6)
      (k0_pay45 (Scalar.muli g 8#32) (k0_pay30 x) rec (iota Kind.tc S512x128 32 [1] iota_S512x128_d1_w32) g7 u7)
      (k0_pay46 d7)
    = tile g x' rec' wg wu wd := by
  subst g0_eq g1_eq g2_eq g3_eq g4_eq g5_eq g6_eq g7_eq u0_eq u1_eq u2_eq u3_eq u4_eq u5_eq u6_eq u7_eq d0_eq d1_eq d2_eq d3_eq d4_eq d5_eq d6_eq d7_eq x_eq rec_eq
  exact payload_eq g x rec (wg 0) (wg 1) (wg 2) (wg 3) (wg 4) (wg 5) (wg 6) (wg 7) (wu 0) (wu 1) (wu 2) (wu 3) (wu 4) (wu 5) (wu 6) (wu 7) (wd 0) (wd 1) (wd 2) (wd 3) (wd 4) (wd 5) (wd 6) (wd 7)

set_option maxHeartbeats 2000000 in
/-- A live tile that refreshes is computed from the refreshed weights. -/
theorem out_fresh (c : Dev nD) (t : Fin (cfgT hT).N) (a : Scratch c) (r : Refresh T0 (pt hT t)) (v : Live T1 (pt hT t)) :
    View.canon (step hT m c t a).1 = tile (groupAt T0 (pt hT t)) (rowsOf (blockOf hT m c (0 : Fin 5) t)) (recordOf (blockOf hT m c (0 : Fin 5) t))
      (wideSlab (blockOf hT m c (1 : Fin 5) t)) (wideSlab (blockOf hT m c (2 : Fin 5) t)) (tallSlab (blockOf hT m c (3 : Fin 5) t)) := by
  unfold step
  rw [dif_pos r, dif_pos v]
  delta freshLive; unfold kernelRun0_A; dsimp only; sl_unfold_words
  refine (View.canon_cons_unit_lit (S := S512x1024) _ _ _ (fun a => by fin_cases a <;> rfl)).trans ?_
  exact payload_tile _ _ _ _ _ _ _ _ _ _ _ _ _ _ _ _ _ _ _ _ _ _ _ _ _ _ _ _ _ _ _ _ (rows_load (st0 hT t) _) (record_load (st0 hT t) _)
    (gate_loaded scM0_0 (st1 hT t) _ 0 (by decide) _)
    (gate_loaded scM0_0 (st1 hT t) _ 1 (by decide) _)
    (gate_loaded scM0_0 (st1 hT t) _ 2 (by decide) _)
    (gate_loaded scM0_0 (st1 hT t) _ 3 (by decide) _)
    (gate_loaded scM0_0 (st1 hT t) _ 4 (by decide) _)
    (gate_loaded scM0_0 (st1 hT t) _ 5 (by decide) _)
    (gate_loaded scM0_0 (st1 hT t) _ 6 (by decide) _)
    (gate_loaded scM0_0 (st1 hT t) _ 7 (by decide) _)
    (up_loaded scM0_1 (st2 hT t) _ 0 (by decide) _)
    (up_loaded scM0_1 (st2 hT t) _ 1 (by decide) _)
    (up_loaded scM0_1 (st2 hT t) _ 2 (by decide) _)
    (up_loaded scM0_1 (st2 hT t) _ 3 (by decide) _)
    (up_loaded scM0_1 (st2 hT t) _ 4 (by decide) _)
    (up_loaded scM0_1 (st2 hT t) _ 5 (by decide) _)
    (up_loaded scM0_1 (st2 hT t) _ 6 (by decide) _)
    (up_loaded scM0_1 (st2 hT t) _ 7 (by decide) _)
    (down_loaded scM0_2 (st3 hT t) _ 0 (by decide) _)
    (down_loaded scM0_2 (st3 hT t) _ 1 (by decide) _)
    (down_loaded scM0_2 (st3 hT t) _ 2 (by decide) _)
    (down_loaded scM0_2 (st3 hT t) _ 3 (by decide) _)
    (down_loaded scM0_2 (st3 hT t) _ 4 (by decide) _)
    (down_loaded scM0_2 (st3 hT t) _ 5 (by decide) _)
    (down_loaded scM0_2 (st3 hT t) _ 6 (by decide) _)
    (down_loaded scM0_2 (st3 hT t) _ 7 (by decide) _)

set_option maxHeartbeats 2000000 in
/-- A live tile that keeps the scratches is computed from what they hold. -/
theorem out_kept (c : Dev nD) (t : Fin (cfgT hT).N) (a : Scratch c) (r : ¬Refresh T0 (pt hT t)) (v : Live T1 (pt hT t)) :
    View.canon (step hT m c t a).1 = tile (groupAt T0 (pt hT t)) (rowsOf (blockOf hT m c (0 : Fin 5) t)) (recordOf (blockOf hT m c (0 : Fin 5) t))
      (wideSlab (gates a)) (wideSlab (ups a)) (tallSlab (downs a)) := by
  unfold step
  rw [dif_neg r, dif_pos v]
  delta keptLive; unfold kernelRun0_B; dsimp only; sl_unfold_words
  refine (View.canon_cons_unit_lit (S := S512x1024) _ _ _ (fun a => by fin_cases a <;> rfl)).trans ?_
  refine (payload_eq _ _ _ _ _ _ _ _ _ _ _ _ _ _ _ _ _ _ _ _ _ _ _ _ _ _ _).trans ?_
  refine tile_congr (rows_load (st0 hT t) _) (record_load (st0 hT t) _) (fun e => ?_) (fun e => ?_) (fun e => ?_)
  · fin_cases e <;> exact funext fun y => wide_load (gates a) _ _ _ y
  · fin_cases e <;> exact funext fun y => wide_load (ups a) _ _ _ y
  · fin_cases e <;> exact funext fun y => tall_load (downs a) _ _ _ y

end Cert.MoeIdeal.AnyTables

end
-- ==== Proof.MoeArray.lean ====
/- What the call's result array holds: every row's tile is computed from the row, its routing record and the weights of the
   eight experts of its tile's group, which the scratches hold at that tile whichever tile before it last refreshed them. -/
module

public import proofs.«01_k».proof.Proof.MoeSteps

@[expose] public section

set_option maxRecDepth 16384

noncomputable section

namespace Cert.MoeIdeal.AnyTables

open Cert.MoeIdeal Cert.MoeIdeal.Gen Cert.MoeIdeal.Tile
open Idealize.ShloMosaic Idealize.ShloMosaic.TcCoe Idealize.ShloMosaic.Tactic Idealize.SL.Sem
open Idealize.ShloMosaic.Pipeline (Dat Cfg Window)

variable {T0 T1 : S68.Idx → BitVec 32} (hT : InRange T0 T1)
variable (m : (ℓ : Loc nD τ sig) → Buf (Elt Ideal) ℓ) (ρ : Dev nD → PrngReg)

/-! ## The tables at a tile -/

/-- The tile of a grid point. -/
def tileOf (t : Fin (cfgT hT).N) : Fin 68 := ⟨t.val, t.isLt⟩

/-- A word loaded from a table is the table's entry at the offset. -/
theorem load_word (T : S68.Idx → BitVec 32) (off : Fin 1 → ℕ) (inb : ∀ a, off a + S1.size a ≤ S68.size a) (x : S1.Idx) (i : Fin 68) (h : off 0 = i.val) :
    T ((Rect.unit (s := S68) off S1.size inb).toLoadRect.idx x) = T (ix1 i) := by
  have hx : (x 0).val < 1 := (x 0).isLt
  refine View.ld_unit_apply_of (Val := fun _ => BitVec 32) (e := .i32) T off S1.size inb x (ix1 i) fun a => ?_
  obtain rfl : a = 0 := Subsingleton.elim _ _
  show i.val = off 0 + (x 0).val
  omega

theorem off1_eq : ∀ t : Fin grid0.N, k0_off1 (grid0.coords t) 0 = t.val := by decide +kernel
theorem off2_eq : ∀ t : Fin grid0.N, 0 < t.val → k0_off2 (grid0.coords t) 0 = t.val - 1 := by decide +kernel
theorem off3_eq : ∀ t : Fin grid0.N, k0_off3 (grid0.coords t) 0 = t.val := by decide +kernel

/-- The group the body reads is its tile's, -/
theorem groupAt_eq (t : Fin (cfgT hT).N) : groupAt T0 (pt hT t) = T0 (ix1 (tileOf hT t)) :=
  load_word T0 _ _ _ (tileOf hT t) (off1_eq t)
/-- the one it compares with is the tile before's, -/
theorem groupBefore_eq (t : Fin (cfgT hT).N) (h : 0 < t.val) : groupBefore T0 (pt hT t) = T0 (ix1 ⟨t.val - 1, by have : t.val < 68 := t.isLt; omega⟩) :=
  load_word T0 _ _ _ ⟨t.val - 1, by have : t.val < 68 := t.isLt; omega⟩ (off2_eq t h)
/-- and the flag it reads is its tile's. -/
theorem flagAt_eq (t : Fin (cfgT hT).N) : flagAt T1 (pt hT t) = T1 (ix1 (tileOf hT t)) :=
  load_word T1 _ _ _ (tileOf hT t) (off3_eq t)

/-- A tile is live when its flag is one. -/
theorem live_iff (t : Fin (cfgT hT).N) : Live T1 (pt hT t) ↔ T1 (ix1 (tileOf hT t)) = 1#32 := by
  unfold Live
  rw [flagAt_eq]
  rcases (hT (ix1 (tileOf hT t))).2 with h | h <;> rw [h] <;> decide

/-- Where nothing is refreshed, the tile before has the same group. -/
theorem same_group (t : Fin (cfgT hT).N) (r : ¬Refresh T0 (pt hT t)) (h : 0 < t.val) :
    T0 (ix1 (tileOf hT t)) = T0 (ix1 ⟨t.val - 1, by have : t.val < 68 := t.isLt; omega⟩) := by
  rw [← groupAt_eq hT t, ← groupBefore_eq hT t h]
  by_contra hne
  refine r ?_
  have aux : ∀ b : BitVec 1, Scalar.cmpi .ne (Scalar.extui (Scalar.ori b 1#1)) 0#32 = 1#1 := by decide
  unfold Refresh
  rw [show Scalar.cmpi .ne (groupAt T0 (pt hT t)) (groupBefore T0 (pt hT t)) = 1#1 from IntOp.cmpi_ne.2 hne]
  exact aux _

/-! ## The blocks -/

/-- Expert `e` of group `g`. -/
def expertOf (g : ℕ) (e : Fin 8) : Fin 32 := ⟨(8 * g + e.val) % 32, Nat.mod_lt _ (by decide)⟩
theorem expertOf_val {g : ℕ} (hg : g < 4) (e : Fin 8) : (expertOf g e).val = 8 * g + e.val := Nat.mod_eq_of_lt (by omega)

theorem index_rows (t : Fin (cfgT hT).N) : ((cfgT hT).win (0 : Fin 5)).index t = ![t.val, 0] := by
  have aux : ∀ t : Fin grid0.N, cc0_transform_0 (grid0.coords t) = ![t.val, 0] := by decide +kernel
  exact aux t
theorem index_out (t : Fin (cfgT hT).N) : ((cfgT hT).win (4 : Fin 5)).index t = ![t.val, 0] := by
  have aux : ∀ t : Fin grid0.N, cc0_transform_4 (grid0.coords t) = ![t.val, 0] := by decide +kernel
  exact aux t
theorem index_gate (t : Fin (cfgT hT).N) : ((cfgT hT).win (1 : Fin 5)).index t = ![(T0 (ix1 (tileOf hT t))).toNat, 0, 0] := by
  rw [← groupAt_eq hT t]; rfl
theorem index_up (t : Fin (cfgT hT).N) : ((cfgT hT).win (2 : Fin 5)).index t = ![(T0 (ix1 (tileOf hT t))).toNat, 0, 0] := by
  rw [← groupAt_eq hT t]; rfl
theorem index_down (t : Fin (cfgT hT).N) : ((cfgT hT).win (3 : Fin 5)).index t = ![(T0 (ix1 (tileOf hT t))).toNat, 0, 0] := by
  rw [← groupAt_eq hT t]; rfl

/-- A row of a tile, in the whole array. -/
def rowOf (t : Fin (cfgT hT).N) (r : Fin 512) : Fin 34816 := ⟨t.val * 512 + r.val, by have : t.val < 68 := t.isLt; omega⟩

/-- The launch memory's arrays. -/
abbrev arrX (c : Dev nD) : S34816x1152.Idx → EReal := m ((c : Thread nD τ).loc main_arg0)
abbrev arrG (c : Dev nD) : S32x1024x256.Idx → EReal := m ((c : Thread nD τ).loc main_arg3)
abbrev arrU (c : Dev nD) : S32x1024x256.Idx → EReal := m ((c : Thread nD τ).loc main_arg4)
abbrev arrD (c : Dev nD) : S32x256x1024.Idx → EReal := m ((c : Thread nD τ).loc main_arg5)

theorem block_rows (c : Dev nD) (t : Fin (cfgT hT).N) (r : Fin 512) (l : Fin 1152) :
    blockOf hT m c (0 : Fin 5) t (ix2 r l) = arrX m c (ix2 (rowOf hT t r) l) := by
  unfold blockOf
  refine congrArg (arrX m c) ?_
  blk_ext [index_rows hT t]
  all_goals rfl

theorem block_gate (c : Dev nD) (t : Fin (cfgT hT).N) (e : Fin 8) (k : Fin 1024) (f : Fin 256) :
    blockOf hT m c (1 : Fin 5) t (ix3 e k f) = arrG m c (ix3 (expertOf (T0 (ix1 (tileOf hT t))).toNat e) k f) := by
  unfold blockOf
  refine congrArg (arrG m c) ?_
  have hv := expertOf_val (hT (ix1 (tileOf hT t))).1 e
  blk_ext [index_gate hT t]
  all_goals first | rfl | (rw [hv]; omega) | omega

theorem block_up (c : Dev nD) (t : Fin (cfgT hT).N) (e : Fin 8) (k : Fin 1024) (f : Fin 256) :
    blockOf hT m c (2 : Fin 5) t (ix3 e k f) = arrU m c (ix3 (expertOf (T0 (ix1 (tileOf hT t))).toNat e) k f) := by
  unfold blockOf
  refine congrArg (arrU m c) ?_
  have hv := expertOf_val (hT (ix1 (tileOf hT t))).1 e
  blk_ext [index_up hT t]
  all_goals first | rfl | (rw [hv]; omega) | omega

theorem block_down (c : Dev nD) (t : Fin (cfgT hT).N) (e : Fin 8) (f : Fin 256) (d : Fin 1024) :
    blockOf hT m c (3 : Fin 5) t (ix3 e f d) = arrD m c (ix3 (expertOf (T0 (ix1 (tileOf hT t))).toNat e) f d) := by
  unfold blockOf
  refine congrArg (arrD m c) ?_
  have hv := expertOf_val (hT (ix1 (tileOf hT t))).1 e
  blk_ext [index_down hT t]
  all_goals first | rfl | (rw [hv]; omega) | omega

/-! ## The scratches at a tile -/

/-- A group's weights. -/
def wideGroup (A : S32x1024x256.Idx → EReal) (g : BitVec 32) : S8x1024x256.Idx → EReal := fun y => A (ix3 (expertOf g.toNat (y 0)) (y 1) (y 2))
def tallGroup (A : S32x256x1024.Idx → EReal) (g : BitVec 32) : S8x256x1024.Idx → EReal := fun y => A (ix3 (expertOf g.toNat (y 0)) (y 1) (y 2))

/-- After a tile the scratches hold the weights of its group, refreshed there or kept from the tile before. -/
theorem held_weights (c : Dev nD) (n : ℕ) (hn : n < (cfgT hT).N) :
    gates (held hT m c (n + 1)) = wideGroup (arrG m c) (T0 (ix1 ⟨n, hn⟩))
    ∧ ups (held hT m c (n + 1)) = wideGroup (arrU m c) (T0 (ix1 ⟨n, hn⟩))
    ∧ downs (held hT m c (n + 1)) = tallGroup (arrD m c) (T0 (ix1 ⟨n, hn⟩)) := by
  induction n with
  | zero =>
    have r : Refresh T0 (pt hT ⟨0, hn⟩) := refresh_first _ (pt_val hT ⟨0, hn⟩)
    rw [held_succ hT m c ⟨0, hn⟩]
    refine ⟨(gates_fresh hT m c _ _ r).trans (funext fun y => ?_), (ups_fresh hT m c _ _ r).trans (funext fun y => ?_), (downs_fresh hT m c _ _ r).trans (funext fun y => ?_)⟩
    · rw [eq_ix3 y]; exact block_gate hT m c ⟨0, hn⟩ _ _ _
    · rw [eq_ix3 y]; exact block_up hT m c ⟨0, hn⟩ _ _ _
    · rw [eq_ix3 y]; exact block_down hT m c ⟨0, hn⟩ _ _ _
  | succ k ih =>
    rw [held_succ hT m c ⟨k + 1, hn⟩]
    by_cases r : Refresh T0 (pt hT ⟨k + 1, hn⟩)
    · refine ⟨(gates_fresh hT m c _ _ r).trans (funext fun y => ?_), (ups_fresh hT m c _ _ r).trans (funext fun y => ?_), (downs_fresh hT m c _ _ r).trans (funext fun y => ?_)⟩
      · rw [eq_ix3 y]; exact block_gate hT m c ⟨k + 1, hn⟩ _ _ _
      · rw [eq_ix3 y]; exact block_up hT m c ⟨k + 1, hn⟩ _ _ _
      · rw [eq_ix3 y]; exact block_down hT m c ⟨k + 1, hn⟩ _ _ _
    · rw [scratch_kept hT m c _ _ r]
      have hs : T0 (ix1 ⟨k + 1, hn⟩) = T0 (ix1 ⟨k, Nat.lt_of_succ_lt hn⟩) := same_group hT ⟨k + 1, hn⟩ r (Nat.succ_pos k)
      rw [hs]
      exact ih (Nat.lt_of_succ_lt hn)

/-- A live tile is computed from the weights its scratches hold after it. -/
theorem out_live (c : Dev nD) (t : Fin (cfgT hT).N) (a : Scratch c) (v : Live T1 (pt hT t)) :
    View.canon (step hT m c t a).1 = tile (groupAt T0 (pt hT t)) (rowsOf (blockOf hT m c (0 : Fin 5) t)) (recordOf (blockOf hT m c (0 : Fin 5) t))
      (wideSlab (gates (step hT m c t a).2)) (wideSlab (ups (step hT m c t a).2)) (tallSlab (downs (step hT m c t a).2)) := by
  by_cases r : Refresh T0 (pt hT t)
  · rw [gates_fresh hT m c t a r, ups_fresh hT m c t a r, downs_fresh hT m c t a r]; exact out_fresh hT m c t a r v
  · rw [scratch_kept hT m c t a r]; exact out_kept hT m c t a r v

/-- What a tile's output block holds. -/
theorem result_at (c : Dev nD) (t : Fin (cfgT hT).N) (r : Fin 512) (d : Fin 1024) :
    result hT m c t (ix2 r d) = (if T1 (ix1 (tileOf hT t)) = 1#32 then
      tileSum (fun k => arrX m c (ix2 (rowOf hT t r) ⟨k.val, by omega⟩))
        (fun e => arrX m c (ix2 (rowOf hT t r) ⟨1024 + (expertOf (T0 (ix1 (tileOf hT t))).toNat e).val, by omega⟩))
        (fun e k f => arrG m c (ix3 (expertOf (T0 (ix1 (tileOf hT t))).toNat e) k f))
        (fun e k f => arrU m c (ix3 (expertOf (T0 (ix1 (tileOf hT t))).toNat e) k f))
        (fun e f => arrD m c (ix3 (expertOf (T0 (ix1 (tileOf hT t))).toNat e) f d)) else 0 : EReal) := by
  unfold result
  rw [View.read_writes_junk_eq_canon]
  by_cases v : Live T1 (pt hT t)
  · rw [if_pos ((live_iff hT t).1 v), out_live hT m c t _ v, ← held_succ]
    obtain ⟨hg, hu, hd⟩ := held_weights hT m c t.val t.isLt
    rw [hg, hu, hd, groupAt_eq, tile_at _ (hT _).1]
    have hrec : ∀ e : Fin 8, recordOf (blockOf hT m c (0 : Fin 5) t) (ix2 r ⟨8 * (T0 (ix1 (tileOf hT t))).toNat + e.val, by have := (hT (ix1 (tileOf hT t))).1; omega⟩)
        = arrX m c (ix2 (rowOf hT t r) ⟨1024 + (expertOf (T0 (ix1 (tileOf hT t))).toNat e).val, by omega⟩) := by
      intro e
      refine (block_rows hT m c t r _).trans (congrArg (fun l => arrX m c (ix2 (rowOf hT t r) l)) (Fin.ext ?_))
      show 1024 + (8 * (T0 (ix1 (tileOf hT t))).toNat + e.val) = 1024 + (expertOf (T0 (ix1 (tileOf hT t))).toNat e).val
      rw [expertOf_val (hT _).1]
    rw [funext hrec]
    have hx : ∀ k : Fin 1024, rowsOf (blockOf hT m c (0 : Fin 5) t) (ix2 r k) = arrX m c (ix2 (rowOf hT t r) ⟨k.val, by omega⟩) :=
      fun k => block_rows hT m c t r _
    rw [funext hx]
    rfl
  · rw [if_neg fun h => v ((live_iff hT t).2 h), out_dead hT m c t _ v]

/-! ## The array -/

/-- A row's result at a column, its tile being `t`: the tile's eight experts where the tile is live, and zero where it is not. -/
def moeRow (T0 T1 : S68.Idx → BitVec 32) (X : S34816x1152.Idx → EReal) (G U : S32x1024x256.Idx → EReal) (D : S32x256x1024.Idx → EReal) (t : Fin 68) (R : Fin 34816) (d : Fin 1024) : EReal :=
  if T1 (ix1 t) = 1#32 then
    tileSum (fun k => X (ix2 R ⟨k.val, by omega⟩))
      (fun e => X (ix2 R ⟨1024 + (expertOf (T0 (ix1 t)).toNat e).val, by omega⟩))
      (fun e k f => G (ix3 (expertOf (T0 (ix1 t)).toNat e) k f))
      (fun e k f => U (ix3 (expertOf (T0 (ix1 t)).toNat e) k f))
      (fun e f => D (ix3 (expertOf (T0 (ix1 t)).toNat e) f d)) else 0

/-- The experts' result at a row and column. -/
def moeArray (T0 T1 : S68.Idx → BitVec 32) (X : S34816x1152.Idx → EReal) (G U : S32x1024x256.Idx → EReal) (D : S32x256x1024.Idx → EReal) (R : Fin 34816) (d : Fin 1024) : EReal :=
  moeRow T0 T1 X G U D ⟨R.val / 512, by omega⟩ R d

/-- After the run the result array holds the experts' result. -/
theorem array_eq (c : Dev nD) : (dats hT m ρ 0 c).arrAt (4 : Fin 5) (cfgT hT).N
    = fun z : S34816x1024.Idx => moeArray T0 T1 (arrX m c) (arrG m c) (arrU m c) (arrD m c) (z 0) (z 1) := by
  refine (dats hT m ρ 0 c).arrAt_eq_of_emb (4 : Fin 5) _ (fun t hf y => ?_) fun i => ?_
  · obtain ⟨r, d, rfl⟩ : ∃ (r : Fin 512) (d : Fin 1024), y = ix2 r d := ⟨y 0, y 1, eq_ix2 y⟩
    have hz : (((cfgT hT).win (4 : Fin 5)).blk t).view.emb (ix2 r d : S512x1024.Idx) = (ix2 (rowOf hT t r) d : S34816x1024.Idx) := by
      blk_ext [index_out hT t]
      all_goals rfl
    rw [hz]
    refine Eq.trans (b := result hT m c t (ix2 r d)) ?_ ((result_at hT m c t r d).trans ?_)
    · rw [after_4]; rfl
    · have ht : (⟨(rowOf hT t r).val / 512, by omega⟩ : Fin 68) = tileOf hT t :=
        Fin.ext (by show (t.val * 512 + r.val) / 512 = t.val; omega)
      show _ = moeArray T0 T1 (arrX m c) (arrG m c) (arrU m c) (arrD m c) (rowOf hT t r) d
      unfold moeArray
      rw [ht]
      rfl
  · have hi : (i 0).val < 34816 := (i 0).isLt
    have hj : (i 1).val < 1024 := (i 1).isLt
    let t : Fin (cfgT hT).N := ⟨(i 0).val / 512, by show _ < 68; omega⟩
    refine ⟨t, written_back hT t, ?_⟩
    mem_blk [index_out hT t]
    refine ⟨⟨?_, ?_⟩, ⟨?_, ?_⟩⟩
    · show (i 0).val / 512 * 512 ≤ (i 0).val; omega
    · show (i 0).val < (i 0).val / 512 * 512 + 512; omega
    · show 0 ≤ (i 1).val; omega
    · show (i 1).val < 1024; omega

end Cert.MoeIdeal.AnyTables

end
-- ==== Proof.MoeRef.lean ====
/- What the plain reference of the routed experts computes at one row and column: every expert's output, weighted by the row's
   routing record where the expert is in the row's group and the row's tile is live, and by zero elsewhere, summed. -/
module

public import proofs.«01_k».proof.Proof.Gen.MoeRefIdeal.Run
public import Idealize.ShloMosaic.Lib.Pointwise

@[expose] public section

set_option maxRecDepth 16384

noncomputable section

namespace Cert.MoeRefIdeal.Value

open Cert.MoeRefIdeal Cert.MoeRefIdeal.Gen Idealize.ShloMosaic Idealize.ShloMosaic.TcCoe Idealize.SL.Sem

/-! ## The reference's stages, each a function of the stage before -/

/-- The group of each expert. -/
def groupOfExpert : IVec S1x32 32 :=
  select (andi (cmpi .ne (signi (broadcastInDim S1x32 ![1] bcast_S32_S1x32_1 (iotaInDim S32 32 0))) (broadcastInDim S1x32 ![] bcast_S_S1x32 (signi (id (constantI S_ 32 8#32))))) (cmpi .ne (Host.remsi (broadcastInDim S1x32 ![1] bcast_S32_S1x32_1 (iotaInDim S32 32 0)) (broadcastInDim S1x32 ![] bcast_S_S1x32 (id (constantI S_ 32 8#32)))) (broadcastInDim S1x32 ![] bcast_S_S1x32 (constantI S_ 32 0#32)))) (subi (Host.divsi (broadcastInDim S1x32 ![1] bcast_S32_S1x32_1 (iotaInDim S32 32 0)) (broadcastInDim S1x32 ![] bcast_S_S1x32 (id (constantI S_ 32 8#32)))) (broadcastInDim S1x32 ![] bcast_S_S1x32 (constantI S_ 32 1#32))) (Host.divsi (broadcastInDim S1x32 ![1] bcast_S32_S1x32_1 (iotaInDim S32 32 0)) (broadcastInDim S1x32 ![] bcast_S_S1x32 (id (constantI S_ 32 8#32))))

/-- A table's entry for every row. -/
def perRow (T : IVec S68 32) : IVec S34816x1 32 :=
  broadcastInDim S34816x1 ![0] bcast_S34816_S34816x1_0 (shapeCast _ (broadcastInDim S68x512 ![0, 1] bcast_S68x1_S68x512_0_1 (broadcastInDim S68x1 ![0] bcast_S68_S68x1_0 T)) shapeCasts_S68x512_S34816)

/-- Which experts a row takes. -/
def taken (G : IVec S1x32 32) (g v : IVec S34816x1 32) : IVec S34816x32 1 :=
  andi (cmpi .eq (broadcastInDim S34816x32 ![0, 1] bcast_S1x32_S34816x32_0_1 G) (broadcastInDim S34816x32 ![0, 1] bcast_S34816x1_S34816x32_0_1 g))
    (broadcastInDim S34816x32 ![0, 1] bcast_S34816x1_S34816x32_0_1 (cmpi .sgt v (broadcastInDim S34816x1 ![] bcast_S_S34816x1 (constantI S_ 32 0#32))))

/-- The shares: the record's entries of the experts taken, zero elsewhere. -/
def shares (k : IVec S34816x32 1) (X : FVec Ideal S34816x1152 .f32) : FVec Ideal S34816x32 .f32 :=
  select k (extractStridedSlice S34816x32 ![0, 1024] X slices_S34816x1152_S34816x32_0_1024) (broadcastInDim S34816x32 ![] bcast_S_S34816x32 (id (constant S_ .f32 0x00000000#32)))

/-- Every row through one of the experts' two wide matrices. -/
def wide (W : FVec Ideal S32x1024x256 .f32) (X : FVec Ideal S34816x1152 .f32) : FVec Ideal S32x34816x256 .f32 :=
  transpose S32x34816x256 [0, 2, 1] (Host.dotGeneral dot_S32x1024x256_S34816x1024_S32x256x34816_1_1_02_0_n_n none W (extractStridedSlice S34816x1024 ![0, 0] X slices_S34816x1152_S34816x1024_0_0)) transposes_S32x256x34816_S32x34816x256_0_2_1

/-- The gate's activation times the other projection. -/
def hidden (a b : FVec Ideal S32x34816x256 .f32) : FVec Ideal S32x34816x256 .f32 :=
  mulf (mulf a (Host.divf (broadcastInDim S32x34816x256 ![] bcast_S_S32x34816x256 (constant S_ .f32 0x3F800000#32)) (addf (broadcastInDim S32x34816x256 ![] bcast_S_S32x34816x256 (constant S_ .f32 0x3F800000#32)) (Host.exp (Host.negf a))))) b

/-- The experts' outputs. -/
def outs (h : FVec Ideal S32x34816x256 .f32) (D : FVec Ideal S32x256x1024 .f32) : FVec Ideal S32x34816x1024 .f32 :=
  Host.dotGeneral dot_S32x34816x256_S32x256x1024_S32x34816x1024_2_1_1_2_0_0 none h D

/-- The outputs weighted by the shares and summed over the experts. -/
def combined (s : FVec Ideal S34816x32 .f32) (y : FVec Ideal S32x34816x1024 .f32) : FVec Ideal S34816x1024 .f32 :=
  Host.reduceAdd (mulf (broadcastInDim S32x34816x1024 ![0, 1, 2] bcast_S32x34816x1_S32x34816x1024_0_1_2 (broadcastInDim S32x34816x1 ![0, 1] bcast_S32x34816_S32x34816x1_0_1 (transpose S32x34816 [1, 0] s transposes_S34816x32_S32x34816_1_0))) y) (constant S_ .f32 0x00000000#32) reducesTo_S32x34816x1024_S34816x1024_d0 h_S_

/-- The reference as the composition of its stages. -/
def plain (X : FVec Ideal S34816x1152 .f32) (T0 T1 : IVec S68 32) (G U : FVec Ideal S32x1024x256 .f32) (D : FVec Ideal S32x256x1024 .f32) : FVec Ideal S34816x1024 .f32 :=
  combined (shares (taken groupOfExpert (perRow T0) (perRow T1)) X) (outs (hidden (wide G X) (wide U X)) D)

/-- The run ends with the composition of the stages as its result and its arguments unchanged. -/
theorem run_plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = plain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run (F := Ideal) m ρ

/-! ## The stages at an index -/

theorem groupOfExpert_at (E : Fin 32) : groupOfExpert (ix2 0 E) = BitVec.ofNat 32 (E.val / 8) := by
  have h : ∀ E : Fin 32, groupOfExpert (ix2 0 E) = BitVec.ofNat 32 (E.val / 8) := by decide +kernel
  exact h E

theorem perRow_at (T : IVec S68 32) (R : Fin 34816) : perRow T (ix2 R 0) = T (ix1 (⟨R.val / 512, by omega⟩ : Fin 68)) := by
  pointwise [perRow]

theorem taken_at (G : IVec S1x32 32) (g v : IVec S34816x1 32) (R : Fin 34816) (E : Fin 32) :
    taken G g v (ix2 R E) = IntOp.andi (IntOp.cmpi .eq (G (ix2 0 E)) (g (ix2 R 0))) (IntOp.cmpi .sgt (v (ix2 R 0)) 0#32) := by
  pointwise [taken]

theorem shares_at (k : IVec S34816x32 1) (X : FVec Ideal S34816x1152 .f32) (R : Fin 34816) (E : Fin 32) :
    shares k X (ix2 R E) = (if k (ix2 R E) = 1#1 then X (ix2 R (⟨1024 + E.val, by omega⟩ : Fin 1152)) else 0 : EReal) := by
  pointwise [shares]
  have h0 : id (constant (F := Ideal) S_ .f32 0x00000000#32) ix0 = (0 : EReal) := by
    show Ideal.ofBits .f32 0x00000000#32 = 0
    simp [Ideal.ofBits, Ideal.ieee]
  exact congrArg (fun z : EReal => Scalar.select (k (ix2 R E)) (X (ix2 R (⟨1024 + E.val, by omega⟩ : Fin 1152))) z) h0

theorem wide_at (W : FVec Ideal S32x1024x256 .f32) (X : FVec Ideal S34816x1152 .f32) (E : Fin 32) (R : Fin 34816) (f : Fin 256) :
    wide W X (ix3 E R f) = ∑ k : Fin 1024, W (ix3 E k f) * X (ix2 R (⟨k.val, by omega⟩ : Fin 1152)) := by
  pointwise [wide]

theorem hidden_at (a b : FVec Ideal S32x34816x256 .f32) (E : Fin 32) (R : Fin 34816) (f : Fin 256) :
    hidden a b (ix3 E R f) = a (ix3 E R f) * Ideal.div (Ideal.ofBits .f32 0x3F800000#32) (Ideal.ofBits .f32 0x3F800000#32 + Ideal.exp (-a (ix3 E R f))) * b (ix3 E R f) := by
  pointwise [hidden]

theorem outs_at (h : FVec Ideal S32x34816x256 .f32) (D : FVec Ideal S32x256x1024 .f32) (E : Fin 32) (R : Fin 34816) (d : Fin 1024) :
    outs h D (ix3 E R d) = ∑ f : Fin 256, h (ix3 E R f) * D (ix3 E f d) := by
  pointwise [outs]

theorem combined_at (s : FVec Ideal S34816x32 .f32) (y : FVec Ideal S32x34816x1024 .f32) (R : Fin 34816) (d : Fin 1024) :
    combined s y (ix2 R d) = ∑ E : Fin 32, s (ix2 R E) * y (ix3 E R d) := by
  pointwise [combined]

end Cert.MoeRefIdeal.Value

end
-- ==== Proof.MoeMath.lean ====
/- The equation of the routed experts: summing all thirty-two experts with the record's entries of one group and zero
   elsewhere is summing the group's eight experts, and weighting an expert's hidden features is weighting its output. -/
module

public import proofs.«01_k».proof.Proof.MoeArray

@[expose] public section

noncomputable section

namespace Cert.MoeMath

open Cert.MoeIdeal.Tile Cert.MoeIdeal.AnyTables Idealize.ShloMosaic

/-- A share between zero and one distributes over a sum, infinities among the summands or not. -/
theorem mul_sum_share {n : ℕ} (c : EReal) (h0 : 0 ≤ c) (h1 : c ≤ 1) (f : Fin n → EReal) : c * ∑ i, f i = ∑ i, c * f i := by
  have ht : c ≠ ⊤ := fun h => by rw [h] at h1; exact absurd h1 (by decide)
  induction (Finset.univ : Finset (Fin n)) using Finset.induction_on with
  | empty => simp
  | insert a s ha ih => rw [Finset.sum_insert ha, Finset.sum_insert ha, EReal.left_distrib_of_nonneg_of_ne_top h0 ht, ih]

theorem exp_nonneg (z : EReal) : 0 ≤ Ideal.exp z := by
  induction z with
  | bot => exact le_refl _
  | top => exact le_top
  | coe x => exact EReal.coe_nonneg.2 (Real.exp_pos x).le

/-- The activation as a product with the logistic function. -/
theorem swish_eq (z : EReal) : z * Ideal.div 1 (1 + Ideal.exp (-z)) = swish z := by
  have hd : (1 + Ideal.exp (-z) : EReal) ≠ 0 := by
    have h1 : (0 : EReal) < 1 := by norm_num
    exact (lt_of_lt_of_le h1 (le_add_of_nonneg_right (exp_nonneg _))).ne'
  unfold swish Ideal.div
  rw [sub_eq_add_neg, zero_add, if_neg hd, if_neg hd, one_mul]

/-- A sum over the thirty-two experts, group by group. -/
theorem sum_experts (F : Fin 32 → EReal) : ∑ E, F E = ∑ i : Fin 4, ∑ e : Fin 8, F (expertOf i.val e) := by
  rw [← Fintype.sum_prod_type']
  refine (Fintype.sum_equiv (finProdFinEquiv (m := 4) (n := 8)) _ _ fun p => congrArg F (Fin.ext ?_)).symm
  rw [expertOf_val p.1.isLt]
  show 8 * p.1.val + p.2.val = p.2.val + 8 * p.1.val
  omega

/-- Shares that are zero outside one group leave that group's sum. -/
theorem sum_group (g : ℕ) (hg : g < 4) (s y : Fin 32 → EReal) :
    ∑ E, (if E.val / 8 = g then s E else 0) * y E = ∑ e : Fin 8, s (expertOf g e) * y (expertOf g e) := by
  rw [sum_experts, Finset.sum_eq_single (⟨g, hg⟩ : Fin 4)]
  · refine Finset.sum_congr rfl fun e _ => ?_
    rw [if_pos (by rw [expertOf_val hg]; omega)]
  · intro i _ hi
    refine Finset.sum_eq_zero fun e _ => ?_
    have hne : i.val ≠ g := fun h => hi (Fin.ext h)
    rw [if_neg (by rw [expertOf_val i.isLt]; omega), zero_mul]
  · exact fun h => absurd (Finset.mem_univ _) h

/-- One expert's hidden features. -/
def feats (x : Fin 1024 → EReal) (G U : Fin 1024 → Fin 256 → EReal) (f : Fin 256) : EReal :=
  (∑ k, G k f * x k) * Ideal.div 1 (1 + Ideal.exp (-(∑ k, G k f * x k))) * ∑ k, U k f * x k

/-- The plain weighted sum over all experts is the group's sum of the tile. -/
theorem moe_eq (g : ℕ) (hg : g < 4) (x : Fin 1024 → EReal) (s : Fin 32 → EReal) (hs : ∀ E, 0 ≤ s E ∧ s E ≤ 1)
    (G U : Fin 32 → Fin 1024 → Fin 256 → EReal) (D : Fin 32 → Fin 256 → EReal) :
    ∑ E, (if E.val / 8 = g then s E else 0) * (∑ f, feats x (G E) (U E) f * D E f)
      = tileSum x (fun e => s (expertOf g e)) (fun e => G (expertOf g e)) (fun e => U (expertOf g e)) (fun e => D (expertOf g e)) := by
  rw [sum_group g hg]
  unfold tileSum
  refine Finset.sum_congr rfl fun e _ => ?_
  rw [mul_sum_share _ (hs _).1 (hs _).2]
  refine Finset.sum_congr rfl fun f _ => ?_
  have hG : ∀ W : Fin 1024 → Fin 256 → EReal, (∑ k, W k f * x k) = ∑ k, x k * W k f := fun W => Finset.sum_congr rfl fun k _ => mul_comm _ _
  unfold feats
  rw [swish_eq, hG, hG, ← mul_assoc, mul_comm (s (expertOf g e))]

end Cert.MoeMath

end
-- ==== Proof.MoeTables.lean ====
/- What the two preconditions of the routed experts say: every tile's group is one of four, every flag is zero or one, and (for
   the equation) every entry of the routing records lies between zero and one. -/
module

public import proofs.«01_k».proof.Proof.Gen.Pre_tables_in_range
public import proofs.«01_k».proof.Proof.Gen.Pre_routed
public import Idealize.ShloMosaic.Lib.Pointwise
public import Idealize.ShloMosaic.Lib.ReduceAll
public import Idealize.ShloMosaic.Lib.Affine

@[expose] public section

set_option maxRecDepth 16384

noncomputable section

namespace Cert.MoeTables

open Idealize.ShloMosaic

/-- The conjunction the checks compute at one tile. -/
def check (a b : BitVec 32) : BitVec 1 :=
  IntOp.andi (IntOp.andi (IntOp.andi (IntOp.cmpi .sge a 0#32) (IntOp.cmpi .slt a 4#32)) (IntOp.cmpi .sge b 0#32)) (IntOp.cmpi .sle b 1#32)

theorem of_check (a b : BitVec 32) (h : check a b = 1#1) : a.toNat < 4 ∧ (b = 0#32 ∨ b = 1#32) := by
  obtain ⟨h, h4⟩ := IntOp.andi_eq_one.1 h
  obtain ⟨h, h3⟩ := IntOp.andi_eq_one.1 h
  obtain ⟨h1, h2⟩ := IntOp.andi_eq_one.1 h
  have h1 := IntOp.cmpi_sge.1 h1
  have h2 := IntOp.cmpi_slt.1 h2
  have h3 := IntOp.cmpi_sge.1 h3
  have h4 := IntOp.cmpi_sle.1 h4
  rw [show (0#32 : BitVec 32).toInt = 0 from by decide] at h1 h3
  rw [show (4#32 : BitVec 32).toInt = 4 from by decide] at h2
  rw [show (1#32 : BitVec 32).toInt = 1 from by decide] at h4
  have la := a.isLt
  have lb := b.isLt
  rw [BitVec.toInt_eq_toNat_cond] at h1 h2 h3 h4
  refine ⟨by split at h1 <;> omega, ?_⟩
  have hb : b.toNat = 0 ∨ b.toNat = 1 := by split at h3 <;> omega
  exact hb.imp (fun e => BitVec.eq_of_toNat_eq e) (fun e => BitVec.eq_of_toNat_eq e)

/-- The tables' precondition, tile by tile. -/
theorem in_range {F : FTy → Type} [FloatOps F] (X : FVec F Cert.Pre_tables_in_range.S34816x1152 .f32) (T0 T1 : IVec Cert.Pre_tables_in_range.S68 32)
    (G U : FVec F Cert.Pre_tables_in_range.S32x1024x256 .f32) (D : FVec F Cert.Pre_tables_in_range.S32x256x1024 .f32)
    (h : Cert.Pre_tables_in_range.fn (F := F) X T0 T1 G U D = fun _ => 1#1) (x : Cert.Pre_tables_in_range.S68.Idx) :
    (T0 x).toNat < 4 ∧ (T1 x = 0#32 ∨ T1 x = 1#32) :=
  of_check _ _ (congrFun h x)

/-- The equation's precondition: its two halves, tile by tile and entry by entry. -/
theorem routed (X : FVec Ideal Cert.Pre_routed.S34816x1152 .f32) (T0 T1 : IVec Cert.Pre_routed.S68 32)
    (G U : FVec Ideal Cert.Pre_routed.S32x1024x256 .f32) (D : FVec Ideal Cert.Pre_routed.S32x256x1024 .f32)
    (h : Cert.Pre_routed.fn (F := Ideal) X T0 T1 G U D = fun _ => 1#1) :
    (∀ x : Cert.Pre_routed.S68.Idx, (T0 x).toNat < 4 ∧ (T1 x = 0#32 ∨ T1 x = 1#32))
    ∧ ∀ (R : Fin 34816) (E : Fin 32), (0 : EReal) ≤ X (ix2 R (⟨1024 + E.val, by omega⟩ : Fin 1152)) ∧ X (ix2 R (⟨1024 + E.val, by omega⟩ : Fin 1152)) ≤ (1 : EReal) := by
  have h0 := congrFun h ix0
  obtain ⟨ht, hr⟩ := IntOp.andi_eq_one.1 h0
  refine ⟨fun x => of_check _ _ (Host.reduce_andi_all _ _ _ _ _ ht x), fun R E => ?_⟩
  have hx := Host.reduce_andi_all _ _ _ _ _ hr (ix2 R E)
  obtain ⟨ha, hb⟩ := IntOp.andi_eq_one.1 hx
  pointwise at ha
  pointwise at hb
  have bit : ∀ b : Bool, BitVec.ofBool b = 1#1 → b = true := by decide
  exact ⟨of_decide_eq_true (bit _ ha), of_decide_eq_true (bit _ hb)⟩

end Cert.MoeTables

end
-- ==== Proof.MoeClaims.lean ====
/- The routed experts' frames, and the equation of the call's result with the plain reference's. -/
module

public import proofs.«01_k».proof.Defs
public import proofs.«01_k».proof.Proof.MoeRunBits
public import proofs.«01_k».proof.Proof.MoeArray
public import proofs.«01_k».proof.Proof.MoeRef
public import proofs.«01_k».proof.Proof.MoeMath
public import proofs.«01_k».proof.Proof.MoeTables

@[expose] public section

set_option maxRecDepth 16384

noncomputable section

namespace Cert.MoeClaims

open Idealize.ShloMosaic Idealize.ShloMosaic.TcCoe Idealize.SL.Sem
open Cert.MoeIdeal.Tile Cert.MoeIdeal.AnyTables Cert.MoeMath

/-! ## The frames: every run ends, with the arguments as they were and every semaphore at zero -/

theorem frame_P : Cert.quiescent_Moe := fun m ρ h =>
  have hT : Cert.Moe.AnyTables.InRange (m (((0 : Dev Cert.Moe.nD).tc : Thread Cert.Moe.nD Cert.Moe.τ).loc Cert.Moe.main_arg1)) (m (((0 : Dev Cert.Moe.nD).tc : Thread Cert.Moe.nD Cert.Moe.τ).loc Cert.Moe.main_arg2)) :=
    fun x => Cert.MoeTables.in_range (F := Bits) _ _ _ _ _ _ (h 0) x
  (θ_run _ _ _).mono (fun _ h => ⟨fun c => (h.1 c).2, h.2⟩)
    (Cert.Moe.AnyTables.run_main hT m ρ ⟨fun c => by rw [Subsingleton.elim c 0], fun c => by rw [Subsingleton.elim c 0]⟩)

/-- The idealized call's tables. -/
abbrev tab0 (m : (ℓ : Loc Cert.MoeIdeal.nD Cert.MoeIdeal.τ Cert.MoeIdeal.sig) → Buf (Elt Ideal) ℓ) : Cert.MoeIdeal.S68.Idx → BitVec 32 :=
  m (((0 : Dev Cert.MoeIdeal.nD).tc : Thread Cert.MoeIdeal.nD Cert.MoeIdeal.τ).loc Cert.MoeIdeal.main_arg1)
abbrev tab1 (m : (ℓ : Loc Cert.MoeIdeal.nD Cert.MoeIdeal.τ Cert.MoeIdeal.sig) → Buf (Elt Ideal) ℓ) : Cert.MoeIdeal.S68.Idx → BitVec 32 :=
  m (((0 : Dev Cert.MoeIdeal.nD).tc : Thread Cert.MoeIdeal.nD Cert.MoeIdeal.τ).loc Cert.MoeIdeal.main_arg2)

theorem holds_tabs (m) : Holds (tab0 m) (tab1 m) m :=
  ⟨fun c => by rw [Subsingleton.elim c 0], fun c => by rw [Subsingleton.elim c 0]⟩

theorem frame_of_range (m) (ρ) (hT : InRange (tab0 m) (tab1 m)) :
    θ_run (Cert.MoeIdeal.defs (F := Ideal)) (onTc (τ := Cert.MoeIdeal.τ) (Cert.MoeIdeal.main (F := Ideal))) ⟨m, fun _ => 0, ρ⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0) :=
  (θ_run _ _ _).mono (fun _ h => ⟨fun c => (h.1 c).2, h.2⟩) (run_main hT m ρ (holds_tabs m))

/-- The two halves of the equation's precondition. -/
theorem range_of (m) (h : Cert.Pre_MoeIdeal_routed m) : InRange (tab0 m) (tab1 m) :=
  fun x => (Cert.MoeTables.routed _ _ _ _ _ _ (h 0)).1 x

theorem frame_PI : Cert.quiescent_MoeIdeal := fun m ρ h =>
  frame_of_range m ρ fun x => Cert.MoeTables.in_range (F := Ideal) _ _ _ _ _ _ (h 0) x
theorem frame_PI_pre : Cert.quiescent_MoeIdeal_pre_routed := fun m ρ h => frame_of_range m ρ (range_of m h)
theorem frame_RI : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)
theorem frame_RI_pre : Cert.quiescent_MoeRefIdeal_pre_routed := fun m ρ _ => frame_RI m ρ trivial

/-! ## The equation -/

/-- Which experts a row takes, as numbers: those of its tile's group, where the tile's flag is one. -/
theorem taken_iff (g v : BitVec 32) (hg : g.toNat < 4) (hv : v = 0#32 ∨ v = 1#32) (E : Fin 32) :
    IntOp.andi (IntOp.cmpi .eq (BitVec.ofNat 32 (E.val / 8)) g) (IntOp.cmpi .sgt v 0#32) = 1#1 ↔ E.val / 8 = g.toNat ∧ v = 1#32 := by
  rw [IntOp.andi_eq_one, IntOp.cmpi_eq, IntOp.cmpi_sgt]
  refine and_congr ⟨fun h => ?_, fun h => ?_⟩ ?_
  · rw [← h, BitVec.toNat_ofNat]; omega
  · rw [h]; exact BitVec.eq_of_toNat_eq (by rw [BitVec.toNat_ofNat]; omega)
  · rcases hv with rfl | rfl <;> decide

/-- The reference's value at a row and column is the call's. -/
theorem plain_eq (X : Cert.MoeIdeal.S34816x1152.Idx → EReal) (T0 T1 : Cert.MoeIdeal.S68.Idx → BitVec 32) (G U : Cert.MoeIdeal.S32x1024x256.Idx → EReal)
    (D : Cert.MoeIdeal.S32x256x1024.Idx → EReal) (hT : InRange T0 T1)
    (hs : ∀ (R : Fin 34816) (E : Fin 32), (0 : EReal) ≤ X (ix2 R (⟨1024 + E.val, by omega⟩ : Fin 1152)) ∧ X (ix2 R (⟨1024 + E.val, by omega⟩ : Fin 1152)) ≤ (1 : EReal))
    (R : Fin 34816) (d : Fin 1024) :
    Cert.MoeRefIdeal.Value.plain X T0 T1 G U D (ix2 R d) = moeArray T0 T1 X G U D R d := by
  obtain ⟨hg, hv⟩ := hT (ix1 (⟨R.val / 512, by omega⟩ : Fin 68))
  have hshare : ∀ E : Fin 32, Cert.MoeRefIdeal.Value.shares (Cert.MoeRefIdeal.Value.taken Cert.MoeRefIdeal.Value.groupOfExpert (Cert.MoeRefIdeal.Value.perRow T0) (Cert.MoeRefIdeal.Value.perRow T1)) X (ix2 R E)
      = (if E.val / 8 = (T0 (ix1 (⟨R.val / 512, by omega⟩ : Fin 68))).toNat ∧ T1 (ix1 (⟨R.val / 512, by omega⟩ : Fin 68)) = 1#32 then X (ix2 R (⟨1024 + E.val, by omega⟩ : Fin 1152)) else 0 : EReal) := by
    intro E
    rw [Cert.MoeRefIdeal.Value.shares_at, Cert.MoeRefIdeal.Value.taken_at, Cert.MoeRefIdeal.Value.groupOfExpert_at, Cert.MoeRefIdeal.Value.perRow_at, Cert.MoeRefIdeal.Value.perRow_at]
    exact if_congr (taken_iff _ _ hg hv E) rfl rfl
  have hout : ∀ E : Fin 32, Cert.MoeRefIdeal.Value.outs (Cert.MoeRefIdeal.Value.hidden (Cert.MoeRefIdeal.Value.wide G X) (Cert.MoeRefIdeal.Value.wide U X)) D (ix3 E R d)
      = ∑ f, feats (fun k => X (ix2 R (⟨k.val, by omega⟩ : Fin 1152))) (fun k f => G (ix3 E k f)) (fun k f => U (ix3 E k f)) f * D (ix3 E f d) := by
    intro E
    rw [Cert.MoeRefIdeal.Value.outs_at]
    refine Finset.sum_congr rfl fun f _ => ?_
    rw [Cert.MoeRefIdeal.Value.hidden_at, Cert.MoeRefIdeal.Value.wide_at, Cert.MoeRefIdeal.Value.wide_at, word_one]
    rfl
  unfold Cert.MoeRefIdeal.Value.plain
  rw [Cert.MoeRefIdeal.Value.combined_at]
  unfold moeArray moeRow
  by_cases hl : T1 (ix1 (⟨R.val / 512, by omega⟩ : Fin 68)) = 1#32
  · rw [if_pos hl, ← moe_eq _ hg _ (fun E => X (ix2 R (⟨1024 + E.val, by omega⟩ : Fin 1152))) (fun E => hs R E) (fun E k f => G (ix3 E k f)) (fun E k f => U (ix3 E k f)) (fun E f => D (ix3 E f d))]
    refine Finset.sum_congr rfl fun E _ => ?_
    rw [hshare, hout]
    exact congrArg (fun s : EReal => s * _) (if_congr (and_iff_left hl) rfl rfl)
  · rw [if_neg hl]
    refine Finset.sum_eq_zero fun E _ => ?_
    rw [hshare, if_neg fun h => hl h.2]
    exact zero_mul _

/-- The reference's result, of the call's arguments, is what the call's result array holds. -/
theorem result_eq (m) (ρ) (h : Cert.Pre_MoeIdeal_routed m) (c : Dev Cert.MoeIdeal.nD) :
    Cert.MoeRefIdeal.Value.plain (arrX m c) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (arrG m c) (arrU m c) (arrD m c)
      = (dats (range_of m h) m ρ 0 c).arrAt (4 : Fin 5) (cfgT (range_of m h)).N := by
  rw [array_eq (range_of m h) m ρ c]
  obtain rfl : c = 0 := Subsingleton.elim _ _
  funext z
  obtain ⟨R, d, rfl⟩ : ∃ (R : Fin 34816) (d : Fin 1024), z = ix2 R d := ⟨z 0, z 1, eq_ix2 z⟩
  exact plain_eq _ _ _ _ _ _ (range_of m h) (Cert.MoeTables.routed _ _ _ _ _ _ (h 0)).2 R d

/-- The idealized call and the idealized reference leave the same result. -/
theorem algebraic : Cert.algebraic_MoeIdeal_MoeRefIdeal_pre_routed :=
  fun m ρ m' ρ' hpre hag => ⟨fun c => (dats (range_of m hpre) m ρ 0 c).arrAt (4 : Fin 5) (cfgT (range_of m hpre)).N,
    (θ_run _ _ _).mono (fun _ h c => h.1 c) (run_main (range_of m hpre) m ρ (holds_tabs m)),
    (θ_run _ _ _).mono (fun _ h c => ⟨(h c).1.trans (by
      rw [(hag c).1, (hag c).2.1, (hag c).2.2.1, (hag c).2.2.2.1, (hag c).2.2.2.2.1, (hag c).2.2.2.2.2]
      exact result_eq m ρ hpre c), (h c).2⟩)
      (Cert.MoeRefIdeal.Value.run_plain m' ρ')⟩

end Cert.MoeClaims

end
-- ==== Proof.ProjRun.lean ====
/- The run of the two calls in one program: every array ends at what the last boundary holds. -/
module

public import proofs.«01_k».proof.Proof.Gen.ProjIdeal.Frame

@[expose] public section

set_option maxRecDepth 16384

noncomputable section

namespace Cert.ProjIdeal.Value

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, and every unscoped buffer then holds the contents of the last boundary. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The eight results: the modulation vectors as the host code between the calls cuts them, the six arrays of the second call. -/
theorem run_blocks : θ_run defs (onTc (τ := τ) (main (F := Ideal))) ⟨m, fun _ => 0, ρ⟩ (fun r => ∀ c : Dev nD,
      r.2.mem ((c.tc : Thread nD τ).loc main_v8) = V5 m ρ c main_v8
      ∧ r.2.mem ((c.tc : Thread nD τ).loc main_v10) = V5 m ρ c main_v10
      ∧ r.2.mem ((c.tc : Thread nD τ).loc main_v34_0) = (dat1 (V5 m ρ) c).arrAt 5 cfg1.N
      ∧ r.2.mem ((c.tc : Thread nD τ).loc main_v34_1) = (dat1 (V5 m ρ) c).arrAt 6 cfg1.N
      ∧ r.2.mem ((c.tc : Thread nD τ).loc main_v34_2) = (dat1 (V5 m ρ) c).arrAt 7 cfg1.N
      ∧ r.2.mem ((c.tc : Thread nD τ).loc main_v34_3) = (dat1 (V5 m ρ) c).arrAt 8 cfg1.N
      ∧ r.2.mem ((c.tc : Thread nD τ).loc main_v34_4) = (dat1 (V5 m ρ) c).arrAt 9 cfg1.N
      ∧ r.2.mem ((c.tc : Thread nD τ).loc main_v34_5) = (dat1 (V5 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (W6_of m ρ c main_v8 (by decide)),
     (h c _ (mem_uc main_v10 (by decide))).trans (W6_of m ρ c main_v10 (by decide)),
     (h c _ (mem_uc main_v34_0 (by decide))).trans (W6_arr m ρ c 5),
     (h c _ (mem_uc main_v34_1 (by decide))).trans (W6_arr m ρ c 6),
     (h c _ (mem_uc main_v34_2 (by decide))).trans (W6_arr m ρ c 7),
     (h c _ (mem_uc main_v34_3 (by decide))).trans (W6_arr m ρ c 8),
     (h c _ (mem_uc main_v34_4 (by decide))).trans (W6_arr m ρ c 9),
     (h c _ (mem_uc main_v34_5 (by decide))).trans (W6_arr m ρ c 10),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (ends m ρ)

end Cert.ProjIdeal.Value

end
-- ==== Proof.ProjBlock.lean ====
/- What the input projection's body computes at one row: the modulated row times the weights, and the normalised queries and
   keys, whose mean squares are a product with a table. -/
module

public import proofs.«01_k».proof.Proof.Row
public import proofs.«01_k».proof.Proof.Gen.ProjIdeal.Frame
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem
open Cert.SoftmaxMath

/-- One entry of the projection: the row, modulated by a shift and a scale, against one column of the weights. -/
def projAt (x shift scale w : Fin 1024 → EReal) : EReal := ∑ k, (x k * (1 + scale k) + shift k) * w k

section Pay

variable (P0 : Vec Ideal S1x6x1024 .f32) (P1 : Vec Ideal S1x256x1024 .f32) (P2 : Vec Ideal S1024x2304 .bf16) (P3 : Vec Ideal S640x640 .bf16) (P4 : Vec Ideal S1x640 .f32)

/-- The projection of the block's row `r` to column `c`. -/
def blockProj (r : Fin 256) (c : Fin 2304) : EReal :=
  projAt (fun k => P1 (ix3 0 r k)) (fun k => P0 (ix3 0 0 k)) (fun k => P0 (ix3 0 1 k)) (fun k => P2 (ix2 k c))

theorem pay4_at (r : Fin 256) (c : Fin 2304) : k1_pay4 P0 P1 P2 (ix2 r c) = blockProj P0 P1 P2 r c := by
  pointwise [k1_pay4, blockProj, projAt]

theorem pay5_at (r : Fin 256) (c : Fin 640) : k1_pay5 P0 P1 P2 P3 P4 (ix2 r c)
    = k1_pay4 P0 P1 P2 (ix2 r (⟨c.val, by omega⟩ : Fin 2304))
      * Ideal.rsqrt (∑ j : Fin 640, k1_pay4 P0 P1 P2 (ix2 r (⟨j.val, by omega⟩ : Fin 2304)) * k1_pay4 P0 P1 P2 (ix2 r (⟨j.val, by omega⟩ : Fin 2304)) * P3 (ix2 j c) + cε)
      * P4 (ix2 0 c) := by
  pointwise [k1_pay5]

/-- The comparison of the lane with 64. -/
theorem lane_lt : ∀ e : Fin 128, IntOp.cmpi .slt (BitVec.ofNat 32 e.val) 64#32 = if e.val < 64 then 1#1 else 0#1 := by decide

theorem pay23_at (v : FVec Ideal S256x2304 .f32) (r : Fin 256) (e : Fin 128) :
    k1_pay23 v (ix4 0 0 r e) = (if e.val < 64 then v (ix2 r (⟨640 + e.val, by omega⟩ : Fin 2304)) else 1 : EReal) := by
  pointwise [k1_pay23, k1_pay22, k1_pay21]
  rw [lane_lt]
  by_cases h : e.val < 64
  · rw [if_pos h, if_pos h]; rfl
  · rw [if_neg h, if_neg h]; rfl

/-- The second head's values, which the body rotates into the first 64 lanes. -/
theorem pay24_at (v : FVec Ideal S256x2304 .f32) (r : Fin 256) (e : Fin 128) :
    k1_pay1 (k1_pay24 v) (ix4 0 0 r e) = (if h : e.val < 64 then v (ix2 r (⟨704 + e.val, by omega⟩ : Fin 2304)) else 1 : EReal) := by
  pointwise [k1_pay1, k1_pay24, k1_pay22, k1_pay21]
  rw [lane_lt]
  by_cases h : e.val < 64
  · rw [if_pos h, dif_pos h]
    refine congrArg v (congrArg (ix2 r) (Fin.ext ?_))
    show 640 + (e.val + 128 - 64) % 128 = 704 + e.val
    omega
  · rw [if_neg h, dif_neg h]; rfl

end Pay

/-! ## The pieces of the output blocks, at an index -/

theorem head0_at (v : FVec Ideal S256x512 .f32) (r : Fin 256) (d : Fin 64) :
    k1_pay9 v (ix4 0 0 r d) = v (ix2 r (⟨0 * 64 + d.val, by omega⟩ : Fin 512)) := by
  pointwise [k1_pay9, k1_pay8]

theorem head1_at (v : FVec Ideal S256x512 .f32) (r : Fin 256) (d : Fin 64) :
    k1_pay10 v (ix4 0 0 r d) = v (ix2 r (⟨1 * 64 + d.val, by omega⟩ : Fin 512)) := by
  pointwise [k1_pay10, k1_pay8]

theorem head2_at (v : FVec Ideal S256x512 .f32) (r : Fin 256) (d : Fin 64) :
    k1_pay11 v (ix4 0 0 r d) = v (ix2 r (⟨2 * 64 + d.val, by omega⟩ : Fin 512)) := by
  pointwise [k1_pay11, k1_pay8]

theorem head3_at (v : FVec Ideal S256x512 .f32) (r : Fin 256) (d : Fin 64) :
    k1_pay12 v (ix4 0 0 r d) = v (ix2 r (⟨3 * 64 + d.val, by omega⟩ : Fin 512)) := by
  pointwise [k1_pay12, k1_pay8]

theorem head4_at (v : FVec Ideal S256x512 .f32) (r : Fin 256) (d : Fin 64) :
    k1_pay13 v (ix4 0 0 r d) = v (ix2 r (⟨4 * 64 + d.val, by omega⟩ : Fin 512)) := by
  pointwise [k1_pay13, k1_pay8]

theorem head5_at (v : FVec Ideal S256x512 .f32) (r : Fin 256) (d : Fin 64) :
    k1_pay14 v (ix4 0 0 r d) = v (ix2 r (⟨5 * 64 + d.val, by omega⟩ : Fin 512)) := by
  pointwise [k1_pay14, k1_pay8]

theorem head6_at (v : FVec Ideal S256x512 .f32) (r : Fin 256) (d : Fin 64) :
    k1_pay16 (k1_pay15 v) (ix4 0 0 r d) = v (ix2 r (⟨6 * 64 + d.val, by omega⟩ : Fin 512)) := by
  pointwise [k1_pay16, k1_pay15, k1_pay8]

theorem head7_at (v : FVec Ideal S256x512 .f32) (r : Fin 256) (d : Fin 64) :
    k1_pay17 (k1_pay8 v) (ix4 0 0 r d) = v (ix2 r (⟨7 * 64 + d.val, by omega⟩ : Fin 512)) := by
  pointwise [k1_pay17, k1_pay8]

theorem key0_at (v : FVec Ideal S256x640 .f32) (d : Fin 64) (r : Fin 256) :
    k1_pay19 v (ix4 0 0 d r) = v (ix2 r (⟨512 + (0 * 64 + d.val), by omega⟩ : Fin 640)) := by
  pointwise [k1_pay19, k1_pay18]

theorem key1_at (v : FVec Ideal S256x640 .f32) (d : Fin 64) (r : Fin 256) :
    k1_pay20 v (ix4 0 0 d r) = v (ix2 r (⟨512 + (1 * 64 + d.val), by omega⟩ : Fin 640)) := by
  pointwise [k1_pay20, k1_pay18]

theorem cols_at (v : FVec Ideal S256x2304 .f32) (r : Fin 256) (c : Fin 1536) :
    k1_pay3 v (ix3 0 r c) = v (ix2 r (⟨768 + c.val, by omega⟩ : Fin 2304)) := by
  pointwise [k1_pay3]

theorem vals_at (v : FVec Ideal S256x2304 .f32) (r : Fin 256) (c : Fin 128) :
    k1_pay2 (k1_pay21 v) (ix3 0 r c) = v (ix2 r (⟨640 + c.val, by omega⟩ : Fin 2304)) := by
  pointwise [k1_pay2, k1_pay21]

theorem keys_at (P0 : Vec Ideal S1x6x1024 .f32) (P1 : Vec Ideal S1x256x1024 .f32) (P2 : Vec Ideal S1024x2304 .bf16) (P3 : Vec Ideal S640x640 .bf16) (P4 : Vec Ideal S1x640 .f32) (r : Fin 256) (c : Fin 128) :
    k1_pay6 P0 P1 P2 P3 P4 (ix3 0 r c) = k1_pay5 P0 P1 P2 P3 P4 (ix2 r (⟨512 + c.val, by omega⟩ : Fin 640)) := by
  pointwise [k1_pay6]

/-! ## What the body leaves in each output block -/

section Out

variable (x0 : Vec Ideal S1x256x1024 .f32) (x1 : Vec Ideal S1x6x1024 .f32) (x2 : Vec Ideal S1024x2304 .bf16) (x3 : Vec Ideal S1x640 .f32) (x4 : Vec Ideal S640x640 .bf16)

theorem ld0 : View.ld x0 r1_1 = x0 := by
  funext y; obtain ⟨a, b, c, rfl⟩ : ∃ (a : Fin 1) (b : Fin 256) (c : Fin 1024), y = ix3 a b c := ⟨y 0, y 1, y 2, eq_ix3 y⟩; obtain rfl : a = 0 := Subsingleton.elim _ _; pointwise
theorem ld1 : View.ld x1 r1_0 = x1 := by
  funext y; obtain ⟨a, b, c, rfl⟩ : ∃ (a : Fin 1) (b : Fin 6) (c : Fin 1024), y = ix3 a b c := ⟨y 0, y 1, y 2, eq_ix3 y⟩; obtain rfl : a = 0 := Subsingleton.elim _ _; pointwise
theorem ld2 : View.ld x2 r1_2 = x2 := by
  funext y; obtain ⟨a, b, rfl⟩ : ∃ (a : Fin 1024) (b : Fin 2304), y = ix2 a b := ⟨y 0, y 1, eq_ix2 y⟩; pointwise
theorem ld3 : View.ld x3 r1_4 = x3 := by
  funext y; obtain ⟨a, b, rfl⟩ : ∃ (a : Fin 1) (b : Fin 640), y = ix2 a b := ⟨y 0, y 1, eq_ix2 y⟩; obtain rfl : a = 0 := Subsingleton.elim _ _; pointwise
theorem ld4 : View.ld x4 r1_3 = x4 := by
  funext y; obtain ⟨a, b, rfl⟩ : ∃ (a : Fin 640) (b : Fin 640), y = ix2 a b := ⟨y 0, y 1, eq_ix2 y⟩; pointwise

/-- The projection of the block's row `r` to column `c`. -/
def rowOf (r : Fin 256) (c : Fin 2304) : EReal := blockProj x1 x0 x2 r c

/-- The normalised query or key of row `r` at column `c`: its mean square is the product of the squares with the table. -/
def normOf (r : Fin 256) (c : Fin 640) : EReal :=
  rowOf x0 x1 x2 r ⟨c.val, by omega⟩
    * Ideal.rsqrt (∑ j : Fin 640, rowOf x0 x1 x2 r ⟨j.val, by omega⟩ * rowOf x0 x1 x2 r ⟨j.val, by omega⟩ * x4 (ix2 j c) + cε) * x3 (ix2 0 c)

/-- The named constant: the queries' scale over the logarithm of two. -/
abbrev cScale : EReal := ((1 / 8) * (Real.log 2)⁻¹ : ℝ)

theorem norm_eq (r : Fin 256) (c : Fin 640) : k1_pay5 x1 x0 x2 x4 x3 (ix2 r c) = normOf x0 x1 x2 x3 x4 r c := by
  rw [pay5_at]; simp only [pay4_at]; rfl

theorem pay27_at (r : Fin 256) (c : Fin 512) :
    k1_pay7 x1 x0 x2 x4 x3 (ix2 r c) = normOf x0 x1 x2 x3 x4 r ⟨c.val, by omega⟩ * cScale := by
  pointwise [k1_pay7]
  exact congrArg₂ (· * ·) (norm_eq x0 x1 x2 x3 x4 r ⟨c.val, by omega⟩) rfl

/-- The block of queries, as one function of its index. -/
def qBlock : S1x8x256x64.Idx → EReal := fun z =>
  normOf x0 x1 x2 x3 x4 (z 2) ⟨(z 1).val * 64 + (z 3).val, by have : (z 1).val < 8 := (z 1).isLt; have : (z 3).val < 64 := (z 3).isLt; omega⟩ * cScale

theorem out5_eq : out1_5 x0 x1 x2 x3 x4 = qBlock x0 x1 x2 x3 x4 := by
  funext z
  unfold_out out1_5
  rw [ld0, ld1, ld2, ld3, ld4]
  refine View.canon_apply_of_pieces (Val := Elt Ideal) (qBlock x0 x1 x2 x3 x4) _ ?_ z (cover1_5 _ _ _ _ _ _ _ _ z)
  intro p hp
  simp only [List.mem_cons, List.not_mem_nil, or_false] at hp
  rcases hp with rfl | rfl | rfl | rfl | rfl | rfl | rfl | rfl
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_13.emb (ix4 0 0 r d) = ix4 0 7 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay17 (k1_pay8 (k1_pay7 x1 x0 x2 x4 x3)) (ix4 0 0 r d) = qBlock x0 x1 x2 x3 x4 (r1_13.emb (ix4 0 0 r d))
    rw [he]
    exact (head7_at (k1_pay7 x1 x0 x2 x4 x3) r d).trans (pay27_at x0 x1 x2 x3 x4 r ⟨7 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_12.emb (ix4 0 0 r d) = ix4 0 6 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay16 (k1_pay15 (k1_pay7 x1 x0 x2 x4 x3)) (ix4 0 0 r d) = qBlock x0 x1 x2 x3 x4 (r1_12.emb (ix4 0 0 r d))
    rw [he]
    exact (head6_at (k1_pay7 x1 x0 x2 x4 x3) r d).trans (pay27_at x0 x1 x2 x3 x4 r ⟨6 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_11.emb (ix4 0 0 r d) = ix4 0 5 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay14 (k1_pay7 x1 x0 x2 x4 x3) (ix4 0 0 r d) = qBlock x0 x1 x2 x3 x4 (r1_11.emb (ix4 0 0 r d))
    rw [he]
    exact (head5_at (k1_pay7 x1 x0 x2 x4 x3) r d).trans (pay27_at x0 x1 x2 x3 x4 r ⟨5 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_10.emb (ix4 0 0 r d) = ix4 0 4 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay13 (k1_pay7 x1 x0 x2 x4 x3) (ix4 0 0 r d) = qBlock x0 x1 x2 x3 x4 (r1_10.emb (ix4 0 0 r d))
    rw [he]
    exact (head4_at (k1_pay7 x1 x0 x2 x4 x3) r d).trans (pay27_at x0 x1 x2 x3 x4 r ⟨4 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_9.emb (ix4 0 0 r d) = ix4 0 3 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay12 (k1_pay7 x1 x0 x2 x4 x3) (ix4 0 0 r d) = qBlock x0 x1 x2 x3 x4 (r1_9.emb (ix4 0 0 r d))
    rw [he]
    exact (head3_at (k1_pay7 x1 x0 x2 x4 x3) r d).trans (pay27_at x0 x1 x2 x3 x4 r ⟨3 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_8.emb (ix4 0 0 r d) = ix4 0 2 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay11 (k1_pay7 x1 x0 x2 x4 x3) (ix4 0 0 r d) = qBlock x0 x1 x2 x3 x4 (r1_8.emb (ix4 0 0 r d))
    rw [he]
    exact (head2_at (k1_pay7 x1 x0 x2 x4 x3) r d).trans (pay27_at x0 x1 x2 x3 x4 r ⟨2 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_7.emb (ix4 0 0 r d) = ix4 0 1 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay10 (k1_pay7 x1 x0 x2 x4 x3) (ix4 0 0 r d) = qBlock x0 x1 x2 x3 x4 (r1_7.emb (ix4 0 0 r d))
    rw [he]
    exact (head1_at (k1_pay7 x1 x0 x2 x4 x3) r d).trans (pay27_at x0 x1 x2 x3 x4 r ⟨1 * 64 + d.val, by omega⟩)
  · intro x
    obtain ⟨i, j, r, d, rfl⟩ : ∃ (i : Fin 1) (j : Fin 1) (r : Fin 256) (d : Fin 64), x = ix4 i j r d := ⟨x 0, x 1, x 2, x 3, eq_ix4 x⟩
    obtain rfl : i = 0 := Subsingleton.elim _ _
    obtain rfl : j = 0 := Subsingleton.elim _ _
    have he : r1_6.emb (ix4 0 0 r d) = ix4 0 0 r d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    show k1_pay9 (k1_pay7 x1 x0 x2 x4 x3) (ix4 0 0 r d) = qBlock x0 x1 x2 x3 x4 (r1_6.emb (ix4 0 0 r d))
    rw [he]
    exact (head0_at (k1_pay7 x1 x0 x2 x4 x3) r d).trans (pay27_at x0 x1 x2 x3 x4 r ⟨0 * 64 + d.val, by omega⟩)

theorem out5_at (h : Fin 8) (r : Fin 256) (d : Fin 64) :
    out1_5 x0 x1 x2 x3 x4 (ix4 0 h r d) = normOf x0 x1 x2 x3 x4 r ⟨h.val * 64 + d.val, by omega⟩ * cScale := by
  rw [out5_eq]; rfl

/-- The block of keys, transposed, as one function of its index. -/
def ktBlock : S1x2x64x256.Idx → EReal := fun z =>
  normOf x0 x1 x2 x3 x4 (z 3) ⟨512 + ((z 1).val * 64 + (z 2).val), by have : (z 1).val < 2 := (z 1).isLt; have : (z 2).val < 64 := (z 2).isLt; omega⟩

theorem out6_eq : out1_6 x0 x1 x2 x3 x4 = ktBlock x0 x1 x2 x3 x4 := by
  funext z
  unfold_out out1_6
  rw [ld0, ld1, ld2, ld3, ld4]
  refine View.canon_apply_of_pieces (Val := Elt Ideal) (ktBlock x0 x1 x2 x3 x4) _ ?_ z (cover1_6 _ _ z)
  intro p hp
  simp only [List.mem_cons, List.not_mem_nil, or_false] at hp
  rcases hp with rfl | rfl
  · intro x
    obtain ⟨i, j, d, r, rfl⟩ : ∃ (i : Fin 1) (j : Fin 1) (d : Fin 64) (r : Fin 256), x = ix4 i j d r := ⟨x 0, x 1, x 2, x 3, eq_ix4 x⟩
    obtain rfl : i = 0 := Subsingleton.elim _ _
    obtain rfl : j = 0 := Subsingleton.elim _ _
    have he : r1_15.emb (ix4 0 0 d r) = ix4 0 1 d r := by
      funext t
      match t with
      | ⟨0, _⟩ => rfl
      | ⟨1, _⟩ => rfl
      | ⟨2, _⟩ => exact Fin.ext (by show 0 + 1 * d.val = d.val; omega)
      | ⟨3, _⟩ => exact Fin.ext (by show 0 + 1 * r.val = r.val; omega)
    show k1_pay20 (k1_pay5 x1 x0 x2 x4 x3) (ix4 0 0 d r) = ktBlock x0 x1 x2 x3 x4 (r1_15.emb (ix4 0 0 d r))
    rw [he]
    exact (key1_at (k1_pay5 x1 x0 x2 x4 x3) d r).trans (norm_eq x0 x1 x2 x3 x4 r ⟨512 + (1 * 64 + d.val), by omega⟩)
  · intro x
    obtain ⟨i, j, d, r, rfl⟩ : ∃ (i : Fin 1) (j : Fin 1) (d : Fin 64) (r : Fin 256), x = ix4 i j d r := ⟨x 0, x 1, x 2, x 3, eq_ix4 x⟩
    obtain rfl : i = 0 := Subsingleton.elim _ _
    obtain rfl : j = 0 := Subsingleton.elim _ _
    have he : r1_14.emb (ix4 0 0 d r) = ix4 0 0 d r := by
      funext t
      match t with
      | ⟨0, _⟩ => rfl
      | ⟨1, _⟩ => rfl
      | ⟨2, _⟩ => exact Fin.ext (by show 0 + 1 * d.val = d.val; omega)
      | ⟨3, _⟩ => exact Fin.ext (by show 0 + 1 * r.val = r.val; omega)
    show k1_pay19 (k1_pay5 x1 x0 x2 x4 x3) (ix4 0 0 d r) = ktBlock x0 x1 x2 x3 x4 (r1_14.emb (ix4 0 0 d r))
    rw [he]
    exact (key0_at (k1_pay5 x1 x0 x2 x4 x3) d r).trans (norm_eq x0 x1 x2 x3 x4 r ⟨512 + (0 * 64 + d.val), by omega⟩)

theorem out6_at (k : Fin 2) (d : Fin 64) (r : Fin 256) :
    out1_6 x0 x1 x2 x3 x4 (ix4 0 k d r) = normOf x0 x1 x2 x3 x4 r ⟨512 + (k.val * 64 + d.val), by omega⟩ := by
  rw [out6_eq]; rfl

theorem out8_at (r : Fin 256) (c : Fin 1536) :
    out1_8 x0 x1 x2 x3 x4 (ix3 0 r c) = rowOf x0 x1 x2 r ⟨768 + c.val, by omega⟩ := by
  unfold_out out1_8
  rw [ld0, ld1, ld2]
  refine View.canon_apply_of_pieces (Val := Elt Ideal) (fun z : S1x256x1536.Idx => k1_pay3 (k1_pay4 x1 x0 x2) (ix3 0 (z 1) (z 2))) _ ?_ (ix3 0 r c) (cover1_8 _ _) |>.trans ?_
  · intro p hp
    simp only [List.mem_cons, List.not_mem_nil, or_false] at hp
    subst hp
    intro x
    obtain ⟨i, a, b, rfl⟩ : ∃ (i : Fin 1) (a : Fin 256) (b : Fin 1536), x = ix3 i a b := ⟨x 0, x 1, x 2, eq_ix3 x⟩
    obtain rfl : i = 0 := Subsingleton.elim _ _
    have he : r1_18.emb (ix3 0 a b) = ix3 0 a b := by
      funext t
      match t with
      | ⟨0, _⟩ => rfl
      | ⟨1, _⟩ => exact Fin.ext (by show 0 + 1 * a.val = a.val; omega)
      | ⟨2, _⟩ => exact Fin.ext (by show 0 + 1 * b.val = b.val; omega)
    show k1_pay3 (k1_pay4 x1 x0 x2) (ix3 0 a b) = (fun z : S1x256x1536.Idx => k1_pay3 (k1_pay4 x1 x0 x2) (ix3 0 (z 1) (z 2))) (r1_18.emb (ix3 0 a b))
    rw [he]
    rfl
  · show k1_pay3 (k1_pay4 x1 x0 x2) (ix3 0 r c) = _
    rw [cols_at, pay4_at]; rfl

theorem out9_at (r : Fin 256) (c : Fin 128) :
    out1_9 x0 x1 x2 x3 x4 (ix3 0 r c) = rowOf x0 x1 x2 r ⟨640 + c.val, by omega⟩ := by
  unfold_out out1_9
  rw [ld0, ld1, ld2]
  refine View.canon_apply_of_pieces (Val := Elt Ideal) (fun z : S1x256x128.Idx => k1_pay2 (k1_pay21 (k1_pay4 x1 x0 x2)) (ix3 0 (z 1) (z 2))) _ ?_ (ix3 0 r c) (cover1_9 _ _) |>.trans ?_
  · intro p hp
    simp only [List.mem_cons, List.not_mem_nil, or_false] at hp
    subst hp
    intro x
    obtain ⟨i, a, b, rfl⟩ : ∃ (i : Fin 1) (a : Fin 256) (b : Fin 128), x = ix3 i a b := ⟨x 0, x 1, x 2, eq_ix3 x⟩
    obtain rfl : i = 0 := Subsingleton.elim _ _
    have he : r1_5.emb (ix3 0 a b) = ix3 0 a b := by
      funext t
      match t with
      | ⟨0, _⟩ => rfl
      | ⟨1, _⟩ => exact Fin.ext (by show 0 + 1 * a.val = a.val; omega)
      | ⟨2, _⟩ => exact Fin.ext (by show 0 + 1 * b.val = b.val; omega)
    show k1_pay2 (k1_pay21 (k1_pay4 x1 x0 x2)) (ix3 0 a b) = (fun z : S1x256x128.Idx => k1_pay2 (k1_pay21 (k1_pay4 x1 x0 x2)) (ix3 0 (z 1) (z 2))) (r1_5.emb (ix3 0 a b))
    rw [he]
    rfl
  · show k1_pay2 (k1_pay21 (k1_pay4 x1 x0 x2)) (ix3 0 r c) = _
    rw [vals_at, pay4_at]; rfl

theorem out10_at (r : Fin 256) (c : Fin 128) :
    out1_10 x0 x1 x2 x3 x4 (ix3 0 r c) = normOf x0 x1 x2 x3 x4 r ⟨512 + c.val, by omega⟩ := by
  unfold_out out1_10
  rw [ld0, ld1, ld2, ld3, ld4]
  refine View.canon_apply_of_pieces (Val := Elt Ideal) (fun z : S1x256x128.Idx => k1_pay6 x1 x0 x2 x4 x3 (ix3 0 (z 1) (z 2))) _ ?_ (ix3 0 r c) (cover1_10 _ _) |>.trans ?_
  · intro p hp
    simp only [List.mem_cons, List.not_mem_nil, or_false] at hp
    subst hp
    intro x
    obtain ⟨i, a, b, rfl⟩ : ∃ (i : Fin 1) (a : Fin 256) (b : Fin 128), x = ix3 i a b := ⟨x 0, x 1, x 2, eq_ix3 x⟩
    obtain rfl : i = 0 := Subsingleton.elim _ _
    have he : r1_5.emb (ix3 0 a b) = ix3 0 a b := by
      funext t
      match t with
      | ⟨0, _⟩ => rfl
      | ⟨1, _⟩ => exact Fin.ext (by show 0 + 1 * a.val = a.val; omega)
      | ⟨2, _⟩ => exact Fin.ext (by show 0 + 1 * b.val = b.val; omega)
    show k1_pay6 x1 x0 x2 x4 x3 (ix3 0 a b) = (fun z : S1x256x128.Idx => k1_pay6 x1 x0 x2 x4 x3 (ix3 0 (z 1) (z 2))) (r1_5.emb (ix3 0 a b))
    rw [he]
    rfl
  · show k1_pay6 x1 x0 x2 x4 x3 (ix3 0 r c) = _
    rw [keys_at, norm_eq]

/-- The block of values beside ones, as one function of its index. -/
def vxBlock : S1x2x256x128.Idx → EReal := fun z =>
  if h : (z 3).val < 64 then rowOf x0 x1 x2 (z 2) ⟨640 + ((z 1).val * 64 + (z 3).val), by have : (z 1).val < 2 := (z 1).isLt; omega⟩ else 1

theorem out7_eq : out1_7 x0 x1 x2 x3 x4 = vxBlock x0 x1 x2 := by
  funext z
  unfold_out out1_7
  rw [ld0, ld1, ld2]
  refine View.canon_apply_of_pieces (Val := Elt Ideal) (vxBlock x0 x1 x2) _ ?_ z (cover1_7 _ _ z)
  intro p hp
  simp only [List.mem_cons, List.not_mem_nil, or_false] at hp
  rcases hp with rfl | rfl
  · intro x
    obtain ⟨a, b, r, e, rfl⟩ : ∃ (a : Fin 1) (b : Fin 1) (r : Fin 256) (e : Fin 128), x = ix4 a b r e := ⟨x 0, x 1, x 2, x 3, eq_ix4 x⟩
    obtain rfl : a = 0 := Subsingleton.elim _ _
    obtain rfl : b = 0 := Subsingleton.elim _ _
    have he : r1_17.emb (ix4 0 0 r e) = ix4 0 1 r e := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * e.val = e.val; omega)
    show k1_pay1 (F := Ideal) (k1_pay24 (F := Ideal) (k1_pay4 x1 x0 x2)) (ix4 0 0 r e) = vxBlock x0 x1 x2 (r1_17.emb (ix4 0 0 r e))
    rw [he, pay24_at]
    simp only [pay4_at]
    show _ = (if h : e.val < 64 then rowOf x0 x1 x2 r ⟨640 + (1 * 64 + e.val), by omega⟩ else (1 : EReal))
    by_cases h : e.val < 64
    · rw [dif_pos h, dif_pos h]; exact congrArg (rowOf x0 x1 x2 r) (Fin.ext (by show 704 + e.val = 640 + (1 * 64 + e.val); omega))
    · rw [dif_neg h, dif_neg h]
  · intro x
    obtain ⟨a, b, r, e, rfl⟩ : ∃ (a : Fin 1) (b : Fin 1) (r : Fin 256) (e : Fin 128), x = ix4 a b r e := ⟨x 0, x 1, x 2, x 3, eq_ix4 x⟩
    obtain rfl : a = 0 := Subsingleton.elim _ _
    obtain rfl : b = 0 := Subsingleton.elim _ _
    have he : r1_16.emb (ix4 0 0 r e) = ix4 0 0 r e := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * e.val = e.val; omega)
    show k1_pay23 (F := Ideal) (k1_pay4 x1 x0 x2) (ix4 0 0 r e) = vxBlock x0 x1 x2 (r1_16.emb (ix4 0 0 r e))
    rw [he, pay23_at]
    simp only [pay4_at]
    show _ = (if h : e.val < 64 then rowOf x0 x1 x2 r ⟨640 + (0 * 64 + e.val), by omega⟩ else (1 : EReal))
    by_cases h : e.val < 64
    · rw [if_pos h, dif_pos h]; exact congrArg (rowOf x0 x1 x2 r) (Fin.ext (by show 640 + e.val = 640 + (0 * 64 + e.val); omega))
    · rw [if_neg h, dif_neg h]

theorem out7_at (k : Fin 2) (r : Fin 256) (e : Fin 128) :
    out1_7 x0 x1 x2 x3 x4 (ix4 0 k r e) = if h : e.val < 64 then rowOf x0 x1 x2 r ⟨640 + (k.val * 64 + e.val), by omega⟩ else (1 : EReal) := by
  rw [out7_eq]; rfl

end Out

end Cert.ProjIdeal.Value

end
-- ==== Proof.ProjMath.lean ====
/- The mean square of one head, read off a product with a table: the table holds a sixty-fourth inside a head and nothing outside. -/
module

public import proofs.«01_k».proof.Proof.RefValue
public import proofs.«01_k».proof.Proof.MoeMath

@[expose] public section

noncomputable section

namespace Cert.ProjMath

open Idealize.ShloMosaic
open Cert.SoftmaxMath

/-- Column `64 g + e` of ten heads of 64 columns. -/
abbrev col (g : Fin 10) (e : Fin 64) : Fin 640 := ⟨g.val * 64 + e.val, by omega⟩

/-- A sum over the ten heads' columns, head by head. -/
theorem sum_cols (f : Fin 640 → EReal) : ∑ j, f j = ∑ g : Fin 10, ∑ e : Fin 64, f (col g e) := by
  rw [← Fintype.sum_prod_type' (fun g e => f (col g e))]
  refine Fintype.sum_equiv (finProdFinEquiv (m := 10) (n := 64)).symm _ _ fun j => congrArg f (Fin.ext ?_)
  show j.val = j.val / 64 * 64 + j.val % 64
  omega

/-- The entry of the table at two columns. -/
abbrev share (j c : Fin 640) : EReal := if j.val / 64 = c.val / 64 then ((1 / 64 : ℝ) : EReal) else 0

/-- A quotient by 64 is a product with a sixty-fourth. -/
theorem div_c64 (x : EReal) : Ideal.div x c64 = ((1 / 64 : ℝ) : EReal) * x := by
  rw [c64_eq]
  unfold Ideal.div
  rw [if_neg (by norm_num)]
  rw [mul_comm, one_div]
  rfl

/-- The squares against the table's column are the mean square of that column's head. -/
theorem mean_sq (p : Fin 640 → EReal) (g : Fin 10) (d : Fin 64) :
    ∑ j, p j * p j * share j (col g d) = Ideal.div (∑ e : Fin 64, p (col g e) * p (col g e)) c64 := by
  rw [sum_cols, div_c64, Cert.MoeMath.mul_sum_share _ (by norm_num) (by
    rw [← EReal.coe_one, EReal.coe_le_coe_iff]; norm_num)]
  rw [Finset.sum_eq_single g]
  · refine Finset.sum_congr rfl fun e _ => ?_
    rw [share, if_pos (by show (g.val * 64 + e.val) / 64 = (g.val * 64 + d.val) / 64; omega), mul_comm]
  · intro b _ hb
    refine Finset.sum_eq_zero fun e _ => ?_
    rw [share, if_neg (by
      show ¬ (b.val * 64 + e.val) / 64 = (g.val * 64 + d.val) / 64
      intro h
      exact hb (Fin.ext (by omega))), mul_zero]
  · intro h
    exact absurd (Finset.mem_univ g) h

/-- The kernel's normalisation by the table is the root mean square normalisation of the column's head. -/
theorem norm_table (p : Fin 640 → EReal) (g : Fin 10) (d : Fin 64) :
    p (col g d) * Ideal.rsqrt (∑ j, p j * p j * share j (col g d) + cε) = rmsNorm c64 cε (fun e => p (col g e)) d := by
  rw [mean_sq]; rfl

/-- The queries' scale and the change to powers of two as one factor. -/
theorem scale_eq (x : EReal) :
    Ideal.div (x * Ideal.ofBits .f32 0x3E000000#32) (Ideal.log (Ideal.ofBits .f32 0x40000000#32)) = x * (((1 / 8) * (Real.log 2)⁻¹ : ℝ) : EReal) := by
  have h8 : Ideal.ofBits .f32 0x3E000000#32 = ((1 / 8 : ℝ) : EReal) := by
    simp [Ideal.ofBits, Ideal.ieee, -EReal.coe_mul]; norm_num
  have hl : Real.log 2 ≠ 0 := (Real.log_pos (by norm_num)).ne'
  rw [h8, Cert.ReferenceIdeal.Value.log_two]
  unfold Ideal.div
  rw [if_neg (fun h => hl (EReal.coe_eq_zero.1 h)), EReal.coe_mul, ← mul_assoc]
  rfl

end Cert.ProjMath

end
-- ==== Proof.ProjHost.lean ====
/- The arrays that the input projection's host code prepares: the gains side by side, the weights, the table of shares. -/
module

public import proofs.«01_k».proof.Proof.ProjMath
public import proofs.«01_k».proof.Proof.Gen.ProjIdeal.Frame
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem
open Cert.SoftmaxMath

variable (m : (ℓ : Loc nD τ sig) → Buf (Elt Ideal) ℓ) (ρ : Dev nD → PrngReg)

theorem arg5_kept (c : Dev nD) : W4 m ρ c (Proc.devRef .tc main_arg5) = m ((c : Thread nD τ).loc main_arg5) := W4_args m ρ c _ (by decide)
theorem arg6_kept (c : Dev nD) : W4 m ρ c (Proc.devRef .tc main_arg6) = m ((c : Thread nD τ).loc main_arg6) := W4_args m ρ c _ (by decide)
theorem arg7_kept (c : Dev nD) : W4 m ρ c (Proc.devRef .tc main_arg7) = m ((c : Thread nD τ).loc main_arg7) := W4_args m ρ c _ (by decide)

theorem weights_at (c : Dev nD) (k : Fin 1024) (x : Fin 2304) : (V5 m ρ c main_v22 (ix2 k x) : EReal) = m ((c : Thread nD τ).loc main_arg5) (ix3 0 k x) := by
  have e : V5 m ρ c main_v22 = StableHlo.after hostOps1 (W4 m ρ c) (Proc.devRef .tc main_v22) := rfl
  rw [e]
  after_results
  rw [arg5_kept]
  pointwise

theorem gain_q (c : Dev nD) (h : Fin 8) (d : Fin 64) :
    (V5 m ρ c main_v20 (ix2 0 (⟨h.val * 64 + d.val, by omega⟩ : Fin 640)) : EReal) = m ((c : Thread nD τ).loc main_arg6) (ix2 0 d) := by
  have e : V5 m ρ c main_v20 = StableHlo.after hostOps1 (W4 m ρ c) (Proc.devRef .tc main_v20) := rfl
  rw [e]
  after_results
  rw [arg6_kept, arg7_kept]
  pointwise
  rw [dif_pos (show h.val * 64 + d.val < 512 by omega)]
  exact congrArg (fun a => m ((c : Thread nD τ).loc main_arg6) (ix2 0 a)) (Fin.ext (by show (h.val * 64 + d.val) % 64 = d.val; omega))

theorem gain_k (c : Dev nD) (h : Fin 2) (d : Fin 64) :
    (V5 m ρ c main_v20 (ix2 0 (⟨512 + (h.val * 64 + d.val), by omega⟩ : Fin 640)) : EReal) = m ((c : Thread nD τ).loc main_arg7) (ix2 0 d) := by
  have e : V5 m ρ c main_v20 = StableHlo.after hostOps1 (W4 m ρ c) (Proc.devRef .tc main_v20) := rfl
  rw [e]
  after_results
  rw [arg6_kept, arg7_kept]
  pointwise
  exact congrArg (fun a => m ((c : Thread nD τ).loc main_arg7) (ix2 0 a)) (Fin.ext (by show (h.val * 64 + d.val) % 64 = d.val; omega))

/-- The comparison of two heads' numbers. -/
theorem same_head : ∀ a b : Fin 10, IntOp.cmpi .eq (BitVec.ofNat 32 a.val) (BitVec.ofNat 32 b.val) = if a.val = b.val then 1#1 else 0#1 := by decide

theorem table_at (c : Dev nD) (j x : Fin 640) : (V5 m ρ c main_v33 (ix2 j x) : EReal) = Cert.ProjMath.share j x := by
  have e : V5 m ρ c main_v33 = StableHlo.after hostOps1 (W4 m ρ c) (Proc.devRef .tc main_v33) := rfl
  rw [e]
  after_results
  pointwise
  have e := same_head ⟨j.val / 64, by omega⟩ ⟨x.val / 64, by omega⟩
  simp only at e
  rw [e]
  show Ideal.div _ c64 = _
  rw [Cert.ProjMath.div_c64, Cert.ProjMath.share]
  by_cases h : j.val / 64 = x.val / 64
  · rw [if_pos h, if_pos h]
    show ((1 / 64 : ℝ) : EReal) * (((1#1 : BitVec 1).toNat : ℝ) : EReal) = _
    simp
  · rw [if_neg h, if_neg h]
    show ((1 / 64 : ℝ) : EReal) * (((0#1 : BitVec 1).toNat : ℝ) : EReal) = _
    simp

end Cert.ProjIdeal.Value

end
-- ==== Proof.ProjArray.lean ====
/- The input projection's result arrays: each is the projected row, normalised where it is a query or a key, laid out as that result wants it. -/
module

public import proofs.«01_k».proof.Proof.ProjBlock
public import proofs.«01_k».proof.Proof.ProjHost
public import Idealize.ShloMosaic.Lib.Pipeline.ValueKit

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)
open Cert.SoftmaxMath

section Defs

variable (X : S32x256x1024.Idx → EReal) (M : S1x6x1024.Idx → EReal) (W : S1024x2304.Idx → EReal) (G : S1x640.Idx → EReal) (T : S640x640.Idx → EReal)

/-- The projection of row `r` of batch `b` to column `c`. -/
def projArr (b : Fin 32) (r : Fin 256) (c : Fin 2304) : EReal :=
  projAt (fun k => X (ix3 b r k)) (fun k => M (ix3 0 0 k)) (fun k => M (ix3 0 1 k)) (fun k => W (ix2 k c))

/-- The normalised query or key of row `r` of batch `b` at column `c`. -/
def normArr (b : Fin 32) (r : Fin 256) (c : Fin 640) : EReal :=
  projArr X M W b r ⟨c.val, by omega⟩
    * Ideal.rsqrt (∑ j : Fin 640, projArr X M W b r ⟨j.val, by omega⟩ * projArr X M W b r ⟨j.val, by omega⟩ * T (ix2 j c) + cε) * G (ix2 0 c)

/-- The queries, head first, in the units of a power of two. -/
def qArr : S32x8x256x64.Idx → EReal := fun z =>
  normArr X M W G T (z 0) (z 2) ⟨(z 1).val * 64 + (z 3).val, by have : (z 1).val < 8 := (z 1).isLt; have : (z 3).val < 64 := (z 3).isLt; omega⟩ * cScale

/-- The keys, head first and transposed. -/
def ktArr : S32x2x64x256.Idx → EReal := fun z =>
  normArr X M W G T (z 0) (z 3) ⟨512 + ((z 1).val * 64 + (z 2).val), by have : (z 1).val < 2 := (z 1).isLt; have : (z 2).val < 64 := (z 2).isLt; omega⟩

/-- The values, head first, beside ones. -/
def vxArr : S32x2x256x128.Idx → EReal := fun z =>
  if h : (z 3).val < 64 then projArr X M W (z 0) (z 2) ⟨640 + ((z 1).val * 64 + (z 3).val), by have : (z 1).val < 2 := (z 1).isLt; omega⟩ else 1

/-- The columns from 768 on. -/
def hyArr : S32x256x1536.Idx → EReal := fun z =>
  projArr X M W (z 0) (z 1) ⟨768 + (z 2).val, by have : (z 2).val < 1536 := (z 2).isLt; omega⟩

/-- The values' columns. -/
def vArr : S32x256x128.Idx → EReal := fun z =>
  projArr X M W (z 0) (z 1) ⟨640 + (z 2).val, by have : (z 2).val < 128 := (z 2).isLt; omega⟩

/-- The keys, their heads side by side. -/
def kArr : S32x256x128.Idx → EReal := fun z =>
  normArr X M W G T (z 0) (z 1) ⟨512 + (z 2).val, by have : (z 2).val < 128 := (z 2).isLt; omega⟩

end Defs

variable (m : (ℓ : Loc nD τ sig) → Buf (Elt Ideal) ℓ) (ρ : Dev nD → PrngReg)

/-- Where each window stands at each grid point. -/
theorem idxs : ∀ t : Fin cfg1.N,
    (win1_0.index t = ![(grid1.coords t 0).val, 0, 0]
    ∧ win1_1.index t = ![0, 0, 0]
    ∧ win1_2.index t = ![0, 0]
    ∧ win1_3.index t = ![0, 0]
    ∧ win1_4.index t = ![0, 0])
    ∧ win1_5.index t = ![(grid1.coords t 0).val, 0, 0, 0]
    ∧ win1_6.index t = ![(grid1.coords t 0).val, 0, 0, 0]
    ∧ win1_7.index t = ![(grid1.coords t 0).val, 0, 0, 0]
    ∧ win1_8.index t = ![(grid1.coords t 0).val, 0, 0]
    ∧ win1_9.index t = ![(grid1.coords t 0).val, 0, 0]
    ∧ win1_10.index t = ![(grid1.coords t 0).val, 0, 0] :=
  (by decide +kernel : ∀ t : Fin grid1.N, _)

theorem batch_lt : ∀ t : Fin cfg1.N, (grid1.coords t 0).val < 32 := (by decide +kernel : ∀ t : Fin grid1.N, _)

/-- The batch that a grid point works on. -/
def batch (t : Fin cfg1.N) : Fin 32 := ⟨(grid1.coords t 0).val, batch_lt t⟩

/-- A row of the block is a row of its batch. -/
theorem row_eq (c : Dev nD) (t : Fin cfg1.N) (r : Fin 256) (k : Fin 2304) :
    rowOf (iblk1 (V5 m ρ) c 0 t) (iblk1 (V5 m ρ) c 1 t) (iblk1 (V5 m ρ) c 2 t) r k = projArr (V5 m ρ c main_arg0) (V5 m ρ c main_v10) (V5 m ρ c main_v22) (batch t) r k := by
  obtain ⟨⟨i0, i1, i2, i3, i4⟩, -⟩ := idxs t
  unfold rowOf blockProj projArr projAt batch
  refine Finset.sum_congr rfl fun a _ => congrArg₂ (· * ·) (congrArg₂ (· + ·) (congrArg₂ (· * ·) ?_ (congrArg (1 + ·) ?_)) ?_) ?_
  · blk_ext [iblk1, i0]
  · blk_ext [iblk1, i1]
  · blk_ext [iblk1, i1]
  · blk_ext [iblk1, i2]

/-- A normalised row of the block is one of its batch. -/
theorem nrm_eq (c : Dev nD) (t : Fin cfg1.N) (r : Fin 256) (k : Fin 640) :
    normOf (iblk1 (V5 m ρ) c 0 t) (iblk1 (V5 m ρ) c 1 t) (iblk1 (V5 m ρ) c 2 t) (iblk1 (V5 m ρ) c 3 t) (iblk1 (V5 m ρ) c 4 t) r k
      = normArr (V5 m ρ c main_arg0) (V5 m ρ c main_v10) (V5 m ρ c main_v22) (V5 m ρ c main_v20) (V5 m ρ c main_v33) (batch t) r k := by
  obtain ⟨⟨i0, i1, i2, i3, i4⟩, -⟩ := idxs t
  unfold normOf normArr
  simp only [row_eq]
  refine congrArg₂ (· * ·) (congrArg₂ (· * ·) rfl (congrArg Ideal.rsqrt (congrArg (· + cε) (Finset.sum_congr rfl fun a _ => congrArg₂ (· * ·) rfl ?_)))) ?_
  · blk_ext [iblk1, i4]
  · blk_ext [iblk1, i3]

theorem q_eq (c : Dev nD) : (dat1 (V5 m ρ) c).arrAt 5 cfg1.N
    = qArr (V5 m ρ c main_arg0) (V5 m ρ c main_v10) (V5 m ρ c main_v22) (V5 m ρ c main_v20) (V5 m ρ c main_v33) := by
  refine (dat1 (V5 m ρ) c).arrAt_eq_of_covers 5 _ (by decide +kernel) fun t hf y => ?_
  blk_simp
  rw [after1_5]
  obtain ⟨a, h, r, d, rfl⟩ : ∃ (a : Fin 1) (h : Fin 8) (r : Fin 256) (d : Fin 64), y = ix4 a h r d := ⟨y 0, y 1, y 2, y 3, eq_ix4 y⟩
  obtain rfl : a = 0 := Subsingleton.elim _ _
  obtain ⟨-, i5, -⟩ := idxs t
  have e : (win1_5.blk t).view.emb (ix4 0 h r d) = ix4 (batch t) h r d := by unfold batch; blk_ext [i5]
  rw [e, out5_at, nrm_eq]
  rfl

theorem kt_eq (c : Dev nD) : (dat1 (V5 m ρ) c).arrAt 6 cfg1.N
    = ktArr (V5 m ρ c main_arg0) (V5 m ρ c main_v10) (V5 m ρ c main_v22) (V5 m ρ c main_v20) (V5 m ρ c main_v33) := by
  refine (dat1 (V5 m ρ) c).arrAt_eq_of_covers 6 _ (by decide +kernel) fun t hf y => ?_
  blk_simp
  rw [after1_6]
  obtain ⟨a, h, d, r, rfl⟩ : ∃ (a : Fin 1) (h : Fin 2) (d : Fin 64) (r : Fin 256), y = ix4 a h d r := ⟨y 0, y 1, y 2, y 3, eq_ix4 y⟩
  obtain rfl : a = 0 := Subsingleton.elim _ _
  obtain ⟨-, -, i6, -⟩ := idxs t
  have e : (win1_6.blk t).view.emb (ix4 0 h d r) = ix4 (batch t) h d r := by unfold batch; blk_ext [i6]
  rw [e, out6_at, nrm_eq]
  rfl

theorem vx_eq (c : Dev nD) : (dat1 (V5 m ρ) c).arrAt 7 cfg1.N = vxArr (V5 m ρ c main_arg0) (V5 m ρ c main_v10) (V5 m ρ c main_v22) := by
  refine (dat1 (V5 m ρ) c).arrAt_eq_of_covers 7 _ (by decide +kernel) fun t hf y => ?_
  blk_simp
  rw [after1_7]
  obtain ⟨a, h, r, x, rfl⟩ : ∃ (a : Fin 1) (h : Fin 2) (r : Fin 256) (x : Fin 128), y = ix4 a h r x := ⟨y 0, y 1, y 2, y 3, eq_ix4 y⟩
  obtain rfl : a = 0 := Subsingleton.elim _ _
  obtain ⟨-, -, -, i7, -⟩ := idxs t
  have e : (win1_7.blk t).view.emb (ix4 0 h r x) = ix4 (batch t) h r x := by unfold batch; blk_ext [i7]
  rw [e, out7_at]
  simp only [row_eq]
  rfl

theorem hy_eq (c : Dev nD) : (dat1 (V5 m ρ) c).arrAt 8 cfg1.N = hyArr (V5 m ρ c main_arg0) (V5 m ρ c main_v10) (V5 m ρ c main_v22) := by
  refine (dat1 (V5 m ρ) c).arrAt_eq_of_covers 8 _ (by decide +kernel) fun t hf y => ?_
  blk_simp
  rw [after1_8]
  obtain ⟨a, r, x, rfl⟩ : ∃ (a : Fin 1) (r : Fin 256) (x : Fin 1536), y = ix3 a r x := ⟨y 0, y 1, y 2, eq_ix3 y⟩
  obtain rfl : a = 0 := Subsingleton.elim _ _
  obtain ⟨-, -, -, -, i8, -⟩ := idxs t
  have e : (win1_8.blk t).view.emb (ix3 0 r x) = ix3 (batch t) r x := by unfold batch; blk_ext [i8]
  rw [e, out8_at, row_eq]
  rfl

theorem v_eq (c : Dev nD) : (dat1 (V5 m ρ) c).arrAt 9 cfg1.N = vArr (V5 m ρ c main_arg0) (V5 m ρ c main_v10) (V5 m ρ c main_v22) := by
  refine (dat1 (V5 m ρ) c).arrAt_eq_of_covers 9 _ (by decide +kernel) fun t hf y => ?_
  blk_simp
  rw [after1_9]
  obtain ⟨a, r, x, rfl⟩ : ∃ (a : Fin 1) (r : Fin 256) (x : Fin 128), y = ix3 a r x := ⟨y 0, y 1, y 2, eq_ix3 y⟩
  obtain rfl : a = 0 := Subsingleton.elim _ _
  obtain ⟨-, -, -, -, -, i9, -⟩ := idxs t
  have e : (win1_9.blk t).view.emb (ix3 0 r x) = ix3 (batch t) r x := by unfold batch; blk_ext [i9]
  rw [e, out9_at, row_eq]
  rfl

theorem k_eq (c : Dev nD) : (dat1 (V5 m ρ) c).arrAt 10 cfg1.N
    = kArr (V5 m ρ c main_arg0) (V5 m ρ c main_v10) (V5 m ρ c main_v22) (V5 m ρ c main_v20) (V5 m ρ c main_v33) := by
  refine (dat1 (V5 m ρ) c).arrAt_eq_of_covers 10 _ (by decide +kernel) fun t hf y => ?_
  blk_simp
  rw [after1_10]
  obtain ⟨a, r, x, rfl⟩ : ∃ (a : Fin 1) (r : Fin 256) (x : Fin 128), y = ix3 a r x := ⟨y 0, y 1, y 2, eq_ix3 y⟩
  obtain rfl : a = 0 := Subsingleton.elim _ _
  obtain ⟨-, -, -, -, -, -, i10⟩ := idxs t
  have e : (win1_10.blk t).view.emb (ix3 0 r x) = ix3 (batch t) r x := by unfold batch; blk_ext [i10]
  rw [e, out10_at, nrm_eq]
  rfl

end Cert.ProjIdeal.Value

end
-- ==== Proof.ProjAdaHost.lean ====
/- The arrays that the host code prepares for the modulation's call, and the two results that it cuts from that call's array. -/
module

public import proofs.«01_k».proof.Proof.Gen.ProjIdeal.Frame
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg)

/-- Row `b` of the stacked conditions is the `b`-th condition. -/
theorem cond_at (c : Dev nD) (b : Fin 8) (k : Fin 1024) :
    (V3 m ρ c main_v2 (ix2 (⟨b.val, by omega⟩ : Fin 16) k) : EReal) = m ((c : Thread nD τ).loc main_arg1) (ix2 b k) := by
  have e : V3 m ρ c main_v2 = StableHlo.after hostOps0_2 (StableHlo.after hostOps0_1 (StableHlo.after hostOps0 (W0 m ρ c))) (Proc.devRef .tc main_v2) := rfl
  rw [e]
  after_results
  simp only [StableHlo.TRef.toBuf, StableHlo.TRef.ofBuf, cast_eq]
  pointwise
  rw [dif_pos (show b.val < 9 by omega)]

/-- Row 8 of the stacked conditions is the prompt's condition. -/
theorem cond_ctx (c : Dev nD) (k : Fin 1024) :
    (V3 m ρ c main_v2 (ix2 (8 : Fin 16) k) : EReal) = m ((c : Thread nD τ).loc main_arg2) (ix1 k) := by
  have e : V3 m ρ c main_v2 = StableHlo.after hostOps0_2 (StableHlo.after hostOps0_1 (StableHlo.after hostOps0 (W0 m ρ c))) (Proc.devRef .tc main_v2) := rfl
  rw [e]
  after_results
  simp only [StableHlo.TRef.toBuf, StableHlo.TRef.ofBuf, cast_eq]
  pointwise

theorem wmod_at (c : Dev nD) (k : Fin 1024) (x : Fin 6144) :
    (V3 m ρ c main_v3 (ix2 k x) : EReal) = m ((c : Thread nD τ).loc main_arg3) (ix3 0 k x) := by
  have e : V3 m ρ c main_v3 = StableHlo.after hostOps0_2 (StableHlo.after hostOps0_1 (StableHlo.after hostOps0 (W0 m ρ c))) (Proc.devRef .tc main_v3) := rfl
  rw [e]
  after_results
  pointwise

theorem bmod_at (c : Dev nD) (x : Fin 6144) :
    (V3 m ρ c main_v5 (ix2 0 x) : EReal) = m ((c : Thread nD τ).loc main_arg4) (ix2 0 x) := by
  have e : V3 m ρ c main_v5 = StableHlo.after hostOps0_2 (StableHlo.after hostOps0_1 (StableHlo.after hostOps0 (W0 m ρ c))) (Proc.devRef .tc main_v5) := rfl
  rw [e]
  after_results
  pointwise

/-- The sample's modulation vectors are the first eight rows of the call's array. -/
theorem lat_at (c : Dev nD) (b : Fin 8) (j : Fin 6) (d : Fin 1024) :
    (V5 m ρ c main_v8 (ix3 b j d) : EReal)
      = (dat0 (V3 m ρ) c).arrAt 3 cfg0.N (ix2 (⟨b.val, by omega⟩ : Fin 16) (⟨j.val * 1024 + d.val, by omega⟩ : Fin 6144)) := by
  have e : V5 m ρ c main_v8 = StableHlo.after hostOps1 (W4 m ρ c) (Proc.devRef .tc main_v8) := rfl
  rw [e]
  after_results
  rw [W4_arr m ρ c 3]
  pointwise

/-- The prompt's modulation vectors are the ninth row of the call's array. -/
theorem ctx_at (c : Dev nD) (j : Fin 6) (d : Fin 1024) :
    (V5 m ρ c main_v10 (ix3 0 j d) : EReal)
      = (dat0 (V3 m ρ) c).arrAt 3 cfg0.N (ix2 (8 : Fin 16) (⟨j.val * 1024 + d.val, by omega⟩ : Fin 6144)) := by
  have e : V5 m ρ c main_v10 = StableHlo.after hostOps1 (W4 m ρ c) (Proc.devRef .tc main_v10) := rfl
  rw [e]
  after_results
  rw [W4_arr m ρ c 3]
  pointwise

end Cert.ProjIdeal.Value

end
-- ==== Proof.ProjAda.lean ====
/- The modulation's call: each entry of its array is the activated condition against a column of the weights, plus the bias. The
   body splits each factor of the product in two parts; for finite factors the second parts are zero. -/
module

public import proofs.«01_k».proof.Proof.MoeMath
public import proofs.«01_k».proof.Proof.ProjAdaHost
public import Idealize.ShloMosaic.Lib.Pipeline.ValueKit

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)
open Cert.MoeIdeal.Tile (swish)

/-- One entry as the body computes it: the product of the leading parts, the two products with one remainder each, and the bias. -/
def splitAt (x w : Fin 1024 → EReal) (b : EReal) : EReal :=
  ∑ k, swish (x k) * w k + ∑ k, (swish (x k) - swish (x k)) * w k + ∑ k, swish (x k) * (w k - w k) + b

theorem ada_at (P0 : Vec Ideal S16x1024 .f32) (P1 : Vec Ideal S1024x1536 .f32) (P2 : Vec Ideal S1x1536 .f32) (r : Fin 16) (c : Fin 1536) :
    k0_pay1 P0 P1 P2 (ix2 r c) = splitAt (fun k => P0 (ix2 r k)) (fun k => P1 (ix2 k c)) (P2 (ix2 0 c)) := by
  pointwise [k0_pay1, splitAt, swish]

section Out

variable (x0 : Vec Ideal S16x1024 .f32) (x1 : Vec Ideal S1024x1536 .f32) (x2 : Vec Ideal S1x1536 .f32)

theorem lda0 : View.ld x0 r0_0 = x0 := by
  funext y; obtain ⟨a, b, rfl⟩ : ∃ (a : Fin 16) (b : Fin 1024), y = ix2 a b := ⟨y 0, y 1, eq_ix2 y⟩; pointwise
theorem lda1 : View.ld x1 r0_1 = x1 := by
  funext y; obtain ⟨a, b, rfl⟩ : ∃ (a : Fin 1024) (b : Fin 1536), y = ix2 a b := ⟨y 0, y 1, eq_ix2 y⟩; pointwise
theorem lda2 : View.ld x2 r0_2 = x2 := by
  funext y; obtain ⟨a, b, rfl⟩ : ∃ (a : Fin 1) (b : Fin 1536), y = ix2 a b := ⟨y 0, y 1, eq_ix2 y⟩; obtain rfl : a = 0 := Subsingleton.elim _ _; pointwise

theorem out3_eq : out0_3 x0 x1 x2 = k0_pay1 x0 x1 x2 := by
  funext z
  unfold out0_3
  rw [lda0, lda1, lda2]
  refine View.canon_apply_of_pieces (Val := Elt Ideal) (k0_pay1 x0 x1 x2) _ ?_ z (cover0_3 _ z)
  intro p hp
  simp only [List.mem_cons, List.not_mem_nil, or_false] at hp
  subst hp
  intro x
  obtain ⟨a, b, rfl⟩ : ∃ (a : Fin 16) (b : Fin 1536), x = ix2 a b := ⟨x 0, x 1, eq_ix2 x⟩
  have he : r0_3.emb (ix2 a b) = ix2 a b := by
    funext t
    match t with
    | ⟨0, _⟩ => exact Fin.ext (by show 0 + 1 * a.val = a.val; omega)
    | ⟨1, _⟩ => exact Fin.ext (by show 0 + 1 * b.val = b.val; omega)
  show k0_pay1 x0 x1 x2 (ix2 a b) = k0_pay1 x0 x1 x2 (r0_3.emb (ix2 a b))
  rw [he]

end Out

/-- The call's array, from its three operands. -/
def adaArr (C : S16x1024.Idx → EReal) (W : S1024x6144.Idx → EReal) (B : S1x6144.Idx → EReal) : S16x6144.Idx → EReal := fun z =>
  splitAt (fun k => C (ix2 (z 0) k)) (fun k => W (ix2 k (z 1))) (B (ix2 0 (z 1)))

variable (m : (ℓ : Loc nD τ sig) → Buf (Elt Ideal) ℓ) (ρ : Dev nD → PrngReg)

/-- Where each window stands at each grid point. -/
theorem ada_idxs : ∀ t : Fin cfg0.N,
    win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

theorem ada_lt : ∀ t : Fin cfg0.N, (grid0.coords t 0).val < 4 := (by decide +kernel : ∀ t : Fin grid0.N, _)

/-- The column of the array that column `x` of a grid point's block is. -/
def adaCol (t : Fin cfg0.N) (x : Fin 1536) : Fin 6144 := ⟨(grid0.coords t 0).val * 1536 + x.val, by have := ada_lt t; omega⟩

theorem ada_eq (c : Dev nD) : (dat0 (V3 m ρ) c).arrAt 3 cfg0.N = adaArr (V3 m ρ c main_v2) (V3 m ρ c main_v3) (V3 m ρ c main_v5) := by
  refine (dat0 (V3 m ρ) c).arrAt_eq_of_covers 3 _ (by decide +kernel) fun t hf y => ?_
  blk_simp
  rw [after0_3]
  obtain ⟨r, x, rfl⟩ : ∃ (r : Fin 16) (x : Fin 1536), y = ix2 r x := ⟨y 0, y 1, eq_ix2 y⟩
  obtain ⟨i0, i1, i2, i3⟩ := ada_idxs t
  have e : (win0_3.blk t).view.emb (ix2 r x) = ix2 r (adaCol t x) := by unfold adaCol; blk_ext [i3]
  rw [e, out3_eq, ada_at]
  show _ = splitAt (fun k => V3 m ρ c main_v2 (ix2 r k)) (fun k => V3 m ρ c main_v3 (ix2 k (adaCol t x))) (V3 m ρ c main_v5 (ix2 0 (adaCol t x)))
  have e0 : ∀ k : Fin 1024, iblk0 (V3 m ρ) c 0 t (ix2 r k) = V3 m ρ c main_v2 (ix2 r k) := fun k => by blk_ext [iblk0, i0]
  have e1 : ∀ k : Fin 1024, iblk0 (V3 m ρ) c 1 t (ix2 k x) = V3 m ρ c main_v3 (ix2 k (adaCol t x)) := fun k => by unfold adaCol; blk_ext [iblk0, i1]
  have e2 : iblk0 (V3 m ρ) c 2 t (ix2 0 x) = V3 m ρ c main_v5 (ix2 0 (adaCol t x)) := by unfold adaCol; blk_ext [iblk0, i2]
  exact congr (congr (congrArg splitAt (funext e0)) (funext e1)) e2

/-! ## Finite factors -/

/-- Neither infinity. -/
def IsReal (x : EReal) : Prop := ∃ r : ℝ, x = r

theorem swish_real {x : EReal} (h : IsReal x) : IsReal (swish x) := by
  obtain ⟨r, rfl⟩ := h
  have hp : (1 + Real.exp (-r) : ℝ) ≠ 0 := (add_pos one_pos (Real.exp_pos _)).ne'
  refine ⟨r / (1 + Real.exp (-r)), ?_⟩
  unfold swish
  have e : (1 : EReal) + Ideal.exp (0 - (r : EReal)) = ((1 + Real.exp (-r) : ℝ) : EReal) := by
    rw [zero_sub, ← EReal.coe_neg]
    rfl
  rw [e]
  unfold Ideal.div
  rw [if_neg (fun h => hp (EReal.coe_eq_zero.1 h)), div_eq_mul_inv, EReal.coe_mul]
  rfl

theorem sub_self_real {x : EReal} (h : IsReal x) : x - x = 0 := by
  obtain ⟨r, rfl⟩ := h
  rw [← EReal.coe_sub, sub_self, EReal.coe_zero]

/-- With finite factors only the product of the leading parts is left. -/
theorem splitAt_real (x w : Fin 1024 → EReal) (b : EReal) (hx : ∀ k, IsReal (x k)) (hw : ∀ k, IsReal (w k)) :
    splitAt x w b = ∑ k, swish (x k) * w k + b := by
  unfold splitAt
  rw [Finset.sum_eq_zero (f := fun k => (swish (x k) - swish (x k)) * w k) (fun k _ => by rw [sub_self_real (swish_real (hx k)), zero_mul]),
    Finset.sum_eq_zero (f := fun k => swish (x k) * (w k - w k)) (fun k _ => by rw [sub_self_real (hw k), mul_zero]), add_zero, add_zero]

end Cert.ProjIdeal.Value

end
-- ==== Proof.ProjFinite.lean ====
/- What the modulation's precondition says, entry by entry: the conditions and the modulation's weights are finite. -/
module

public import proofs.«01_k».proof.Proof.ProjAda
public import proofs.«01_k».proof.Proof.Gen.Pre_finite_modulation
public import Idealize.ShloMosaic.Lib.Pointwise
public import Idealize.ShloMosaic.Lib.ReduceAll

@[expose] public section

set_option maxRecDepth 16384

noncomputable section

namespace Cert.ProjFinite

open Idealize.ShloMosaic
open Cert.ProjIdeal.Value (IsReal)
open Cert.Pre_finite_modulation (S32x256x1024 S8x1024 S1024 S1x1024x6144 S1x6144 S1x1024x2304 S1x64)

/-- The word of the positive infinity. -/
theorem inf_word : Ideal.ofBits .f32 0x7F800000#32 = ⊤ := by
  simp [Ideal.ofBits, Ideal.ieee]

/-- A value whose magnitude lies below infinity is neither infinity. -/
theorem real_of_lt {x : EReal} (h : max x (-x) < ⊤) : IsReal x := by
  induction x with
  | bot => exact absurd h (by simp)
  | top => exact absurd h (by simp)
  | coe r => exact ⟨r, rfl⟩

theorem of_bit : ∀ b : Bool, BitVec.ofBool b = 1#1 → b = true := by decide

/-- The precondition's three halves. -/
theorem finite (X : FVec Ideal S32x256x1024 .f32) (C : FVec Ideal S8x1024 .f32) (c : FVec Ideal S1024 .f32) (W : FVec Ideal S1x1024x6144 .f32)
    (B : FVec Ideal S1x6144 .f32) (P : FVec Ideal S1x1024x2304 .f32) (gq gk : FVec Ideal S1x64 .f32)
    (h : Cert.Pre_finite_modulation.fn (F := Ideal) X C c W B P gq gk = fun _ => 1#1) :
    (∀ (b : Fin 8) (k : Fin 1024), IsReal (C (ix2 b k))) ∧ (∀ k : Fin 1024, IsReal (c (ix1 k)))
    ∧ ∀ (k : Fin 1024) (x : Fin 6144), IsReal (W (ix3 0 k x)) := by
  have h0 := congrFun h ix0
  obtain ⟨h1, hw⟩ := IntOp.andi_eq_one.1 h0
  obtain ⟨hC, hc⟩ := IntOp.andi_eq_one.1 h1
  refine ⟨fun b k => ?_, fun k => ?_, fun k x => ?_⟩
  · have e := Host.reduce_andi_all _ _ _ _ _ hC (ix2 b k)
    pointwise at e
    exact real_of_lt (inf_word ▸ of_decide_eq_true (of_bit _ e))
  · have e := Host.reduce_andi_all _ _ _ _ _ hc (ix1 k)
    pointwise at e
    exact real_of_lt (inf_word ▸ of_decide_eq_true (of_bit _ e))
  · have e := Host.reduce_andi_all _ _ _ _ _ hw (ix3 0 k x)
    pointwise at e
    exact real_of_lt (inf_word ▸ of_decide_eq_true (of_bit _ e))

end Cert.ProjFinite

end
-- ==== Proof.ProjRef.lean ====
/- What the plain reference of the input projection computes, output by output. -/
module

public import proofs.«01_k».proof.Proof.Row
public import proofs.«01_k».proof.Proof.Gen.ProjRefIdeal.Run
public import Idealize.ShloMosaic.Lib.Pointwise

@[expose] public section

set_option maxRecDepth 16384

noncomputable section

namespace Cert.ProjRefIdeal.Value

open Cert.ProjRefIdeal Cert.ProjRefIdeal.Gen Idealize.ShloMosaic Idealize.ShloMosaic.TcCoe Idealize.SL.Sem
open Cert.SoftmaxMath

/-! ## The reference's stages, each a function of the stage before -/

/-- The rows, modulated by their shift and scale. -/
def modulated (X : FVec Ideal S32x256x1024 .f32) (M : FVec Ideal S1x6x1024 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 1, 0] M slices_S1x6x1024_S1x1x1024_0_1_0))))
    (broadcastInDim S32x256x1024 ![0, 1, 2] bcast_S1x1x1024_S32x256x1024_0_1_2 (extractStridedSlice S1x1x1024 ![0, 0, 0] M slices_S1x6x1024_S1x1x1024_0_0_0))

/-- The rows through the weights. -/
def projected (H : FVec Ideal S32x256x1024 .f32) (W : FVec Ideal S1024x2304 .f32) : FVec Ideal S32x256x2304 .f32 :=
  Host.dotGeneral dot_S32x256x1024_S1024x2304_S32x256x2304_2_0_01_1_n_n none H W

/-- The queries' columns, head by head. -/
def qHeads (J : FVec Ideal S32x256x2304 .f32) : FVec Ideal S32x256x8x64 .f32 :=
  shapeCast _ (extractStridedSlice S32x256x512 ![0, 0, 0] J slices_S32x256x2304_S32x256x512_0_0_0) shapeCasts_S32x256x512_S32x256x8x64

/-- The keys' columns, head by head. -/
def kHeads (J : FVec Ideal S32x256x2304 .f32) : FVec Ideal S32x256x2x64 .f32 :=
  shapeCast _ (extractStridedSlice S32x256x128 ![0, 0, 512] J slices_S32x256x2304_S32x256x128_0_0_512) shapeCasts_S32x256x128_S32x256x2x64

/-- The queries, normalised head by head. -/
def qNormed (Q : FVec Ideal S32x256x8x64 .f32) (g : FVec Ideal S64 .f32) : FVec Ideal S32x256x8x64 .f32 :=
  mulf (mulf Q (broadcastInDim S32x256x8x64 ![0, 1, 2, 3] bcast_S32x256x8x1_S32x256x8x64_0_1_2_3 (Host.rsqrt (addf (Host.divf (broadcastInDim S32x256x8x1 ![0, 1, 2] bcast_S32x256x8_S32x256x8x1_0_1_2 (Host.reduceAdd (mulf Q Q) (constant S_ .f32 0x00000000#32) reducesTo_S32x256x8x64_S32x256x8_d3 h_S_)) (broadcastInDim S32x256x8x1 ![] bcast_S_S32x256x8x1 (constant S_ .f32 0x42800000#32))) (broadcastInDim S32x256x8x1 ![] bcast_S_S32x256x8x1 (constant S_ .f32 0x358637BD#32))))))
    (broadcastInDim S32x256x8x64 ![0, 1, 2, 3] bcast_S1x1x1x64_S32x256x8x64_0_1_2_3 (broadcastInDim S1x1x1x64 ![3] bcast_S64_S1x1x1x64_3 g))

/-- The keys, normalised head by head. -/
def kNormed (K : FVec Ideal S32x256x2x64 .f32) (g : FVec Ideal S64 .f32) : FVec Ideal S32x256x2x64 .f32 :=
  mulf (mulf K (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 (Host.reduceAdd (mulf K K) (constant S_ .f32 0x00000000#32) reducesTo_S32x256x2x64_S32x256x2_d3 h_S_)) (broadcastInDim S32x256x2x1 ![] bcast_S_S32x256x2x1 (constant S_ .f32 0x42800000#32))) (broadcastInDim S32x256x2x1 ![] bcast_S_S32x256x2x1 (constant S_ .f32 0x358637BD#32))))))
    (broadcastInDim S32x256x2x64 ![0, 1, 2, 3] bcast_S1x1x1x64_S32x256x2x64_0_1_2_3 (broadcastInDim S1x1x1x64 ![3] bcast_S64_S1x1x1x64_3 g))

/-- The queries in the units of a power of two, head first. -/
def qOut (Q : FVec Ideal S32x256x8x64 .f32) : FVec Ideal S32x8x256x64 .bf16 :=
  truncf .bf16 (transpose S32x8x256x64 [0, 2, 1, 3] (Host.divf (mulf Q (broadcastInDim S32x256x8x64 ![] bcast_S_S32x256x8x64 (constant S_ .f32 0x3E000000#32))) (broadcastInDim S32x256x8x64 ![] bcast_S_S32x256x8x64 (Host.log (constant S_ .f32 0x40000000#32)))) transposes_S32x256x8x64_S32x8x256x64_0_2_1_3) bitsLt_bf16_f32

/-- The keys, head first and transposed. -/
def ktOut (K : FVec Ideal S32x256x2x64 .f32) : FVec Ideal S32x2x64x256 .bf16 :=
  truncf .bf16 (transpose S32x2x64x256 [0, 2, 3, 1] K transposes_S32x256x2x64_S32x2x64x256_0_2_3_1) bitsLt_bf16_f32

/-- The values' columns. -/
def vOut (J : FVec Ideal S32x256x2304 .f32) : FVec Ideal S32x256x128 .f32 :=
  extractStridedSlice S32x256x128 ![0, 0, 640] J slices_S32x256x2304_S32x256x128_0_0_640

/-- The values, head first, beside ones. -/
def vxOut (J : FVec Ideal S32x256x2304 .f32) : FVec Ideal S32x2x256x128 .bf16 :=
  truncf .bf16 (concatenate S32x2x256x128 3 [⟨S32x2x256x64, (transpose S32x2x256x64 [0, 2, 1, 3] (shapeCast _ (extractStridedSlice S32x256x128 ![0, 0, 640] J slices_S32x256x2304_S32x256x128_0_0_640) shapeCasts_S32x256x128_S32x256x2x64) transposes_S32x256x2x64_S32x2x256x64_0_2_1_3)⟩, ⟨S32x2x256x64, (broadcastInDim S32x2x256x64 ![] bcast_S_S32x2x256x64 (constant S_ .f32 0x3F800000#32))⟩] concatenates_S32x2x256x64_S32x2x256x64_S32x2x256x128_d3) bitsLt_bf16_f32

/-- The remaining columns. -/
def hyOut (J : FVec Ideal S32x256x2304 .f32) : FVec Ideal S32x256x1536 .f32 :=
  extractStridedSlice S32x256x1536 ![0, 0, 768] J slices_S32x256x2304_S32x256x1536_0_0_768

/-- The keys, their heads side by side. -/
def kOut (K : FVec Ideal S32x256x2x64 .f32) : FVec Ideal S32x256x128 .f32 :=
  shapeCast _ K shapeCasts_S32x256x2x64_S32x256x128

/-- The modulation's weights and bias without their leading axis. -/
abbrev wm2 (W : FVec Ideal S1x1024x6144 .f32) : FVec Ideal S1024x6144 .f32 := shapeCast _ W shapeCasts_S1x1024x6144_S1024x6144
abbrev bm1 (B : FVec Ideal S1x6144 .f32) : FVec Ideal S6144 .f32 := shapeCast _ B shapeCasts_S1x6144_S6144

/-- The projection's weights and the gains without their leading axis. -/
abbrev w2 (W : FVec Ideal S1x1024x2304 .f32) : FVec Ideal S1024x2304 .f32 := shapeCast _ W shapeCasts_S1x1024x2304_S1024x2304
abbrev g1 (g : FVec Ideal S1x64 .f32) : FVec Ideal S64 .f32 := shapeCast _ g shapeCasts_S1x64_S64

/-- The sample's modulation vectors: each condition times its logistic value, through the weights, plus the bias. -/
def latOf (C : FVec Ideal S8x1024 .f32) (W : FVec Ideal S1x1024x6144 .f32) (B : FVec Ideal S1x6144 .f32) : FVec Ideal S8x6x1024 .f32 :=
  shapeCast _ (addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) (wm2 W)) (broadcastInDim S8x6144 ![0, 1] bcast_S1x6144_S8x6144_0_1 (broadcastInDim S1x6144 ![1] bcast_S6144_S1x6144_1 (bm1 B)))) shapeCasts_S8x6144_S8x6x1024

/-- The prompt's modulation vectors. -/
def ctxOf (c : FVec Ideal S1024 .f32) (W : FVec Ideal S1x1024x6144 .f32) (B : FVec Ideal S1x6144 .f32) : FVec Ideal S1x6x1024 .f32 :=
  shapeCast _ (addf (Host.dotGeneral dot_S1x1024_S1024x6144_S1x6144_1_0_0_1_n_n none (mulf (broadcastInDim S1x1024 ![1] bcast_S1024_S1x1024_1 c) (Host.divf (broadcastInDim S1x1024 ![] bcast_S_S1x1024 (constant S_ .f32 0x3F800000#32)) (addf (broadcastInDim S1x1024 ![] bcast_S_S1x1024 (constant S_ .f32 0x3F800000#32)) (Host.exp (Host.negf (broadcastInDim S1x1024 ![1] bcast_S1024_S1x1024_1 c)))))) (wm2 W)) (broadcastInDim S1x6144 ![1] bcast_S6144_S1x6144_1 (bm1 B))) shapeCasts_S1x6144_S1x6x1024

/-- The projection as a function of the arguments and the modulation vectors. -/
abbrev projOf (X : FVec Ideal S32x256x1024 .f32) (M : FVec Ideal S1x6x1024 .f32) (W : FVec Ideal S1024x2304 .f32) : FVec Ideal S32x256x2304 .f32 :=
  projected (modulated X M) W

/-- The run ends with the compositions of the stages as its results and its arguments unchanged. -/
theorem run_plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = latOf (m ((c.tc : Thread nD τ).loc main_arg1)) (m ((c.tc : Thread nD τ).loc main_arg3)) (m ((c.tc : Thread nD τ).loc main_arg4))
      ∧ r.2.mem ((c.tc : Thread nD τ).loc main_v15) = ctxOf (m ((c.tc : Thread nD τ).loc main_arg2)) (m ((c.tc : Thread nD τ).loc main_arg3)) (m ((c.tc : Thread nD τ).loc main_arg4))
      ∧ r.2.mem ((c.tc : Thread nD τ).loc main_v66) = qOut (qNormed (qHeads (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))) (g1 (m ((c.tc : Thread nD τ).loc main_arg6))))
      ∧ r.2.mem ((c.tc : Thread nD τ).loc main_v68) = ktOut (kNormed (kHeads (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))) (g1 (m ((c.tc : Thread nD τ).loc main_arg7))))
      ∧ r.2.mem ((c.tc : Thread nD τ).loc main_v73) = vxOut (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))
      ∧ r.2.mem ((c.tc : Thread nD τ).loc main_v29) = hyOut (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))
      ∧ r.2.mem ((c.tc : Thread nD τ).loc main_v28) = vOut (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))
      ∧ r.2.mem ((c.tc : Thread nD τ).loc main_v74) = kOut (kNormed (kHeads (projOf (m ((c.tc : Thread nD τ).loc main_arg0)) (ctxOf (m ((c.tc : Thread nD τ).loc main_arg2)) (m ((c.tc : Thread nD τ).loc main_arg3)) (m ((c.tc : Thread nD τ).loc main_arg4))) (w2 (m ((c.tc : Thread nD τ).loc main_arg5))))) (g1 (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run (F := Ideal) m ρ

/-! ## The stages at an index -/

theorem latOf_at (C : FVec Ideal S8x1024 .f32) (W : FVec Ideal S1x1024x6144 .f32) (B : FVec Ideal S1x6144 .f32) (b : Fin 8) (j : Fin 6) (d : Fin 1024) :
    latOf C W B (ix3 b j d) = ∑ k : Fin 1024, C (ix2 b k) * Ideal.div 1 (1 + Ideal.exp (-C (ix2 b k))) * W (ix3 0 k (⟨j.val * 1024 + d.val, by omega⟩ : Fin 6144))
      + B (ix2 0 (⟨j.val * 1024 + d.val, by omega⟩ : Fin 6144)) := by
  pointwise [latOf]

theorem ctxOf_at (c : FVec Ideal S1024 .f32) (W : FVec Ideal S1x1024x6144 .f32) (B : FVec Ideal S1x6144 .f32) (j : Fin 6) (d : Fin 1024) :
    ctxOf c W B (ix3 0 j d) = ∑ k : Fin 1024, c (ix1 k) * Ideal.div 1 (1 + Ideal.exp (-c (ix1 k))) * W (ix3 0 k (⟨j.val * 1024 + d.val, by omega⟩ : Fin 6144))
      + B (ix2 0 (⟨j.val * 1024 + d.val, by omega⟩ : Fin 6144)) := by
  pointwise [ctxOf]

theorem w2_at (W : FVec Ideal S1x1024x2304 .f32) (k : Fin 1024) (x : Fin 2304) : w2 W (ix2 k x) = W (ix3 0 k x) := by
  pointwise

theorem g1_at (g : FVec Ideal S1x64 .f32) (d : Fin 64) : g1 g (ix1 d) = g (ix2 0 d) := by
  pointwise

theorem projOf_at (X : FVec Ideal S32x256x1024 .f32) (M : FVec Ideal S1x6x1024 .f32) (W : FVec Ideal S1024x2304 .f32) (b : Fin 32) (l : Fin 256) (c : Fin 2304) :
    projOf X M W (ix3 b l c) = ∑ k : Fin 1024, (X (ix3 b l k) * (1 + M (ix3 0 1 k)) + M (ix3 0 0 k)) * W (ix2 k c) := by
  pointwise [projected, modulated]

theorem qHeads_at (J : FVec Ideal S32x256x2304 .f32) (b : Fin 32) (l : Fin 256) (h : Fin 8) (d : Fin 64) :
    qHeads J (ix4 b l h d) = J (ix3 b l (⟨h.val * 64 + d.val, by omega⟩ : Fin 2304)) := by
  pointwise [qHeads]

theorem kHeads_at (J : FVec Ideal S32x256x2304 .f32) (b : Fin 32) (l : Fin 256) (h : Fin 2) (d : Fin 64) :
    kHeads J (ix4 b l h d) = J (ix3 b l (⟨512 + (h.val * 64 + d.val), by omega⟩ : Fin 2304)) := by
  pointwise [kHeads]

theorem qNormed_at (Q : FVec Ideal S32x256x8x64 .f32) (g : FVec Ideal S64 .f32) (b : Fin 32) (l : Fin 256) (h : Fin 8) (d : Fin 64) :
    qNormed Q g (ix4 b l h d) = rmsNorm c64 cε (fun e => Q (ix4 b l h e)) d * g (ix1 d) := by
  pointwise [qNormed, rmsNorm]

theorem kNormed_at (K : FVec Ideal S32x256x2x64 .f32) (g : FVec Ideal S64 .f32) (b : Fin 32) (l : Fin 256) (h : Fin 2) (d : Fin 64) :
    kNormed K g (ix4 b l h d) = rmsNorm c64 cε (fun e => K (ix4 b l h e)) d * g (ix1 d) := by
  pointwise [kNormed, rmsNorm]

theorem qOut_at (Q : FVec Ideal S32x256x8x64 .f32) (b : Fin 32) (h : Fin 8) (l : Fin 256) (d : Fin 64) :
    qOut Q (ix4 b h l d) = Ideal.div (Q (ix4 b l h d) * Ideal.ofBits .f32 0x3E000000#32) (Ideal.log (Ideal.ofBits .f32 0x40000000#32)) := by
  pointwise [qOut]

theorem ktOut_at (K : FVec Ideal S32x256x2x64 .f32) (b : Fin 32) (h : Fin 2) (d : Fin 64) (l : Fin 256) :
    ktOut K (ix4 b h d l) = K (ix4 b l h d) := by
  pointwise [ktOut]

theorem vOut_at (J : FVec Ideal S32x256x2304 .f32) (b : Fin 32) (l : Fin 256) (c : Fin 128) :
    vOut J (ix3 b l c) = J (ix3 b l (⟨640 + c.val, by omega⟩ : Fin 2304)) := by
  pointwise [vOut]

theorem hyOut_at (J : FVec Ideal S32x256x2304 .f32) (b : Fin 32) (l : Fin 256) (c : Fin 1536) :
    hyOut J (ix3 b l c) = J (ix3 b l (⟨768 + c.val, by omega⟩ : Fin 2304)) := by
  pointwise [hyOut]

theorem vxOut_at (J : FVec Ideal S32x256x2304 .f32) (b : Fin 32) (h : Fin 2) (l : Fin 256) (e : Fin 128) :
    vxOut J (ix4 b h l e) = if p : e.val < 64 then J (ix3 b l (⟨640 + (h.val * 64 + e.val), by omega⟩ : Fin 2304)) else (1 : EReal) := by
  pointwise [vxOut]

theorem kOut_at (K : FVec Ideal S32x256x2x64 .f32) (b : Fin 32) (l : Fin 256) (h : Fin 2) (d : Fin 64) :
    kOut K (ix3 b l (⟨h.val * 64 + d.val, by omega⟩ : Fin 128)) = K (ix4 b l h d) := by
  pointwise [kOut]

end Cert.ProjRefIdeal.Value

end
-- ==== Proof.ProjClaims.lean ====
/- The frames of the modulation and the input projection, and the equations of their eight results with the plain reference's. -/
module

public import proofs.«01_k».proof.Defs
public import proofs.«01_k».proof.Proof.ProjRun
public import proofs.«01_k».proof.Proof.ProjArray
public import proofs.«01_k».proof.Proof.ProjFinite
public import proofs.«01_k».proof.Proof.ProjRef
public import proofs.«01_k».proof.Proof.Gen.Proj.Frame
public import proofs.«01_k».proof.Proof.Gen.ProjIdeal.Frame

@[expose] public section

set_option maxRecDepth 16384

noncomputable section

namespace Cert.ProjClaims

open Idealize.ShloMosaic Idealize.ShloMosaic.TcCoe Idealize.SL.Sem
open Cert.SoftmaxMath Cert.ProjMath
open Cert.ProjIdeal (S32x256x1024 S1x6x1024 S1024x2304 S1x640 S640x640 S64)
open Cert.ProjIdeal.Value Cert.ProjRefIdeal.Value

/-- The kernel as printed, its idealization and the reference terminate, leave their arguments as they were, and leave every semaphore at zero. -/
theorem frame_P : Cert.quiescent_Proj := fun m ρ _ => Cert.Proj.Gen.frame m ρ
theorem frame_PI : Cert.quiescent_ProjIdeal := fun m ρ _ => Cert.ProjIdeal.Gen.frame m ρ
theorem frame_PI_pre : Cert.quiescent_ProjIdeal_pre_finite_modulation := fun m ρ _ => Cert.ProjIdeal.Gen.frame m ρ
theorem frame_RI : Cert.quiescent_ProjRefIdeal := fun m ρ _ =>
  (θ_run Cert.ProjRefIdeal.defs _ _).mono (fun r h => ⟨fun c => (h c).2.2.2.2.2.2.2.2, sem_eq_zero_of_no_sems (by decide) r.2⟩)
    (Cert.ProjRefIdeal.Value.run (F := Ideal) m ρ)
theorem frame_RI_pre : Cert.quiescent_ProjRefIdeal_pre_finite_modulation := fun m ρ _ => frame_RI m ρ trivial

/-- The kernel's one rounded constant is the word of the real number that its idealization names. -/
theorem preserves : Cert.preserves_Proj_ProjIdeal :=
  IdealRules.named_const.statement Cert.ProjIdeal.κ "scale_log2e" .f32 0x3E38AA3B#32 (((1 / 8) * (Real.log 2)⁻¹ : ℝ) : EReal) rfl

section Eq

variable (X : FVec Ideal Cert.ProjRefIdeal.S32x256x1024 .f32) (M : FVec Ideal Cert.ProjRefIdeal.S1x6x1024 .f32) (W : FVec Ideal Cert.ProjRefIdeal.S1024x2304 .f32)
  (W' : S1024x2304.Idx → EReal) (G : S1x640.Idx → EReal) (T : S640x640.Idx → EReal)
  (gq gk : FVec Ideal Cert.ProjRefIdeal.S64 .f32)
  (hW : ∀ (k : Fin 1024) (x : Fin 2304), W' (ix2 k x) = W (ix2 k x)) (hT : ∀ j x : Fin 640, T (ix2 j x) = share j x)
  (hq : ∀ (h : Fin 8) (d : Fin 64), G (ix2 0 (⟨h.val * 64 + d.val, by omega⟩ : Fin 640)) = gq (ix1 d))
  (hk : ∀ (h : Fin 2) (d : Fin 64), G (ix2 0 (⟨512 + (h.val * 64 + d.val), by omega⟩ : Fin 640)) = gk (ix1 d))

include hW in
theorem proj_eq (b : Fin 32) (r : Fin 256) (c : Fin 2304) : projArr X M W' b r c = projOf X M W (ix3 b r c) := by
  rw [projOf_at]
  unfold projArr projAt
  exact Finset.sum_congr rfl fun k _ => congrArg _ (hW k c)

include hW hT in
/-- The table's normalisation at a column of head `g` is that head's own. -/
theorem norm_arr (b : Fin 32) (r : Fin 256) (g : Fin 10) (d : Fin 64) :
    normArr X M W' G T b r (col g d)
      = rmsNorm c64 cε (fun e => projOf X M W (ix3 b r (⟨g.val * 64 + e.val, by omega⟩ : Fin 2304))) d * G (ix2 0 (col g d)) := by
  unfold normArr
  simp only [proj_eq X M W W' hW, hT]
  exact congrArg (· * G (ix2 0 (col g d))) (norm_table (fun j => projOf X M W (ix3 b r (⟨j.val, by omega⟩ : Fin 2304))) g d)

include hW hT hq in
theorem norm_q (b : Fin 32) (r : Fin 256) (h : Fin 8) (d : Fin 64) :
    normArr X M W' G T b r ⟨h.val * 64 + d.val, by omega⟩ = qNormed (qHeads (projOf X M W)) gq (ix4 b r h d) := by
  rw [qNormed_at]
  simp only [qHeads_at]
  have e := norm_arr X M W W' G T hW hT b r ⟨h.val, by omega⟩ d
  exact e.trans (congrArg (_ * ·) (hq h d))

include hW hT hk in
theorem norm_k (b : Fin 32) (r : Fin 256) (h : Fin 2) (d : Fin 64) :
    normArr X M W' G T b r ⟨512 + (h.val * 64 + d.val), by omega⟩ = kNormed (kHeads (projOf X M W)) gk (ix4 b r h d) := by
  rw [kNormed_at]
  simp only [kHeads_at]
  have e := norm_arr X M W W' G T hW hT b r ⟨8 + h.val, by omega⟩ d
  have hc : ∀ d : Fin 64, (col ⟨8 + h.val, by omega⟩ d) = (⟨512 + (h.val * 64 + d.val), by omega⟩ : Fin 640) := fun d =>
    Fin.ext (by show (8 + h.val) * 64 + d.val = 512 + (h.val * 64 + d.val); omega)
  have hc' : ∀ e : Fin 64, (⟨(8 + h.val) * 64 + e.val, by omega⟩ : Fin 2304) = ⟨512 + (h.val * 64 + e.val), by omega⟩ := fun e =>
    Fin.ext (by show (8 + h.val) * 64 + e.val = 512 + (h.val * 64 + e.val); omega)
  rw [hc, hk] at e
  simp only [hc'] at e
  exact e

include hW hT hq in
theorem q_arr : qArr X M W' G T = qOut (qNormed (qHeads (projOf X M W)) gq) := by
  funext z
  obtain ⟨b, h, r, d, rfl⟩ : ∃ (b : Fin 32) (h : Fin 8) (r : Fin 256) (d : Fin 64), z = ix4 b h r d := ⟨z 0, z 1, z 2, z 3, eq_ix4 z⟩
  rw [qOut_at, scale_eq, ← norm_q X M W W' G T gq hW hT hq]
  rfl

include hW hT hk in
theorem kt_arr : ktArr X M W' G T = ktOut (kNormed (kHeads (projOf X M W)) gk) := by
  funext z
  obtain ⟨b, h, d, r, rfl⟩ : ∃ (b : Fin 32) (h : Fin 2) (d : Fin 64) (r : Fin 256), z = ix4 b h d r := ⟨z 0, z 1, z 2, z 3, eq_ix4 z⟩
  rw [ktOut_at, ← norm_k X M W W' G T gk hW hT hk]
  rfl

include hW hT hk in
theorem k_arr : kArr X M W' G T = kOut (kNormed (kHeads (projOf X M W)) gk) := by
  funext z
  obtain ⟨b, r, x, rfl⟩ : ∃ (b : Fin 32) (r : Fin 256) (x : Fin 128), z = ix3 b r x := ⟨z 0, z 1, z 2, eq_ix3 z⟩
  obtain ⟨h, d, rfl⟩ : ∃ (h : Fin 2) (d : Fin 64), x = (⟨h.val * 64 + d.val, by omega⟩ : Fin 128) :=
    ⟨⟨x.val / 64, by omega⟩, ⟨x.val % 64, by omega⟩, Fin.ext (by show x.val = x.val / 64 * 64 + x.val % 64; omega)⟩
  rw [kOut_at, ← norm_k X M W W' G T gk hW hT hk]
  rfl

include hW in
theorem vx_arr : vxArr X M W' = vxOut (projOf X M W) := by
  funext z
  obtain ⟨b, h, r, x, rfl⟩ : ∃ (b : Fin 32) (h : Fin 2) (r : Fin 256) (x : Fin 128), z = ix4 b h r x := ⟨z 0, z 1, z 2, z 3, eq_ix4 z⟩
  rw [vxOut_at]
  simp only [← proj_eq X M W W' hW]
  rfl

include hW in
theorem hy_arr : hyArr X M W' = hyOut (projOf X M W) := by
  funext z
  obtain ⟨b, r, x, rfl⟩ : ∃ (b : Fin 32) (r : Fin 256) (x : Fin 1536), z = ix3 b r x := ⟨z 0, z 1, z 2, eq_ix3 z⟩
  rw [hyOut_at, ← proj_eq X M W W' hW]
  rfl

include hW in
theorem v_arr : vArr X M W' = vOut (projOf X M W) := by
  funext z
  obtain ⟨b, r, x, rfl⟩ : ∃ (b : Fin 32) (r : Fin 256) (x : Fin 128), z = ix3 b r x := ⟨z 0, z 1, z 2, eq_ix3 z⟩
  rw [vOut_at, ← proj_eq X M W W' hW]
  rfl

end Eq

section Modulation

open Cert.ProjIdeal (S16x1024 S1024x6144 S1x6144)

variable (C : S16x1024.Idx → EReal) (W : S1024x6144.Idx → EReal) (B : S1x6144.Idx → EReal)
  (W' : FVec Ideal Cert.ProjRefIdeal.S1x1024x6144 .f32) (B' : FVec Ideal Cert.ProjRefIdeal.S1x6144 .f32)
  (hW : ∀ (k : Fin 1024) (x : Fin 6144), W (ix2 k x) = W' (ix3 0 k x)) (hB : ∀ x : Fin 6144, B (ix2 0 x) = B' (ix2 0 x))
  (rW : ∀ (k : Fin 1024) (x : Fin 6144), IsReal (W' (ix3 0 k x)))

include hW hB rW in
/-- One entry of the modulation's array, for a finite condition. -/
theorem ada_entry (r : Fin 16) (x : Fin 6144) (y : Fin 1024 → EReal) (hy : ∀ k, C (ix2 r k) = y k) (ry : ∀ k, IsReal (y k)) :
    adaArr C W B (ix2 r x) = ∑ k : Fin 1024, y k * Ideal.div 1 (1 + Ideal.exp (-y k)) * W' (ix3 0 k x) + B' (ix2 0 x) := by
  show splitAt (fun k => C (ix2 r k)) (fun k => W (ix2 k x)) (B (ix2 0 x)) = _
  rw [splitAt_real _ _ _ (fun k => by rw [hy]; exact ry k) (fun k => by rw [hW]; exact rW k x), hB]
  simp only [hy, hW, Cert.MoeMath.swish_eq]

end Modulation

set_option maxHeartbeats 2000000 in
/-- The idealized kernel and the idealized reference leave the same eight results. -/
theorem algebraic : Cert.algebraic_ProjIdeal_ProjRefIdeal_pre_finite_modulation := by
  intro m ρ m' ρ' hpre hag
  refine ⟨_, _, _, _, _, _, _, _, (θ_run _ _ _).mono (fun _ h c => h c) (Cert.ProjIdeal.Value.run_blocks m ρ), ?_⟩
  refine (θ_run _ _ _).mono (fun r h c => ?_) (Cert.ProjRefIdeal.Value.run_plain m' ρ')
  obtain ⟨a0, a1, a2, a3, a4, a5, a6, a7⟩ := hag c
  obtain ⟨rC, rc, rW⟩ := Cert.ProjFinite.finite _ _ _ _ _ _ _ _ (hpre c)
  have v0 : Cert.ProjIdeal.Gen.V5 m ρ c Cert.ProjIdeal.main_arg0 = m ((c.tc : Thread Cert.ProjIdeal.nD Cert.ProjIdeal.τ).loc Cert.ProjIdeal.main_arg0) :=
    Cert.ProjIdeal.Gen.W5_args m ρ c _ (by decide)
  have wm := wmod_at m ρ c
  have bm := bmod_at m ρ c
  have lat : Cert.ProjIdeal.Gen.V5 m ρ c Cert.ProjIdeal.main_v8 = latOf (m ((c.tc : Thread Cert.ProjIdeal.nD Cert.ProjIdeal.τ).loc Cert.ProjIdeal.main_arg1)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) := by
    funext z
    obtain ⟨b, j, d, rfl⟩ : ∃ (b : Fin 8) (j : Fin 6) (d : Fin 1024), z = ix3 b j d := ⟨z 0, z 1, z 2, eq_ix3 z⟩
    rw [lat_at, ada_eq, latOf_at]
    exact ada_entry _ _ _ _ _ wm bm rW _ _ _ (cond_at m ρ c b) (rC b)
  have ctx : Cert.ProjIdeal.Gen.V5 m ρ c Cert.ProjIdeal.main_v10 = ctxOf (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) := by
    funext z
    obtain ⟨b, j, d, rfl⟩ : ∃ (b : Fin 1) (j : Fin 6) (d : Fin 1024), z = ix3 b j d := ⟨z 0, z 1, z 2, eq_ix3 z⟩
    obtain rfl : b = 0 := Subsingleton.elim _ _
    rw [ctx_at, ada_eq, ctxOf_at]
    exact ada_entry _ _ _ _ _ wm bm rW _ _ _ (cond_ctx m ρ c) rc
  have hW := fun (k : Fin 1024) (x : Fin 2304) => (weights_at m ρ c k x).trans (w2_at _ k x).symm
  have hT := table_at m ρ c
  have hq := fun (h : Fin 8) (d : Fin 64) => (gain_q m ρ c h d).trans (g1_at _ d).symm
  have hk := fun (h : Fin 2) (d : Fin 64) => (gain_k m ρ c h d).trans (g1_at _ d).symm
  obtain ⟨s0, s1, r0, r1, r2, r3, r4, r5, rest⟩ := h c
  rw [a1, a3, a4] at s0
  rw [a2, a3, a4] at s1
  rw [a0, a2, a3, a4, a5, a6] at r0
  rw [a0, a2, a3, a4, a5, a7] at r1
  rw [a0, a2, a3, a4, a5] at r2 r3 r4
  rw [a0, a2, a3, a4, a5, a7] at r5
  refine ⟨s0.trans lat.symm, s1.trans ctx.symm, r0.trans ?_, r1.trans ?_, r2.trans ?_, r3.trans ?_, r4.trans ?_, r5.trans ?_, rest⟩
  · rw [q_eq, v0, ctx]; exact (q_arr _ _ _ _ _ _ _ hW hT hq).symm
  · rw [kt_eq, v0, ctx]; exact (kt_arr _ _ _ _ _ _ _ hW hT hk).symm
  · rw [vx_eq, v0, ctx]; exact (vx_arr _ _ _ _ hW).symm
  · rw [hy_eq, v0, ctx]; exact (hy_arr _ _ _ _ hW).symm
  · rw [v_eq, v0, ctx]; exact (v_arr _ _ _ _ hW).symm
  · rw [k_eq, v0, ctx]; exact (k_arr _ _ _ _ _ _ _ hW hT hk).symm

end Cert.ProjClaims

end
-- ==== Proof.NormRun.lean ====
/- The run of the last norm's two calls, the prompt's and the sample's: every array ends at what the last boundary holds. -/
module

public import proofs.«01_k».proof.Proof.Gen.NormIdeal.Frame
public import Idealize.ShloMosaic.Lib.Pointwise

@[expose] public section

set_option maxRecDepth 16384

noncomputable section

namespace Cert.NormIdeal.Value

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, and every unscoped buffer then holds the contents of the last boundary. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The two results: the array that each call leaves. -/
theorem run_blocks : θ_run defs (onTc (τ := τ) (main (F := Ideal))) ⟨m, fun _ => 0, ρ⟩ (fun r => ∀ c : Dev nD,
      r.2.mem ((c.tc : Thread nD τ).loc main_v4) = (dat0 (V1 m ρ) c).arrAt 5 cfg0.N
      ∧ r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c _ (mem_uc main_v4 (by decide))).trans (W3_of m ρ c main_v4 (by decide))).trans (W2_arr m ρ c 5),
     (h c _ (mem_uc main_v5 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (ends m ρ)

end Cert.NormIdeal.Value

end
-- ==== Proof.NormMath.lean ====
/- The last norm of one row: two addends weighted and added, then centred, scaled by the inverse root of the mean square, times a gain plus a bias. -/
module

public import Idealize.ShloMosaic.Lib.Pointwise

@[expose] public section

noncomputable section

namespace Cert.NormMath

open Idealize.ShloMosaic

/-- The skip's weight, the row's length and the norm's offset, as the programs write them. -/
abbrev cα : EReal := Ideal.ofBits .f32 0x3F9837F0#32
abbrev c1024 : EReal := Ideal.ofBits .f32 0x44800000#32
abbrev cε : EReal := Ideal.ofBits .f32 0x358637BD#32

/-- The row before the norm: the weighted skip and the gated update. -/
def mixed (x y g : Fin 1024 → EReal) (k : Fin 1024) : EReal := cα * x k + g k * y k

/-- A row's element less the row's mean. -/
def centred (z : Fin 1024 → EReal) (k : Fin 1024) : EReal := z k - Ideal.div (∑ j, z j) c1024

/-- A row's norm, with gain and bias. -/
def layerNorm (z g b : Fin 1024 → EReal) (k : Fin 1024) : EReal :=
  centred z k * Ideal.rsqrt (Ideal.div (∑ j, centred z j * centred z j) c1024 + cε) * g k + b k

end Cert.NormMath

end
-- ==== Proof.NormBlock.lean ====
/- The last norm's body: each row of its block is the norm of the weighted skip plus the gated update. -/
module

public import proofs.«01_k».proof.Proof.NormMath
public import proofs.«01_k».proof.Proof.Gen.NormIdeal.Frame

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Cert.NormMath

/-! ## The prompt's call -/

theorem prompt_at (P0 : Vec Ideal S1x256x1024 .f32) (P1 : Vec Ideal S1x1x1024 .f32) (P2 : Vec Ideal S1x256x1024 .f32) (P3 P4 : Vec Ideal S1x1024 .f32) (r : Fin 256) (d : Fin 1024) :
    k0_pay1 (k0_pay2 P0 P1 P2 P3 P4) (ix3 0 r d)
      = layerNorm (mixed (fun j => P0 (ix3 0 r j)) (fun j => P2 (ix3 0 r j)) (fun j => P1 (ix3 0 0 j))) (fun j => P3 (ix2 0 j)) (fun j => P4 (ix2 0 j)) d := by
  pointwise [k0_pay1, k0_pay2, layerNorm, centred, mixed]

section

variable (x0 x1 : Vec Ideal S1x256x1024 .f32) (x2 : Vec Ideal S1x6x1024 .f32) (x3 x4 : Vec Ideal S1x1024 .f32)

theorem prompt_rows (x : Vec Ideal S1x256x1024 .f32) : View.ld x r0_0 = x := by
  funext y; obtain ⟨a, b, e, rfl⟩ : ∃ (a : Fin 1) (b : Fin 256) (e : Fin 1024), y = ix3 a b e := ⟨y 0, y 1, y 2, eq_ix3 y⟩; obtain rfl : a = 0 := Subsingleton.elim _ _; pointwise
theorem prompt_gate (d : Fin 1024) : View.ld x2 r0_1 (ix3 0 0 d) = x2 (ix3 0 5 d) := by pointwise
theorem prompt_row (x : Vec Ideal S1x1024 .f32) : View.ld x r0_2 = x := by
  funext y; obtain ⟨a, b, rfl⟩ : ∃ (a : Fin 1) (b : Fin 1024), y = ix2 a b := ⟨y 0, y 1, eq_ix2 y⟩; obtain rfl : a = 0 := Subsingleton.elim _ _; pointwise

/-- What the body leaves at an index of its block. -/
theorem prompt_out (r : Fin 256) (d : Fin 1024) : out0_5 x0 x1 x2 x3 x4 (ix3 0 r d)
    = layerNorm (mixed (fun j => x0 (ix3 0 r j)) (fun j => x1 (ix3 0 r j)) (fun j => x2 (ix3 0 5 j))) (fun j => x3 (ix2 0 j)) (fun j => x4 (ix2 0 j)) d := by
  have e : out0_5 x0 x1 x2 x3 x4 = k0_pay1 (k0_pay2 x0 (View.ld x2 r0_1) x1 x3 x4) := by
    funext z
    unfold out0_5
    rw [prompt_rows, prompt_rows, prompt_row, prompt_row]
    refine View.canon_apply_of_pieces (Val := Elt Ideal) (k0_pay1 (k0_pay2 x0 (View.ld x2 r0_1) x1 x3 x4)) _ ?_ z (cover0_5 _ z)
    intro p hp
    simp only [List.mem_cons, List.not_mem_nil, or_false] at hp
    subst hp
    intro x
    obtain ⟨a, b, f, rfl⟩ : ∃ (a : Fin 1) (b : Fin 256) (f : Fin 1024), x = ix3 a b f := ⟨x 0, x 1, x 2, eq_ix3 x⟩
    have he : r0_0.emb (ix3 a b f) = ix3 a b f := by
      funext t
      match t with
      | ⟨0, _⟩ => exact Fin.ext (by show 0 + 1 * a.val = a.val; omega)
      | ⟨1, _⟩ => exact Fin.ext (by show 0 + 1 * b.val = b.val; omega)
      | ⟨2, _⟩ => exact Fin.ext (by show 0 + 1 * f.val = f.val; omega)
    show k0_pay1 (k0_pay2 x0 (View.ld x2 r0_1) x1 x3 x4) (ix3 a b f) = k0_pay1 (k0_pay2 x0 (View.ld x2 r0_1) x1 x3 x4) (r0_0.emb (ix3 a b f))
    rw [he]
  rw [e, prompt_at]
  exact congrArg (fun g => layerNorm (mixed (fun j => x0 (ix3 0 r j)) (fun j => x1 (ix3 0 r j)) g) (fun j => x3 (ix2 0 j)) (fun j => x4 (ix2 0 j)) d) (funext fun j => prompt_gate x2 j)

end

/-! ## The sample's call -/

theorem sample_at (P0 : Vec Ideal S1x1024x1024 .f32) (P1 : Vec Ideal S1x1x1024 .f32) (P2 : Vec Ideal S1x1024x1024 .f32) (P3 P4 : Vec Ideal S1x1024 .f32) (r : Fin 1024) (d : Fin 1024) :
    k1_pay1 (k1_pay2 P0 P1 P2 P3 P4) (ix3 0 r d)
      = layerNorm (mixed (fun j => P0 (ix3 0 r j)) (fun j => P2 (ix3 0 r j)) (fun j => P1 (ix3 0 0 j))) (fun j => P3 (ix2 0 j)) (fun j => P4 (ix2 0 j)) d := by
  pointwise [k1_pay1, k1_pay2, layerNorm, centred, mixed]

section

variable (x0 x1 : Vec Ideal S1x1024x1024 .f32) (x2 : Vec Ideal S1x6x1024 .f32) (x3 x4 : Vec Ideal S1x1024 .f32)

theorem sample_rows (x : Vec Ideal S1x1024x1024 .f32) : View.ld x r1_0 = x := by
  funext y; obtain ⟨a, b, e, rfl⟩ : ∃ (a : Fin 1) (b : Fin 1024) (e : Fin 1024), y = ix3 a b e := ⟨y 0, y 1, y 2, eq_ix3 y⟩; obtain rfl : a = 0 := Subsingleton.elim _ _; pointwise
theorem sample_gate (d : Fin 1024) : View.ld x2 r1_1 (ix3 0 0 d) = x2 (ix3 0 5 d) := by pointwise
theorem sample_row (x : Vec Ideal S1x1024 .f32) : View.ld x r1_2 = x := by
  funext y; obtain ⟨a, b, rfl⟩ : ∃ (a : Fin 1) (b : Fin 1024), y = ix2 a b := ⟨y 0, y 1, eq_ix2 y⟩; obtain rfl : a = 0 := Subsingleton.elim _ _; pointwise

/-- What the body leaves at an index of its block. -/
theorem sample_out (r : Fin 1024) (d : Fin 1024) : out1_5 x0 x1 x2 x3 x4 (ix3 0 r d)
    = layerNorm (mixed (fun j => x0 (ix3 0 r j)) (fun j => x1 (ix3 0 r j)) (fun j => x2 (ix3 0 5 j))) (fun j => x3 (ix2 0 j)) (fun j => x4 (ix2 0 j)) d := by
  have e : out1_5 x0 x1 x2 x3 x4 = k1_pay1 (k1_pay2 x0 (View.ld x2 r1_1) x1 x3 x4) := by
    funext z
    unfold out1_5
    rw [sample_rows, sample_rows, sample_row, sample_row]
    refine View.canon_apply_of_pieces (Val := Elt Ideal) (k1_pay1 (k1_pay2 x0 (View.ld x2 r1_1) x1 x3 x4)) _ ?_ z (cover1_5 _ z)
    intro p hp
    simp only [List.mem_cons, List.not_mem_nil, or_false] at hp
    subst hp
    intro x
    obtain ⟨a, b, f, rfl⟩ : ∃ (a : Fin 1) (b : Fin 1024) (f : Fin 1024), x = ix3 a b f := ⟨x 0, x 1, x 2, eq_ix3 x⟩
    have he : r1_0.emb (ix3 a b f) = ix3 a b f := by
      funext t
      match t with
      | ⟨0, _⟩ => exact Fin.ext (by show 0 + 1 * a.val = a.val; omega)
      | ⟨1, _⟩ => exact Fin.ext (by show 0 + 1 * b.val = b.val; omega)
      | ⟨2, _⟩ => exact Fin.ext (by show 0 + 1 * f.val = f.val; omega)
    show k1_pay1 (k1_pay2 x0 (View.ld x2 r1_1) x1 x3 x4) (ix3 a b f) = k1_pay1 (k1_pay2 x0 (View.ld x2 r1_1) x1 x3 x4) (r1_0.emb (ix3 a b f))
    rw [he]
  rw [e, sample_at]
  exact congrArg (fun g => layerNorm (mixed (fun j => x0 (ix3 0 r j)) (fun j => x1 (ix3 0 r j)) g) (fun j => x3 (ix2 0 j)) (fun j => x4 (ix2 0 j)) d) (funext fun j => sample_gate x2 j)

end

end Cert.NormIdeal.Value

end
-- ==== Proof.NormArray.lean ====
/- The last norm's result arrays: each row of an array is the norm of that row. -/
module

public import proofs.«01_k».proof.Proof.NormBlock
public import Idealize.ShloMosaic.Lib.Pipeline.ValueKit

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Cert.NormMath

variable (m : (ℓ : Loc nD τ sig) → Buf (Elt Ideal) ℓ) (ρ : Dev nD → PrngReg)

/-- The call's array, from its operands. -/
def promptArr (X Y : S32x256x1024.Idx → EReal) (M : S1x6x1024.Idx → EReal) (G B : S1x1024.Idx → EReal) : S32x256x1024.Idx → EReal := fun z =>
  layerNorm (mixed (fun j => X (ix3 (z 0) (z 1) j)) (fun j => Y (ix3 (z 0) (z 1) j)) (fun j => M (ix3 0 5 j))) (fun j => G (ix2 0 j)) (fun j => B (ix2 0 j)) (z 2)

/-- Where each window stands at each grid point. -/
theorem prompt_idxs : ∀ t : Fin cfg0.N,
    (win0_0.index t = ![(grid0.coords t 0).val, (grid0.coords t 1).val, 0]
    ∧ win0_1.index t = ![(grid0.coords t 0).val, (grid0.coords t 1).val, 0]
    ∧ win0_2.index t = ![0, 0, 0]
    ∧ win0_3.index t = ![0, 0]
    ∧ win0_4.index t = ![0, 0])
    ∧ win0_5.index t = ![(grid0.coords t 0).val, (grid0.coords t 1).val, 0] :=
  (by decide +kernel : ∀ t : Fin grid0.N, _)

theorem prompt_lt : ∀ t : Fin cfg0.N, (grid0.coords t 0).val < 32 ∧ (grid0.coords t 1).val < 1 := (by decide +kernel : ∀ t : Fin grid0.N, _)

/-- The batch that a grid point works on, and the place of its block's row `r` in the batch. -/
def promptBatch (t : Fin cfg0.N) : Fin 32 := ⟨(grid0.coords t 0).val, (prompt_lt t).1⟩
def promptRow (t : Fin cfg0.N) (r : Fin 256) : Fin 256 := ⟨(grid0.coords t 1).val * 256 + r.val, by have := (prompt_lt t).2; omega⟩

theorem prompt_eq (c : Dev nD) : (dat0 (V1 m ρ) c).arrAt 5 cfg0.N
    = promptArr (V1 m ρ c main_arg0) (V1 m ρ c main_arg1) (V1 m ρ c main_arg2) (V1 m ρ c main_v1) (V1 m ρ c main_v3) := by
  refine (dat0 (V1 m ρ) c).arrAt_eq_of_covers 5 _ (by decide +kernel) fun t hf y => ?_
  blk_simp
  rw [after0_5]
  obtain ⟨a, r, d, rfl⟩ : ∃ (a : Fin 1) (r : Fin 256) (d : Fin 1024), y = ix3 a r d := ⟨y 0, y 1, y 2, eq_ix3 y⟩
  obtain rfl : a = 0 := Subsingleton.elim _ _
  obtain ⟨⟨i0, i1, i2, i3, i4⟩, i5⟩ := prompt_idxs t
  have e : (win0_5.blk t).view.emb (ix3 0 r d) = ix3 (promptBatch t) (promptRow t r) d := by unfold promptBatch promptRow; blk_ext [i5]
  rw [e, prompt_out]
  have e0 : ∀ j : Fin 1024, iblk0 (V1 m ρ) c 0 t (ix3 0 r j) = V1 m ρ c main_arg0 (ix3 (promptBatch t) (promptRow t r) j) := fun j => by unfold promptBatch promptRow; blk_ext [iblk0, i0]
  have e1 : ∀ j : Fin 1024, iblk0 (V1 m ρ) c 1 t (ix3 0 r j) = V1 m ρ c main_arg1 (ix3 (promptBatch t) (promptRow t r) j) := fun j => by unfold promptBatch promptRow; blk_ext [iblk0, i1]
  have e2 : ∀ j : Fin 1024, iblk0 (V1 m ρ) c 2 t (ix3 0 5 j) = V1 m ρ c main_arg2 (ix3 0 5 j) := fun j => by blk_ext [iblk0, i2]
  have e3 : ∀ j : Fin 1024, iblk0 (V1 m ρ) c 3 t (ix2 0 j) = V1 m ρ c main_v1 (ix2 0 j) := fun j => by blk_ext [iblk0, i3]
  have e4 : ∀ j : Fin 1024, iblk0 (V1 m ρ) c 4 t (ix2 0 j) = V1 m ρ c main_v3 (ix2 0 j) := fun j => by blk_ext [iblk0, i4]
  exact congr (congr (congr (congrArg layerNorm (congr (congr (congrArg mixed (funext e0)) (funext e1)) (funext e2))) (funext e3)) (funext e4)) rfl

/-- The call's array, from its operands. -/
def sampleArr (X Y : S8x4096x1024.Idx → EReal) (M : S8x6x1024.Idx → EReal) (G B : S1x1024.Idx → EReal) : S8x4096x1024.Idx → EReal := fun z =>
  layerNorm (mixed (fun j => X (ix3 (z 0) (z 1) j)) (fun j => Y (ix3 (z 0) (z 1) j)) (fun j => M (ix3 (z 0) 5 j))) (fun j => G (ix2 0 j)) (fun j => B (ix2 0 j)) (z 2)

/-- Where each window stands at each grid point. -/
theorem sample_idxs : ∀ t : Fin cfg1.N,
    (win1_0.index t = ![(grid1.coords t 0).val, (grid1.coords t 1).val, 0]
    ∧ win1_1.index t = ![(grid1.coords t 0).val, (grid1.coords t 1).val, 0]
    ∧ win1_2.index t = ![(grid1.coords t 0).val, 0, 0]
    ∧ win1_3.index t = ![0, 0]
    ∧ win1_4.index t = ![0, 0])
    ∧ win1_5.index t = ![(grid1.coords t 0).val, (grid1.coords t 1).val, 0] :=
  (by decide +kernel : ∀ t : Fin grid1.N, _)

theorem sample_lt : ∀ t : Fin cfg1.N, (grid1.coords t 0).val < 8 ∧ (grid1.coords t 1).val < 4 := (by decide +kernel : ∀ t : Fin grid1.N, _)

/-- The batch that a grid point works on, and the place of its block's row `r` in the batch. -/
def sampleBatch (t : Fin cfg1.N) : Fin 8 := ⟨(grid1.coords t 0).val, (sample_lt t).1⟩
def sampleRow (t : Fin cfg1.N) (r : Fin 1024) : Fin 4096 := ⟨(grid1.coords t 1).val * 1024 + r.val, by have := (sample_lt t).2; omega⟩

theorem sample_eq (c : Dev nD) : (dat1 (V2 m ρ) c).arrAt 5 cfg1.N
    = sampleArr (V2 m ρ c main_arg3) (V2 m ρ c main_arg4) (V2 m ρ c main_arg5) (V2 m ρ c main_v1) (V2 m ρ c main_v3) := by
  refine (dat1 (V2 m ρ) c).arrAt_eq_of_covers 5 _ (by decide +kernel) fun t hf y => ?_
  blk_simp
  rw [after1_5]
  obtain ⟨a, r, d, rfl⟩ : ∃ (a : Fin 1) (r : Fin 1024) (d : Fin 1024), y = ix3 a r d := ⟨y 0, y 1, y 2, eq_ix3 y⟩
  obtain rfl : a = 0 := Subsingleton.elim _ _
  obtain ⟨⟨i0, i1, i2, i3, i4⟩, i5⟩ := sample_idxs t
  have e : (win1_5.blk t).view.emb (ix3 0 r d) = ix3 (sampleBatch t) (sampleRow t r) d := by unfold sampleBatch sampleRow; blk_ext [i5]
  rw [e, sample_out]
  have e0 : ∀ j : Fin 1024, iblk1 (V2 m ρ) c 0 t (ix3 0 r j) = V2 m ρ c main_arg3 (ix3 (sampleBatch t) (sampleRow t r) j) := fun j => by unfold sampleBatch sampleRow; blk_ext [iblk1, i0]
  have e1 : ∀ j : Fin 1024, iblk1 (V2 m ρ) c 1 t (ix3 0 r j) = V2 m ρ c main_arg4 (ix3 (sampleBatch t) (sampleRow t r) j) := fun j => by unfold sampleBatch sampleRow; blk_ext [iblk1, i1]
  have e2 : ∀ j : Fin 1024, iblk1 (V2 m ρ) c 2 t (ix3 0 5 j) = V2 m ρ c main_arg5 (ix3 (sampleBatch t) 5 j) := fun j => by unfold sampleBatch; blk_ext [iblk1, i2]
  have e3 : ∀ j : Fin 1024, iblk1 (V2 m ρ) c 3 t (ix2 0 j) = V2 m ρ c main_v1 (ix2 0 j) := fun j => by blk_ext [iblk1, i3]
  have e4 : ∀ j : Fin 1024, iblk1 (V2 m ρ) c 4 t (ix2 0 j) = V2 m ρ c main_v3 (ix2 0 j) := fun j => by blk_ext [iblk1, i4]
  exact congr (congr (congr (congrArg layerNorm (congr (congr (congrArg mixed (funext e0)) (funext e1)) (funext e2))) (funext e3)) (funext e4)) rfl

/-- The gain and the bias reach the calls as they were given. -/
theorem gain_at (c : Dev nD) (d : Fin 1024) : (V1 m ρ c main_v1 (ix2 0 d) : EReal) = m ((c : Thread nD τ).loc main_arg6) (ix2 0 d) := by
  have e : V1 m ρ c main_v1 = StableHlo.after hostOps0 (W0 m ρ c) (Proc.devRef .tc main_v1) := rfl
  rw [e]
  after_results
  pointwise

theorem bias_at (c : Dev nD) (d : Fin 1024) : (V1 m ρ c main_v3 (ix2 0 d) : EReal) = m ((c : Thread nD τ).loc main_arg7) (ix2 0 d) := by
  have e : V1 m ρ c main_v3 = StableHlo.after hostOps0 (W0 m ρ c) (Proc.devRef .tc main_v3) := rfl
  rw [e]
  after_results
  pointwise

/-- The second call's gain and bias are the first one's. -/
theorem gain_kept (c : Dev nD) : V2 m ρ c main_v1 = V1 m ρ c main_v1 := W2_of m ρ c main_v1 (by decide)
theorem bias_kept (c : Dev nD) : V2 m ρ c main_v3 = V1 m ρ c main_v3 := W2_of m ρ c main_v3 (by decide)

end Cert.NormIdeal.Value

end
-- ==== Proof.NormRef.lean ====
/- What the plain reference of the last norm computes at an index of each of its two results. -/
module

public import proofs.«01_k».proof.Proof.NormMath
public import proofs.«01_k».proof.Proof.Gen.NormRefIdeal.Run

@[expose] public section

set_option maxRecDepth 16384

noncomputable section

namespace Cert.NormRefIdeal.Value

open Cert.NormRefIdeal Cert.NormRefIdeal.Gen Idealize.ShloMosaic Idealize.ShloMosaic.TcCoe Idealize.SL.Sem
open Cert.NormMath

variable (m : (ℓ : Loc nD τ sig) → Buf (Elt Ideal) ℓ)

/-! ## The reference's stages, each a function of the stage before -/

/-- The weighted skip plus the gated update. -/
def promptMixed (X Y : FVec Ideal S32x256x1024 .f32) (M : FVec Ideal S1x6x1024 .f32) : FVec Ideal S32x256x1024 .f32 :=
  addf (mulf (broadcastInDim S32x256x1024 ![] bcast_S_S32x256x1024 (constant S_ .f32 0x3F9837F0#32)) X) (mulf (broadcastInDim S32x256x1024 ![0, 1, 2] bcast_S1x1x1024_S32x256x1024_0_1_2 (extractStridedSlice S1x1x1024 ![0, 5, 0] M slices_S1x6x1024_S1x1x1024_0_5_0)) Y)

/-- Every row less its mean. -/
def promptCentred (Z : FVec Ideal S32x256x1024 .f32) : FVec Ideal S32x256x1024 .f32 :=
  subf Z (broadcastInDim S32x256x1024 ![0, 1, 2] bcast_S32x256x1_S32x256x1024_0_1_2 (Host.divf (broadcastInDim S32x256x1 ![0, 1] bcast_S32x256_S32x256x1_0_1 (Host.reduceAdd (Z) (constant S_ .f32 0x00000000#32) reducesTo_S32x256x1024_S32x256_d2 h_S_)) (broadcastInDim S32x256x1 ![] bcast_S_S32x256x1 (constant S_ .f32 0x44800000#32))))

/-- A centred row over the root of its mean square, times the gain, plus the bias. -/
def promptScaled (Z : FVec Ideal S32x256x1024 .f32) (G B : FVec Ideal S1x1024 .f32) : FVec Ideal S32x256x1024 .f32 :=
  addf (mulf (mulf Z (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf Z Z) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ G shapeCasts_S1x1024_S1024)))) (broadcastInDim S32x256x1024 ![0, 1, 2] bcast_S1x1x1024_S32x256x1024_0_1_2 (broadcastInDim S1x1x1024 ![2] bcast_S1024_S1x1x1024_2 (shapeCast _ B shapeCasts_S1x1024_S1024)))

theorem promptMixed_at (X Y : FVec Ideal S32x256x1024 .f32) (M : FVec Ideal S1x6x1024 .f32) (b : Fin 32) (l : Fin 256) (d : Fin 1024) :
    promptMixed X Y M (ix3 b l d) = mixed (fun j => X (ix3 b l j)) (fun j => Y (ix3 b l j)) (fun j => M (ix3 0 5 j)) d := by
  pointwise [promptMixed, mixed]

theorem promptCentred_at (Z : FVec Ideal S32x256x1024 .f32) (b : Fin 32) (l : Fin 256) (d : Fin 1024) :
    promptCentred Z (ix3 b l d) = centred (fun j => Z (ix3 b l j)) d := by
  pointwise [promptCentred, centred]

theorem promptScaled_at (Z : FVec Ideal S32x256x1024 .f32) (G B : FVec Ideal S1x1024 .f32) (b : Fin 32) (l : Fin 256) (d : Fin 1024) :
    promptScaled Z G B (ix3 b l d) = Z (ix3 b l d) * Ideal.rsqrt (Ideal.div (∑ j : Fin 1024, Z (ix3 b l j) * Z (ix3 b l j)) c1024 + cε) * G (ix2 0 d) + B (ix2 0 d) := by
  pointwise [promptScaled]

/-- The result at an index is the norm of its row. -/
theorem prompt_at (X Y : FVec Ideal S32x256x1024 .f32) (M : FVec Ideal S1x6x1024 .f32) (G B : FVec Ideal S1x1024 .f32) (b : Fin 32) (l : Fin 256) (d : Fin 1024) :
    promptScaled (promptCentred (promptMixed X Y M)) G B (ix3 b l d)
      = layerNorm (mixed (fun j => X (ix3 b l j)) (fun j => Y (ix3 b l j)) (fun j => M (ix3 0 5 j))) (fun j => G (ix2 0 j)) (fun j => B (ix2 0 j)) d := by
  rw [promptScaled_at]
  simp only [promptCentred_at, promptMixed_at]
  rfl

/-- The weighted skip plus the gated update. -/
def sampleMixed (X Y : FVec Ideal S8x4096x1024 .f32) (M : FVec Ideal S8x6x1024 .f32) : FVec Ideal S8x4096x1024 .f32 :=
  addf (mulf (broadcastInDim S8x4096x1024 ![] bcast_S_S8x4096x1024 (constant S_ .f32 0x3F9837F0#32)) X) (mulf (broadcastInDim S8x4096x1024 ![0, 1, 2] bcast_S8x1x1024_S8x4096x1024_0_1_2 (extractStridedSlice S8x1x1024 ![0, 5, 0] M slices_S8x6x1024_S8x1x1024_0_5_0)) Y)

/-- Every row less its mean. -/
def sampleCentred (Z : FVec Ideal S8x4096x1024 .f32) : FVec Ideal S8x4096x1024 .f32 :=
  subf Z (broadcastInDim S8x4096x1024 ![0, 1, 2] bcast_S8x4096x1_S8x4096x1024_0_1_2 (Host.divf (broadcastInDim S8x4096x1 ![0, 1] bcast_S8x4096_S8x4096x1_0_1 (Host.reduceAdd (Z) (constant S_ .f32 0x00000000#32) reducesTo_S8x4096x1024_S8x4096_d2 h_S_)) (broadcastInDim S8x4096x1 ![] bcast_S_S8x4096x1 (constant S_ .f32 0x44800000#32))))

/-- A centred row over the root of its mean square, times the gain, plus the bias. -/
def sampleScaled (Z : FVec Ideal S8x4096x1024 .f32) (G B : FVec Ideal S1x1024 .f32) : FVec Ideal S8x4096x1024 .f32 :=
  addf (mulf (mulf Z (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Z Z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ G shapeCasts_S1x1024_S1024)))) (broadcastInDim S8x4096x1024 ![0, 1, 2] bcast_S1x1x1024_S8x4096x1024_0_1_2 (broadcastInDim S1x1x1024 ![2] bcast_S1024_S1x1x1024_2 (shapeCast _ B shapeCasts_S1x1024_S1024)))

theorem sampleMixed_at (X Y : FVec Ideal S8x4096x1024 .f32) (M : FVec Ideal S8x6x1024 .f32) (b : Fin 8) (l : Fin 4096) (d : Fin 1024) :
    sampleMixed X Y M (ix3 b l d) = mixed (fun j => X (ix3 b l j)) (fun j => Y (ix3 b l j)) (fun j => M (ix3 b 5 j)) d := by
  pointwise [sampleMixed, mixed]

theorem sampleCentred_at (Z : FVec Ideal S8x4096x1024 .f32) (b : Fin 8) (l : Fin 4096) (d : Fin 1024) :
    sampleCentred Z (ix3 b l d) = centred (fun j => Z (ix3 b l j)) d := by
  pointwise [sampleCentred, centred]

theorem sampleScaled_at (Z : FVec Ideal S8x4096x1024 .f32) (G B : FVec Ideal S1x1024 .f32) (b : Fin 8) (l : Fin 4096) (d : Fin 1024) :
    sampleScaled Z G B (ix3 b l d) = Z (ix3 b l d) * Ideal.rsqrt (Ideal.div (∑ j : Fin 1024, Z (ix3 b l j) * Z (ix3 b l j)) c1024 + cε) * G (ix2 0 d) + B (ix2 0 d) := by
  pointwise [sampleScaled]

/-- The result at an index is the norm of its row. -/
theorem sample_at (X Y : FVec Ideal S8x4096x1024 .f32) (M : FVec Ideal S8x6x1024 .f32) (G B : FVec Ideal S1x1024 .f32) (b : Fin 8) (l : Fin 4096) (d : Fin 1024) :
    sampleScaled (sampleCentred (sampleMixed X Y M)) G B (ix3 b l d)
      = layerNorm (mixed (fun j => X (ix3 b l j)) (fun j => Y (ix3 b l j)) (fun j => M (ix3 b 5 j))) (fun j => G (ix2 0 j)) (fun j => B (ix2 0 j)) d := by
  rw [sampleScaled_at]
  simp only [sampleCentred_at, sampleMixed_at]
  rfl

/-- The run ends with the stages' compositions as its results and its arguments unchanged. -/
theorem run_plain (ρ : Dev nD → PrngReg) :
    θ_run defs (onTc (τ := τ) (main (F := Ideal))) ⟨m, fun _ => 0, ρ⟩ fun r => ∀ c : Dev nD,
      r.2.mem ((c.tc : Thread nD τ).loc main_v29) = promptScaled (promptCentred (promptMixed (m ((c.tc : Thread nD τ).loc main_arg0)) (m ((c.tc : Thread nD τ).loc main_arg1)) (m ((c.tc : Thread nD τ).loc main_arg2)))) (m ((c.tc : Thread nD τ).loc main_arg6)) (m ((c.tc : Thread nD τ).loc main_arg7))
      ∧ r.2.mem ((c.tc : Thread nD τ).loc main_v59) = sampleScaled (sampleCentred (sampleMixed (m ((c.tc : Thread nD τ).loc main_arg3)) (m ((c.tc : Thread nD τ).loc main_arg4)) (m ((c.tc : Thread nD τ).loc main_arg5)))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run (F := Ideal) m ρ

end Cert.NormRefIdeal.Value

end
-- ==== Proof.NormClaims.lean ====
/- The frames of the last norm's two calls, and the equations of their results with the plain reference's. -/
module

public import proofs.«01_k».proof.Defs
public import proofs.«01_k».proof.Proof.NormRun
public import proofs.«01_k».proof.Proof.NormArray
public import proofs.«01_k».proof.Proof.NormRef
public import proofs.«01_k».proof.Proof.Gen.Norm.Frame

@[expose] public section

set_option maxRecDepth 16384

noncomputable section

namespace Cert.NormClaims

open Idealize.ShloMosaic Idealize.ShloMosaic.TcCoe Idealize.SL.Sem
open Cert.NormMath Cert.NormIdeal.Value

/-- The kernel as printed, its idealization and the reference terminate, leave their arguments as they were, and leave every semaphore at zero. -/
theorem frame_P : Cert.quiescent_Norm := fun m ρ _ => Cert.Norm.Gen.frame m ρ
theorem frame_PI : Cert.quiescent_NormIdeal := fun m ρ _ => Cert.NormIdeal.Gen.frame m ρ
theorem frame_RI : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

/-- The prompt's call leaves the reference's array where the gain and the bias are the same. -/
theorem prompt_arr (X Y : FVec Ideal Cert.NormRefIdeal.S32x256x1024 .f32) (M : FVec Ideal Cert.NormRefIdeal.S1x6x1024 .f32) (G B : FVec Ideal Cert.NormRefIdeal.S1x1024 .f32)
    (G' B' : Cert.NormIdeal.S1x1024.Idx → EReal) (hG : ∀ d : Fin 1024, G' (ix2 0 d) = G (ix2 0 d)) (hB : ∀ d : Fin 1024, B' (ix2 0 d) = B (ix2 0 d)) :
    Cert.NormRefIdeal.Value.promptScaled (Cert.NormRefIdeal.Value.promptCentred (Cert.NormRefIdeal.Value.promptMixed X Y M)) G B = promptArr X Y M G' B' := by
  funext z
  obtain ⟨b, l, d, rfl⟩ : ∃ (b : Fin 32) (l : Fin 256) (d : Fin 1024), z = ix3 b l d := ⟨z 0, z 1, z 2, eq_ix3 z⟩
  rw [Cert.NormRefIdeal.Value.prompt_at]
  show _ = layerNorm (mixed (fun j => X (ix3 b l j)) (fun j => Y (ix3 b l j)) (fun j => M (ix3 0 5 j))) (fun j => G' (ix2 0 j)) (fun j => B' (ix2 0 j)) d
  rw [funext hG, funext hB]

/-- The sample's call leaves the reference's array where the gain and the bias are the same. -/
theorem sample_arr (X Y : FVec Ideal Cert.NormRefIdeal.S8x4096x1024 .f32) (M : FVec Ideal Cert.NormRefIdeal.S8x6x1024 .f32) (G B : FVec Ideal Cert.NormRefIdeal.S1x1024 .f32)
    (G' B' : Cert.NormIdeal.S1x1024.Idx → EReal) (hG : ∀ d : Fin 1024, G' (ix2 0 d) = G (ix2 0 d)) (hB : ∀ d : Fin 1024, B' (ix2 0 d) = B (ix2 0 d)) :
    Cert.NormRefIdeal.Value.sampleScaled (Cert.NormRefIdeal.Value.sampleCentred (Cert.NormRefIdeal.Value.sampleMixed X Y M)) G B = sampleArr X Y M G' B' := by
  funext z
  obtain ⟨b, l, d, rfl⟩ : ∃ (b : Fin 8) (l : Fin 4096) (d : Fin 1024), z = ix3 b l d := ⟨z 0, z 1, z 2, eq_ix3 z⟩
  rw [Cert.NormRefIdeal.Value.sample_at]
  show _ = layerNorm (mixed (fun j => X (ix3 b l j)) (fun j => Y (ix3 b l j)) (fun j => M (ix3 b 5 j))) (fun j => G' (ix2 0 j)) (fun j => B' (ix2 0 j)) d
  rw [funext hG, funext hB]

/-- The idealized kernel and the idealized reference leave the same two results. -/
theorem algebraic : Cert.algebraic_NormIdeal_NormRefIdeal := by
  intro m ρ m' ρ' hpre hag
  refine ⟨_, _, (θ_run _ _ _).mono (fun _ h c => h c) (Cert.NormIdeal.Value.run_blocks m ρ), ?_⟩
  refine (θ_run _ _ _).mono (fun r h c => ?_) (Cert.NormRefIdeal.Value.run_plain m' ρ')
  obtain ⟨a0, a1, a2, a3, a4, a5, a6, a7⟩ := hag c
  obtain ⟨s0, s1, rest⟩ := h c
  rw [a0, a1, a2, a6, a7] at s0
  rw [a3, a4, a5, a6, a7] at s1
  have v1 := fun b h => Cert.NormIdeal.Gen.W1_args m ρ c b h
  have v2 := fun b h => Cert.NormIdeal.Gen.W2_args m ρ c b h
  refine ⟨s0.trans ?_, s1.trans ?_, rest⟩
  · rw [prompt_eq, show Cert.NormIdeal.Gen.V1 m ρ c Cert.NormIdeal.main_arg0 = _ from v1 _ (by decide), show Cert.NormIdeal.Gen.V1 m ρ c Cert.NormIdeal.main_arg1 = _ from v1 _ (by decide),
      show Cert.NormIdeal.Gen.V1 m ρ c Cert.NormIdeal.main_arg2 = _ from v1 _ (by decide)]
    exact prompt_arr _ _ _ _ _ _ _ (gain_at m ρ c) (bias_at m ρ c)
  · rw [sample_eq, show Cert.NormIdeal.Gen.V2 m ρ c Cert.NormIdeal.main_arg3 = _ from v2 _ (by decide), show Cert.NormIdeal.Gen.V2 m ρ c Cert.NormIdeal.main_arg4 = _ from v2 _ (by decide),
      show Cert.NormIdeal.Gen.V2 m ρ c Cert.NormIdeal.main_arg5 = _ from v2 _ (by decide), gain_kept, bias_kept]
    exact sample_arr _ _ _ _ _ _ _ (gain_at m ρ c) (bias_at m ρ c)

end Cert.NormClaims

end
-- ==== Proof.LatTurn.lean ====
/- The turn of the latent tokens' queries and keys as the body computes it: five chunks of 128 lanes, each lane combined with the
   lane sixteen above or below it. -/
module

public import proofs.«01_k».proof.Proof.Row
public import proofs.«01_k».proof.Proof.Gen.LatIdeal.Frame
public import Idealize.ShloMosaic.Lib.Pointwise

@[expose] public section

set_option maxRecDepth 16384

noncomputable section

namespace Cert.LatIdeal.Value

open Cert.LatIdeal Cert.LatIdeal.Gen Idealize.ShloMosaic Idealize.ShloMosaic.TcCoe Idealize.SL.Sem
open Cert.SoftmaxMath

/-- A row turned: each column with its cosine, and the column sixteen above it, or sixteen below it in the second half of its 32,
with its sine. -/
def turn (V : Fin 640 → EReal) (C S : Fin 128 → EReal) (x : Fin 640) : EReal :=
  V x * C ⟨x.val % 128, Nat.mod_lt _ (by decide)⟩
    + (if x.val % 32 < 16 then V ⟨(x.val + 16) % 640, Nat.mod_lt _ (by decide)⟩ else V ⟨(x.val + 624) % 640, Nat.mod_lt _ (by decide)⟩)
      * S ⟨x.val % 128, Nat.mod_lt _ (by decide)⟩

/-- A product with the cosine plus a selected product with the sine is the turned column `j * 128 + e`. -/
theorem turn_of (V : Fin 640 → EReal) (C S : Fin 128 → EReal) (m : BitVec 1) (e : Fin 128) (hm : m = if e.val % 32 < 16 then 1#1 else 0#1)
    (j : Fin 5) (x a b d : Fin 640) (hx : x.val = j.val * 128 + e.val) (ha : a.val = j.val * 128 + e.val)
    (hb : b.val = j.val * 128 + (e.val + 128 - 112) % 128) (hd : d.val = j.val * 128 + (e.val + 128 - 16) % 128) :
    V a * C e + Scalar.select m (V b) (V d) * S e = turn V C S x := by
  obtain rfl : a = x := Fin.ext (ha.trans hx.symm)
  have he : (⟨a.val % 128, Nat.mod_lt _ (by decide)⟩ : Fin 128) = e := Fin.ext (by dsimp only; omega)
  subst hm
  unfold turn
  rw [he]
  by_cases h : e.val % 32 < 16
  · have h' : a.val % 32 < 16 := by omega
    have hb' : (⟨(a.val + 16) % 640, Nat.mod_lt _ (by decide)⟩ : Fin 640) = b := Fin.ext (by dsimp only; omega)
    rw [if_pos h, if_pos h', hb']; rfl
  · have h' : ¬ a.val % 32 < 16 := by omega
    have hd' : (⟨(a.val + 624) % 640, Nat.mod_lt _ (by decide)⟩ : Fin 640) = d := Fin.ext (by dsimp only; omega)
    rw [if_neg h, if_neg h', hd']; rfl

/-- The body's mask of the lanes in the first half of their 32, in the first half of the rows. -/
theorem first0_at (r : Fin 512) (e : Fin 128) :
    k0_pay10 (iota .tc S512x128 32 [1] iota_S512x128_d1_w32) (Scalar.select (Scalar.cmpi .eq 32#32 0#32) 1#32 32#32) (ix2 r e) = if e.val % 32 < 16 then 1#1 else 0#1 := by
  pointwise [k0_pay10]
  clear r; revert e; decide +kernel

/-- The same mask, in the second half of the rows. -/
theorem first1_at (r : Fin 512) (e : Fin 128) : k0_pay40 (ix2 r e) = if e.val % 32 < 16 then 1#1 else 0#1 := by
  pointwise [k0_pay40]
  clear r; revert e; decide +kernel

section Chunk

variable (v : FVec Ideal S512x640 .f32) (c s : Vec Ideal S512x128 .f32)

/-- Row `r` turned. -/
abbrev turnRow (r : Fin 512) (x : Fin 640) : EReal := turn (fun y => v (ix2 r y)) (fun e => c (ix2 r e)) (fun e => s (ix2 r e)) x

theorem chunk0_at (r : Fin 512) (e : Fin 128) :
    k0_pay11 v c s (iota .tc S512x128 32 [1] iota_S512x128_d1_w32) (Scalar.select (Scalar.cmpi .eq 32#32 0#32) 1#32 32#32) (ix2 r e) = turnRow v c s r ⟨0 * 128 + e.val, by omega⟩ := by
  pointwise [k0_pay11]
  exact turn_of (fun y => v (ix2 r y)) (fun e => c (ix2 r e)) (fun e => s (ix2 r e)) _ e (first0_at r e) 0 _ _ _ _ (by dsimp only; omega) (by dsimp only; omega) (by dsimp only; omega) (by dsimp only; omega)

theorem chunk1_at (r : Fin 512) (e : Fin 128) :
    k0_pay12 v c s (iota .tc S512x128 32 [1] iota_S512x128_d1_w32) (Scalar.select (Scalar.cmpi .eq 32#32 0#32) 1#32 32#32) (ix2 r e) = turnRow v c s r ⟨1 * 128 + e.val, by omega⟩ := by
  pointwise [k0_pay12]
  exact turn_of (fun y => v (ix2 r y)) (fun e => c (ix2 r e)) (fun e => s (ix2 r e)) _ e (first0_at r e) 1 _ _ _ _ (by dsimp only; omega) (by dsimp only; omega) (by dsimp only; omega) (by dsimp only; omega)

theorem chunk2_at (r : Fin 512) (e : Fin 128) :
    k0_pay13 v c s (iota .tc S512x128 32 [1] iota_S512x128_d1_w32) (Scalar.select (Scalar.cmpi .eq 32#32 0#32) 1#32 32#32) (ix2 r e) = turnRow v c s r ⟨2 * 128 + e.val, by omega⟩ := by
  pointwise [k0_pay13]
  exact turn_of (fun y => v (ix2 r y)) (fun e => c (ix2 r e)) (fun e => s (ix2 r e)) _ e (first0_at r e) 2 _ _ _ _ (by dsimp only; omega) (by dsimp only; omega) (by dsimp only; omega) (by dsimp only; omega)

theorem chunk3_at (r : Fin 512) (e : Fin 128) :
    k0_pay14 v c s (iota .tc S512x128 32 [1] iota_S512x128_d1_w32) (Scalar.select (Scalar.cmpi .eq 32#32 0#32) 1#32 32#32) (ix2 r e) = turnRow v c s r ⟨3 * 128 + e.val, by omega⟩ := by
  pointwise [k0_pay14]
  exact turn_of (fun y => v (ix2 r y)) (fun e => c (ix2 r e)) (fun e => s (ix2 r e)) _ e (first0_at r e) 3 _ _ _ _ (by dsimp only; omega) (by dsimp only; omega) (by dsimp only; omega) (by dsimp only; omega)

theorem slice4_at (r : Fin 512) (e : Fin 128) : k0_pay15 v (ix2 r e) = v (ix2 r (⟨512 + e.val, by omega⟩ : Fin 640)) := by
  pointwise [k0_pay15]

theorem below4_at (r : Fin 512) (e : Fin 128) : k0_pay16 v (ix2 r e) = v (ix2 r (⟨512 + (e.val + 128 - 16) % 128, by omega⟩ : Fin 640)) := by
  pointwise [k0_pay16, k0_pay15]

/-- The first half's rows, turned. -/
theorem all0_at (r : Fin 512) (x : Fin 640) :
    k0_pay17 c s (k0_pay10 (iota .tc S512x128 32 [1] iota_S512x128_d1_w32) (Scalar.select (Scalar.cmpi .eq 32#32 0#32) 1#32 32#32))
      (k0_pay11 v c s (iota .tc S512x128 32 [1] iota_S512x128_d1_w32) (Scalar.select (Scalar.cmpi .eq 32#32 0#32) 1#32 32#32))
      (k0_pay12 v c s (iota .tc S512x128 32 [1] iota_S512x128_d1_w32) (Scalar.select (Scalar.cmpi .eq 32#32 0#32) 1#32 32#32))
      (k0_pay13 v c s (iota .tc S512x128 32 [1] iota_S512x128_d1_w32) (Scalar.select (Scalar.cmpi .eq 32#32 0#32) 1#32 32#32))
      (k0_pay14 v c s (iota .tc S512x128 32 [1] iota_S512x128_d1_w32) (Scalar.select (Scalar.cmpi .eq 32#32 0#32) 1#32 32#32))
      (k0_pay15 v) (k0_pay16 v) 112#32 (ix2 r x) = turnRow v c s r x := by
  pointwise [k0_pay17]
  by_cases h0 : x.val < 128
  · rw [dif_pos h0]
    rw [chunk0_at]; exact congrArg (turnRow v c s r) (Fin.ext (by dsimp only; omega))
  · rw [dif_neg h0]
    by_cases h1 : x.val - 128 < 128
    · rw [dif_pos h1]
      rw [chunk1_at]; exact congrArg (turnRow v c s r) (Fin.ext (by dsimp only; omega))
    · rw [dif_neg h1]
      by_cases h2 : x.val - 128 - 128 < 128
      · rw [dif_pos h2]
        rw [chunk2_at]; exact congrArg (turnRow v c s r) (Fin.ext (by dsimp only; omega))
      · rw [dif_neg h2]
        by_cases h3 : x.val - 128 - 128 - 128 < 128
        · rw [dif_pos h3]
          rw [chunk3_at]; exact congrArg (turnRow v c s r) (Fin.ext (by dsimp only; omega))
        · rw [dif_neg h3]
          rw [slice4_at, slice4_at, below4_at]
          exact turn_of (fun y => v (ix2 r y)) (fun e => c (ix2 r e)) (fun e => s (ix2 r e)) _ ⟨x.val - 128 - 128 - 128 - 128, by omega⟩ (first0_at r _) 4 x _ _ _ (by dsimp only; omega) (by dsimp only; omega) (by dsimp only; omega) (by dsimp only; omega)

section Second

variable (p : FVec Ideal S512x640 .f32) (g : Vec Ideal S1x640 .f32)

theorem half0_at (r : Fin 512) (e : Fin 128) :
    k0_pay41 p g c s (ix2 r e) = turnRow (k0_pay39 p g) c s r ⟨0 * 128 + e.val, by omega⟩ := by
  pointwise [k0_pay41]
  exact turn_of (fun y => k0_pay39 p g (ix2 r y)) (fun e => c (ix2 r e)) (fun e => s (ix2 r e)) _ e (first1_at r e) 0 _ _ _ _ (by dsimp only; omega) (by dsimp only; omega) (by dsimp only; omega) (by dsimp only; omega)

theorem half1_at (r : Fin 512) (e : Fin 128) :
    k0_pay42 p g c s (ix2 r e) = turnRow (k0_pay39 p g) c s r ⟨1 * 128 + e.val, by omega⟩ := by
  pointwise [k0_pay42]
  exact turn_of (fun y => k0_pay39 p g (ix2 r y)) (fun e => c (ix2 r e)) (fun e => s (ix2 r e)) _ e (first1_at r e) 1 _ _ _ _ (by dsimp only; omega) (by dsimp only; omega) (by dsimp only; omega) (by dsimp only; omega)

theorem slice2_at (r : Fin 512) (e : Fin 128) : k0_pay43 p g (ix2 r e) = k0_pay39 p g (ix2 r (⟨256 + e.val, by omega⟩ : Fin 640)) := by
  pointwise [k0_pay43]

theorem below2_at (r : Fin 512) (e : Fin 128) : k0_pay44 p g (ix2 r e) = k0_pay39 p g (ix2 r (⟨256 + (e.val + 128 - 16) % 128, by omega⟩ : Fin 640)) := by
  pointwise [k0_pay44, k0_pay43]

theorem above2_at (r : Fin 512) (e : Fin 128) : k0_pay45 p g (ix2 r e) = k0_pay39 p g (ix2 r (⟨256 + (e.val + 128 - 112) % 128, by omega⟩ : Fin 640)) := by
  pointwise [k0_pay45, k0_pay43]

/-- The second half's rows, turned. -/
theorem all1_at (r : Fin 512) (x : Fin 640) :
    k0_pay46 (k0_pay39 p g) c s k0_pay40 (k0_pay41 p g c s) (k0_pay42 p g c s) (k0_pay43 p g) (k0_pay44 p g) (k0_pay45 p g) (ix2 r x) = turnRow (k0_pay39 p g) c s r x := by
  pointwise [k0_pay46]
  by_cases h0 : x.val < 128
  · rw [dif_pos h0]
    rw [half0_at]; exact congrArg (turnRow (k0_pay39 p g) c s r) (Fin.ext (by dsimp only; omega))
  · rw [dif_neg h0]
    by_cases h1 : x.val - 128 < 128
    · rw [dif_pos h1]
      rw [half1_at]; exact congrArg (turnRow (k0_pay39 p g) c s r) (Fin.ext (by dsimp only; omega))
    · rw [dif_neg h1]
      by_cases h2 : x.val - 128 - 128 < 128
      · rw [dif_pos h2]
        rw [slice2_at, below2_at, above2_at]
        exact turn_of (fun y => k0_pay39 p g (ix2 r y)) (fun e => c (ix2 r e)) (fun e => s (ix2 r e)) _ ⟨x.val - 128 - 128, by omega⟩ (first1_at r _) 2 x _ _ _ (by dsimp only; omega) (by dsimp only; omega) (by dsimp only; omega) (by dsimp only; omega)
      · rw [dif_neg h2]
        by_cases h3 : x.val - 128 - 128 - 128 < 128
        · rw [dif_pos h3]
          exact turn_of (fun y => k0_pay39 p g (ix2 r y)) (fun e => c (ix2 r e)) (fun e => s (ix2 r e)) _ ⟨x.val - 128 - 128 - 128, by omega⟩ (first1_at r _) 3 x _ _ _ (by dsimp only; omega) (by dsimp only; omega) (by dsimp only; omega) (by dsimp only; omega)
        · rw [dif_neg h3]
          exact turn_of (fun y => k0_pay39 p g (ix2 r y)) (fun e => c (ix2 r e)) (fun e => s (ix2 r e)) _ ⟨x.val - 128 - 128 - 128 - 128, by omega⟩ (first1_at r _) 4 x _ _ _ (by dsimp only; omega) (by dsimp only; omega) (by dsimp only; omega) (by dsimp only; omega)

end Second

end Chunk

end Cert.LatIdeal.Value

end
-- ==== Proof.LatBlock.lean ====
/- What the latent tokens' input projection computes at one row of its block: the modulated row times the weights, the normalised
   and turned queries and keys, and where each of them lies in the output blocks. -/
module

public import proofs.«01_k».proof.Proof.ProjBlock
public import proofs.«01_k».proof.Proof.LatTurn

@[expose] public section

set_option maxRecDepth 16384

noncomputable section

namespace Cert.LatIdeal.Value

open Cert.LatIdeal Cert.LatIdeal.Gen Idealize.ShloMosaic Idealize.ShloMosaic.TcCoe Idealize.SL.Sem
open Cert.SoftmaxMath
open Cert.ProjIdeal.Value (projAt cScale)

section Pay

variable (P0 : Vec Ideal S1x6x1024 .f32) (P1 : Vec Ideal S1x512x1024 .f32) (P2 : Vec Ideal S1024x2304 .bf16) (P3 : Vec Ideal S640x640 .bf16) (P4 : Vec Ideal S1x640 .f32)

/-- The projection of row `r` of a half block to column `c`. -/
def halfProj (r : Fin 512) (c : Fin 2304) : EReal :=
  projAt (fun k => P1 (ix3 0 r k)) (fun k => P0 (ix3 0 0 k)) (fun k => P0 (ix3 0 1 k)) (fun k => P2 (ix2 k c))

theorem pay7_at (i : Fin 6) (k : Fin 1024) : k0_pay7 P0 (ix2 i k) = P0 (ix3 0 i k) := by
  pointwise [k0_pay7]

theorem pay8_at (r : Fin 512) (c : Fin 2304) : k0_pay8 P0 P1 P2 (ix2 r c) = halfProj P0 P1 P2 r c := by
  pointwise [k0_pay8, halfProj, projAt]
  simp only [pay7_at]

theorem pay37_at (r : Fin 512) (c : Fin 2304) : k0_pay37 (k0_pay7 P0) P1 P2 (ix2 r c) = halfProj P0 P1 P2 r c := by
  pointwise [k0_pay37, halfProj, projAt]
  simp only [pay7_at]

/-- The normalised value of row `r` at column `c`, from a projection. -/
def normRow (A : Fin 2304 → EReal) (c : Fin 640) : EReal :=
  A ⟨c.val, by omega⟩ * Ideal.rsqrt (∑ j : Fin 640, A ⟨j.val, by omega⟩ * A ⟨j.val, by omega⟩ * P3 (ix2 j c) + cε) * P4 (ix2 0 c)

theorem pay9_at (r : Fin 512) (c : Fin 640) : k0_pay9 P0 P1 P2 P3 P4 (ix2 r c) = normRow P3 P4 (fun y => k0_pay8 P0 P1 P2 (ix2 r y)) c := by
  pointwise [k0_pay9, normRow]

theorem pay39_at (r : Fin 512) (c : Fin 640) :
    k0_pay39 (k0_pay38 (k0_pay7 P0) P1 P2 P3) P4 (ix2 r c)
      = normRow P3 P4 (fun y => k0_pay37 (k0_pay7 P0) P1 P2 (ix2 r y)) c := by
  pointwise [k0_pay39, k0_pay38, normRow]

end Pay

/-! ## The pieces of the output blocks, at an index -/

section Piece

variable (a b : Vec Ideal S512x128 .f32) (k : IVec S512x128 1) (u0 u1 u2 u3 u4 u5 : FVec Ideal S512x128 .f32) (n : BitVec 32) (v : FVec Ideal S512x640 .f32)

theorem low0_at (r : Fin 512) (d : Fin 64) :
    k0_pay19 a b k u0 u1 u2 u3 u4 u5 n (ix4 0 0 r d) = k0_pay18 a b k u0 u1 u2 u3 u4 u5 n (ix2 r (⟨0 * 64 + d.val, by omega⟩ : Fin 512)) := by
  pointwise [k0_pay19]

theorem low1_at (r : Fin 512) (d : Fin 64) :
    k0_pay20 a b k u0 u1 u2 u3 u4 u5 n (ix4 0 0 r d) = k0_pay18 a b k u0 u1 u2 u3 u4 u5 n (ix2 r (⟨1 * 64 + d.val, by omega⟩ : Fin 512)) := by
  pointwise [k0_pay20]

theorem low2_at (r : Fin 512) (d : Fin 64) :
    k0_pay21 a b k u0 u1 u2 u3 u4 u5 n (ix4 0 0 r d) = k0_pay18 a b k u0 u1 u2 u3 u4 u5 n (ix2 r (⟨2 * 64 + d.val, by omega⟩ : Fin 512)) := by
  pointwise [k0_pay21]

theorem low3_at (r : Fin 512) (d : Fin 64) :
    k0_pay22 a b k u0 u1 u2 u3 u4 u5 n (ix4 0 0 r d) = k0_pay18 a b k u0 u1 u2 u3 u4 u5 n (ix2 r (⟨3 * 64 + d.val, by omega⟩ : Fin 512)) := by
  pointwise [k0_pay22]

theorem low4_at (r : Fin 512) (d : Fin 64) :
    k0_pay23 a b k u0 u1 u2 u3 u4 u5 n (ix4 0 0 r d) = k0_pay18 a b k u0 u1 u2 u3 u4 u5 n (ix2 r (⟨4 * 64 + d.val, by omega⟩ : Fin 512)) := by
  pointwise [k0_pay23]

theorem low5_at (r : Fin 512) (d : Fin 64) :
    k0_pay25 (k0_pay24 a b k u0 u1 u2 u3 u4 u5 n) (ix4 0 0 r d) = k0_pay18 a b k u0 u1 u2 u3 u4 u5 n (ix2 r (⟨5 * 64 + d.val, by omega⟩ : Fin 512)) := by
  pointwise [k0_pay25, k0_pay24]

theorem low6_at (w : FVec Ideal S512x512 .bf16) (r : Fin 512) (d : Fin 64) :
    k0_pay26 w (ix4 0 0 r d) = w (ix2 r (⟨6 * 64 + d.val, by omega⟩ : Fin 512)) := by
  pointwise [k0_pay26]

theorem low7_at (w : FVec Ideal S512x512 .bf16) (r : Fin 512) (d : Fin 64) :
    k0_pay27 w (ix4 0 0 r d) = w (ix2 r (⟨7 * 64 + d.val, by omega⟩ : Fin 512)) := by
  pointwise [k0_pay27]

theorem high0_at (r : Fin 512) (d : Fin 64) :
    k0_pay48 v a b k u0 u1 u2 u3 u4 (ix4 0 0 r d) = k0_pay47 v a b k u0 u1 u2 u3 u4 (ix2 r (⟨0 * 64 + d.val, by omega⟩ : Fin 512)) := by
  pointwise [k0_pay48]

theorem high1_at (r : Fin 512) (d : Fin 64) :
    k0_pay49 v a b k u0 u1 u2 u3 u4 (ix4 0 0 r d) = k0_pay47 v a b k u0 u1 u2 u3 u4 (ix2 r (⟨1 * 64 + d.val, by omega⟩ : Fin 512)) := by
  pointwise [k0_pay49]

theorem high2_at (r : Fin 512) (d : Fin 64) :
    k0_pay50 v a b k u0 u1 u2 u3 u4 (ix4 0 0 r d) = k0_pay47 v a b k u0 u1 u2 u3 u4 (ix2 r (⟨2 * 64 + d.val, by omega⟩ : Fin 512)) := by
  pointwise [k0_pay50]

theorem high3_at (r : Fin 512) (d : Fin 64) :
    k0_pay52 (k0_pay51 v a b k u0 u1 u2 u3 u4) (ix4 0 0 r d) = k0_pay47 v a b k u0 u1 u2 u3 u4 (ix2 r (⟨3 * 64 + d.val, by omega⟩ : Fin 512)) := by
  pointwise [k0_pay52, k0_pay51]

theorem high4_at (w : FVec Ideal S512x512 .bf16) (r : Fin 512) (d : Fin 64) :
    k0_pay53 w (ix4 0 0 r d) = w (ix2 r (⟨4 * 64 + d.val, by omega⟩ : Fin 512)) := by
  pointwise [k0_pay53]

theorem high5_at (w : FVec Ideal S512x512 .bf16) (r : Fin 512) (d : Fin 64) :
    k0_pay54 w (ix4 0 0 r d) = w (ix2 r (⟨5 * 64 + d.val, by omega⟩ : Fin 512)) := by
  pointwise [k0_pay54]

theorem high6_at (w : FVec Ideal S512x512 .bf16) (r : Fin 512) (d : Fin 64) :
    k0_pay55 w (ix4 0 0 r d) = w (ix2 r (⟨6 * 64 + d.val, by omega⟩ : Fin 512)) := by
  pointwise [k0_pay55]

theorem high7_at (w : FVec Ideal S512x512 .bf16) (r : Fin 512) (d : Fin 64) :
    k0_pay56 w (ix4 0 0 r d) = w (ix2 r (⟨7 * 64 + d.val, by omega⟩ : Fin 512)) := by
  pointwise [k0_pay56]

theorem pay18_at (r : Fin 512) (c : Fin 512) : k0_pay18 a b k u0 u1 u2 u3 u4 u5 n (ix2 r c) = k0_pay17 a b k u0 u1 u2 u3 u4 u5 n (ix2 r (⟨c.val, by omega⟩ : Fin 640)) * cScale := by
  pointwise [k0_pay18]; rfl

theorem pay47_at (r : Fin 512) (c : Fin 512) : k0_pay47 v a b k u0 u1 u2 u3 u4 (ix2 r c) = k0_pay46 v a b k u0 u1 u2 u3 u4 (ix2 r (⟨c.val, by omega⟩ : Fin 640)) * cScale := by
  pointwise [k0_pay47]; rfl

theorem keyLow0_at (d : Fin 64) (r : Fin 512) :
    k0_pay29 v (ix4 0 0 d r) = v (ix2 r (⟨512 + (0 * 64 + d.val), by omega⟩ : Fin 640)) := by
  pointwise [k0_pay29, k0_pay28]

theorem keyLow1_at (d : Fin 64) (r : Fin 512) :
    k0_pay30 v (ix4 0 0 d r) = v (ix2 r (⟨512 + (1 * 64 + d.val), by omega⟩ : Fin 640)) := by
  pointwise [k0_pay30, k0_pay28]

theorem keyHigh0_at (d : Fin 64) (r : Fin 512) :
    k0_pay58 v (ix4 0 0 d r) = v (ix2 r (⟨512 + (0 * 64 + d.val), by omega⟩ : Fin 640)) := by
  pointwise [k0_pay58, k0_pay57]

theorem keyHigh1_at (d : Fin 64) (r : Fin 512) :
    k0_pay1 (k0_pay59 v) (ix4 0 0 d r) = v (ix2 r (⟨512 + (1 * 64 + d.val), by omega⟩ : Fin 640)) := by
  pointwise [k0_pay1, k0_pay59, k0_pay57]

theorem colsLow_at (w : FVec Ideal S512x2304 .f32) (r : Fin 512) (c : Fin 1536) :
    k0_pay36 w (ix3 0 r c) = w (ix2 r (⟨768 + c.val, by omega⟩ : Fin 2304)) := by
  pointwise [k0_pay36]

theorem colsHigh_at (w : FVec Ideal S512x2304 .f32) (r : Fin 512) (c : Fin 1536) :
    k0_pay6 w (ix3 0 r c) = w (ix2 r (⟨768 + c.val, by omega⟩ : Fin 2304)) := by
  pointwise [k0_pay6]

theorem valLow0_at (w : FVec Ideal S512x2304 .f32) (r : Fin 512) (e : Fin 128) :
    k0_pay34 (k0_pay33 w) (ix4 0 0 r e) = (if h : e.val < 64 then w (ix2 r (⟨640 + (0 * 64 + e.val), by omega⟩ : Fin 2304)) else 1 : EReal) := by
  pointwise [k0_pay34, k0_pay33, k0_pay32, k0_pay31]
  rw [Cert.ProjIdeal.Value.lane_lt]
  by_cases h : e.val < 64
  · rw [if_pos h, dif_pos h]
    exact congrArg w (congrArg (ix2 r) (Fin.ext (by first | (dsimp only; omega) | rfl)))
  · rw [if_neg h, dif_neg h]; rfl

theorem valLow1_at (w : FVec Ideal S512x2304 .f32) (r : Fin 512) (e : Fin 128) :
    k0_pay35 (k0_pay31 w) k0_pay32 (ix4 0 0 r e) = (if h : e.val < 64 then w (ix2 r (⟨640 + (1 * 64 + e.val), by omega⟩ : Fin 2304)) else 1 : EReal) := by
  pointwise [k0_pay35, k0_pay32, k0_pay31]
  rw [Cert.ProjIdeal.Value.lane_lt]
  by_cases h : e.val < 64
  · rw [if_pos h, dif_pos h]
    exact congrArg w (congrArg (ix2 r) (Fin.ext (by first | (dsimp only; omega) | rfl)))
  · rw [if_neg h, dif_neg h]; rfl

theorem valHigh0_at (w : FVec Ideal S512x2304 .f32) (r : Fin 512) (e : Fin 128) :
    k0_pay4 w (ix4 0 0 r e) = (if h : e.val < 64 then w (ix2 r (⟨640 + (0 * 64 + e.val), by omega⟩ : Fin 2304)) else 1 : EReal) := by
  pointwise [k0_pay4, k0_pay3, k0_pay2]
  rw [Cert.ProjIdeal.Value.lane_lt]
  by_cases h : e.val < 64
  · rw [if_pos h, dif_pos h]
    exact congrArg w (congrArg (ix2 r) (Fin.ext (by first | (dsimp only; omega) | rfl)))
  · rw [if_neg h, dif_neg h]; rfl

theorem valHigh1_at (w : FVec Ideal S512x2304 .f32) (r : Fin 512) (e : Fin 128) :
    k0_pay5 w (ix4 0 0 r e) = (if h : e.val < 64 then w (ix2 r (⟨640 + (1 * 64 + e.val), by omega⟩ : Fin 2304)) else 1 : EReal) := by
  pointwise [k0_pay5, k0_pay3, k0_pay2]
  rw [Cert.ProjIdeal.Value.lane_lt]
  by_cases h : e.val < 64
  · rw [if_pos h, dif_pos h]
    exact congrArg w (congrArg (ix2 r) (Fin.ext (by first | (dsimp only; omega) | rfl)))
  · rw [if_neg h, dif_neg h]; rfl

end Piece

/-! ## What the body leaves in each output block -/

section Out

variable (x0 : Vec Ideal S1x1024x1024 .f32) (x1 : Vec Ideal S1x6x1024 .f32) (x2 : Vec Ideal S1024x2304 .bf16) (x3 : Vec Ideal S1x640 .f32) (x4 : Vec Ideal S640x640 .bf16)
  (x5 x6 : Vec Ideal S1024x128 .f32)

theorem ld1 : View.ld x1 r0_0 = x1 := by
  funext y; obtain ⟨a, b, c, rfl⟩ : ∃ (a : Fin 1) (b : Fin 6) (c : Fin 1024), y = ix3 a b c := ⟨y 0, y 1, y 2, eq_ix3 y⟩; obtain rfl : a = 0 := Subsingleton.elim _ _; pointwise
theorem ld2 : View.ld x2 r0_2 = x2 := by
  funext y; obtain ⟨a, b, rfl⟩ : ∃ (a : Fin 1024) (b : Fin 2304), y = ix2 a b := ⟨y 0, y 1, eq_ix2 y⟩; pointwise
theorem ld3 : View.ld x3 r0_4 = x3 := by
  funext y; obtain ⟨a, b, rfl⟩ : ∃ (a : Fin 1) (b : Fin 640), y = ix2 a b := ⟨y 0, y 1, eq_ix2 y⟩; obtain rfl : a = 0 := Subsingleton.elim _ _; pointwise
theorem ld4 : View.ld x4 r0_3 = x4 := by
  funext y; obtain ⟨a, b, rfl⟩ : ∃ (a : Fin 640) (b : Fin 640), y = ix2 a b := ⟨y 0, y 1, eq_ix2 y⟩; pointwise
theorem rowsLow_at (r : Fin 512) (k : Fin 1024) : View.ld x0 r0_1 (ix3 0 r k) = x0 (ix3 0 ⟨r.val, by omega⟩ k) := by pointwise
theorem rowsHigh_at (r : Fin 512) (k : Fin 1024) : View.ld x0 r0_19 (ix3 0 r k) = x0 (ix3 0 ⟨512 + r.val, by omega⟩ k) := by pointwise
theorem tabLow_at (x : Vec Ideal S1024x128 .f32) (r : Fin 512) (e : Fin 128) : View.ld x r0_5 (ix2 r e) = x (ix2 ⟨r.val, by omega⟩ e) := by pointwise
theorem tabHigh_at (x : Vec Ideal S1024x128 .f32) (r : Fin 512) (e : Fin 128) : View.ld x r0_20 (ix2 r e) = x (ix2 ⟨512 + r.val, by omega⟩ e) := by pointwise

/-- The projection of the block's row `r` to column `c`. -/
def rowOf (r : Fin 1024) (c : Fin 2304) : EReal :=
  projAt (fun k => x0 (ix3 0 r k)) (fun k => x1 (ix3 0 0 k)) (fun k => x1 (ix3 0 1 k)) (fun k => x2 (ix2 k c))

/-- The normalised query or key of row `r` at column `c`: its mean square is the product of the squares with the table. -/
def normOf (r : Fin 1024) (c : Fin 640) : EReal := normRow x4 x3 (fun y => rowOf x0 x1 x2 r y) c

/-- The turned query or key of row `r` at column `c`. -/
def turnOf (r : Fin 1024) (c : Fin 640) : EReal :=
  turn (fun y => normOf x0 x1 x2 x3 x4 r y) (fun e => x5 (ix2 r e)) (fun e => x6 (ix2 r e)) c

theorem pay62_at (r : Fin 512) (c : Fin 2304) : k0_pay62 x0 x1 x2 x3 x4 x5 x6 (ix2 r c) = rowOf x0 x1 x2 ⟨r.val, by omega⟩ c := by
  unfold k0_pay62; rw [ld1, ld2, pay8_at]
  exact congrArg (fun X => projAt X (fun k => x1 (ix3 0 0 k)) (fun k => x1 (ix3 0 1 k)) (fun k => x2 (ix2 k c))) (funext fun k => rowsLow_at x0 r k)

theorem pay73_at (r : Fin 512) (c : Fin 2304) : k0_pay73 x0 x1 x2 x3 x4 x5 x6 (ix2 r c) = rowOf x0 x1 x2 ⟨512 + r.val, by omega⟩ c := by
  unfold k0_pay73 k0_pay61; rw [ld1, ld2, pay37_at]
  exact congrArg (fun X => projAt X (fun k => x1 (ix3 0 0 k)) (fun k => x1 (ix3 0 1 k)) (fun k => x2 (ix2 k c))) (funext fun k => rowsHigh_at x0 r k)

theorem pay63_at (r : Fin 512) (c : Fin 640) : k0_pay63 x0 x1 x2 x3 x4 x5 x6 (ix2 r c) = normOf x0 x1 x2 x3 x4 ⟨r.val, by omega⟩ c := by
  refine (pay9_at (View.ld x1 r0_0) (View.ld x0 r0_1) (View.ld x2 r0_2) (View.ld x4 r0_3) (View.ld x3 r0_4) r c).trans ?_
  rw [show (fun y => k0_pay8 (View.ld x1 r0_0) (View.ld x0 r0_1) (View.ld x2 r0_2) (ix2 r y)) = fun y => rowOf x0 x1 x2 ⟨r.val, by omega⟩ y from
    funext fun y => pay62_at x0 x1 x2 x3 x4 x5 x6 r y, ld3, ld4]; rfl

theorem pay75_at (r : Fin 512) (c : Fin 640) : k0_pay75 x0 x1 x2 x3 x4 x5 x6 (ix2 r c) = normOf x0 x1 x2 x3 x4 ⟨512 + r.val, by omega⟩ c := by
  refine (pay39_at (View.ld x1 r0_0) (View.ld x0 r0_19) (View.ld x2 r0_2) (View.ld x4 r0_3) (View.ld x3 r0_4) r c).trans ?_
  rw [show (fun y => k0_pay37 (k0_pay7 (View.ld x1 r0_0)) (View.ld x0 r0_19) (View.ld x2 r0_2) (ix2 r y)) = fun y => rowOf x0 x1 x2 ⟨512 + r.val, by omega⟩ y from
    funext fun y => pay73_at x0 x1 x2 x3 x4 x5 x6 r y, ld3, ld4]; rfl

theorem pay71_at (r : Fin 512) (x : Fin 640) : k0_pay71 x0 x1 x2 x3 x4 x5 x6 (ix2 r x) = turnOf x0 x1 x2 x3 x4 x5 x6 ⟨r.val, by omega⟩ x := by
  refine (all0_at (k0_pay63 x0 x1 x2 x3 x4 x5 x6) (View.ld x5 r0_5) (View.ld x6 r0_5) r x).trans ?_
  unfold turnRow turnOf
  simp only [pay63_at]
  exact congrArg₂ (fun C S => turn (fun y => normOf x0 x1 x2 x3 x4 ⟨r.val, by omega⟩ y) C S x) (funext fun e => tabLow_at x5 r e) (funext fun e => tabLow_at x6 r e)

theorem pay82_at (r : Fin 512) (x : Fin 640) : k0_pay82 x0 x1 x2 x3 x4 x5 x6 (ix2 r x) = turnOf x0 x1 x2 x3 x4 x5 x6 ⟨512 + r.val, by omega⟩ x := by
  have h : k0_pay82 x0 x1 x2 x3 x4 x5 x6 (ix2 r x) = turnRow (k0_pay75 x0 x1 x2 x3 x4 x5 x6) (View.ld x5 r0_20) (View.ld x6 r0_20) r x :=
    all1_at (View.ld x5 r0_20) (View.ld x6 r0_20) (k0_pay74 x0 x1 x2 x3 x4 x5 x6) (View.ld x3 r0_4) r x
  rw [h]
  unfold turnRow turnOf
  simp only [pay75_at]
  exact congrArg₂ (fun C S => turn (fun y => normOf x0 x1 x2 x3 x4 ⟨512 + r.val, by omega⟩ y) C S x) (funext fun e => tabHigh_at x5 r e) (funext fun e => tabHigh_at x6 r e)

theorem pay72_at (r : Fin 512) (c : Fin 512) : k0_pay72 x0 x1 x2 x3 x4 x5 x6 (ix2 r c) = turnOf x0 x1 x2 x3 x4 x5 x6 ⟨r.val, by omega⟩ ⟨c.val, by omega⟩ * cScale :=
  (pay18_at _ _ _ _ _ _ _ _ _ _ r c).trans (congrArg (· * cScale) (pay71_at x0 x1 x2 x3 x4 x5 x6 r ⟨c.val, by omega⟩))

theorem pay83_at (r : Fin 512) (c : Fin 512) : k0_pay83 x0 x1 x2 x3 x4 x5 x6 (ix2 r c) = turnOf x0 x1 x2 x3 x4 x5 x6 ⟨512 + r.val, by omega⟩ ⟨c.val, by omega⟩ * cScale :=
  (pay47_at _ _ _ _ _ _ _ _ _ r c).trans (congrArg (· * cScale) (pay82_at x0 x1 x2 x3 x4 x5 x6 r ⟨c.val, by omega⟩))

/-- The block of queries, as one function of its index. -/
def qBlock : S1x8x1024x64.Idx → EReal := fun z =>
  turnOf x0 x1 x2 x3 x4 x5 x6 (z 2) ⟨(z 1).val * 64 + (z 3).val, by have : (z 1).val < 8 := (z 1).isLt; have : (z 3).val < 64 := (z 3).isLt; omega⟩ * cScale

theorem out7_eq : out0_7 x0 x1 x2 x3 x4 x5 x6 = qBlock x0 x1 x2 x3 x4 x5 x6 := by
  funext z
  unfold out0_7
  refine View.canon_apply_of_pieces (Val := Elt Ideal) (qBlock x0 x1 x2 x3 x4 x5 x6) _ ?_ z (cover0_7 _ _ _ _ _ _ _ _ _ _ _ _ _ _ _ _ z)
  intro p hp
  simp only [List.mem_cons, List.not_mem_nil, or_false] at hp
  rcases hp with rfl | rfl | rfl | rfl | rfl | rfl | rfl | rfl | rfl | rfl | rfl | rfl | rfl | rfl | rfl | rfl
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_28.emb (ix4 0 0 r d) = ix4 0 7 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high7_at _ r d).trans (pay83_at x0 x1 x2 x3 x4 x5 x6 r ⟨7 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_27.emb (ix4 0 0 r d) = ix4 0 6 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high6_at _ r d).trans (pay83_at x0 x1 x2 x3 x4 x5 x6 r ⟨6 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_26.emb (ix4 0 0 r d) = ix4 0 5 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high5_at _ r d).trans (pay83_at x0 x1 x2 x3 x4 x5 x6 r ⟨5 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_25.emb (ix4 0 0 r d) = ix4 0 4 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high4_at _ r d).trans (pay83_at x0 x1 x2 x3 x4 x5 x6 r ⟨4 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_24.emb (ix4 0 0 r d) = ix4 0 3 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high3_at _ _ _ _ _ _ _ _ _ r d).trans (pay83_at x0 x1 x2 x3 x4 x5 x6 r ⟨3 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_23.emb (ix4 0 0 r d) = ix4 0 2 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high2_at _ _ _ _ _ _ _ _ _ r d).trans (pay83_at x0 x1 x2 x3 x4 x5 x6 r ⟨2 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_22.emb (ix4 0 0 r d) = ix4 0 1 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high1_at _ _ _ _ _ _ _ _ _ r d).trans (pay83_at x0 x1 x2 x3 x4 x5 x6 r ⟨1 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_21.emb (ix4 0 0 r d) = ix4 0 0 ⟨512 + r.val, by omega⟩ d := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * d.val = d.val; omega)
    refine Eq.trans ?_ (congrArg (qBlock x0 x1 x2 x3 x4 x5 x6) he).symm
    exact (high0_at _ _ _ _ _ _ _ _ _ r d).trans (pay83_at x0 x1 x2 x3 x4 x5 x6 r ⟨0 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_13.emb (ix4 0 0 r d) = ix4 0 7 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low7_at _ r d).trans (pay72_at x0 x1 x2 x3 x4 x5 x6 r ⟨7 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_12.emb (ix4 0 0 r d) = ix4 0 6 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low6_at _ r d).trans (pay72_at x0 x1 x2 x3 x4 x5 x6 r ⟨6 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_11.emb (ix4 0 0 r d) = ix4 0 5 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low5_at _ _ _ _ _ _ _ _ _ _ r d).trans (pay72_at x0 x1 x2 x3 x4 x5 x6 r ⟨5 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_10.emb (ix4 0 0 r d) = ix4 0 4 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low4_at _ _ _ _ _ _ _ _ _ _ r d).trans (pay72_at x0 x1 x2 x3 x4 x5 x6 r ⟨4 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_9.emb (ix4 0 0 r d) = ix4 0 3 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low3_at _ _ _ _ _ _ _ _ _ _ r d).trans (pay72_at x0 x1 x2 x3 x4 x5 x6 r ⟨3 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_8.emb (ix4 0 0 r d) = ix4 0 2 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low2_at _ _ _ _ _ _ _ _ _ _ r d).trans (pay72_at x0 x1 x2 x3 x4 x5 x6 r ⟨2 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_7.emb (ix4 0 0 r d) = ix4 0 1 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low1_at _ _ _ _ _ _ _ _ _ _ r d).trans (pay72_at x0 x1 x2 x3 x4 x5 x6 r ⟨1 * 64 + d.val, by omega⟩)
  · intro x
    obtain ⟨i, j, r, d, rfl⟩ : ∃ (i : Fin 1) (j : Fin 1) (r : Fin 512) (d : Fin 64), x = ix4 i j r d := ⟨x 0, x 1, x 2, x 3, eq_ix4 x⟩
    obtain rfl : i = 0 := Subsingleton.elim _ _
    obtain rfl : j = 0 := Subsingleton.elim _ _
    have he : r0_6.emb (ix4 0 0 r d) = ix4 0 0 ⟨r.val, by omega⟩ d := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * d.val = d.val; omega)
    refine Eq.trans ?_ (congrArg (qBlock x0 x1 x2 x3 x4 x5 x6) he).symm
    exact (low0_at _ _ _ _ _ _ _ _ _ _ r d).trans (pay72_at x0 x1 x2 x3 x4 x5 x6 r ⟨0 * 64 + d.val, by omega⟩)

theorem out7_at (h : Fin 8) (r : Fin 1024) (d : Fin 64) :
    out0_7 x0 x1 x2 x3 x4 x5 x6 (ix4 0 h r d) = turnOf x0 x1 x2 x3 x4 x5 x6 r ⟨h.val * 64 + d.val, by omega⟩ * cScale := by
  rw [out7_eq]; rfl

/-- The block of keys, transposed, as one function of its index. -/
def ktBlock : S1x2x64x1024.Idx → EReal := fun z =>
  turnOf x0 x1 x2 x3 x4 x5 x6 (z 3) ⟨512 + ((z 1).val * 64 + (z 2).val), by have : (z 1).val < 2 := (z 1).isLt; have : (z 2).val < 64 := (z 2).isLt; omega⟩

theorem out8_eq : out0_8 x0 x1 x2 x3 x4 x5 x6 = ktBlock x0 x1 x2 x3 x4 x5 x6 := by
  funext z
  unfold out0_8
  refine View.canon_apply_of_pieces (Val := Elt Ideal) (ktBlock x0 x1 x2 x3 x4 x5 x6) _ ?_ z (cover0_8 _ _ _ _ z)
  intro p hp
  simp only [List.mem_cons, List.not_mem_nil, or_false] at hp
  rcases hp with rfl | rfl | rfl | rfl
  · intro x
    obtain ⟨i, j, d, r, rfl⟩ : ∃ (i : Fin 1) (j : Fin 1) (d : Fin 64) (r : Fin 512), x = ix4 i j d r := ⟨x 0, x 1, x 2, x 3, eq_ix4 x⟩
    obtain rfl : i = 0 := Subsingleton.elim _ _
    obtain rfl : j = 0 := Subsingleton.elim _ _
    have he : r0_30.emb (ix4 0 0 d r) = ix4 0 1 d ⟨512 + r.val, by omega⟩ := by
      funext t
      match t with
      | ⟨0, _⟩ => rfl
      | ⟨1, _⟩ => rfl
      | ⟨2, _⟩ => exact Fin.ext (by show 0 + 1 * d.val = d.val; omega)
      | ⟨3, _⟩ => exact Fin.ext (by show 512 + 1 * r.val = 512 + r.val; omega)
    refine Eq.trans ?_ (congrArg (ktBlock x0 x1 x2 x3 x4 x5 x6) he).symm
    exact (keyHigh1_at _ d r).trans (pay82_at x0 x1 x2 x3 x4 x5 x6 r ⟨512 + (1 * 64 + d.val), by omega⟩)
  · intro x
    obtain ⟨i, j, d, r, rfl⟩ : ∃ (i : Fin 1) (j : Fin 1) (d : Fin 64) (r : Fin 512), x = ix4 i j d r := ⟨x 0, x 1, x 2, x 3, eq_ix4 x⟩
    obtain rfl : i = 0 := Subsingleton.elim _ _
    obtain rfl : j = 0 := Subsingleton.elim _ _
    have he : r0_29.emb (ix4 0 0 d r) = ix4 0 0 d ⟨512 + r.val, by omega⟩ := by
      funext t
      match t with
      | ⟨0, _⟩ => rfl
      | ⟨1, _⟩ => rfl
      | ⟨2, _⟩ => exact Fin.ext (by show 0 + 1 * d.val = d.val; omega)
      | ⟨3, _⟩ => exact Fin.ext (by show 512 + 1 * r.val = 512 + r.val; omega)
    refine Eq.trans ?_ (congrArg (ktBlock x0 x1 x2 x3 x4 x5 x6) he).symm
    exact (keyHigh0_at _ d r).trans (pay82_at x0 x1 x2 x3 x4 x5 x6 r ⟨512 + (0 * 64 + d.val), by omega⟩)
  · intro x
    obtain ⟨i, j, d, r, rfl⟩ : ∃ (i : Fin 1) (j : Fin 1) (d : Fin 64) (r : Fin 512), x = ix4 i j d r := ⟨x 0, x 1, x 2, x 3, eq_ix4 x⟩
    obtain rfl : i = 0 := Subsingleton.elim _ _
    obtain rfl : j = 0 := Subsingleton.elim _ _
    have he : r0_15.emb (ix4 0 0 d r) = ix4 0 1 d ⟨r.val, by omega⟩ := by
      funext t
      match t with
      | ⟨0, _⟩ => rfl
      | ⟨1, _⟩ => rfl
      | ⟨2, _⟩ => exact Fin.ext (by show 0 + 1 * d.val = d.val; omega)
      | ⟨3, _⟩ => exact Fin.ext (by show 0 + 1 * r.val = r.val; omega)
    refine Eq.trans ?_ (congrArg (ktBlock x0 x1 x2 x3 x4 x5 x6) he).symm
    exact (keyLow1_at _ d r).trans (pay71_at x0 x1 x2 x3 x4 x5 x6 r ⟨512 + (1 * 64 + d.val), by omega⟩)
  · intro x
    obtain ⟨i, j, d, r, rfl⟩ : ∃ (i : Fin 1) (j : Fin 1) (d : Fin 64) (r : Fin 512), x = ix4 i j d r := ⟨x 0, x 1, x 2, x 3, eq_ix4 x⟩
    obtain rfl : i = 0 := Subsingleton.elim _ _
    obtain rfl : j = 0 := Subsingleton.elim _ _
    have he : r0_14.emb (ix4 0 0 d r) = ix4 0 0 d ⟨r.val, by omega⟩ := by
      funext t
      match t with
      | ⟨0, _⟩ => rfl
      | ⟨1, _⟩ => rfl
      | ⟨2, _⟩ => exact Fin.ext (by show 0 + 1 * d.val = d.val; omega)
      | ⟨3, _⟩ => exact Fin.ext (by show 0 + 1 * r.val = r.val; omega)
    refine Eq.trans ?_ (congrArg (ktBlock x0 x1 x2 x3 x4 x5 x6) he).symm
    exact (keyLow0_at _ d r).trans (pay71_at x0 x1 x2 x3 x4 x5 x6 r ⟨512 + (0 * 64 + d.val), by omega⟩)

theorem out8_at (k : Fin 2) (d : Fin 64) (r : Fin 1024) :
    out0_8 x0 x1 x2 x3 x4 x5 x6 (ix4 0 k d r) = turnOf x0 x1 x2 x3 x4 x5 x6 r ⟨512 + (k.val * 64 + d.val), by omega⟩ := by
  rw [out8_eq]; rfl

/-- The block of values beside ones, as one function of its index. -/
def vxBlock : S1x2x1024x128.Idx → EReal := fun z =>
  if h : (z 3).val < 64 then rowOf x0 x1 x2 (z 2) ⟨640 + ((z 1).val * 64 + (z 3).val), by have : (z 1).val < 2 := (z 1).isLt; omega⟩ else 1

theorem out9_eq : out0_9 x0 x1 x2 x3 x4 x5 x6 = vxBlock x0 x1 x2 := by
  funext z
  unfold out0_9
  refine View.canon_apply_of_pieces (Val := Elt Ideal) (vxBlock x0 x1 x2) _ ?_ z (cover0_9 _ _ _ _ z)
  intro p hp
  simp only [List.mem_cons, List.not_mem_nil, or_false] at hp
  rcases hp with rfl | rfl | rfl | rfl
  · intro x
    obtain ⟨i, j, r, e, rfl⟩ : ∃ (i : Fin 1) (j : Fin 1) (r : Fin 512) (e : Fin 128), x = ix4 i j r e := ⟨x 0, x 1, x 2, x 3, eq_ix4 x⟩
    obtain rfl : i = 0 := Subsingleton.elim _ _
    obtain rfl : j = 0 := Subsingleton.elim _ _
    have he : r0_32.emb (ix4 0 0 r e) = ix4 0 1 ⟨512 + r.val, by omega⟩ e := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * e.val = e.val; omega)
    refine Eq.trans ?_ (congrArg (vxBlock x0 x1 x2) he).symm
    refine (valHigh1_at _ r e).trans ?_
    simp only [pay73_at]
    rfl
  · intro x
    obtain ⟨i, j, r, e, rfl⟩ : ∃ (i : Fin 1) (j : Fin 1) (r : Fin 512) (e : Fin 128), x = ix4 i j r e := ⟨x 0, x 1, x 2, x 3, eq_ix4 x⟩
    obtain rfl : i = 0 := Subsingleton.elim _ _
    obtain rfl : j = 0 := Subsingleton.elim _ _
    have he : r0_31.emb (ix4 0 0 r e) = ix4 0 0 ⟨512 + r.val, by omega⟩ e := by
      funext t
      match t with
      | ⟨0, _⟩ => rfl
      | ⟨1, _⟩ => rfl
      | ⟨2, _⟩ => exact Fin.ext (by show 512 + 1 * r.val = 512 + r.val; omega)
      | ⟨3, _⟩ => exact Fin.ext (by show 0 + 1 * e.val = e.val; omega)
    refine Eq.trans ?_ (congrArg (vxBlock x0 x1 x2) he).symm
    refine (valHigh0_at _ r e).trans ?_
    simp only [pay73_at]
    rfl
  · intro x
    obtain ⟨i, j, r, e, rfl⟩ : ∃ (i : Fin 1) (j : Fin 1) (r : Fin 512) (e : Fin 128), x = ix4 i j r e := ⟨x 0, x 1, x 2, x 3, eq_ix4 x⟩
    obtain rfl : i = 0 := Subsingleton.elim _ _
    obtain rfl : j = 0 := Subsingleton.elim _ _
    have he : r0_17.emb (ix4 0 0 r e) = ix4 0 1 ⟨r.val, by omega⟩ e := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * e.val = e.val; omega)
    refine Eq.trans ?_ (congrArg (vxBlock x0 x1 x2) he).symm
    refine (valLow1_at _ r e).trans ?_
    simp only [pay62_at]
    rfl
  · intro x
    obtain ⟨i, j, r, e, rfl⟩ : ∃ (i : Fin 1) (j : Fin 1) (r : Fin 512) (e : Fin 128), x = ix4 i j r e := ⟨x 0, x 1, x 2, x 3, eq_ix4 x⟩
    obtain rfl : i = 0 := Subsingleton.elim _ _
    obtain rfl : j = 0 := Subsingleton.elim _ _
    have he : r0_16.emb (ix4 0 0 r e) = ix4 0 0 ⟨r.val, by omega⟩ e := by
      funext t
      match t with
      | ⟨0, _⟩ => rfl
      | ⟨1, _⟩ => rfl
      | ⟨2, _⟩ => exact Fin.ext (by show 0 + 1 * r.val = r.val; omega)
      | ⟨3, _⟩ => exact Fin.ext (by show 0 + 1 * e.val = e.val; omega)
    refine Eq.trans ?_ (congrArg (vxBlock x0 x1 x2) he).symm
    refine (valLow0_at _ r e).trans ?_
    simp only [pay62_at]
    rfl

theorem out9_at (k : Fin 2) (r : Fin 1024) (e : Fin 128) :
    out0_9 x0 x1 x2 x3 x4 x5 x6 (ix4 0 k r e) = if h : e.val < 64 then rowOf x0 x1 x2 r ⟨640 + (k.val * 64 + e.val), by omega⟩ else (1 : EReal) := by
  rw [out9_eq]; rfl

/-- The block of the other columns, as one function of its index. -/
def hyBlock : S1x1024x1536.Idx → EReal := fun z =>
  rowOf x0 x1 x2 (z 1) ⟨768 + (z 2).val, by have : (z 2).val < 1536 := (z 2).isLt; omega⟩

theorem out10_eq : out0_10 x0 x1 x2 x3 x4 x5 x6 = hyBlock x0 x1 x2 := by
  funext z
  unfold out0_10
  refine View.canon_apply_of_pieces (Val := Elt Ideal) (hyBlock x0 x1 x2) _ ?_ z (cover0_10 _ _ z)
  intro p hp
  simp only [List.mem_cons, List.not_mem_nil, or_false] at hp
  rcases hp with rfl | rfl
  · intro x
    obtain ⟨i, r, c, rfl⟩ : ∃ (i : Fin 1) (r : Fin 512) (c : Fin 1536), x = ix3 i r c := ⟨x 0, x 1, x 2, eq_ix3 x⟩
    obtain rfl : i = 0 := Subsingleton.elim _ _
    have he : r0_33.emb (ix3 0 r c) = ix3 0 ⟨512 + r.val, by omega⟩ c := by
      funext t
      match t with
      | ⟨0, _⟩ => rfl
      | ⟨1, _⟩ => exact Fin.ext (by show 512 + 1 * r.val = 512 + r.val; omega)
      | ⟨2, _⟩ => exact Fin.ext (by show 0 + 1 * c.val = c.val; omega)
    refine Eq.trans ?_ (congrArg (hyBlock x0 x1 x2) he).symm
    exact (colsHigh_at _ r c).trans (pay73_at x0 x1 x2 x3 x4 x5 x6 r ⟨768 + c.val, by omega⟩)
  · intro x
    obtain ⟨i, r, c, rfl⟩ : ∃ (i : Fin 1) (r : Fin 512) (c : Fin 1536), x = ix3 i r c := ⟨x 0, x 1, x 2, eq_ix3 x⟩
    obtain rfl : i = 0 := Subsingleton.elim _ _
    have he : r0_18.emb (ix3 0 r c) = ix3 0 ⟨r.val, by omega⟩ c := by
      funext t
      match t with
      | ⟨0, _⟩ => rfl
      | ⟨1, _⟩ => exact Fin.ext (by show 0 + 1 * r.val = r.val; omega)
      | ⟨2, _⟩ => exact Fin.ext (by show 0 + 1 * c.val = c.val; omega)
    refine Eq.trans ?_ (congrArg (hyBlock x0 x1 x2) he).symm
    exact (colsLow_at _ r c).trans (pay62_at x0 x1 x2 x3 x4 x5 x6 r ⟨768 + c.val, by omega⟩)

theorem out10_at (r : Fin 1024) (c : Fin 1536) : out0_10 x0 x1 x2 x3 x4 x5 x6 (ix3 0 r c) = rowOf x0 x1 x2 r ⟨768 + c.val, by omega⟩ := by
  rw [out10_eq]; rfl

end Out

end Cert.LatIdeal.Value

end
-- ==== Proof.LatRef.lean ====
/- What the plain reference of the latent tokens' input projection computes, output by output. -/
module

public import proofs.«01_k».proof.Proof.Row
public import proofs.«01_k».proof.Proof.Gen.LatRefIdeal.Run
public import Idealize.ShloMosaic.Lib.Pointwise

@[expose] public section

set_option maxRecDepth 16384

noncomputable section

namespace Cert.LatRefIdeal.Value

open Cert.LatRefIdeal Cert.LatRefIdeal.Gen Idealize.ShloMosaic Idealize.ShloMosaic.TcCoe Idealize.SL.Sem
open Cert.SoftmaxMath

/-! ## The reference's stages, each a function of the stage before -/

/-- The rows, modulated by their batch's shift and scale. -/
def modulated (X : FVec Ideal S8x4096x1024 .f32) (M : FVec Ideal S8x6x1024 .f32) : FVec Ideal S8x4096x1024 .f32 :=
  addf (mulf X (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 1, 0] M slices_S8x6x1024_S8x1x1024_0_1_0)))) (broadcastInDim S8x4096x1024 ![0, 1, 2] bcast_S8x1x1024_S8x4096x1024_0_1_2 (extractStridedSlice S8x1x1024 ![0, 0, 0] M slices_S8x6x1024_S8x1x1024_0_0_0))

/-- The rows through the weights. -/
def projected (H : FVec Ideal S8x4096x1024 .f32) (W : FVec Ideal S1024x2304 .f32) : FVec Ideal S8x4096x2304 .f32 :=
  Host.dotGeneral dot_S8x4096x1024_S1024x2304_S8x4096x2304_2_0_01_1_n_n none H W

/-- The queries' columns, head by head. -/
def qHeads (J : FVec Ideal S8x4096x2304 .f32) : FVec Ideal S8x4096x8x64 .f32 :=
  shapeCast _ (extractStridedSlice S8x4096x512 ![0, 0, 0] J slices_S8x4096x2304_S8x4096x512_0_0_0) shapeCasts_S8x4096x512_S8x4096x8x64

/-- The keys' columns, head by head. -/
def kHeads (J : FVec Ideal S8x4096x2304 .f32) : FVec Ideal S8x4096x2x64 .f32 :=
  shapeCast _ (extractStridedSlice S8x4096x128 ![0, 0, 512] J slices_S8x4096x2304_S8x4096x128_0_0_512) shapeCasts_S8x4096x128_S8x4096x2x64

/-- The queries, normalised head by head. -/
def qNormed (Q : FVec Ideal S8x4096x8x64 .f32) (g : FVec Ideal S64 .f32) : FVec Ideal S8x4096x8x64 .f32 :=
  mulf (mulf Q (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf Q Q) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 g))

/-- The keys, normalised head by head. -/
def kNormed (Q : FVec Ideal S8x4096x2x64 .f32) (g : FVec Ideal S64 .f32) : FVec Ideal S8x4096x2x64 .f32 :=
  mulf (mulf Q (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf Q Q) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 g))

/-- The entries of a rotation table that the reference reads, by position, axis and frequency. -/
def entries (T : FVec Ideal S4096x128 .f32) : FVec Ideal S4096x2x16 .f32 :=
  shapeCast _ (extractStridedSlice S4096x1x2x1x16 ![0, 0, 0, 1, 0] (shapeCast _ T shapeCasts_S4096x128_S4096x2x2x2x16) slices_S4096x2x2x2x16_S4096x1x2x1x16_0_0_0_1_0) shapeCasts_S4096x1x2x1x16_S4096x2x16

/-- The queries, each pair of halves turned by its angle. -/
def qTurned (Q : FVec Ideal S8x4096x8x64 .f32) (C S : FVec Ideal S4096x2x16 .f32) : FVec Ideal S8x4096x8x64 .f32 :=
  shapeCast _ (concatenate S8x4096x8x2x2x16 4 [⟨S8x4096x8x2x1x16, (broadcastInDim S8x4096x8x2x1x16 ![0, 1, 2, 3, 5] bcast_S8x4096x8x2x16_S8x4096x8x2x1x16_0_1_2_3_5 (subf (mulf (shapeCast _ (extractStridedSlice S8x4096x8x2x1x16 ![0, 0, 0, 0, 0, 0] (shapeCast _ Q shapeCasts_S8x4096x8x64_S8x4096x8x2x2x16) slices_S8x4096x8x2x2x16_S8x4096x8x2x1x16_0_0_0_0_0_0) shapeCasts_S8x4096x8x2x1x16_S8x4096x8x2x16) (broadcastInDim S8x4096x8x2x16 ![0, 1, 2, 3, 4] bcast_S1x4096x1x2x16_S8x4096x8x2x16_0_1_2_3_4 (broadcastInDim S1x4096x1x2x16 ![1, 3, 4] bcast_S4096x2x16_S1x4096x1x2x16_1_3_4 C))) (mulf (shapeCast _ (extractStridedSlice S8x4096x8x2x1x16 ![0, 0, 0, 0, 1, 0] (shapeCast _ Q shapeCasts_S8x4096x8x64_S8x4096x8x2x2x16) slices_S8x4096x8x2x2x16_S8x4096x8x2x1x16_0_0_0_0_1_0) shapeCasts_S8x4096x8x2x1x16_S8x4096x8x2x16) (broadcastInDim S8x4096x8x2x16 ![0, 1, 2, 3, 4] bcast_S1x4096x1x2x16_S8x4096x8x2x16_0_1_2_3_4 (broadcastInDim S1x4096x1x2x16 ![1, 3, 4] bcast_S4096x2x16_S1x4096x1x2x16_1_3_4 S)))))⟩, ⟨S8x4096x8x2x1x16, (broadcastInDim S8x4096x8x2x1x16 ![0, 1, 2, 3, 5] bcast_S8x4096x8x2x16_S8x4096x8x2x1x16_0_1_2_3_5 (addf (mulf (shapeCast _ (extractStridedSlice S8x4096x8x2x1x16 ![0, 0, 0, 0, 1, 0] (shapeCast _ Q shapeCasts_S8x4096x8x64_S8x4096x8x2x2x16) slices_S8x4096x8x2x2x16_S8x4096x8x2x1x16_0_0_0_0_1_0) shapeCasts_S8x4096x8x2x1x16_S8x4096x8x2x16) (broadcastInDim S8x4096x8x2x16 ![0, 1, 2, 3, 4] bcast_S1x4096x1x2x16_S8x4096x8x2x16_0_1_2_3_4 (broadcastInDim S1x4096x1x2x16 ![1, 3, 4] bcast_S4096x2x16_S1x4096x1x2x16_1_3_4 C))) (mulf (shapeCast _ (extractStridedSlice S8x4096x8x2x1x16 ![0, 0, 0, 0, 0, 0] (shapeCast _ Q shapeCasts_S8x4096x8x64_S8x4096x8x2x2x16) slices_S8x4096x8x2x2x16_S8x4096x8x2x1x16_0_0_0_0_0_0) shapeCasts_S8x4096x8x2x1x16_S8x4096x8x2x16) (broadcastInDim S8x4096x8x2x16 ![0, 1, 2, 3, 4] bcast_S1x4096x1x2x16_S8x4096x8x2x16_0_1_2_3_4 (broadcastInDim S1x4096x1x2x16 ![1, 3, 4] bcast_S4096x2x16_S1x4096x1x2x16_1_3_4 S)))))⟩] concatenates_S8x4096x8x2x1x16_S8x4096x8x2x1x16_S8x4096x8x2x2x16_d4) shapeCasts_S8x4096x8x2x2x16_S8x4096x8x64

/-- The keys, each pair of halves turned by its angle. -/
def kTurned (Q : FVec Ideal S8x4096x2x64 .f32) (C S : FVec Ideal S4096x2x16 .f32) : FVec Ideal S8x4096x2x64 .f32 :=
  shapeCast _ (concatenate S8x4096x2x2x2x16 4 [⟨S8x4096x2x2x1x16, (broadcastInDim S8x4096x2x2x1x16 ![0, 1, 2, 3, 5] bcast_S8x4096x2x2x16_S8x4096x2x2x1x16_0_1_2_3_5 (subf (mulf (shapeCast _ (extractStridedSlice S8x4096x2x2x1x16 ![0, 0, 0, 0, 0, 0] (shapeCast _ Q shapeCasts_S8x4096x2x64_S8x4096x2x2x2x16) slices_S8x4096x2x2x2x16_S8x4096x2x2x1x16_0_0_0_0_0_0) shapeCasts_S8x4096x2x2x1x16_S8x4096x2x2x16) (broadcastInDim S8x4096x2x2x16 ![0, 1, 2, 3, 4] bcast_S1x4096x1x2x16_S8x4096x2x2x16_0_1_2_3_4 (broadcastInDim S1x4096x1x2x16 ![1, 3, 4] bcast_S4096x2x16_S1x4096x1x2x16_1_3_4 C))) (mulf (shapeCast _ (extractStridedSlice S8x4096x2x2x1x16 ![0, 0, 0, 0, 1, 0] (shapeCast _ Q shapeCasts_S8x4096x2x64_S8x4096x2x2x2x16) slices_S8x4096x2x2x2x16_S8x4096x2x2x1x16_0_0_0_0_1_0) shapeCasts_S8x4096x2x2x1x16_S8x4096x2x2x16) (broadcastInDim S8x4096x2x2x16 ![0, 1, 2, 3, 4] bcast_S1x4096x1x2x16_S8x4096x2x2x16_0_1_2_3_4 (broadcastInDim S1x4096x1x2x16 ![1, 3, 4] bcast_S4096x2x16_S1x4096x1x2x16_1_3_4 S)))))⟩, ⟨S8x4096x2x2x1x16, (broadcastInDim S8x4096x2x2x1x16 ![0, 1, 2, 3, 5] bcast_S8x4096x2x2x16_S8x4096x2x2x1x16_0_1_2_3_5 (addf (mulf (shapeCast _ (extractStridedSlice S8x4096x2x2x1x16 ![0, 0, 0, 0, 1, 0] (shapeCast _ Q shapeCasts_S8x4096x2x64_S8x4096x2x2x2x16) slices_S8x4096x2x2x2x16_S8x4096x2x2x1x16_0_0_0_0_1_0) shapeCasts_S8x4096x2x2x1x16_S8x4096x2x2x16) (broadcastInDim S8x4096x2x2x16 ![0, 1, 2, 3, 4] bcast_S1x4096x1x2x16_S8x4096x2x2x16_0_1_2_3_4 (broadcastInDim S1x4096x1x2x16 ![1, 3, 4] bcast_S4096x2x16_S1x4096x1x2x16_1_3_4 C))) (mulf (shapeCast _ (extractStridedSlice S8x4096x2x2x1x16 ![0, 0, 0, 0, 0, 0] (shapeCast _ Q shapeCasts_S8x4096x2x64_S8x4096x2x2x2x16) slices_S8x4096x2x2x2x16_S8x4096x2x2x1x16_0_0_0_0_0_0) shapeCasts_S8x4096x2x2x1x16_S8x4096x2x2x16) (broadcastInDim S8x4096x2x2x16 ![0, 1, 2, 3, 4] bcast_S1x4096x1x2x16_S8x4096x2x2x16_0_1_2_3_4 (broadcastInDim S1x4096x1x2x16 ![1, 3, 4] bcast_S4096x2x16_S1x4096x1x2x16_1_3_4 S)))))⟩] concatenates_S8x4096x2x2x1x16_S8x4096x2x2x1x16_S8x4096x2x2x2x16_d4) shapeCasts_S8x4096x2x2x2x16_S8x4096x2x64

/-- The queries in the units of a power of two, head first. -/
def qOut (Q : FVec Ideal S8x4096x8x64 .f32) : FVec Ideal S8x8x4096x64 .bf16 :=
  truncf .bf16 (transpose S8x8x4096x64 [0, 2, 1, 3] (Host.divf (mulf Q (broadcastInDim S8x4096x8x64 ![] bcast_S_S8x4096x8x64 (constant S_ .f32 0x3E000000#32))) (broadcastInDim S8x4096x8x64 ![] bcast_S_S8x4096x8x64 (Host.log (constant S_ .f32 0x40000000#32)))) transposes_S8x4096x8x64_S8x8x4096x64_0_2_1_3) bitsLt_bf16_f32

/-- The keys, head first and transposed. -/
def ktOut (K : FVec Ideal S8x4096x2x64 .f32) : FVec Ideal S8x2x64x4096 .bf16 :=
  truncf .bf16 (transpose S8x2x64x4096 [0, 2, 3, 1] K transposes_S8x4096x2x64_S8x2x64x4096_0_2_3_1) bitsLt_bf16_f32

/-- The values, head first, beside ones. -/
def vxOut (J : FVec Ideal S8x4096x2304 .f32) : FVec Ideal S8x2x4096x128 .bf16 :=
  truncf .bf16 (concatenate S8x2x4096x128 3 [⟨S8x2x4096x64, (transpose S8x2x4096x64 [0, 2, 1, 3] (shapeCast _ (extractStridedSlice S8x4096x128 ![0, 0, 640] J slices_S8x4096x2304_S8x4096x128_0_0_640) shapeCasts_S8x4096x128_S8x4096x2x64) transposes_S8x4096x2x64_S8x2x4096x64_0_2_1_3)⟩, ⟨S8x2x4096x64, (broadcastInDim S8x2x4096x64 ![] bcast_S_S8x2x4096x64 (constant S_ .f32 0x3F800000#32))⟩] concatenates_S8x2x4096x64_S8x2x4096x64_S8x2x4096x128_d3) bitsLt_bf16_f32

/-- The remaining columns. -/
def hyOut (J : FVec Ideal S8x4096x2304 .f32) : FVec Ideal S8x4096x1536 .f32 :=
  extractStridedSlice S8x4096x1536 ![0, 0, 768] J slices_S8x4096x2304_S8x4096x1536_0_0_768

/-- The projection's weights and the gains without their leading axis. -/
abbrev w2 (W : FVec Ideal S1x1024x2304 .f32) : FVec Ideal S1024x2304 .f32 := shapeCast _ W shapeCasts_S1x1024x2304_S1024x2304
abbrev g1 (g : FVec Ideal S1x64 .f32) : FVec Ideal S64 .f32 := shapeCast _ g shapeCasts_S1x64_S64

/-- The projection as a function of the arguments. -/
abbrev projOf (X : FVec Ideal S8x4096x1024 .f32) (M : FVec Ideal S8x6x1024 .f32) (W : FVec Ideal S1024x2304 .f32) : FVec Ideal S8x4096x2304 .f32 :=
  projected (modulated X M) W

/-- The run ends with the compositions of the stages as its results and its arguments unchanged. -/
theorem run_plain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = qOut (qTurned (qNormed (qHeads (projOf (m ((c.tc : Thread nD τ).loc main_arg0)) (m ((c.tc : Thread nD τ).loc main_arg1)) (w2 (m ((c.tc : Thread nD τ).loc main_arg2))))) (g1 (m ((c.tc : Thread nD τ).loc main_arg3)))) (entries (m ((c.tc : Thread nD τ).loc main_arg5))) (entries (m ((c.tc : Thread nD τ).loc main_arg6))))
      ∧ r.2.mem ((c.tc : Thread nD τ).loc main_v100) = ktOut (kTurned (kNormed (kHeads (projOf (m ((c.tc : Thread nD τ).loc main_arg0)) (m ((c.tc : Thread nD τ).loc main_arg1)) (w2 (m ((c.tc : Thread nD τ).loc main_arg2))))) (g1 (m ((c.tc : Thread nD τ).loc main_arg4)))) (entries (m ((c.tc : Thread nD τ).loc main_arg5))) (entries (m ((c.tc : Thread nD τ).loc main_arg6))))
      ∧ r.2.mem ((c.tc : Thread nD τ).loc main_v105) = vxOut (projOf (m ((c.tc : Thread nD τ).loc main_arg0)) (m ((c.tc : Thread nD τ).loc main_arg1)) (w2 (m ((c.tc : Thread nD τ).loc main_arg2))))
      ∧ r.2.mem ((c.tc : Thread nD τ).loc main_v19) = hyOut (projOf (m ((c.tc : Thread nD τ).loc main_arg0)) (m ((c.tc : Thread nD τ).loc main_arg1)) (w2 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run (F := Ideal) m ρ

/-! ## The stages at an index -/

theorem w2_at (W : FVec Ideal S1x1024x2304 .f32) (k : Fin 1024) (x : Fin 2304) : w2 W (ix2 k x) = W (ix3 0 k x) := by
  pointwise

theorem g1_at (g : FVec Ideal S1x64 .f32) (d : Fin 64) : g1 g (ix1 d) = g (ix2 0 d) := by
  pointwise

theorem projOf_at (X : FVec Ideal S8x4096x1024 .f32) (M : FVec Ideal S8x6x1024 .f32) (W : FVec Ideal S1024x2304 .f32) (b : Fin 8) (l : Fin 4096) (c : Fin 2304) :
    projOf X M W (ix3 b l c) = ∑ k : Fin 1024, (X (ix3 b l k) * (1 + M (ix3 b 1 k)) + M (ix3 b 0 k)) * W (ix2 k c) := by
  pointwise [projected, modulated]

theorem qHeads_at (J : FVec Ideal S8x4096x2304 .f32) (b : Fin 8) (l : Fin 4096) (h : Fin 8) (d : Fin 64) :
    qHeads J (ix4 b l h d) = J (ix3 b l (⟨h.val * 64 + d.val, by omega⟩ : Fin 2304)) := by
  pointwise [qHeads]

theorem kHeads_at (J : FVec Ideal S8x4096x2304 .f32) (b : Fin 8) (l : Fin 4096) (h : Fin 2) (d : Fin 64) :
    kHeads J (ix4 b l h d) = J (ix3 b l (⟨512 + (h.val * 64 + d.val), by omega⟩ : Fin 2304)) := by
  pointwise [kHeads]

theorem qNormed_at (Q : FVec Ideal S8x4096x8x64 .f32) (g : FVec Ideal S64 .f32) (b : Fin 8) (l : Fin 4096) (h : Fin 8) (d : Fin 64) :
    qNormed Q g (ix4 b l h d) = rmsNorm c64 cε (fun e => Q (ix4 b l h e)) d * g (ix1 d) := by
  pointwise [qNormed, rmsNorm]

theorem kNormed_at (K : FVec Ideal S8x4096x2x64 .f32) (g : FVec Ideal S64 .f32) (b : Fin 8) (l : Fin 4096) (h : Fin 2) (d : Fin 64) :
    kNormed K g (ix4 b l h d) = rmsNorm c64 cε (fun e => K (ix4 b l h e)) d * g (ix1 d) := by
  pointwise [kNormed, rmsNorm]

theorem entries_at (T : FVec Ideal S4096x128 .f32) (l : Fin 4096) (a : Fin 2) (f : Fin 16) :
    entries T (ix3 l a f) = T (ix2 l (⟨a.val * 32 + 16 + f.val, by omega⟩ : Fin 128)) := by
  pointwise [entries]

theorem qTurned_lo (Q : FVec Ideal S8x4096x8x64 .f32) (C S : FVec Ideal S4096x2x16 .f32) (b : Fin 8) (l : Fin 4096) (h : Fin 8) (a : Fin 2) (f : Fin 16) :
    qTurned Q C S (ix4 b l h (⟨a.val * 32 + f.val, by omega⟩ : Fin 64))
      = Q (ix4 b l h (⟨a.val * 32 + f.val, by omega⟩ : Fin 64)) * C (ix3 l a f) - Q (ix4 b l h (⟨a.val * 32 + 16 + f.val, by omega⟩ : Fin 64)) * S (ix3 l a f) := by
  pointwise [qTurned]
  rw [dif_pos (by omega)]

theorem qTurned_hi (Q : FVec Ideal S8x4096x8x64 .f32) (C S : FVec Ideal S4096x2x16 .f32) (b : Fin 8) (l : Fin 4096) (h : Fin 8) (a : Fin 2) (f : Fin 16) :
    qTurned Q C S (ix4 b l h (⟨a.val * 32 + 16 + f.val, by omega⟩ : Fin 64))
      = Q (ix4 b l h (⟨a.val * 32 + 16 + f.val, by omega⟩ : Fin 64)) * C (ix3 l a f) + Q (ix4 b l h (⟨a.val * 32 + f.val, by omega⟩ : Fin 64)) * S (ix3 l a f) := by
  pointwise [qTurned]
  rw [dif_neg (by omega)]

theorem kTurned_lo (Q : FVec Ideal S8x4096x2x64 .f32) (C S : FVec Ideal S4096x2x16 .f32) (b : Fin 8) (l : Fin 4096) (h : Fin 2) (a : Fin 2) (f : Fin 16) :
    kTurned Q C S (ix4 b l h (⟨a.val * 32 + f.val, by omega⟩ : Fin 64))
      = Q (ix4 b l h (⟨a.val * 32 + f.val, by omega⟩ : Fin 64)) * C (ix3 l a f) - Q (ix4 b l h (⟨a.val * 32 + 16 + f.val, by omega⟩ : Fin 64)) * S (ix3 l a f) := by
  pointwise [kTurned]
  rw [dif_pos (by omega)]

theorem kTurned_hi (Q : FVec Ideal S8x4096x2x64 .f32) (C S : FVec Ideal S4096x2x16 .f32) (b : Fin 8) (l : Fin 4096) (h : Fin 2) (a : Fin 2) (f : Fin 16) :
    kTurned Q C S (ix4 b l h (⟨a.val * 32 + 16 + f.val, by omega⟩ : Fin 64))
      = Q (ix4 b l h (⟨a.val * 32 + 16 + f.val, by omega⟩ : Fin 64)) * C (ix3 l a f) + Q (ix4 b l h (⟨a.val * 32 + f.val, by omega⟩ : Fin 64)) * S (ix3 l a f) := by
  pointwise [kTurned]
  rw [dif_neg (by omega)]

theorem qOut_at (Q : FVec Ideal S8x4096x8x64 .f32) (b : Fin 8) (h : Fin 8) (l : Fin 4096) (d : Fin 64) :
    qOut Q (ix4 b h l d) = Ideal.div (Q (ix4 b l h d) * Ideal.ofBits .f32 0x3E000000#32) (Ideal.log (Ideal.ofBits .f32 0x40000000#32)) := by
  pointwise [qOut]

theorem ktOut_at (K : FVec Ideal S8x4096x2x64 .f32) (b : Fin 8) (h : Fin 2) (d : Fin 64) (l : Fin 4096) :
    ktOut K (ix4 b h d l) = K (ix4 b l h d) := by
  pointwise [ktOut]

theorem hyOut_at (J : FVec Ideal S8x4096x2304 .f32) (b : Fin 8) (l : Fin 4096) (c : Fin 1536) :
    hyOut J (ix3 b l c) = J (ix3 b l (⟨768 + c.val, by omega⟩ : Fin 2304)) := by
  pointwise [hyOut]

theorem vxOut_at (J : FVec Ideal S8x4096x2304 .f32) (b : Fin 8) (h : Fin 2) (l : Fin 4096) (e : Fin 128) :
    vxOut J (ix4 b h l e) = if p : e.val < 64 then J (ix3 b l (⟨640 + (h.val * 64 + e.val), by omega⟩ : Fin 2304)) else (1 : EReal) := by
  pointwise [vxOut]

end Cert.LatRefIdeal.Value

end
-- ==== Proof.LatHost.lean ====
/- The arrays that the latent projection's host code prepares: the gains side by side, the weights, the table of shares. -/
module

public import proofs.«01_k».proof.Proof.ProjHost
public import proofs.«01_k».proof.Proof.LatRef
public import proofs.«01_k».proof.Proof.Gen.LatIdeal.Frame
public import Idealize.ShloMosaic.Lib.Pointwise

@[expose] public section

set_option maxRecDepth 16384

noncomputable section

namespace Cert.LatIdeal.Value

open Cert.LatIdeal Cert.LatIdeal.Gen Idealize.ShloMosaic Idealize.ShloMosaic.TcCoe Idealize.SL.Sem
open Cert.SoftmaxMath

variable (m : (ℓ : Loc nD τ sig) → Buf (Elt Ideal) ℓ)

theorem weights_at (c : Dev nD) (k : Fin 1024) (x : Fin 2304) : (V m c main_v11 (ix2 k x) : EReal) = m ((c : Thread nD τ).loc main_arg2) (ix3 0 k x) := by
  unfold V
  simp only [hostOps0, List.flatten_cons, List.flatten_nil, List.append_nil, List.cons_append, List.nil_append]
  after_results
  pointwise

theorem gain_q (c : Dev nD) (h : Fin 8) (d : Fin 64) :
    (V m c main_v9 (ix2 0 (⟨h.val * 64 + d.val, by omega⟩ : Fin 640)) : EReal) = m ((c : Thread nD τ).loc main_arg3) (ix2 0 d) := by
  unfold V
  simp only [hostOps0, List.flatten_cons, List.flatten_nil, List.append_nil, List.cons_append, List.nil_append]
  after_results
  pointwise
  rw [dif_pos (show h.val * 64 + d.val < 512 by omega)]
  exact congrArg (fun a => m ((c : Thread nD τ).loc main_arg3) (ix2 0 a)) (Fin.ext (by show (h.val * 64 + d.val) % 64 = d.val; omega))

theorem gain_k (c : Dev nD) (h : Fin 2) (d : Fin 64) :
    (V m c main_v9 (ix2 0 (⟨512 + (h.val * 64 + d.val), by omega⟩ : Fin 640)) : EReal) = m ((c : Thread nD τ).loc main_arg4) (ix2 0 d) := by
  unfold V
  simp only [hostOps0, List.flatten_cons, List.flatten_nil, List.append_nil, List.cons_append, List.nil_append]
  after_results
  pointwise
  exact congrArg (fun a => m ((c : Thread nD τ).loc main_arg4) (ix2 0 a)) (Fin.ext (by show (h.val * 64 + d.val) % 64 = d.val; omega))

theorem table_at (c : Dev nD) (j x : Fin 640) : (V m c main_v22 (ix2 j x) : EReal) = Cert.ProjMath.share j x := by
  unfold V
  simp only [hostOps0, List.flatten_cons, List.flatten_nil, List.append_nil, List.cons_append, List.nil_append]
  after_results
  pointwise
  have e := Cert.ProjIdeal.Value.same_head ⟨j.val / 64, by omega⟩ ⟨x.val / 64, by omega⟩
  simp only at e
  rw [e]
  show Ideal.div _ c64 = _
  rw [Cert.ProjMath.div_c64, Cert.ProjMath.share]
  by_cases h : j.val / 64 = x.val / 64
  · rw [if_pos h, if_pos h]
    show ((1 / 64 : ℝ) : EReal) * (((1#1 : BitVec 1).toNat : ℝ) : EReal) = _
    simp
  · rw [if_neg h, if_neg h]
    show ((1 / 64 : ℝ) : EReal) * (((0#1 : BitVec 1).toNat : ℝ) : EReal) = _
    simp

end Cert.LatIdeal.Value

end
-- ==== Proof.LatArray.lean ====
/- The latent projection's result arrays: each is the projected row, normalised and turned where it is a query or a key, laid out as
   that result wants it. -/
module

public import proofs.«01_k».proof.Proof.LatBlock
public import proofs.«01_k».proof.Proof.LatHost
public import proofs.«01_k».proof.Proof.Gen.LatIdeal.Value
public import Idealize.ShloMosaic.Lib.Pipeline.ValueKit

@[expose] public section

set_option maxRecDepth 16384

noncomputable section

namespace Cert.LatIdeal.Value

open Cert.LatIdeal Cert.LatIdeal.Gen Idealize.ShloMosaic Idealize.ShloMosaic.TcCoe Idealize.SL.Sem
open Idealize.ShloMosaic.Pipeline (Dat)
open Cert.SoftmaxMath
open Cert.ProjIdeal.Value (projAt cScale)

section Defs

variable (X : S8x4096x1024.Idx → EReal) (M : S8x6x1024.Idx → EReal) (W : S1024x2304.Idx → EReal) (G : S1x640.Idx → EReal) (T : S640x640.Idx → EReal)
  (C S : S4096x128.Idx → EReal)

/-- The projection of row `l` of batch `b` to column `c`. -/
def projArr (b : Fin 8) (l : Fin 4096) (c : Fin 2304) : EReal :=
  projAt (fun k => X (ix3 b l k)) (fun k => M (ix3 b 0 k)) (fun k => M (ix3 b 1 k)) (fun k => W (ix2 k c))

/-- The normalised query or key of row `l` of batch `b` at column `c`. -/
def normArr (b : Fin 8) (l : Fin 4096) (c : Fin 640) : EReal := normRow T G (fun y => projArr X M W b l y) c

/-- The turned query or key of row `l` of batch `b` at column `c`. -/
def turnArr (b : Fin 8) (l : Fin 4096) (c : Fin 640) : EReal :=
  turn (fun y => normArr X M W G T b l y) (fun e => C (ix2 l e)) (fun e => S (ix2 l e)) c

/-- The queries, head first, in the units of a power of two. -/
def qArr : S8x8x4096x64.Idx → EReal := fun z =>
  turnArr X M W G T C S (z 0) (z 2) ⟨(z 1).val * 64 + (z 3).val, by have : (z 1).val < 8 := (z 1).isLt; have : (z 3).val < 64 := (z 3).isLt; omega⟩ * cScale

/-- The keys, head first and transposed. -/
def ktArr : S8x2x64x4096.Idx → EReal := fun z =>
  turnArr X M W G T C S (z 0) (z 3) ⟨512 + ((z 1).val * 64 + (z 2).val), by have : (z 1).val < 2 := (z 1).isLt; have : (z 2).val < 64 := (z 2).isLt; omega⟩

/-- The values, head first, beside ones. -/
def vxArr : S8x2x4096x128.Idx → EReal := fun z =>
  if h : (z 3).val < 64 then projArr X M W (z 0) (z 2) ⟨640 + ((z 1).val * 64 + (z 3).val), by have : (z 1).val < 2 := (z 1).isLt; omega⟩ else 1

/-- The columns from 768 on. -/
def hyArr : S8x4096x1536.Idx → EReal := fun z =>
  projArr X M W (z 0) (z 1) ⟨768 + (z 2).val, by have : (z 2).val < 1536 := (z 2).isLt; omega⟩

end Defs

variable (m : (ℓ : Loc nD τ sig) → Buf (Elt Ideal) ℓ)

/-- Where each window stands at each grid point. -/
theorem idxs : ∀ t : Fin cfg0.N,
    (win0_0.index t = ![(grid0.coords t 0).val, (grid0.coords t 1).val, 0]
    ∧ win0_1.index t = ![(grid0.coords t 0).val, 0, 0]
    ∧ win0_2.index t = ![0, 0]
    ∧ win0_3.index t = ![0, 0]
    ∧ win0_4.index t = ![0, 0]
    ∧ win0_5.index t = ![(grid0.coords t 1).val, 0]
    ∧ win0_6.index t = ![(grid0.coords t 1).val, 0])
    ∧ win0_7.index t = ![(grid0.coords t 0).val, 0, (grid0.coords t 1).val, 0]
    ∧ win0_8.index t = ![(grid0.coords t 0).val, 0, 0, (grid0.coords t 1).val]
    ∧ win0_9.index t = ![(grid0.coords t 0).val, 0, (grid0.coords t 1).val, 0]
    ∧ win0_10.index t = ![(grid0.coords t 0).val, (grid0.coords t 1).val, 0] :=
  (by decide +kernel : ∀ t : Fin grid0.N, _)

theorem batch_lt : ∀ t : Fin cfg0.N, (grid0.coords t 0).val < 8 := (by decide +kernel : ∀ t : Fin grid0.N, _)
theorem tile_lt : ∀ t : Fin cfg0.N, (grid0.coords t 1).val < 4 := (by decide +kernel : ∀ t : Fin grid0.N, _)

/-- The batch that a grid point works on, and the row of that batch that its block's row `r` is. -/
def batch (t : Fin cfg0.N) : Fin 8 := ⟨(grid0.coords t 0).val, batch_lt t⟩
def rowAt (t : Fin cfg0.N) (r : Fin 1024) : Fin 4096 := ⟨(grid0.coords t 1).val * 1024 + r.val, by have := tile_lt t; omega⟩

theorem weights_blk (c : Dev nD) (t : Fin cfg0.N) (a : Fin 1024) (k : Fin 2304) : iblk m c 2 t (ix2 a k) = V m c main_v11 (ix2 a k) := by
  obtain ⟨⟨i0, i1, i2, i3, i4, i5, i6⟩, -⟩ := idxs t
  blk_ext [iblk, i2]

/-- A row of the block is a row of its batch. -/
theorem row_eq (c : Dev nD) (t : Fin cfg0.N) (r : Fin 1024) (k : Fin 2304) :
    rowOf (iblk m c 0 t) (iblk m c 1 t) (iblk m c 2 t) r k = projArr (V m c main_arg0) (V m c main_arg1) (V m c main_v11) (batch t) (rowAt t r) k := by
  obtain ⟨⟨i0, i1, i2, i3, i4, i5, i6⟩, -⟩ := idxs t
  unfold rowOf projArr projAt batch rowAt
  refine Finset.sum_congr rfl fun a _ => congrArg₂ (· * ·) (congrArg₂ (· + ·) (congrArg₂ (· * ·) ?_ (congrArg (1 + ·) ?_)) ?_) ?_
  · blk_ext [iblk, i0]
  · blk_ext [iblk, i1]
  · blk_ext [iblk, i1]
  · exact weights_blk m c t a k

/-- A normalised row of the block is one of its batch. -/
theorem nrm_eq (c : Dev nD) (t : Fin cfg0.N) (r : Fin 1024) (k : Fin 640) :
    normOf (iblk m c 0 t) (iblk m c 1 t) (iblk m c 2 t) (iblk m c 3 t) (iblk m c 4 t) r k
      = normArr (V m c main_arg0) (V m c main_arg1) (V m c main_v11) (V m c main_v9) (V m c main_v22) (batch t) (rowAt t r) k := by
  obtain ⟨⟨i0, i1, i2, i3, i4, i5, i6⟩, -⟩ := idxs t
  unfold normOf normArr normRow
  simp only [row_eq]
  refine congrArg₂ (· * ·) (congrArg₂ (· * ·) rfl (congrArg Ideal.rsqrt (congrArg (· + cε) (Finset.sum_congr rfl fun a _ => congrArg₂ (· * ·) rfl ?_)))) ?_
  · blk_ext [iblk, i4]
  · blk_ext [iblk, i3]

/-- A turned row of the block is one of its batch. -/
theorem turn_eq (c : Dev nD) (t : Fin cfg0.N) (r : Fin 1024) (k : Fin 640) :
    turnOf (iblk m c 0 t) (iblk m c 1 t) (iblk m c 2 t) (iblk m c 3 t) (iblk m c 4 t) (iblk m c 5 t) (iblk m c 6 t) r k
      = turnArr (V m c main_arg0) (V m c main_arg1) (V m c main_v11) (V m c main_v9) (V m c main_v22) (V m c main_arg5) (V m c main_arg6) (batch t) (rowAt t r) k := by
  obtain ⟨⟨i0, i1, i2, i3, i4, i5, i6⟩, -⟩ := idxs t
  unfold turnOf turnArr
  simp only [nrm_eq]
  refine congrArg₂ (fun C S => turn (fun y => normArr (V m c main_arg0) (V m c main_arg1) (V m c main_v11) (V m c main_v9) (V m c main_v22) (batch t) (rowAt t r) y) C S k) (funext fun e => ?_) (funext fun e => ?_)
  · unfold rowAt; blk_ext [iblk, i5]
  · unfold rowAt; blk_ext [iblk, i6]

theorem q_eq (c : Dev nD) : (dats m 0 c).arrAt 7 cfg0.N = qArr (V m c main_arg0) (V m c main_arg1) (V m c main_v11) (V m c main_v9) (V m c main_v22) (V m c main_arg5) (V m c main_arg6) := by
  refine (dats m 0 c).arrAt_eq_of_covers 7 _ (by decide +kernel) fun t hf y => ?_
  blk_simp
  rw [after0_7]
  obtain ⟨a, h, r, d, rfl⟩ : ∃ (a : Fin 1) (h : Fin 8) (r : Fin 1024) (d : Fin 64), y = ix4 a h r d := ⟨y 0, y 1, y 2, y 3, eq_ix4 y⟩
  obtain rfl : a = 0 := Subsingleton.elim _ _
  obtain ⟨-, i7, -⟩ := idxs t
  have e : (win0_7.blk t).view.emb (ix4 0 h r d) = ix4 (batch t) h (rowAt t r) d := by unfold batch rowAt; blk_ext [i7]
  rw [e, out7_at, turn_eq]
  rfl

theorem kt_eq (c : Dev nD) : (dats m 0 c).arrAt 8 cfg0.N = ktArr (V m c main_arg0) (V m c main_arg1) (V m c main_v11) (V m c main_v9) (V m c main_v22) (V m c main_arg5) (V m c main_arg6) := by
  refine (dats m 0 c).arrAt_eq_of_covers 8 _ (by decide +kernel) fun t hf y => ?_
  blk_simp
  rw [after0_8]
  obtain ⟨a, h, d, r, rfl⟩ : ∃ (a : Fin 1) (h : Fin 2) (d : Fin 64) (r : Fin 1024), y = ix4 a h d r := ⟨y 0, y 1, y 2, y 3, eq_ix4 y⟩
  obtain rfl : a = 0 := Subsingleton.elim _ _
  obtain ⟨-, -, i8, -⟩ := idxs t
  have e : (win0_8.blk t).view.emb (ix4 0 h d r) = ix4 (batch t) h d (rowAt t r) := by unfold batch rowAt; blk_ext [i8]
  rw [e, out8_at, turn_eq]
  rfl

theorem vx_eq (c : Dev nD) : (dats m 0 c).arrAt 9 cfg0.N = vxArr (V m c main_arg0) (V m c main_arg1) (V m c main_v11) := by
  refine (dats m 0 c).arrAt_eq_of_covers 9 _ (by decide +kernel) fun t hf y => ?_
  blk_simp
  rw [after0_9]
  obtain ⟨a, h, r, x, rfl⟩ : ∃ (a : Fin 1) (h : Fin 2) (r : Fin 1024) (x : Fin 128), y = ix4 a h r x := ⟨y 0, y 1, y 2, y 3, eq_ix4 y⟩
  obtain rfl : a = 0 := Subsingleton.elim _ _
  obtain ⟨-, -, -, i9, -⟩ := idxs t
  have e : (win0_9.blk t).view.emb (ix4 0 h r x) = ix4 (batch t) h (rowAt t r) x := by unfold batch rowAt; blk_ext [i9]
  rw [e, out9_at]
  simp only [row_eq]
  rfl

theorem hy_eq (c : Dev nD) : (dats m 0 c).arrAt 10 cfg0.N = hyArr (V m c main_arg0) (V m c main_arg1) (V m c main_v11) := by
  refine (dats m 0 c).arrAt_eq_of_covers 10 _ (by decide +kernel) fun t hf y => ?_
  blk_simp
  rw [after0_10]
  obtain ⟨a, r, x, rfl⟩ : ∃ (a : Fin 1) (r : Fin 1024) (x : Fin 1536), y = ix3 a r x := ⟨y 0, y 1, y 2, eq_ix3 y⟩
  obtain rfl : a = 0 := Subsingleton.elim _ _
  obtain ⟨-, -, -, -, i10⟩ := idxs t
  have e : (win0_10.blk t).view.emb (ix3 0 r x) = ix3 (batch t) (rowAt t r) x := by unfold batch rowAt; blk_ext [i10]
  rw [e, out10_at, row_eq]
  rfl

end Cert.LatIdeal.Value

end
-- ==== Proof.LatClaims.lean ====
/- The frames of the latent tokens' input projection, and the equations of its four results with the plain reference's. -/
module

public import proofs.«01_k».proof.Defs
public import proofs.«01_k».proof.Proof.LatArray
public import proofs.«01_k».proof.Proof.LatRef
public import proofs.«01_k».proof.Proof.Gen.Lat.Frame
public import proofs.«01_k».proof.Proof.Gen.LatIdeal.Frame
public import proofs.«01_k».proof.Proof.Gen.Pre_rotation_tables

@[expose] public section

set_option maxRecDepth 16384

noncomputable section

namespace Cert.LatClaims

open Idealize.ShloMosaic Idealize.ShloMosaic.TcCoe Idealize.SL.Sem
open Cert.SoftmaxMath Cert.ProjMath
open Cert.LatIdeal (S8x4096x1024 S8x6x1024 S1024x2304 S1x640 S640x640 S64 S4096x128)
open Cert.LatIdeal.Value Cert.LatRefIdeal.Value
open Cert.ProjIdeal.Value (projAt cScale)

/-- The kernel as printed, its idealization and the reference terminate, leave their arguments as they were, and leave every semaphore at zero. -/
theorem frame_P : Cert.quiescent_Lat := fun m ρ _ => Cert.Lat.Gen.frame m ρ
theorem frame_PI : Cert.quiescent_LatIdeal := fun m ρ _ => Cert.LatIdeal.Gen.frame m ρ
theorem frame_PI_pre : Cert.quiescent_LatIdeal_pre_rotation_tables := fun m ρ _ => Cert.LatIdeal.Gen.frame m ρ
theorem frame_RI : Cert.quiescent_LatRefIdeal := fun m ρ _ =>
  (θ_run Cert.LatRefIdeal.defs _ _).mono (fun r h => ⟨fun c => (h c).2.2.2.2, sem_eq_zero_of_no_sems (by decide) r.2⟩)
    (Cert.LatRefIdeal.Value.run (F := Ideal) m ρ)
theorem frame_RI_pre : Cert.quiescent_LatRefIdeal_pre_rotation_tables := fun m ρ _ => frame_RI m ρ trivial

/-- The kernel's one rounded constant is the word of the real number that its idealization names. -/
theorem preserves : Cert.preserves_Lat_LatIdeal :=
  IdealRules.named_const.statement Cert.LatIdeal.κ "scale_log2e" .f32 0x3E38AA3B#32 (((1 / 8) * (Real.log 2)⁻¹ : ℝ) : EReal) rfl

/-- The entry of a table that a lane's entry is compared with: the second half of its axis, in the first 64 lanes. -/
def chief (e : Fin 128) : Fin 128 := ⟨e.val / 32 % 2 * 32 + 16 + e.val % 16, by omega⟩

/-- Two tests that hold together hold each. -/
theorem both_true {p q : Prop} [Decidable p] [Decidable q] (h : IntOp.andi (BitVec.ofBool (decide p)) (BitVec.ofBool (decide q)) = 1#1) : p ∧ q := by
  by_cases hp : p <;> by_cases hq : q
  · exact ⟨hp, hq⟩
  all_goals
    simp only [hp, hq, decide_true, decide_false] at h
    exact absurd h (by decide)

/-- A table's entry depends on its lane's number alone. -/
theorem lane_eq (l : Fin 4096) (Z : FVec Ideal Cert.LatRefIdeal.S4096x128 .f32) (d e : Fin 128) (h : d.val = e.val) : (Z (ix2 l d) : EReal) = Z (ix2 l e) :=
  congrArg (fun d => Z (ix2 l d)) (Fin.ext h)

/-- The precondition lane by lane: the cosines of a position agree in all lanes of one axis and frequency, and so do the sines, but for the
minus sign in the first half of an axis. -/
theorem tables_at (x m w gq gk C S) (h : Cert.Pre_rotation_tables.fn (F := Ideal) x m w gq gk C S = fun _ => 1#1) (l : Fin 4096) (e : Fin 128) :
    (C (ix2 l e) : EReal) = C (ix2 l (chief e)) ∧ (S (ix2 l e) : EReal) = if e.val / 16 % 2 = 0 then -S (ix2 l (chief e)) else S (ix2 l (chief e)) := by
  obtain ⟨n, a, p, f, rfl⟩ : ∃ (n a p : Fin 2) (f : Fin 16), e = (⟨n.val * 64 + (a.val * 32 + (p.val * 16 + f.val)), by omega⟩ : Fin 128) :=
    ⟨⟨e.val / 64, by omega⟩, ⟨e.val / 32 % 2, by omega⟩, ⟨e.val / 16 % 2, by omega⟩, ⟨e.val % 16, by omega⟩, Fin.ext (by dsimp only; omega)⟩
  have h' := congrFun h (ix5 l n a p f)
  pointwise [Cert.Pre_rotation_tables.fn] at h'
  obtain ⟨h1, h2⟩ := both_true h'
  constructor
  · rw [lane_eq l C _ ⟨n.val * 64 + a.val * 32 + p.val * 16 + f.val, by omega⟩ (by dsimp only; omega), h1]
    exact lane_eq l C _ _ (by unfold chief; dsimp only; omega)
  · have e1 := (lane_eq l S (⟨n.val * 64 + (a.val * 32 + (p.val * 16 + f.val)), by omega⟩ : Fin 128) ⟨n.val * 64 + a.val * 32 + p.val * 16 + f.val, by omega⟩
      (by dsimp only; omega)).trans h2
    by_cases hp : p.val < 1
    · rw [if_pos (by dsimp only; omega)]
      refine (e1.trans (dif_pos hp)).trans (congrArg (fun z : EReal => -z) (lane_eq l S _ _ ?_))
      show a.val * 32 + (1 + p.val) * 16 + f.val = (n.val * 64 + (a.val * 32 + (p.val * 16 + f.val))) / 32 % 2 * 32 + 16 + (n.val * 64 + (a.val * 32 + (p.val * 16 + f.val))) % 16
      omega
    · rw [if_neg (by dsimp only; omega)]
      refine (e1.trans (dif_neg hp)).trans (lane_eq l S _ _ ?_)
      show a.val * 32 + (1 + (p.val - 1)) * 16 + f.val = (n.val * 64 + (a.val * 32 + (p.val * 16 + f.val))) / 32 % 2 * 32 + 16 + (n.val * 64 + (a.val * 32 + (p.val * 16 + f.val))) % 16
      omega

section Turn

variable (V : Fin 640 → EReal) (T U : FVec Ideal Cert.LatRefIdeal.S4096x128 .f32) (l : Fin 4096)
  (hC : ∀ e, (T (ix2 l e) : EReal) = T (ix2 l (chief e))) (hS : ∀ e, (U (ix2 l e) : EReal) = if e.val / 16 % 2 = 0 then -U (ix2 l (chief e)) else U (ix2 l (chief e)))
  (g : Fin 10) (a : Fin 2) (f : Fin 16) (x y : Fin 640) (hx : x.val = g.val * 64 + (a.val * 32 + f.val)) (hy : y.val = g.val * 64 + (a.val * 32 + 16 + f.val))

/-- The table's entry at a lane of axis `a` and frequency `f` is the one that the reference reads. -/
theorem chief_eq (Z : FVec Ideal Cert.LatRefIdeal.S4096x128 .f32) (e : Fin 128) (h1 : e.val / 32 % 2 = a.val) (h2 : e.val % 16 = f.val) :
    Z (ix2 l (chief e)) = entries Z (ix3 l a f) := by
  rw [entries_at]
  exact congrArg (fun d => Z (ix2 l d)) (Fin.ext (by unfold chief; dsimp only; omega))

include hC hS hx hy in
/-- A column in the first half of its 32 is turned as the reference turns it, -/
theorem turn_lo : turn V (fun e => T (ix2 l e)) (fun e => U (ix2 l e)) x = V x * entries T (ix3 l a f) - V y * entries U (ix3 l a f) := by
  have e1 : (⟨(x.val + 16) % 640, Nat.mod_lt _ (by decide)⟩ : Fin 640) = y := Fin.ext (by dsimp only; omega)
  unfold turn
  dsimp only
  rw [if_pos (by omega), hC, hS, if_pos (by dsimp only; omega), chief_eq l a f T _ (by dsimp only; omega) (by dsimp only; omega), chief_eq l a f U _ (by dsimp only; omega) (by dsimp only; omega), e1, mul_neg, sub_eq_add_neg]

include hC hS hx hy in
/-- and so is one in the second half. -/
theorem turn_hi : turn V (fun e => T (ix2 l e)) (fun e => U (ix2 l e)) y = V y * entries T (ix3 l a f) + V x * entries U (ix3 l a f) := by
  have e1 : (⟨(y.val + 624) % 640, Nat.mod_lt _ (by decide)⟩ : Fin 640) = x := Fin.ext (by dsimp only; omega)
  unfold turn
  dsimp only
  rw [if_neg (by omega), hC, hS, if_neg (by dsimp only; omega), chief_eq l a f T _ (by dsimp only; omega) (by dsimp only; omega), chief_eq l a f U _ (by dsimp only; omega) (by dsimp only; omega), e1]

end Turn

section Eq

variable (X : FVec Ideal Cert.LatRefIdeal.S8x4096x1024 .f32) (M : FVec Ideal Cert.LatRefIdeal.S8x6x1024 .f32) (W : FVec Ideal Cert.LatRefIdeal.S1024x2304 .f32)
  (W' : S1024x2304.Idx → EReal) (G : S1x640.Idx → EReal) (T : S640x640.Idx → EReal) (C S : FVec Ideal Cert.LatRefIdeal.S4096x128 .f32)
  (gq gk : FVec Ideal Cert.LatRefIdeal.S64 .f32)
  (hW : ∀ (k : Fin 1024) (x : Fin 2304), W' (ix2 k x) = W (ix2 k x)) (hT : ∀ j x : Fin 640, T (ix2 j x) = share j x)
  (hq : ∀ (h : Fin 8) (d : Fin 64), G (ix2 0 (⟨h.val * 64 + d.val, by omega⟩ : Fin 640)) = gq (ix1 d))
  (hk : ∀ (h : Fin 2) (d : Fin 64), G (ix2 0 (⟨512 + (h.val * 64 + d.val), by omega⟩ : Fin 640)) = gk (ix1 d))
  (hC : ∀ (l : Fin 4096) (e : Fin 128), (C (ix2 l e) : EReal) = C (ix2 l (chief e)))
  (hS : ∀ (l : Fin 4096) (e : Fin 128), (S (ix2 l e) : EReal) = if e.val / 16 % 2 = 0 then -S (ix2 l (chief e)) else S (ix2 l (chief e)))

include hW in
theorem proj_eq (b : Fin 8) (l : Fin 4096) (c : Fin 2304) : projArr X M W' b l c = projOf X M W (ix3 b l c) := by
  rw [projOf_at]
  unfold projArr projAt
  exact Finset.sum_congr rfl fun k _ => congrArg _ (hW k c)

include hW hT in
/-- The table's normalisation at a column of head `g` is that head's own. -/
theorem norm_arr (b : Fin 8) (l : Fin 4096) (g : Fin 10) (d : Fin 64) :
    normArr X M W' G T b l (col g d)
      = rmsNorm c64 cε (fun e => projOf X M W (ix3 b l (⟨g.val * 64 + e.val, by omega⟩ : Fin 2304))) d * G (ix2 0 (col g d)) := by
  unfold normArr normRow
  simp only [proj_eq X M W W' hW, hT]
  exact congrArg (· * G (ix2 0 (col g d))) (norm_table (fun j => projOf X M W (ix3 b l (⟨j.val, by omega⟩ : Fin 2304))) g d)

include hW hT hq in
theorem norm_q (b : Fin 8) (l : Fin 4096) (h : Fin 8) (d : Fin 64) :
    normArr X M W' G T b l ⟨h.val * 64 + d.val, by omega⟩ = qNormed (qHeads (projOf X M W)) gq (ix4 b l h d) := by
  rw [qNormed_at]
  simp only [qHeads_at]
  have e := norm_arr X M W W' G T hW hT b l ⟨h.val, by omega⟩ d
  exact e.trans (congrArg (_ * ·) (hq h d))

include hW hT hk in
theorem norm_k (b : Fin 8) (l : Fin 4096) (h : Fin 2) (d : Fin 64) :
    normArr X M W' G T b l ⟨512 + (h.val * 64 + d.val), by omega⟩ = kNormed (kHeads (projOf X M W)) gk (ix4 b l h d) := by
  rw [kNormed_at]
  simp only [kHeads_at]
  have e := norm_arr X M W W' G T hW hT b l ⟨8 + h.val, by omega⟩ d
  have hc : ∀ d : Fin 64, (col ⟨8 + h.val, by omega⟩ d) = (⟨512 + (h.val * 64 + d.val), by omega⟩ : Fin 640) := fun d =>
    Fin.ext (by show (8 + h.val) * 64 + d.val = 512 + (h.val * 64 + d.val); omega)
  have hc' : ∀ e : Fin 64, (⟨(8 + h.val) * 64 + e.val, by omega⟩ : Fin 2304) = ⟨512 + (h.val * 64 + e.val), by omega⟩ := fun e =>
    Fin.ext (by show (8 + h.val) * 64 + e.val = 512 + (h.val * 64 + e.val); omega)
  rw [hc, hk] at e
  simp only [hc'] at e
  exact e

/-- A column of a head lies in the first or the second half of the 32 columns of one of its two axes. -/
theorem split_col (d : Fin 64) : ∃ (a : Fin 2) (f : Fin 16), d = (⟨a.val * 32 + f.val, by omega⟩ : Fin 64) ∨ d = (⟨a.val * 32 + 16 + f.val, by omega⟩ : Fin 64) := by
  refine ⟨⟨d.val / 32, by omega⟩, ⟨d.val % 16, by omega⟩, ?_⟩
  by_cases h : d.val % 32 < 16
  · exact Or.inl (Fin.ext (by dsimp only; omega))
  · exact Or.inr (Fin.ext (by dsimp only; omega))

include hW hT hq hC hS in
/-- The queries are turned as the reference turns them. -/
theorem turn_q (b : Fin 8) (l : Fin 4096) (h : Fin 8) (d : Fin 64) :
    turnArr X M W' G T C S b l ⟨h.val * 64 + d.val, by omega⟩ = qTurned (qNormed (qHeads (projOf X M W)) gq) (entries C) (entries S) (ix4 b l h d) := by
  have n := norm_q X M W W' G T gq hW hT hq b l h
  obtain ⟨a, f, rfl | rfl⟩ := split_col d
  · rw [qTurned_lo, ← n, ← n]
    exact turn_lo _ C S l (hC l) (hS l) ⟨h.val, by omega⟩ a f _ _ rfl rfl
  · rw [qTurned_hi, ← n, ← n]
    exact turn_hi _ C S l (hC l) (hS l) ⟨h.val, by omega⟩ a f _ _ rfl rfl

include hW hT hk hC hS in
/-- The keys are turned as the reference turns them. -/
theorem turn_k (b : Fin 8) (l : Fin 4096) (h : Fin 2) (d : Fin 64) :
    turnArr X M W' G T C S b l ⟨512 + (h.val * 64 + d.val), by omega⟩ = kTurned (kNormed (kHeads (projOf X M W)) gk) (entries C) (entries S) (ix4 b l h d) := by
  have n := norm_k X M W W' G T gk hW hT hk b l h
  obtain ⟨a, f, rfl | rfl⟩ := split_col d
  · rw [kTurned_lo, ← n, ← n]
    exact turn_lo _ C S l (hC l) (hS l) ⟨8 + h.val, by omega⟩ a f _ _ (by dsimp only; omega) (by dsimp only; omega)
  · rw [kTurned_hi, ← n, ← n]
    exact turn_hi _ C S l (hC l) (hS l) ⟨8 + h.val, by omega⟩ a f _ _ (by dsimp only; omega) (by dsimp only; omega)

include hW hT hq hC hS in
theorem q_arr : qArr X M W' G T C S = qOut (qTurned (qNormed (qHeads (projOf X M W)) gq) (entries C) (entries S)) := by
  funext z
  obtain ⟨b, h, l, d, rfl⟩ : ∃ (b : Fin 8) (h : Fin 8) (l : Fin 4096) (d : Fin 64), z = ix4 b h l d := ⟨z 0, z 1, z 2, z 3, eq_ix4 z⟩
  rw [qOut_at, scale_eq, ← turn_q X M W W' G T C S gq hW hT hq hC hS]
  rfl

include hW hT hk hC hS in
theorem kt_arr : ktArr X M W' G T C S = ktOut (kTurned (kNormed (kHeads (projOf X M W)) gk) (entries C) (entries S)) := by
  funext z
  obtain ⟨b, h, d, l, rfl⟩ : ∃ (b : Fin 8) (h : Fin 2) (d : Fin 64) (l : Fin 4096), z = ix4 b h d l := ⟨z 0, z 1, z 2, z 3, eq_ix4 z⟩
  rw [ktOut_at, ← turn_k X M W W' G T C S gk hW hT hk hC hS]
  rfl

include hW in
theorem vx_arr : vxArr X M W' = vxOut (projOf X M W) := by
  funext z
  obtain ⟨b, h, l, x, rfl⟩ : ∃ (b : Fin 8) (h : Fin 2) (l : Fin 4096) (x : Fin 128), z = ix4 b h l x := ⟨z 0, z 1, z 2, z 3, eq_ix4 z⟩
  rw [vxOut_at]
  simp only [← proj_eq X M W W' hW]
  rfl

include hW in
theorem hy_arr : hyArr X M W' = hyOut (projOf X M W) := by
  funext z
  obtain ⟨b, l, x, rfl⟩ : ∃ (b : Fin 8) (l : Fin 4096) (x : Fin 1536), z = ix3 b l x := ⟨z 0, z 1, z 2, eq_ix3 z⟩
  rw [hyOut_at, ← proj_eq X M W W' hW]
  rfl

end Eq

set_option maxHeartbeats 2000000 in
/-- On tables as the precondition has them, the idealized kernel and the idealized reference leave the same four results. -/
theorem algebraic : Cert.algebraic_LatIdeal_LatRefIdeal_pre_rotation_tables := by
  intro m ρ m' ρ' hpre hag
  refine ⟨_, _, _, _, (θ_run _ _ _).mono (fun _ h c => h c) (Cert.LatIdeal.Value.run_blocks m ρ), ?_⟩
  refine (θ_run _ _ _).mono (fun r h c => ?_) (Cert.LatRefIdeal.Value.run_plain m' ρ')
  obtain ⟨a0, a1, a2, a3, a4, a5, a6⟩ := hag c
  have v0 := Cert.LatIdeal.Gen.V_main_arg0 m c
  have v1 := Cert.LatIdeal.Gen.V_main_arg1 m c
  have hW := fun (k : Fin 1024) (x : Fin 2304) => (weights_at m c k x).trans (w2_at _ k x).symm
  have hT := table_at m c
  have hq := fun (h : Fin 8) (d : Fin 64) => (gain_q m c h d).trans (g1_at _ d).symm
  have hk := fun (h : Fin 2) (d : Fin 64) => (gain_k m c h d).trans (g1_at _ d).symm
  have v5 := Cert.LatIdeal.Gen.V_main_arg5 m c
  have v6 := Cert.LatIdeal.Gen.V_main_arg6 m c
  have hC := fun (l : Fin 4096) (e : Fin 128) => (tables_at _ _ _ _ _ _ _ (hpre c) l e).1
  have hS := fun (l : Fin 4096) (e : Fin 128) => (tables_at _ _ _ _ _ _ _ (hpre c) l e).2
  obtain ⟨r0, r1, r2, r3, rest⟩ := h c
  rw [a0, a1, a2, a3, a5, a6] at r0
  rw [a0, a1, a2, a4, a5, a6] at r1
  rw [a0, a1, a2] at r2 r3
  refine ⟨r0.trans ?_, r1.trans ?_, r2.trans ?_, r3.trans ?_, rest⟩
  · rw [q_eq, v0, v1, v5, v6]; exact (q_arr _ _ _ _ _ _ _ _ _ hW hT hq hC hS).symm
  · rw [kt_eq, v0, v1, v5, v6]; exact (kt_arr _ _ _ _ _ _ _ _ _ hW hT hk hC hS).symm
  · rw [vx_eq, v0, v1]; exact (vx_arr _ _ _ _ hW).symm
  · rw [hy_eq, v0, v1]; exact (hy_arr _ _ _ _ hW).symm

end Cert.LatClaims

end
-- ==== Proof.lean ====
/- The claims of this directory's test, assembled from the modules that prove them. -/
module

public import proofs.«01_k».proof.Defs
public import proofs.«01_k».proof.Proof.Gen.KernelIdeal.Value
public import proofs.«01_k».proof.Proof.Attention
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ones_beside_values
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.Pre_tables_in_range
public import proofs.«01_k».proof.Proof.Gen.Pre_routed
public import proofs.«01_k».proof.Proof.MoeRun
public import proofs.«01_k».proof.Proof.MoeClaims
public import proofs.«01_k».proof.Proof.ProjClaims
public import proofs.«01_k».proof.Proof.NormClaims
public import proofs.«01_k».proof.Proof.LatClaims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.Pre_finite_modulation
public import proofs.«01_k».proof.Proof.Gen.Pre_rotation_tables
public import proofs.«01_k».proof.Proof.Gen.ProjRefIdeal
public import proofs.«01_k».proof.Proof.Gen.ProjRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Moe.Gen.facts, Cert.MoeIdeal.Gen.facts, Cert.MoeRefIdeal.Gen.facts,
  Cert.Proj.Gen.facts, Cert.ProjIdeal.Gen.facts, Cert.ProjRefIdeal.Gen.facts, Cert.Norm.Gen.facts, Cert.NormIdeal.Gen.facts, Cert.NormRefIdeal.Gen.facts,
  Cert.Lat.Gen.facts, Cert.LatIdeal.Gen.facts, Cert.LatRefIdeal.Gen.facts,
  Cert.Pre_ones_beside_values.Gen.facts, Cert.Pre_tables_in_range.Gen.facts, Cert.Pre_routed.Gen.facts, Cert.Pre_finite_modulation.Gen.facts,
  Cert.Pre_rotation_tables.Gen.facts,
  Cert.AttentionClaims.frame_P, Cert.AttentionClaims.frame_PI, Cert.AttentionClaims.frame_PI_pre, Cert.AttentionClaims.frame_RI, Cert.AttentionClaims.frame_RI_pre,
  Cert.MoeClaims.frame_P, Cert.MoeClaims.frame_PI, Cert.MoeClaims.frame_PI_pre, Cert.MoeClaims.frame_RI, Cert.MoeClaims.frame_RI_pre,
  Cert.ProjClaims.frame_P, Cert.ProjClaims.frame_PI, Cert.ProjClaims.frame_PI_pre, Cert.ProjClaims.frame_RI, Cert.ProjClaims.frame_RI_pre,
  Cert.NormClaims.frame_P, Cert.NormClaims.frame_PI, Cert.NormClaims.frame_RI,
  Cert.LatClaims.frame_P, Cert.LatClaims.frame_PI, Cert.LatClaims.frame_PI_pre, Cert.LatClaims.frame_RI, Cert.LatClaims.frame_RI_pre,
  trivial, Cert.AttentionClaims.algebraic, trivial, Cert.MoeClaims.algebraic, Cert.ProjClaims.preserves, Cert.ProjClaims.algebraic,
  trivial, Cert.NormClaims.algebraic, Cert.LatClaims.preserves, Cert.LatClaims.algebraic⟩

end Cert.Proof

end
